-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_retention_finite [hPre_retention_finite : Cert.Pre_retention_finite.Facts] (m : (ℓ : Loc Cert.KernelIdeal.nD Cert.KernelIdeal.τ Cert.KernelIdeal.sig) → Buf (Elt Ideal) ℓ) : Prop :=
  ∀ c : Dev Cert.KernelIdeal.nD,
    (Cert.Pre_retention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_retention_finite [hPre_retention_finite : Cert.Pre_retention_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_retention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_finite [hPre_inproj_finite : Cert.Pre_inproj_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))) = (fun _ => 1#1)

def Pre_InprojReferenceIdeal (m : (ℓ : Loc Cert.InprojReferenceIdeal.nD Cert.InprojReferenceIdeal.τ Cert.InprojReferenceIdeal.sig) → Buf (Elt Ideal) ℓ) : Prop :=
  True

def Pre_InprojReferenceIdeal_inproj_finite [hPre_inproj_finite : Cert.Pre_inproj_finite.Facts] (m : (ℓ : Loc Cert.InprojReferenceIdeal.nD Cert.InprojReferenceIdeal.τ Cert.InprojReferenceIdeal.sig) → Buf (Elt Ideal) ℓ) : Prop :=
  ∀ c : Dev Cert.InprojReferenceIdeal.nD,
    (Cert.Pre_inproj_finite.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleIdeal_inproj_sample_finite [hPre_inproj_sample_finite : Cert.Pre_inproj_sample_finite.Facts] (m : (ℓ : Loc Cert.InprojSampleIdeal.nD Cert.InprojSampleIdeal.τ Cert.InprojSampleIdeal.sig) → Buf (Elt Ideal) ℓ) : Prop :=
  ∀ c : Dev Cert.InprojSampleIdeal.nD,
    (Cert.Pre_inproj_sample_finite.fn (F := Ideal) (m ((c.tc : Thread Cert.InprojSampleIdeal.nD Cert.InprojSampleIdeal.τ).loc Cert.InprojSampleIdeal.main_arg0)) (m ((c.tc : Thread Cert.InprojSampleIdeal.nD Cert.InprojSampleIdeal.τ).loc Cert.InprojSampleIdeal.main_arg1)) (m ((c.tc : Thread Cert.InprojSampleIdeal.nD Cert.InprojSampleIdeal.τ).loc Cert.InprojSampleIdeal.main_arg2)) (m ((c.tc : Thread Cert.InprojSampleIdeal.nD Cert.InprojSampleIdeal.τ).loc Cert.InprojSampleIdeal.main_arg3)) (m ((c.tc : Thread Cert.InprojSampleIdeal.nD Cert.InprojSampleIdeal.τ).loc Cert.InprojSampleIdeal.main_arg4))) = (fun _ => 1#1)

def Pre_InprojSampleReferenceIdeal (m : (ℓ : Loc Cert.InprojSampleReferenceIdeal.nD Cert.InprojSampleReferenceIdeal.τ Cert.InprojSampleReferenceIdeal.sig) → Buf (Elt Ideal) ℓ) : Prop :=
  True

def Pre_InprojSampleReferenceIdeal_inproj_sample_finite [hPre_inproj_sample_finite : Cert.Pre_inproj_sample_finite.Facts] (m : (ℓ : Loc Cert.InprojSampleReferenceIdeal.nD Cert.InprojSampleReferenceIdeal.τ Cert.InprojSampleReferenceIdeal.sig) → Buf (Elt Ideal) ℓ) : Prop :=
  ∀ c : Dev Cert.InprojSampleReferenceIdeal.nD,
    (Cert.Pre_inproj_sample_finite.fn (F := Ideal) (m ((c.tc : Thread Cert.InprojSampleReferenceIdeal.nD Cert.InprojSampleReferenceIdeal.τ).loc Cert.InprojSampleReferenceIdeal.main_arg0)) (m ((c.tc : Thread Cert.InprojSampleReferenceIdeal.nD Cert.InprojSampleReferenceIdeal.τ).loc Cert.InprojSampleReferenceIdeal.main_arg1)) (m ((c.tc : Thread Cert.InprojSampleReferenceIdeal.nD Cert.InprojSampleReferenceIdeal.τ).loc Cert.InprojSampleReferenceIdeal.main_arg2)) (m ((c.tc : Thread Cert.InprojSampleReferenceIdeal.nD Cert.InprojSampleReferenceIdeal.τ).loc Cert.InprojSampleReferenceIdeal.main_arg3)) (m ((c.tc : Thread Cert.InprojSampleReferenceIdeal.nD Cert.InprojSampleReferenceIdeal.τ).loc Cert.InprojSampleReferenceIdeal.main_arg4))) = (fun _ => 1#1)

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleReferenceIdeal (m : (ℓ : Loc Cert.MergeSampleReferenceIdeal.nD Cert.MergeSampleReferenceIdeal.τ Cert.MergeSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_retention_finite [hKernelIdeal : Cert.KernelIdeal.Facts] [hPre_retention_finite : Cert.Pre_retention_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_retention_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_retention_finite [hReferenceIdeal : Cert.ReferenceIdeal.Facts] [hPre_retention_finite : Cert.Pre_retention_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_retention_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_inproj_finite [hInprojIdeal : Cert.InprojIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_InprojReferenceIdeal_pre_inproj_finite [hInprojReferenceIdeal : Cert.InprojReferenceIdeal.Facts] [hPre_inproj_finite : Cert.Pre_inproj_finite.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal_inproj_finite m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2)
      ∧ r.2.mem ((c.tc : Thread Cert.InprojSample.nD Cert.InprojSample.τ).loc Cert.InprojSample.main_arg3) = m ((c.tc : Thread Cert.InprojSample.nD Cert.InprojSample.τ).loc Cert.InprojSample.main_arg3)
      ∧ r.2.mem ((c.tc : Thread Cert.InprojSample.nD Cert.InprojSample.τ).loc Cert.InprojSample.main_arg4) = m ((c.tc : Thread Cert.InprojSample.nD Cert.InprojSample.τ).loc Cert.InprojSample.main_arg4))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
      ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4))
      ∧ r.2.sem = fun _ => 0)

def quiescent_InprojSampleIdeal_pre_inproj_sample_finite [hInprojSampleIdeal : Cert.InprojSampleIdeal.Facts] [hPre_inproj_sample_finite : Cert.Pre_inproj_sample_finite.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal_inproj_sample_finite m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
      ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4))
      ∧ r.2.sem = fun _ => 0)

def quiescent_InprojSampleReferenceIdeal [hInprojSampleReferenceIdeal : Cert.InprojSampleReferenceIdeal.Facts] : Prop :=
  ∀ (m : (ℓ : Loc Cert.InprojSampleReferenceIdeal.nD Cert.InprojSampleReferenceIdeal.τ Cert.InprojSampleReferenceIdeal.sig) → Buf (Elt Ideal) ℓ) (g : Dev Cert.InprojSampleReferenceIdeal.nD → PrngReg), Pre_InprojSampleReferenceIdeal m →
    θ_run (Cert.InprojSampleReferenceIdeal.defs (F := Ideal)) (onTc (τ := Cert.InprojSampleReferenceIdeal.τ) (Cert.InprojSampleReferenceIdeal.main (F := Ideal))) ⟨m, fun _ => 0, g⟩ (fun r => (∀ c : Dev Cert.InprojSampleReferenceIdeal.nD,
      r.2.mem ((c.tc : Thread Cert.InprojSampleReferenceIdeal.nD Cert.InprojSampleReferenceIdeal.τ).loc Cert.InprojSampleReferenceIdeal.main_arg0) = m ((c.tc : Thread Cert.InprojSampleReferenceIdeal.nD Cert.InprojSampleReferenceIdeal.τ).loc Cert.InprojSampleReferenceIdeal.main_arg0)
      ∧ r.2.mem ((c.tc : Thread Cert.InprojSampleReferenceIdeal.nD Cert.InprojSampleReferenceIdeal.τ).loc Cert.InprojSampleReferenceIdeal.main_arg1) = m ((c.tc : Thread Cert.InprojSampleReferenceIdeal.nD Cert.InprojSampleReferenceIdeal.τ).loc Cert.InprojSampleReferenceIdeal.main_arg1)
      ∧ r.2.mem ((c.tc : Thread Cert.InprojSampleReferenceIdeal.nD Cert.InprojSampleReferenceIdeal.τ).loc Cert.InprojSampleReferenceIdeal.main_arg2) = m ((c.tc : Thread Cert.InprojSampleReferenceIdeal.nD Cert.InprojSampleReferenceIdeal.τ).loc Cert.InprojSampleReferenceIdeal.main_arg2)
      ∧ r.2.mem ((c.tc : Thread Cert.InprojSampleReferenceIdeal.nD Cert.InprojSampleReferenceIdeal.τ).loc Cert.InprojSampleReferenceIdeal.main_arg3) = m ((c.tc : Thread Cert.InprojSampleReferenceIdeal.nD Cert.InprojSampleReferenceIdeal.τ).loc Cert.InprojSampleReferenceIdeal.main_arg3)
      ∧ r.2.mem ((c.tc : Thread Cert.InprojSampleReferenceIdeal.nD Cert.InprojSampleReferenceIdeal.τ).loc Cert.InprojSampleReferenceIdeal.main_arg4) = m ((c.tc : Thread Cert.InprojSampleReferenceIdeal.nD Cert.InprojSampleReferenceIdeal.τ).loc Cert.InprojSampleReferenceIdeal.main_arg4))
      ∧ r.2.sem = fun _ => 0)

def quiescent_InprojSampleReferenceIdeal_pre_inproj_sample_finite [hInprojSampleReferenceIdeal : Cert.InprojSampleReferenceIdeal.Facts] [hPre_inproj_sample_finite : Cert.Pre_inproj_sample_finite.Facts] : Prop :=
  ∀ (m : (ℓ : Loc Cert.InprojSampleReferenceIdeal.nD Cert.InprojSampleReferenceIdeal.τ Cert.InprojSampleReferenceIdeal.sig) → Buf (Elt Ideal) ℓ) (g : Dev Cert.InprojSampleReferenceIdeal.nD → PrngReg), Pre_InprojSampleReferenceIdeal_inproj_sample_finite m →
    θ_run (Cert.InprojSampleReferenceIdeal.defs (F := Ideal)) (onTc (τ := Cert.InprojSampleReferenceIdeal.τ) (Cert.InprojSampleReferenceIdeal.main (F := Ideal))) ⟨m, fun _ => 0, g⟩ (fun r => (∀ c : Dev Cert.InprojSampleReferenceIdeal.nD,
      r.2.mem ((c.tc : Thread Cert.InprojSampleReferenceIdeal.nD Cert.InprojSampleReferenceIdeal.τ).loc Cert.InprojSampleReferenceIdeal.main_arg0) = m ((c.tc : Thread Cert.InprojSampleReferenceIdeal.nD Cert.InprojSampleReferenceIdeal.τ).loc Cert.InprojSampleReferenceIdeal.main_arg0)
      ∧ r.2.mem ((c.tc : Thread Cert.InprojSampleReferenceIdeal.nD Cert.InprojSampleReferenceIdeal.τ).loc Cert.InprojSampleReferenceIdeal.main_arg1) = m ((c.tc : Thread Cert.InprojSampleReferenceIdeal.nD Cert.InprojSampleReferenceIdeal.τ).loc Cert.InprojSampleReferenceIdeal.main_arg1)
      ∧ r.2.mem ((c.tc : Thread Cert.InprojSampleReferenceIdeal.nD Cert.InprojSampleReferenceIdeal.τ).loc Cert.InprojSampleReferenceIdeal.main_arg2) = m ((c.tc : Thread Cert.InprojSampleReferenceIdeal.nD Cert.InprojSampleReferenceIdeal.τ).loc Cert.InprojSampleReferenceIdeal.main_arg2)
      ∧ r.2.mem ((c.tc : Thread Cert.InprojSampleReferenceIdeal.nD Cert.InprojSampleReferenceIdeal.τ).loc Cert.InprojSampleReferenceIdeal.main_arg3) = m ((c.tc : Thread Cert.InprojSampleReferenceIdeal.nD Cert.InprojSampleReferenceIdeal.τ).loc Cert.InprojSampleReferenceIdeal.main_arg3)
      ∧ r.2.mem ((c.tc : Thread Cert.InprojSampleReferenceIdeal.nD Cert.InprojSampleReferenceIdeal.τ).loc Cert.InprojSampleReferenceIdeal.main_arg4) = m ((c.tc : Thread Cert.InprojSampleReferenceIdeal.nD Cert.InprojSampleReferenceIdeal.τ).loc Cert.InprojSampleReferenceIdeal.main_arg4))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7)
      ∧ r.2.mem ((c.tc : Thread Cert.MergeSample.nD Cert.MergeSample.τ).loc Cert.MergeSample.main_arg8) = m ((c.tc : Thread Cert.MergeSample.nD Cert.MergeSample.τ).loc Cert.MergeSample.main_arg8)
      ∧ r.2.mem ((c.tc : Thread Cert.MergeSample.nD Cert.MergeSample.τ).loc Cert.MergeSample.main_arg9) = m ((c.tc : Thread Cert.MergeSample.nD Cert.MergeSample.τ).loc Cert.MergeSample.main_arg9)
      ∧ r.2.mem ((c.tc : Thread Cert.MergeSample.nD Cert.MergeSample.τ).loc Cert.MergeSample.main_arg10) = m ((c.tc : Thread Cert.MergeSample.nD Cert.MergeSample.τ).loc Cert.MergeSample.main_arg10))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
      ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
      ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10))
      ∧ r.2.sem = fun _ => 0)

def quiescent_MergeSampleReferenceIdeal [hMergeSampleReferenceIdeal : Cert.MergeSampleReferenceIdeal.Facts] : Prop :=
  ∀ (m : (ℓ : Loc Cert.MergeSampleReferenceIdeal.nD Cert.MergeSampleReferenceIdeal.τ Cert.MergeSampleReferenceIdeal.sig) → Buf (Elt Ideal) ℓ) (g : Dev Cert.MergeSampleReferenceIdeal.nD → PrngReg), Pre_MergeSampleReferenceIdeal m →
    θ_run (Cert.MergeSampleReferenceIdeal.defs (F := Ideal)) (onTc (τ := Cert.MergeSampleReferenceIdeal.τ) (Cert.MergeSampleReferenceIdeal.main (F := Ideal))) ⟨m, fun _ => 0, g⟩ (fun r => (∀ c : Dev Cert.MergeSampleReferenceIdeal.nD,
      r.2.mem ((c.tc : Thread Cert.MergeSampleReferenceIdeal.nD Cert.MergeSampleReferenceIdeal.τ).loc Cert.MergeSampleReferenceIdeal.main_arg0) = m ((c.tc : Thread Cert.MergeSampleReferenceIdeal.nD Cert.MergeSampleReferenceIdeal.τ).loc Cert.MergeSampleReferenceIdeal.main_arg0)
      ∧ r.2.mem ((c.tc : Thread Cert.MergeSampleReferenceIdeal.nD Cert.MergeSampleReferenceIdeal.τ).loc Cert.MergeSampleReferenceIdeal.main_arg1) = m ((c.tc : Thread Cert.MergeSampleReferenceIdeal.nD Cert.MergeSampleReferenceIdeal.τ).loc Cert.MergeSampleReferenceIdeal.main_arg1)
      ∧ r.2.mem ((c.tc : Thread Cert.MergeSampleReferenceIdeal.nD Cert.MergeSampleReferenceIdeal.τ).loc Cert.MergeSampleReferenceIdeal.main_arg2) = m ((c.tc : Thread Cert.MergeSampleReferenceIdeal.nD Cert.MergeSampleReferenceIdeal.τ).loc Cert.MergeSampleReferenceIdeal.main_arg2)
      ∧ r.2.mem ((c.tc : Thread Cert.MergeSampleReferenceIdeal.nD Cert.MergeSampleReferenceIdeal.τ).loc Cert.MergeSampleReferenceIdeal.main_arg3) = m ((c.tc : Thread Cert.MergeSampleReferenceIdeal.nD Cert.MergeSampleReferenceIdeal.τ).loc Cert.MergeSampleReferenceIdeal.main_arg3)
      ∧ r.2.mem ((c.tc : Thread Cert.MergeSampleReferenceIdeal.nD Cert.MergeSampleReferenceIdeal.τ).loc Cert.MergeSampleReferenceIdeal.main_arg4) = m ((c.tc : Thread Cert.MergeSampleReferenceIdeal.nD Cert.MergeSampleReferenceIdeal.τ).loc Cert.MergeSampleReferenceIdeal.main_arg4)
      ∧ r.2.mem ((c.tc : Thread Cert.MergeSampleReferenceIdeal.nD Cert.MergeSampleReferenceIdeal.τ).loc Cert.MergeSampleReferenceIdeal.main_arg5) = m ((c.tc : Thread Cert.MergeSampleReferenceIdeal.nD Cert.MergeSampleReferenceIdeal.τ).loc Cert.MergeSampleReferenceIdeal.main_arg5)
      ∧ r.2.mem ((c.tc : Thread Cert.MergeSampleReferenceIdeal.nD Cert.MergeSampleReferenceIdeal.τ).loc Cert.MergeSampleReferenceIdeal.main_arg6) = m ((c.tc : Thread Cert.MergeSampleReferenceIdeal.nD Cert.MergeSampleReferenceIdeal.τ).loc Cert.MergeSampleReferenceIdeal.main_arg6)
      ∧ r.2.mem ((c.tc : Thread Cert.MergeSampleReferenceIdeal.nD Cert.MergeSampleReferenceIdeal.τ).loc Cert.MergeSampleReferenceIdeal.main_arg7) = m ((c.tc : Thread Cert.MergeSampleReferenceIdeal.nD Cert.MergeSampleReferenceIdeal.τ).loc Cert.MergeSampleReferenceIdeal.main_arg7)
      ∧ r.2.mem ((c.tc : Thread Cert.MergeSampleReferenceIdeal.nD Cert.MergeSampleReferenceIdeal.τ).loc Cert.MergeSampleReferenceIdeal.main_arg8) = m ((c.tc : Thread Cert.MergeSampleReferenceIdeal.nD Cert.MergeSampleReferenceIdeal.τ).loc Cert.MergeSampleReferenceIdeal.main_arg8)
      ∧ r.2.mem ((c.tc : Thread Cert.MergeSampleReferenceIdeal.nD Cert.MergeSampleReferenceIdeal.τ).loc Cert.MergeSampleReferenceIdeal.main_arg9) = m ((c.tc : Thread Cert.MergeSampleReferenceIdeal.nD Cert.MergeSampleReferenceIdeal.τ).loc Cert.MergeSampleReferenceIdeal.main_arg9)
      ∧ r.2.mem ((c.tc : Thread Cert.MergeSampleReferenceIdeal.nD Cert.MergeSampleReferenceIdeal.τ).loc Cert.MergeSampleReferenceIdeal.main_arg10) = m ((c.tc : Thread Cert.MergeSampleReferenceIdeal.nD Cert.MergeSampleReferenceIdeal.τ).loc Cert.MergeSampleReferenceIdeal.main_arg10))
      ∧ r.2.sem = fun _ => 0)

def preserves_Kernel_KernelIdeal : Prop :=
  True

def algebraic_KernelIdeal_ReferenceIdeal_pre_retention_finite [hKernelIdeal : Cert.KernelIdeal.Facts] [hReferenceIdeal : Cert.ReferenceIdeal.Facts] [hPre_retention_finite : Cert.Pre_retention_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_retention_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Inproj_InprojIdeal : Prop :=
  True

def algebraic_InprojIdeal_InprojReferenceIdeal_pre_inproj_finite [hInprojIdeal : Cert.InprojIdeal.Facts] [hInprojReferenceIdeal : Cert.InprojReferenceIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal_inproj_finite m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v110_0)) (v1 : (c : Dev Cert.InprojIdeal.nD) → Buf (Elt Ideal) ((c.tc : Thread Cert.InprojIdeal.nD Cert.InprojIdeal.τ).loc Cert.InprojIdeal.main_v110_1)) (v2 : (c : Dev Cert.InprojIdeal.nD) → Buf (Elt Ideal) ((c.tc : Thread Cert.InprojIdeal.nD Cert.InprojIdeal.τ).loc Cert.InprojIdeal.main_v110_2)) (v3 : (c : Dev Cert.InprojIdeal.nD) → Buf (Elt Ideal) ((c.tc : Thread Cert.InprojIdeal.nD Cert.InprojIdeal.τ).loc Cert.InprojIdeal.main_v110_3)) (v4 : (c : Dev Cert.InprojIdeal.nD) → Buf (Elt Ideal) ((c.tc : Thread Cert.InprojIdeal.nD Cert.InprojIdeal.τ).loc Cert.InprojIdeal.main_v110_4)) (v5 : (c : Dev Cert.InprojIdeal.nD) → Buf (Elt Ideal) ((c.tc : Thread Cert.InprojIdeal.nD Cert.InprojIdeal.τ).loc Cert.InprojIdeal.main_v110_5)) (v6 : (c : Dev Cert.InprojIdeal.nD) → Buf (Elt Ideal) ((c.tc : Thread Cert.InprojIdeal.nD Cert.InprojIdeal.τ).loc Cert.InprojIdeal.main_v110_6)) (v7 : (c : Dev Cert.InprojIdeal.nD) → Buf (Elt Ideal) ((c.tc : Thread Cert.InprojIdeal.nD Cert.InprojIdeal.τ).loc Cert.InprojIdeal.main_v110_7)) (v8 : (c : Dev Cert.InprojIdeal.nD) → Buf (Elt Ideal) ((c.tc : Thread Cert.InprojIdeal.nD Cert.InprojIdeal.τ).loc Cert.InprojIdeal.main_v110_8)) (v9 : (c : Dev Cert.InprojIdeal.nD) → Buf (Elt Ideal) ((c.tc : Thread Cert.InprojIdeal.nD Cert.InprojIdeal.τ).loc Cert.InprojIdeal.main_v110_9)) (v10 : (c : Dev Cert.InprojIdeal.nD) → Buf (Elt Ideal) ((c.tc : Thread Cert.InprojIdeal.nD Cert.InprojIdeal.τ).loc Cert.InprojIdeal.main_v110_10)) (v11 : (c : Dev Cert.InprojIdeal.nD) → Buf (Elt Ideal) ((c.tc : Thread Cert.InprojIdeal.nD Cert.InprojIdeal.τ).loc Cert.InprojIdeal.main_v110_11)) (v12 : (c : Dev Cert.InprojIdeal.nD) → Buf (Elt Ideal) ((c.tc : Thread Cert.InprojIdeal.nD Cert.InprojIdeal.τ).loc Cert.InprojIdeal.main_v110_12)) (v13 : (c : Dev Cert.InprojIdeal.nD) → Buf (Elt Ideal) ((c.tc : Thread Cert.InprojIdeal.nD Cert.InprojIdeal.τ).loc Cert.InprojIdeal.main_v110_13)) (v14 : (c : Dev Cert.InprojIdeal.nD) → Buf (Elt Ideal) ((c.tc : Thread Cert.InprojIdeal.nD Cert.InprojIdeal.τ).loc Cert.InprojIdeal.main_v110_14)) (v15 : (c : Dev Cert.InprojIdeal.nD) → Buf (Elt Ideal) ((c.tc : Thread Cert.InprojIdeal.nD Cert.InprojIdeal.τ).loc Cert.InprojIdeal.main_v110_15)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v110_0) = v0 c
          ∧ r.2.mem ((c.tc : Thread Cert.InprojIdeal.nD Cert.InprojIdeal.τ).loc Cert.InprojIdeal.main_v110_1) = v1 c
          ∧ r.2.mem ((c.tc : Thread Cert.InprojIdeal.nD Cert.InprojIdeal.τ).loc Cert.InprojIdeal.main_v110_2) = v2 c
          ∧ r.2.mem ((c.tc : Thread Cert.InprojIdeal.nD Cert.InprojIdeal.τ).loc Cert.InprojIdeal.main_v110_3) = v3 c
          ∧ r.2.mem ((c.tc : Thread Cert.InprojIdeal.nD Cert.InprojIdeal.τ).loc Cert.InprojIdeal.main_v110_4) = v4 c
          ∧ r.2.mem ((c.tc : Thread Cert.InprojIdeal.nD Cert.InprojIdeal.τ).loc Cert.InprojIdeal.main_v110_5) = v5 c
          ∧ r.2.mem ((c.tc : Thread Cert.InprojIdeal.nD Cert.InprojIdeal.τ).loc Cert.InprojIdeal.main_v110_6) = v6 c
          ∧ r.2.mem ((c.tc : Thread Cert.InprojIdeal.nD Cert.InprojIdeal.τ).loc Cert.InprojIdeal.main_v110_7) = v7 c
          ∧ r.2.mem ((c.tc : Thread Cert.InprojIdeal.nD Cert.InprojIdeal.τ).loc Cert.InprojIdeal.main_v110_8) = v8 c
          ∧ r.2.mem ((c.tc : Thread Cert.InprojIdeal.nD Cert.InprojIdeal.τ).loc Cert.InprojIdeal.main_v110_9) = v9 c
          ∧ r.2.mem ((c.tc : Thread Cert.InprojIdeal.nD Cert.InprojIdeal.τ).loc Cert.InprojIdeal.main_v110_10) = v10 c
          ∧ r.2.mem ((c.tc : Thread Cert.InprojIdeal.nD Cert.InprojIdeal.τ).loc Cert.InprojIdeal.main_v110_11) = v11 c
          ∧ r.2.mem ((c.tc : Thread Cert.InprojIdeal.nD Cert.InprojIdeal.τ).loc Cert.InprojIdeal.main_v110_12) = v12 c
          ∧ r.2.mem ((c.tc : Thread Cert.InprojIdeal.nD Cert.InprojIdeal.τ).loc Cert.InprojIdeal.main_v110_13) = v13 c
          ∧ r.2.mem ((c.tc : Thread Cert.InprojIdeal.nD Cert.InprojIdeal.τ).loc Cert.InprojIdeal.main_v110_14) = v14 c
          ∧ r.2.mem ((c.tc : Thread Cert.InprojIdeal.nD Cert.InprojIdeal.τ).loc Cert.InprojIdeal.main_v110_15) = v15 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v262) = v0 c
          ∧ r.2.mem ((c.tc : Thread Cert.InprojReferenceIdeal.nD Cert.InprojReferenceIdeal.τ).loc Cert.InprojReferenceIdeal.main_v264) = v1 c
          ∧ r.2.mem ((c.tc : Thread Cert.InprojReferenceIdeal.nD Cert.InprojReferenceIdeal.τ).loc Cert.InprojReferenceIdeal.main_v266) = v2 c
          ∧ r.2.mem ((c.tc : Thread Cert.InprojReferenceIdeal.nD Cert.InprojReferenceIdeal.τ).loc Cert.InprojReferenceIdeal.main_v268) = v3 c
          ∧ r.2.mem ((c.tc : Thread Cert.InprojReferenceIdeal.nD Cert.InprojReferenceIdeal.τ).loc Cert.InprojReferenceIdeal.main_v272) = v4 c
          ∧ r.2.mem ((c.tc : Thread Cert.InprojReferenceIdeal.nD Cert.InprojReferenceIdeal.τ).loc Cert.InprojReferenceIdeal.main_v276) = v5 c
          ∧ r.2.mem ((c.tc : Thread Cert.InprojReferenceIdeal.nD Cert.InprojReferenceIdeal.τ).loc Cert.InprojReferenceIdeal.main_v277) = v6 c
          ∧ r.2.mem ((c.tc : Thread Cert.InprojReferenceIdeal.nD Cert.InprojReferenceIdeal.τ).loc Cert.InprojReferenceIdeal.main_v278) = v7 c
          ∧ r.2.mem ((c.tc : Thread Cert.InprojReferenceIdeal.nD Cert.InprojReferenceIdeal.τ).loc Cert.InprojReferenceIdeal.main_v280) = v8 c
          ∧ r.2.mem ((c.tc : Thread Cert.InprojReferenceIdeal.nD Cert.InprojReferenceIdeal.τ).loc Cert.InprojReferenceIdeal.main_v282) = v9 c
          ∧ r.2.mem ((c.tc : Thread Cert.InprojReferenceIdeal.nD Cert.InprojReferenceIdeal.τ).loc Cert.InprojReferenceIdeal.main_v284) = v10 c
          ∧ r.2.mem ((c.tc : Thread Cert.InprojReferenceIdeal.nD Cert.InprojReferenceIdeal.τ).loc Cert.InprojReferenceIdeal.main_v286) = v11 c
          ∧ r.2.mem ((c.tc : Thread Cert.InprojReferenceIdeal.nD Cert.InprojReferenceIdeal.τ).loc Cert.InprojReferenceIdeal.main_v255) = v12 c
          ∧ r.2.mem ((c.tc : Thread Cert.InprojReferenceIdeal.nD Cert.InprojReferenceIdeal.τ).loc Cert.InprojReferenceIdeal.main_v256) = v13 c
          ∧ r.2.mem ((c.tc : Thread Cert.InprojReferenceIdeal.nD Cert.InprojReferenceIdeal.τ).loc Cert.InprojReferenceIdeal.main_v257) = v14 c
          ∧ r.2.mem ((c.tc : Thread Cert.InprojReferenceIdeal.nD Cert.InprojReferenceIdeal.τ).loc Cert.InprojReferenceIdeal.main_v288) = v15 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v48) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_InprojSample_InprojSampleIdeal : Prop :=
  True

def algebraic_InprojSampleIdeal_InprojSampleReferenceIdeal_pre_inproj_sample_finite [hInprojSampleIdeal : Cert.InprojSampleIdeal.Facts] [hInprojSampleReferenceIdeal : Cert.InprojSampleReferenceIdeal.Facts] [hPre_inproj_sample_finite : Cert.Pre_inproj_sample_finite.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleReferenceIdeal.nD Cert.InprojSampleReferenceIdeal.τ Cert.InprojSampleReferenceIdeal.sig) → Buf (Elt Ideal) ℓ) (g' : Dev Cert.InprojSampleReferenceIdeal.nD → PrngReg), Pre_InprojSampleIdeal_inproj_sample_finite m →
    (∀ c : Dev Cert.InprojSampleIdeal.nD,
      m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)
      ∧ m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)
      ∧ m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)
      ∧ m' ((c.tc : Thread Cert.InprojSampleReferenceIdeal.nD Cert.InprojSampleReferenceIdeal.τ).loc Cert.InprojSampleReferenceIdeal.main_arg3) = m ((c.tc : Thread Cert.InprojSampleIdeal.nD Cert.InprojSampleIdeal.τ).loc Cert.InprojSampleIdeal.main_arg3)
      ∧ m' ((c.tc : Thread Cert.InprojSampleReferenceIdeal.nD Cert.InprojSampleReferenceIdeal.τ).loc Cert.InprojSampleReferenceIdeal.main_arg4) = m ((c.tc : Thread Cert.InprojSampleIdeal.nD Cert.InprojSampleIdeal.τ).loc Cert.InprojSampleIdeal.main_arg4)) →
    ∃ (v0 : (c : Dev Cert.InprojSampleIdeal.nD) → Buf (Elt Ideal) ((c.tc : Thread Cert.InprojSampleIdeal.nD Cert.InprojSampleIdeal.τ).loc Cert.InprojSampleIdeal.main_v113_0)) (v1 : (c : Dev Cert.InprojSampleIdeal.nD) → Buf (Elt Ideal) ((c.tc : Thread Cert.InprojSampleIdeal.nD Cert.InprojSampleIdeal.τ).loc Cert.InprojSampleIdeal.main_v113_1)) (v2 : (c : Dev Cert.InprojSampleIdeal.nD) → Buf (Elt Ideal) ((c.tc : Thread Cert.InprojSampleIdeal.nD Cert.InprojSampleIdeal.τ).loc Cert.InprojSampleIdeal.main_v113_2)) (v3 : (c : Dev Cert.InprojSampleIdeal.nD) → Buf (Elt Ideal) ((c.tc : Thread Cert.InprojSampleIdeal.nD Cert.InprojSampleIdeal.τ).loc Cert.InprojSampleIdeal.main_v113_3)) (v4 : (c : Dev Cert.InprojSampleIdeal.nD) → Buf (Elt Ideal) ((c.tc : Thread Cert.InprojSampleIdeal.nD Cert.InprojSampleIdeal.τ).loc Cert.InprojSampleIdeal.main_v113_4)) (v5 : (c : Dev Cert.InprojSampleIdeal.nD) → Buf (Elt Ideal) ((c.tc : Thread Cert.InprojSampleIdeal.nD Cert.InprojSampleIdeal.τ).loc Cert.InprojSampleIdeal.main_v113_5)) (v6 : (c : Dev Cert.InprojSampleIdeal.nD) → Buf (Elt Ideal) ((c.tc : Thread Cert.InprojSampleIdeal.nD Cert.InprojSampleIdeal.τ).loc Cert.InprojSampleIdeal.main_v113_6)) (v7 : (c : Dev Cert.InprojSampleIdeal.nD) → Buf (Elt Ideal) ((c.tc : Thread Cert.InprojSampleIdeal.nD Cert.InprojSampleIdeal.τ).loc Cert.InprojSampleIdeal.main_v113_7)) (v8 : (c : Dev Cert.InprojSampleIdeal.nD) → Buf (Elt Ideal) ((c.tc : Thread Cert.InprojSampleIdeal.nD Cert.InprojSampleIdeal.τ).loc Cert.InprojSampleIdeal.main_v113_8)) (v9 : (c : Dev Cert.InprojSampleIdeal.nD) → Buf (Elt Ideal) ((c.tc : Thread Cert.InprojSampleIdeal.nD Cert.InprojSampleIdeal.τ).loc Cert.InprojSampleIdeal.main_v113_9)) (v10 : (c : Dev Cert.InprojSampleIdeal.nD) → Buf (Elt Ideal) ((c.tc : Thread Cert.InprojSampleIdeal.nD Cert.InprojSampleIdeal.τ).loc Cert.InprojSampleIdeal.main_v113_10)) (v11 : (c : Dev Cert.InprojSampleIdeal.nD) → Buf (Elt Ideal) ((c.tc : Thread Cert.InprojSampleIdeal.nD Cert.InprojSampleIdeal.τ).loc Cert.InprojSampleIdeal.main_v113_11)) (v12 : (c : Dev Cert.InprojSampleIdeal.nD) → Buf (Elt Ideal) ((c.tc : Thread Cert.InprojSampleIdeal.nD Cert.InprojSampleIdeal.τ).loc Cert.InprojSampleIdeal.main_v113_12)) (v13 : (c : Dev Cert.InprojSampleIdeal.nD) → Buf (Elt Ideal) ((c.tc : Thread Cert.InprojSampleIdeal.nD Cert.InprojSampleIdeal.τ).loc Cert.InprojSampleIdeal.main_v113_13)) (v14 : (c : Dev Cert.InprojSampleIdeal.nD) → Buf (Elt Ideal) ((c.tc : Thread Cert.InprojSampleIdeal.nD Cert.InprojSampleIdeal.τ).loc Cert.InprojSampleIdeal.main_v113_14)) (v15 : (c : Dev Cert.InprojSampleIdeal.nD) → Buf (Elt Ideal) ((c.tc : Thread Cert.InprojSampleIdeal.nD Cert.InprojSampleIdeal.τ).loc Cert.InprojSampleIdeal.main_v113_15)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v113_0) = v0 c
          ∧ r.2.mem ((c.tc : Thread Cert.InprojSampleIdeal.nD Cert.InprojSampleIdeal.τ).loc Cert.InprojSampleIdeal.main_v113_1) = v1 c
          ∧ r.2.mem ((c.tc : Thread Cert.InprojSampleIdeal.nD Cert.InprojSampleIdeal.τ).loc Cert.InprojSampleIdeal.main_v113_2) = v2 c
          ∧ r.2.mem ((c.tc : Thread Cert.InprojSampleIdeal.nD Cert.InprojSampleIdeal.τ).loc Cert.InprojSampleIdeal.main_v113_3) = v3 c
          ∧ r.2.mem ((c.tc : Thread Cert.InprojSampleIdeal.nD Cert.InprojSampleIdeal.τ).loc Cert.InprojSampleIdeal.main_v113_4) = v4 c
          ∧ r.2.mem ((c.tc : Thread Cert.InprojSampleIdeal.nD Cert.InprojSampleIdeal.τ).loc Cert.InprojSampleIdeal.main_v113_5) = v5 c
          ∧ r.2.mem ((c.tc : Thread Cert.InprojSampleIdeal.nD Cert.InprojSampleIdeal.τ).loc Cert.InprojSampleIdeal.main_v113_6) = v6 c
          ∧ r.2.mem ((c.tc : Thread Cert.InprojSampleIdeal.nD Cert.InprojSampleIdeal.τ).loc Cert.InprojSampleIdeal.main_v113_7) = v7 c
          ∧ r.2.mem ((c.tc : Thread Cert.InprojSampleIdeal.nD Cert.InprojSampleIdeal.τ).loc Cert.InprojSampleIdeal.main_v113_8) = v8 c
          ∧ r.2.mem ((c.tc : Thread Cert.InprojSampleIdeal.nD Cert.InprojSampleIdeal.τ).loc Cert.InprojSampleIdeal.main_v113_9) = v9 c
          ∧ r.2.mem ((c.tc : Thread Cert.InprojSampleIdeal.nD Cert.InprojSampleIdeal.τ).loc Cert.InprojSampleIdeal.main_v113_10) = v10 c
          ∧ r.2.mem ((c.tc : Thread Cert.InprojSampleIdeal.nD Cert.InprojSampleIdeal.τ).loc Cert.InprojSampleIdeal.main_v113_11) = v11 c
          ∧ r.2.mem ((c.tc : Thread Cert.InprojSampleIdeal.nD Cert.InprojSampleIdeal.τ).loc Cert.InprojSampleIdeal.main_v113_12) = v12 c
          ∧ r.2.mem ((c.tc : Thread Cert.InprojSampleIdeal.nD Cert.InprojSampleIdeal.τ).loc Cert.InprojSampleIdeal.main_v113_13) = v13 c
          ∧ r.2.mem ((c.tc : Thread Cert.InprojSampleIdeal.nD Cert.InprojSampleIdeal.τ).loc Cert.InprojSampleIdeal.main_v113_14) = v14 c
          ∧ r.2.mem ((c.tc : Thread Cert.InprojSampleIdeal.nD Cert.InprojSampleIdeal.τ).loc Cert.InprojSampleIdeal.main_v113_15) = v15 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
          ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
          ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4))
      ∧ θ_run (Cert.InprojSampleReferenceIdeal.defs (F := Ideal)) (onTc (τ := Cert.InprojSampleReferenceIdeal.τ) (Cert.InprojSampleReferenceIdeal.main (F := Ideal))) ⟨m', fun _ => 0, g'⟩ (fun r => ∀ c : Dev Cert.InprojSampleReferenceIdeal.nD,
          r.2.mem ((c.tc : Thread Cert.InprojSampleReferenceIdeal.nD Cert.InprojSampleReferenceIdeal.τ).loc Cert.InprojSampleReferenceIdeal.main_v273) = v0 c
          ∧ r.2.mem ((c.tc : Thread Cert.InprojSampleReferenceIdeal.nD Cert.InprojSampleReferenceIdeal.τ).loc Cert.InprojSampleReferenceIdeal.main_v274) = v1 c
          ∧ r.2.mem ((c.tc : Thread Cert.InprojSampleReferenceIdeal.nD Cert.InprojSampleReferenceIdeal.τ).loc Cert.InprojSampleReferenceIdeal.main_v275) = v2 c
          ∧ r.2.mem ((c.tc : Thread Cert.InprojSampleReferenceIdeal.nD Cert.InprojSampleReferenceIdeal.τ).loc Cert.InprojSampleReferenceIdeal.main_v276) = v3 c
          ∧ r.2.mem ((c.tc : Thread Cert.InprojSampleReferenceIdeal.nD Cert.InprojSampleReferenceIdeal.τ).loc Cert.InprojSampleReferenceIdeal.main_v279) = v4 c
          ∧ r.2.mem ((c.tc : Thread Cert.InprojSampleReferenceIdeal.nD Cert.InprojSampleReferenceIdeal.τ).loc Cert.InprojSampleReferenceIdeal.main_v282) = v5 c
          ∧ r.2.mem ((c.tc : Thread Cert.InprojSampleReferenceIdeal.nD Cert.InprojSampleReferenceIdeal.τ).loc Cert.InprojSampleReferenceIdeal.main_v283) = v6 c
          ∧ r.2.mem ((c.tc : Thread Cert.InprojSampleReferenceIdeal.nD Cert.InprojSampleReferenceIdeal.τ).loc Cert.InprojSampleReferenceIdeal.main_v284) = v7 c
          ∧ r.2.mem ((c.tc : Thread Cert.InprojSampleReferenceIdeal.nD Cert.InprojSampleReferenceIdeal.τ).loc Cert.InprojSampleReferenceIdeal.main_v285) = v8 c
          ∧ r.2.mem ((c.tc : Thread Cert.InprojSampleReferenceIdeal.nD Cert.InprojSampleReferenceIdeal.τ).loc Cert.InprojSampleReferenceIdeal.main_v287) = v9 c
          ∧ r.2.mem ((c.tc : Thread Cert.InprojSampleReferenceIdeal.nD Cert.InprojSampleReferenceIdeal.τ).loc Cert.InprojSampleReferenceIdeal.main_v288) = v10 c
          ∧ r.2.mem ((c.tc : Thread Cert.InprojSampleReferenceIdeal.nD Cert.InprojSampleReferenceIdeal.τ).loc Cert.InprojSampleReferenceIdeal.main_v289) = v11 c
          ∧ r.2.mem ((c.tc : Thread Cert.InprojSampleReferenceIdeal.nD Cert.InprojSampleReferenceIdeal.τ).loc Cert.InprojSampleReferenceIdeal.main_v267) = v12 c
          ∧ r.2.mem ((c.tc : Thread Cert.InprojSampleReferenceIdeal.nD Cert.InprojSampleReferenceIdeal.τ).loc Cert.InprojSampleReferenceIdeal.main_v268) = v13 c
          ∧ r.2.mem ((c.tc : Thread Cert.InprojSampleReferenceIdeal.nD Cert.InprojSampleReferenceIdeal.τ).loc Cert.InprojSampleReferenceIdeal.main_v269) = v14 c
          ∧ r.2.mem ((c.tc : Thread Cert.InprojSampleReferenceIdeal.nD Cert.InprojSampleReferenceIdeal.τ).loc Cert.InprojSampleReferenceIdeal.main_v291) = v15 c
          ∧ r.2.mem ((c.tc : Thread Cert.InprojSampleReferenceIdeal.nD Cert.InprojSampleReferenceIdeal.τ).loc Cert.InprojSampleReferenceIdeal.main_arg0) = m' ((c.tc : Thread Cert.InprojSampleReferenceIdeal.nD Cert.InprojSampleReferenceIdeal.τ).loc Cert.InprojSampleReferenceIdeal.main_arg0)
          ∧ r.2.mem ((c.tc : Thread Cert.InprojSampleReferenceIdeal.nD Cert.InprojSampleReferenceIdeal.τ).loc Cert.InprojSampleReferenceIdeal.main_arg1) = m' ((c.tc : Thread Cert.InprojSampleReferenceIdeal.nD Cert.InprojSampleReferenceIdeal.τ).loc Cert.InprojSampleReferenceIdeal.main_arg1)
          ∧ r.2.mem ((c.tc : Thread Cert.InprojSampleReferenceIdeal.nD Cert.InprojSampleReferenceIdeal.τ).loc Cert.InprojSampleReferenceIdeal.main_arg2) = m' ((c.tc : Thread Cert.InprojSampleReferenceIdeal.nD Cert.InprojSampleReferenceIdeal.τ).loc Cert.InprojSampleReferenceIdeal.main_arg2)
          ∧ r.2.mem ((c.tc : Thread Cert.InprojSampleReferenceIdeal.nD Cert.InprojSampleReferenceIdeal.τ).loc Cert.InprojSampleReferenceIdeal.main_arg3) = m' ((c.tc : Thread Cert.InprojSampleReferenceIdeal.nD Cert.InprojSampleReferenceIdeal.τ).loc Cert.InprojSampleReferenceIdeal.main_arg3)
          ∧ r.2.mem ((c.tc : Thread Cert.InprojSampleReferenceIdeal.nD Cert.InprojSampleReferenceIdeal.τ).loc Cert.InprojSampleReferenceIdeal.main_arg4) = m' ((c.tc : Thread Cert.InprojSampleReferenceIdeal.nD Cert.InprojSampleReferenceIdeal.τ).loc Cert.InprojSampleReferenceIdeal.main_arg4))

def preserves_MergeSample_MergeSampleIdeal : Prop :=
  True

def algebraic_MergeSampleIdeal_MergeSampleReferenceIdeal [hMergeSampleIdeal : Cert.MergeSampleIdeal.Facts] [hMergeSampleReferenceIdeal : Cert.MergeSampleReferenceIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleReferenceIdeal.nD Cert.MergeSampleReferenceIdeal.τ Cert.MergeSampleReferenceIdeal.sig) → Buf (Elt Ideal) ℓ) (g' : Dev Cert.MergeSampleReferenceIdeal.nD → PrngReg), Pre_MergeSampleIdeal m →
    (∀ c : Dev Cert.MergeSampleIdeal.nD,
      m' ((c.tc : Thread Cert.MergeSampleReferenceIdeal.nD Cert.MergeSampleReferenceIdeal.τ).loc Cert.MergeSampleReferenceIdeal.main_arg0) = m ((c.tc : Thread Cert.MergeSampleIdeal.nD Cert.MergeSampleIdeal.τ).loc Cert.MergeSampleIdeal.main_arg0)
      ∧ m' ((c.tc : Thread Cert.MergeSampleReferenceIdeal.nD Cert.MergeSampleReferenceIdeal.τ).loc Cert.MergeSampleReferenceIdeal.main_arg1) = m ((c.tc : Thread Cert.MergeSampleIdeal.nD Cert.MergeSampleIdeal.τ).loc Cert.MergeSampleIdeal.main_arg1)
      ∧ m' ((c.tc : Thread Cert.MergeSampleReferenceIdeal.nD Cert.MergeSampleReferenceIdeal.τ).loc Cert.MergeSampleReferenceIdeal.main_arg2) = m ((c.tc : Thread Cert.MergeSampleIdeal.nD Cert.MergeSampleIdeal.τ).loc Cert.MergeSampleIdeal.main_arg2)
      ∧ m' ((c.tc : Thread Cert.MergeSampleReferenceIdeal.nD Cert.MergeSampleReferenceIdeal.τ).loc Cert.MergeSampleReferenceIdeal.main_arg3) = m ((c.tc : Thread Cert.MergeSampleIdeal.nD Cert.MergeSampleIdeal.τ).loc Cert.MergeSampleIdeal.main_arg3)
      ∧ m' ((c.tc : Thread Cert.MergeSampleReferenceIdeal.nD Cert.MergeSampleReferenceIdeal.τ).loc Cert.MergeSampleReferenceIdeal.main_arg4) = m ((c.tc : Thread Cert.MergeSampleIdeal.nD Cert.MergeSampleIdeal.τ).loc Cert.MergeSampleIdeal.main_arg4)
      ∧ m' ((c.tc : Thread Cert.MergeSampleReferenceIdeal.nD Cert.MergeSampleReferenceIdeal.τ).loc Cert.MergeSampleReferenceIdeal.main_arg5) = m ((c.tc : Thread Cert.MergeSampleIdeal.nD Cert.MergeSampleIdeal.τ).loc Cert.MergeSampleIdeal.main_arg5)
      ∧ m' ((c.tc : Thread Cert.MergeSampleReferenceIdeal.nD Cert.MergeSampleReferenceIdeal.τ).loc Cert.MergeSampleReferenceIdeal.main_arg6) = m ((c.tc : Thread Cert.MergeSampleIdeal.nD Cert.MergeSampleIdeal.τ).loc Cert.MergeSampleIdeal.main_arg6)
      ∧ m' ((c.tc : Thread Cert.MergeSampleReferenceIdeal.nD Cert.MergeSampleReferenceIdeal.τ).loc Cert.MergeSampleReferenceIdeal.main_arg7) = m ((c.tc : Thread Cert.MergeSampleIdeal.nD Cert.MergeSampleIdeal.τ).loc Cert.MergeSampleIdeal.main_arg7)
      ∧ m' ((c.tc : Thread Cert.MergeSampleReferenceIdeal.nD Cert.MergeSampleReferenceIdeal.τ).loc Cert.MergeSampleReferenceIdeal.main_arg8) = m ((c.tc : Thread Cert.MergeSampleIdeal.nD Cert.MergeSampleIdeal.τ).loc Cert.MergeSampleIdeal.main_arg8)
      ∧ m' ((c.tc : Thread Cert.MergeSampleReferenceIdeal.nD Cert.MergeSampleReferenceIdeal.τ).loc Cert.MergeSampleReferenceIdeal.main_arg9) = m ((c.tc : Thread Cert.MergeSampleIdeal.nD Cert.MergeSampleIdeal.τ).loc Cert.MergeSampleIdeal.main_arg9)
      ∧ m' ((c.tc : Thread Cert.MergeSampleReferenceIdeal.nD Cert.MergeSampleReferenceIdeal.τ).loc Cert.MergeSampleReferenceIdeal.main_arg10) = m ((c.tc : Thread Cert.MergeSampleIdeal.nD Cert.MergeSampleIdeal.τ).loc Cert.MergeSampleIdeal.main_arg10)) →
    ∃ (v0 : (c : Dev Cert.MergeSampleIdeal.nD) → Buf (Elt Ideal) ((c.tc : Thread Cert.MergeSampleIdeal.nD Cert.MergeSampleIdeal.τ).loc Cert.MergeSampleIdeal.main_v13)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v13) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
          ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
          ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
          ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10))
      ∧ θ_run (Cert.MergeSampleReferenceIdeal.defs (F := Ideal)) (onTc (τ := Cert.MergeSampleReferenceIdeal.τ) (Cert.MergeSampleReferenceIdeal.main (F := Ideal))) ⟨m', fun _ => 0, g'⟩ (fun r => ∀ c : Dev Cert.MergeSampleReferenceIdeal.nD,
          r.2.mem ((c.tc : Thread Cert.MergeSampleReferenceIdeal.nD Cert.MergeSampleReferenceIdeal.τ).loc Cert.MergeSampleReferenceIdeal.main_v44) = v0 c
          ∧ r.2.mem ((c.tc : Thread Cert.MergeSampleReferenceIdeal.nD Cert.MergeSampleReferenceIdeal.τ).loc Cert.MergeSampleReferenceIdeal.main_arg0) = m' ((c.tc : Thread Cert.MergeSampleReferenceIdeal.nD Cert.MergeSampleReferenceIdeal.τ).loc Cert.MergeSampleReferenceIdeal.main_arg0)
          ∧ r.2.mem ((c.tc : Thread Cert.MergeSampleReferenceIdeal.nD Cert.MergeSampleReferenceIdeal.τ).loc Cert.MergeSampleReferenceIdeal.main_arg1) = m' ((c.tc : Thread Cert.MergeSampleReferenceIdeal.nD Cert.MergeSampleReferenceIdeal.τ).loc Cert.MergeSampleReferenceIdeal.main_arg1)
          ∧ r.2.mem ((c.tc : Thread Cert.MergeSampleReferenceIdeal.nD Cert.MergeSampleReferenceIdeal.τ).loc Cert.MergeSampleReferenceIdeal.main_arg2) = m' ((c.tc : Thread Cert.MergeSampleReferenceIdeal.nD Cert.MergeSampleReferenceIdeal.τ).loc Cert.MergeSampleReferenceIdeal.main_arg2)
          ∧ r.2.mem ((c.tc : Thread Cert.MergeSampleReferenceIdeal.nD Cert.MergeSampleReferenceIdeal.τ).loc Cert.MergeSampleReferenceIdeal.main_arg3) = m' ((c.tc : Thread Cert.MergeSampleReferenceIdeal.nD Cert.MergeSampleReferenceIdeal.τ).loc Cert.MergeSampleReferenceIdeal.main_arg3)
          ∧ r.2.mem ((c.tc : Thread Cert.MergeSampleReferenceIdeal.nD Cert.MergeSampleReferenceIdeal.τ).loc Cert.MergeSampleReferenceIdeal.main_arg4) = m' ((c.tc : Thread Cert.MergeSampleReferenceIdeal.nD Cert.MergeSampleReferenceIdeal.τ).loc Cert.MergeSampleReferenceIdeal.main_arg4)
          ∧ r.2.mem ((c.tc : Thread Cert.MergeSampleReferenceIdeal.nD Cert.MergeSampleReferenceIdeal.τ).loc Cert.MergeSampleReferenceIdeal.main_arg5) = m' ((c.tc : Thread Cert.MergeSampleReferenceIdeal.nD Cert.MergeSampleReferenceIdeal.τ).loc Cert.MergeSampleReferenceIdeal.main_arg5)
          ∧ r.2.mem ((c.tc : Thread Cert.MergeSampleReferenceIdeal.nD Cert.MergeSampleReferenceIdeal.τ).loc Cert.MergeSampleReferenceIdeal.main_arg6) = m' ((c.tc : Thread Cert.MergeSampleReferenceIdeal.nD Cert.MergeSampleReferenceIdeal.τ).loc Cert.MergeSampleReferenceIdeal.main_arg6)
          ∧ r.2.mem ((c.tc : Thread Cert.MergeSampleReferenceIdeal.nD Cert.MergeSampleReferenceIdeal.τ).loc Cert.MergeSampleReferenceIdeal.main_arg7) = m' ((c.tc : Thread Cert.MergeSampleReferenceIdeal.nD Cert.MergeSampleReferenceIdeal.τ).loc Cert.MergeSampleReferenceIdeal.main_arg7)
          ∧ r.2.mem ((c.tc : Thread Cert.MergeSampleReferenceIdeal.nD Cert.MergeSampleReferenceIdeal.τ).loc Cert.MergeSampleReferenceIdeal.main_arg8) = m' ((c.tc : Thread Cert.MergeSampleReferenceIdeal.nD Cert.MergeSampleReferenceIdeal.τ).loc Cert.MergeSampleReferenceIdeal.main_arg8)
          ∧ r.2.mem ((c.tc : Thread Cert.MergeSampleReferenceIdeal.nD Cert.MergeSampleReferenceIdeal.τ).loc Cert.MergeSampleReferenceIdeal.main_arg9) = m' ((c.tc : Thread Cert.MergeSampleReferenceIdeal.nD Cert.MergeSampleReferenceIdeal.τ).loc Cert.MergeSampleReferenceIdeal.main_arg9)
          ∧ r.2.mem ((c.tc : Thread Cert.MergeSampleReferenceIdeal.nD Cert.MergeSampleReferenceIdeal.τ).loc Cert.MergeSampleReferenceIdeal.main_arg10) = m' ((c.tc : Thread Cert.MergeSampleReferenceIdeal.nD Cert.MergeSampleReferenceIdeal.τ).loc Cert.MergeSampleReferenceIdeal.main_arg10))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hMerge : Cert.Merge.Facts) (hMergeIdeal : Cert.MergeIdeal.Facts) (hMergeReferenceIdeal : Cert.MergeReferenceIdeal.Facts) (hInprojSample : Cert.InprojSample.Facts) (hInprojSampleIdeal : Cert.InprojSampleIdeal.Facts) (hInprojSampleReferenceIdeal : Cert.InprojSampleReferenceIdeal.Facts) (hMergeSample : Cert.MergeSample.Facts) (hMergeSampleIdeal : Cert.MergeSampleIdeal.Facts) (hMergeSampleReferenceIdeal : Cert.MergeSampleReferenceIdeal.Facts) (hPre_retention_finite : Cert.Pre_retention_finite.Facts) (hPre_inproj_finite : Cert.Pre_inproj_finite.Facts) (hPre_inproj_sample_finite : Cert.Pre_inproj_sample_finite.Facts),
    quiescent_Kernel (hKernel := hKernel)
    ∧ quiescent_KernelIdeal (hKernelIdeal := hKernelIdeal)
    ∧ quiescent_KernelIdeal_pre_retention_finite (hKernelIdeal := hKernelIdeal) (hPre_retention_finite := hPre_retention_finite)
    ∧ quiescent_ReferenceIdeal (hReferenceIdeal := hReferenceIdeal)
    ∧ quiescent_ReferenceIdeal_pre_retention_finite (hReferenceIdeal := hReferenceIdeal) (hPre_retention_finite := hPre_retention_finite)
    ∧ quiescent_Inproj (hInproj := hInproj)
    ∧ quiescent_InprojIdeal (hInprojIdeal := hInprojIdeal)
    ∧ quiescent_InprojIdeal_pre_inproj_finite (hInprojIdeal := hInprojIdeal) (hPre_inproj_finite := hPre_inproj_finite)
    ∧ quiescent_InprojReferenceIdeal (hInprojReferenceIdeal := hInprojReferenceIdeal)
    ∧ quiescent_InprojReferenceIdeal_pre_inproj_finite (hInprojReferenceIdeal := hInprojReferenceIdeal) (hPre_inproj_finite := hPre_inproj_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_InprojSample (hInprojSample := hInprojSample)
    ∧ quiescent_InprojSampleIdeal (hInprojSampleIdeal := hInprojSampleIdeal)
    ∧ quiescent_InprojSampleIdeal_pre_inproj_sample_finite (hInprojSampleIdeal := hInprojSampleIdeal) (hPre_inproj_sample_finite := hPre_inproj_sample_finite)
    ∧ quiescent_InprojSampleReferenceIdeal (hInprojSampleReferenceIdeal := hInprojSampleReferenceIdeal)
    ∧ quiescent_InprojSampleReferenceIdeal_pre_inproj_sample_finite (hInprojSampleReferenceIdeal := hInprojSampleReferenceIdeal) (hPre_inproj_sample_finite := hPre_inproj_sample_finite)
    ∧ quiescent_MergeSample (hMergeSample := hMergeSample)
    ∧ quiescent_MergeSampleIdeal (hMergeSampleIdeal := hMergeSampleIdeal)
    ∧ quiescent_MergeSampleReferenceIdeal (hMergeSampleReferenceIdeal := hMergeSampleReferenceIdeal)
    ∧ preserves_Kernel_KernelIdeal
    ∧ algebraic_KernelIdeal_ReferenceIdeal_pre_retention_finite (hKernelIdeal := hKernelIdeal) (hReferenceIdeal := hReferenceIdeal) (hPre_retention_finite := hPre_retention_finite)
    ∧ preserves_Inproj_InprojIdeal
    ∧ algebraic_InprojIdeal_InprojReferenceIdeal_pre_inproj_finite (hInprojIdeal := hInprojIdeal) (hInprojReferenceIdeal := hInprojReferenceIdeal) (hPre_inproj_finite := hPre_inproj_finite)
    ∧ preserves_Merge_MergeIdeal
    ∧ algebraic_MergeIdeal_MergeReferenceIdeal (hMergeIdeal := hMergeIdeal) (hMergeReferenceIdeal := hMergeReferenceIdeal)
    ∧ preserves_InprojSample_InprojSampleIdeal
    ∧ algebraic_InprojSampleIdeal_InprojSampleReferenceIdeal_pre_inproj_sample_finite (hInprojSampleIdeal := hInprojSampleIdeal) (hInprojSampleReferenceIdeal := hInprojSampleReferenceIdeal) (hPre_inproj_sample_finite := hPre_inproj_sample_finite)
    ∧ preserves_MergeSample_MergeSampleIdeal
    ∧ algebraic_MergeSampleIdeal_MergeSampleReferenceIdeal (hMergeSampleIdeal := hMergeSampleIdeal) (hMergeSampleReferenceIdeal := hMergeSampleReferenceIdeal)
-- ==== Pre_inproj_finite.lean ====
abbrev S4x4096x1024 : Shape := ⟨3, ![4, 4096, 1024]⟩
abbrev S2x1024 : Shape := ⟨2, ![2, 1024]⟩
abbrev S2x1024x5700 : Shape := ⟨3, ![2, 1024, 5700]⟩
abbrev S2x64 : Shape := ⟨2, ![2, 64]⟩
abbrev S1x1024 : Shape := ⟨2, ![1, 1024]⟩
abbrev S1024 : Shape := ⟨1, ![1024]⟩
abbrev S1024x1 : Shape := ⟨2, ![1024, 1]⟩
abbrev S1x1024x640 : Shape := ⟨3, ![1, 1024, 640]⟩
abbrev S1024x640 : Shape := ⟨2, ![1024, 640]⟩
abbrev S_ : Shape := ⟨0, ![]⟩

class Facts : Prop where
  slices_S2x1024_S1x1024_0_0 : S2x1024.Slices ![0, 0] S1x1024
  shapeCasts_S1x1024_S1024 : S1x1024.ShapeCasts S1024
  bcast_S1024_S1024x1_0 : S1024.BroadcastsInDim S1024x1 (![0] : Fin 1 → Fin S1024x1.rank)
  slices_S2x1024x5700_S1x1024x640_0_0_2048 : S2x1024x5700.Slices ![0, 0, 2048] S1x1024x640
  shapeCasts_S1x1024x640_S1024x640 : S1x1024x640.ShapeCasts S1024x640
  bcast_S_S1024x1 : S_.BroadcastsInDim S1024x1 (![] : Fin 0 → Fin S1024x1.rank)
  bcast_S_S1024x640 : S_.BroadcastsInDim S1024x640 (![] : Fin 0 → Fin S1024x640.rank)
  bcast_S1024x1_S1024x640_0_1 : S1024x1.BroadcastsInDim S1024x640 (![0, 1] : Fin 2 → Fin S1024x640.rank)

variable [Facts]

def fn {F : FTy → Type} [FloatOps F] (main_arg0 : FVec F S4x4096x1024 .f32) (main_arg1 : FVec F S2x1024 .f32) (main_arg2 : FVec F S2x1024x5700 .f32) (main_arg3 : FVec F S2x64 .f32) (main_arg4 : FVec F S2x64 .f32) : IVec S1024x640 1 :=
  let main_v0 : FVec F S1x1024 .f32 := (extractStridedSlice S1x1024 ![0, 0] · slices_S2x1024_S1x1024_0_0) main_arg1
  let main_v1 : FVec F S1024 .f32 := shapeCast S1024 main_v0 shapeCasts_S1x1024_S1024
  let main_v2 : FVec F S1024x1 .f32 := broadcastInDim S1024x1 ![0] bcast_S1024_S1024x1_0 main_v1
  let main_v3 : FVec F S1x1024x640 .f32 := (extractStridedSlice S1x1024x640 ![0, 0, 2048] · slices_S2x1024x5700_S1x1024x640_0_0_2048) main_arg2
  let main_v4 : FVec F S1024x640 .f32 := shapeCast S1024x640 main_v3 shapeCasts_S1x1024x640_S1024x640
  let main_v5 : FVec F S1024x1 .f32 := subf main_v2 main_v2
  let main_cst : FVec F S_ .f32 := constant S_ .f32 0x00000000#32
  let main_v6 : FVec F S1024x1 .f32 := broadcastInDim S1024x1 ![] bcast_S_S1024x1 main_cst
  let main_v7 : IVec S1024x1 1 := cmpf .oeq main_v5 main_v6
  let main_v8 : FVec F S1024x640 .f32 := subf main_v4 main_v4
  let main_cst_0 : FVec F S_ .f32 := constant S_ .f32 0x00000000#32
  let main_v9 : FVec F S1024x640 .f32 := broadcastInDim S1024x640 ![] bcast_S_S1024x640 main_cst_0
  let main_v10 : IVec S1024x640 1 := cmpf .oeq main_v8 main_v9
  let main_v11 : IVec S1024x640 1 := broadcastInDim S1024x640 ![0, 1] bcast_S1024x1_S1024x640_0_1 main_v7
  let main_v12 : IVec S1024x640 1 := andi main_v11 main_v10
  main_v12
-- ==== Pre_inproj_sample_finite.lean ====
abbrev S128x8x1024 : Shape := ⟨3, ![128, 8, 1024]⟩
abbrev S2x1024 : Shape := ⟨2, ![2, 1024]⟩
abbrev S2x1024x5700 : Shape := ⟨3, ![2, 1024, 5700]⟩
abbrev S2x64 : Shape := ⟨2, ![2, 64]⟩
abbrev S1x1024 : Shape := ⟨2, ![1, 1024]⟩
abbrev S1024 : Shape := ⟨1, ![1024]⟩
abbrev S1024x1 : Shape := ⟨2, ![1024, 1]⟩
abbrev S1x1024x640 : Shape := ⟨3, ![1, 1024, 640]⟩
abbrev S1024x640 : Shape := ⟨2, ![1024, 640]⟩
abbrev S_ : Shape := ⟨0, ![]⟩

class Facts : Prop where
  slices_S2x1024_S1x1024_0_0 : S2x1024.Slices ![0, 0] S1x1024
  shapeCasts_S1x1024_S1024 : S1x1024.ShapeCasts S1024
  bcast_S1024_S1024x1_0 : S1024.BroadcastsInDim S1024x1 (![0] : Fin 1 → Fin S1024x1.rank)
  slices_S2x1024x5700_S1x1024x640_0_0_2048 : S2x1024x5700.Slices ![0, 0, 2048] S1x1024x640
  shapeCasts_S1x1024x640_S1024x640 : S1x1024x640.ShapeCasts S1024x640
  bcast_S_S1024x1 : S_.BroadcastsInDim S1024x1 (![] : Fin 0 → Fin S1024x1.rank)
  bcast_S_S1024x640 : S_.BroadcastsInDim S1024x640 (![] : Fin 0 → Fin S1024x640.rank)
  bcast_S1024x1_S1024x640_0_1 : S1024x1.BroadcastsInDim S1024x640 (![0, 1] : Fin 2 → Fin S1024x640.rank)

variable [Facts]

def fn {F : FTy → Type} [FloatOps F] (main_arg0 : FVec F S128x8x1024 .f32) (main_arg1 : FVec F S2x1024 .f32) (main_arg2 : FVec F S2x1024x5700 .f32) (main_arg3 : FVec F S2x64 .f32) (main_arg4 : FVec F S2x64 .f32) : IVec S1024x640 1 :=
  let main_v0 : FVec F S1x1024 .f32 := (extractStridedSlice S1x1024 ![0, 0] · slices_S2x1024_S1x1024_0_0) main_arg1
  let main_v1 : FVec F S1024 .f32 := shapeCast S1024 main_v0 shapeCasts_S1x1024_S1024
  let main_v2 : FVec F S1024x1 .f32 := broadcastInDim S1024x1 ![0] bcast_S1024_S1024x1_0 main_v1
  let main_v3 : FVec F S1x1024x640 .f32 := (extractStridedSlice S1x1024x640 ![0, 0, 2048] · slices_S2x1024x5700_S1x1024x640_0_0_2048) main_arg2
  let main_v4 : FVec F S1024x640 .f32 := shapeCast S1024x640 main_v3 shapeCasts_S1x1024x640_S1024x640
  let main_v5 : FVec F S1024x1 .f32 := subf main_v2 main_v2
  let main_cst : FVec F S_ .f32 := constant S_ .f32 0x00000000#32
  let main_v6 : FVec F S1024x1 .f32 := broadcastInDim S1024x1 ![] bcast_S_S1024x1 main_cst
  let main_v7 : IVec S1024x1 1 := cmpf .oeq main_v5 main_v6
  let main_v8 : FVec F S1024x640 .f32 := subf main_v4 main_v4
  let main_cst_0 : FVec F S_ .f32 := constant S_ .f32 0x00000000#32
  let main_v9 : FVec F S1024x640 .f32 := broadcastInDim S1024x640 ![] bcast_S_S1024x640 main_cst_0
  let main_v10 : IVec S1024x640 1 := cmpf .oeq main_v8 main_v9
  let main_v11 : IVec S1024x640 1 := broadcastInDim S1024x640 ![0, 1] bcast_S1024x1_S1024x640_0_1 main_v7
  let main_v12 : IVec S1024x640 1 := andi main_v11 main_v10
  main_v12
-- ==== Pre_retention_finite.lean ====
abbrev S4x4096x512 : Shape := ⟨3, ![4, 4096, 512]⟩
abbrev S_ : Shape := ⟨0, ![]⟩

class Facts : Prop where
  bcast_S_S4x4096x512 : S_.BroadcastsInDim S4x4096x512 (![] : Fin 0 → Fin S4x4096x512.rank)

variable [Facts]

def fn {F : FTy → Type} [FloatOps F] (main_arg0 : FVec F S4x4096x512 .bf16) (main_arg1 : FVec F S4x4096x512 .bf16) (main_arg2 : FVec F S4x4096x512 .bf16) (main_arg3 : FVec F S4x4096x512 .bf16) : IVec S4x4096x512 1 :=
  let main_v0 : FVec F S4x4096x512 .bf16 := subf main_arg0 main_arg0
  let main_cst : FVec F S_ .bf16 := constant S_ .bf16 0x0000#16
  let main_v1 : FVec F S4x4096x512 .bf16 := broadcastInDim S4x4096x512 ![] bcast_S_S4x4096x512 main_cst
  let main_v2 : IVec S4x4096x512 1 := cmpf .oeq main_v0 main_v1
  let main_v3 : FVec F S4x4096x512 .bf16 := subf main_arg1 main_arg1
  let main_cst_0 : FVec F S_ .bf16 := constant S_ .bf16 0x0000#16
  let main_v4 : FVec F S4x4096x512 .bf16 := broadcastInDim S4x4096x512 ![] bcast_S_S4x4096x512 main_cst_0
  let main_v5 : IVec S4x4096x512 1 := cmpf .oeq main_v3 main_v4
  let main_v6 : IVec S4x4096x512 1 := andi main_v2 main_v5
  let main_v7 : FVec F S4x4096x512 .bf16 := subf main_arg2 main_arg2
  let main_cst_1 : FVec F S_ .bf16 := constant S_ .bf16 0x0000#16
  let main_v8 : FVec F S4x4096x512 .bf16 := broadcastInDim S4x4096x512 ![] bcast_S_S4x4096x512 main_cst_1
  let main_v9 : IVec S4x4096x512 1 := cmpf .oeq main_v7 main_v8
  let main_v10 : IVec S4x4096x512 1 := andi main_v6 main_v9
  main_v10
-- ==== Kernel.lean ====
abbrev S4x4096x512 : Shape := ⟨3, ![4, 4096, 512]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S1x4 : Shape := ⟨2, ![1, 4]⟩
abbrev S256x4 : Shape := ⟨2, ![256, 4]⟩
abbrev S256x4x128 : Shape := ⟨3, ![256, 4, 128]⟩
abbrev S256x512 : Shape := ⟨2, ![256, 512]⟩
abbrev S1x4x128 : Shape := ⟨3, ![1, 4, 128]⟩
abbrev S1x512 : Shape := ⟨2, ![1, 512]⟩
abbrev S1x4x4x128x128 : Shape := ⟨5, ![1, 4, 4, 128, 128]⟩
abbrev S4x4x128x128 : Shape := ⟨4, ![4, 4, 128, 128]⟩
abbrev S4x256x512 : Shape := ⟨3, ![4, 256, 512]⟩
abbrev S1x256x128 : Shape := ⟨3, ![1, 256, 128]⟩
abbrev S256x128 : Shape := ⟨2, ![256, 128]⟩
abbrev S1x1x128x128 : Shape := ⟨4, ![1, 1, 128, 128]⟩
abbrev S128x128 : Shape := ⟨2, ![128, 128]⟩
abbrev S128x256 : Shape := ⟨2, ![128, 256]⟩
abbrev S1x128 : Shape := ⟨2, ![1, 128]⟩

abbrev nBuf : Space → Nat
  | .hbm => 80
  | .vmem => 17
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S256, .f32⟩
  | .hbm, ⟨15, _⟩ => ⟨S256x1, .f32⟩
  | .hbm, ⟨16, _⟩ => ⟨S1x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S1x256x256, .f32⟩
  | .hbm, ⟨21, _⟩ => ⟨S_, .f32⟩
  | .hbm, ⟨22, _⟩ => ⟨S1x256x256, .f32⟩
  | .hbm, ⟨23, _⟩ => ⟨S1x256x256, .i1⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S1x256x256, .f32⟩
  | .hbm, ⟨28, _⟩ => ⟨S4x1x1, .f32⟩
  | .hbm, ⟨29, _⟩ => ⟨S4x256x256, .f32⟩
  | .hbm, ⟨30, _⟩ => ⟨S4x256x256, .f32⟩
  | .hbm, ⟨31, _⟩ => ⟨S4x256x256, .f32⟩
  | .hbm, ⟨32, _⟩ => ⟨S4x256x256, .f32⟩
  | .hbm, ⟨33, _⟩ => ⟨S_, .f32⟩
  | .hbm, ⟨34, _⟩ => ⟨S_, .f32⟩
  | .hbm, ⟨35, _⟩ => ⟨S4x256x256, .i1⟩
  | .hbm, ⟨36, _⟩ => ⟨S4x256x256, .f32⟩
  | .hbm, ⟨37, _⟩ => ⟨S4x256x256, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S1x4, .f32⟩
  | .hbm, ⟨43, _⟩ => ⟨S256x4, .f32⟩
  | .hbm, ⟨44, _⟩ => ⟨S256x4, .f32⟩
  | .hbm, ⟨45, _⟩ => ⟨S256x4, .f32⟩
  | .hbm, ⟨46, _⟩ => ⟨S256x4, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S256x1, .f32⟩
  | .hbm, ⟨51, _⟩ => ⟨S1x4, .f32⟩
  | .hbm, ⟨52, _⟩ => ⟨S256x4, .f32⟩
  | .hbm, ⟨53, _⟩ => ⟨S256x4, .f32⟩
  | .hbm, ⟨54, _⟩ => ⟨S256x4, .f32⟩
  | .hbm, ⟨55, _⟩ => ⟨S256x4, .f32⟩
  | .hbm, ⟨56, _⟩ => ⟨S256x1, .f32⟩
  | .hbm, ⟨57, _⟩ => ⟨S_, .f32⟩
  | .hbm, ⟨58, _⟩ => ⟨S256x1, .f32⟩
  | .hbm, ⟨59, _⟩ => ⟨S256x1, .i1⟩
  | .hbm, ⟨60, _⟩ => ⟨S_, .f32⟩
  | .hbm, ⟨61, _⟩ => ⟨S_, .f32⟩
  | .hbm, ⟨62, _⟩ => ⟨S256x4, .i1⟩
  | .hbm, ⟨63, _⟩ => ⟨S256x4, .f32⟩
  | .hbm, ⟨64, _⟩ => ⟨S256x4, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S256x4x128, .f32⟩
  | .hbm, ⟨70, _⟩ => ⟨S256x512, .f32⟩
  | .hbm, ⟨71, _⟩ => ⟨S256x4x128, .f32⟩
  | .hbm, ⟨72, _⟩ => ⟨S256x512, .f32⟩
  | .hbm, ⟨73, _⟩ => ⟨S1x4, .f32⟩
  | .hbm, ⟨74, _⟩ => ⟨S1x4x128, .f32⟩
  | .hbm, ⟨75, _⟩ => ⟨S1x512, .f32⟩
  | .hbm, ⟨76, _⟩ => ⟨S_, .f32⟩
  | .hbm, ⟨77, _⟩ => ⟨S1x4x4x128x128, .f32⟩
  | .hbm, ⟨78, _⟩ => ⟨S4x4096x512, .bf16⟩
  | .hbm, ⟨79, _⟩ => ⟨S4x4x128x128, .f32⟩
  | .local _ .vmem, ⟨0, _⟩ => ⟨S4x256x512, .bf16⟩
  | .local _ .vmem, ⟨1, _⟩ => ⟨S4x256x512, .bf16⟩
  | .local _ .vmem, ⟨2, _⟩ => ⟨S4x256x512, .bf16⟩
  | .local _ .vmem, ⟨3, _⟩ => ⟨S4x256x512, .bf16⟩
  | .local _ .vmem, ⟨4, _⟩ => ⟨S4x256x512, .bf16⟩
  | .local _ .vmem, ⟨5, _⟩ => ⟨S4x256x512, .bf16⟩
  | .local _ .vmem, ⟨6, _⟩ => ⟨S4x256x512, .bf16⟩
  | .local _ .vmem, ⟨7, _⟩ => ⟨S4x256x512, .bf16⟩
  | .local _ .vmem, ⟨8, _⟩ => ⟨S1x4x4x128x128, .f32⟩
  | .local _ .vmem, ⟨9, _⟩ => ⟨S4x256x256, .f32⟩
  | .local _ .vmem, ⟨10, _⟩ => ⟨S256x512, .f32⟩
  | .local _ .vmem, ⟨11, _⟩ => ⟨S256x512, .f32⟩
  | .local _ .vmem, ⟨12, _⟩ => ⟨S1x512, .f32⟩
  | .local _ .vmem, ⟨13, _⟩ => ⟨S4x256x512, .bf16⟩
  | .local _ .vmem, ⟨14, _⟩ => ⟨S4x256x512, .bf16⟩
  | .local _ .vmem, ⟨15, _⟩ => ⟨S4x4x128x128, .f32⟩
  | .local _ .vmem, ⟨16, _⟩ => ⟨S4x4x128x128, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57_0 : Ref sig .tc := ⟨.hbm, 78, rfl⟩
abbrev main_v57_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v1075 : BitVec 1 := Scalar.cmpi .eq arg1 c15_i32
  let v1076 : BitVec 32 := Scalar.extui v1075
  let c0_i32_649 : BitVec 32 := 0#32
  let v1077 : BitVec 1 := Scalar.cmpi .ne v1076 c0_i32_649
  v1077

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4x4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S4x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S4x4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== ReferenceIdeal.lean ====
abbrev S4x4096x512 : Shape := ⟨3, ![4, 4096, 512]⟩
abbrev S4x4096x4x128 : Shape := ⟨4, ![4, 4096, 4, 128]⟩
abbrev S_ : Shape := ⟨0, ![]⟩
abbrev S4x4x128x128 : Shape := ⟨4, ![4, 4, 128, 128]⟩
abbrev S4 : Shape := ⟨1, ![4]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S4x1x1 : Shape := ⟨3, ![4, 1, 1]⟩
abbrev S4x4096x4096 : Shape := ⟨3, ![4, 4096, 4096]⟩
abbrev S1x4 : Shape := ⟨2, ![1, 4]⟩
abbrev S4096x4 : Shape := ⟨2, ![4096, 4]⟩
abbrev S4x4x4096x4096 : Shape := ⟨4, ![4, 4, 4096, 4096]⟩
abbrev S1x4x4096x4096 : Shape := ⟨4, ![1, 4, 4096, 4096]⟩
abbrev S4x4x128x4096 : Shape := ⟨4, ![4, 4, 128, 4096]⟩
abbrev S1x4096x4x1 : Shape := ⟨4, ![1, 4096, 4, 1]⟩
abbrev S1x4x1x1 : Shape := ⟨4, ![1, 4, 1, 1]⟩
abbrev S4x4096x4 : Shape := ⟨3, ![4, 4096, 4]⟩
abbrev S4x4096x4x1 : Shape := ⟨4, ![4, 4096, 4, 1]⟩

abbrev nBuf : Space → Nat
  | .hbm => 124
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S4x4096x512, .f32⟩
  | .hbm, ⟨5, _⟩ => ⟨S4x4096x4x128, .f32⟩
  | .hbm, ⟨6, _⟩ => ⟨S4x4096x512, .f32⟩
  | .hbm, ⟨7, _⟩ => ⟨S4x4096x4x128, .f32⟩
  | .hbm, ⟨8, _⟩ => ⟨S4x4096x512, .f32⟩
  | .hbm, ⟨9, _⟩ => ⟨S4x4096x4x128, .f32⟩
  | .hbm, ⟨10, _⟩ => ⟨S_, .f32⟩
  | .hbm, ⟨11, _⟩ => ⟨S4x4x128x128, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S4096, .f32⟩
  | .hbm, ⟨23, _⟩ => ⟨S4096x1, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S1x4096x4096, .f32⟩
  | .hbm, ⟨29, _⟩ => ⟨S_, .f32⟩
  | .hbm, ⟨30, _⟩ => ⟨S1x4096x4096, .f32⟩
  | .hbm, ⟨31, _⟩ => ⟨S1x4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S1x4096x4096, .f32⟩
  | .hbm, ⟨36, _⟩ => ⟨S4x1x1, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S_, .f32⟩
  | .hbm, ⟨43, _⟩ => ⟨S4x4096x4096, .i1⟩
  | .hbm, ⟨44, _⟩ => ⟨S4x4096x4096, .f32⟩
  | .hbm, ⟨45, _⟩ => ⟨S4x4096x4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S1x4, .f32⟩
  | .hbm, ⟨51, _⟩ => ⟨S4096x4, .f32⟩
  | .hbm, ⟨52, _⟩ => ⟨S4096x4, .f32⟩
  | .hbm, ⟨53, _⟩ => ⟨S4096x4, .f32⟩
  | .hbm, ⟨54, _⟩ => ⟨S4096x4, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S4096x1, .f32⟩
  | .hbm, ⟨59, _⟩ => ⟨S1x4, .f32⟩
  | .hbm, ⟨60, _⟩ => ⟨S4096x4, .f32⟩
  | .hbm, ⟨61, _⟩ => ⟨S4096x4, .f32⟩
  | .hbm, ⟨62, _⟩ => ⟨S4096x4, .f32⟩
  | .hbm, ⟨63, _⟩ => ⟨S4096x4, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S4x4x4096x4096, .f32⟩
  | .hbm, ⟨69, _⟩ => ⟨S1x4x4096x4096, .f32⟩
  | .hbm, ⟨70, _⟩ => ⟨S4x4x4096x4096, .f32⟩
  | .hbm, ⟨71, _⟩ => ⟨S4x4x4096x4096, .f32⟩
  | .hbm, ⟨72, _⟩ => ⟨S4x4x128x4096, .f32⟩
  | .hbm, ⟨73, _⟩ => ⟨S4x4096x4x128, .f32⟩
  | .hbm, ⟨74, _⟩ => ⟨S1x4096x4x1, .f32⟩
  | .hbm, ⟨75, _⟩ => ⟨S4x4096x4x128, .f32⟩
  | .hbm, ⟨76, _⟩ => ⟨S4x4096x4x128, .f32⟩
  | .hbm, ⟨77, _⟩ => ⟨S4x4x128x4096, .f32⟩
  | .hbm, ⟨78, _⟩ => ⟨S4x4096x4x128, .f32⟩
  | .hbm, ⟨79, _⟩ => ⟨S4x4096x4x128, .f32⟩
  | .hbm, ⟨80, _⟩ => ⟨S1x4x1x1, .f32⟩
  | .hbm, ⟨81, _⟩ => ⟨S4x4x128x128, .f32⟩
  | .hbm, ⟨82, _⟩ => ⟨S4x4x128x128, .f32⟩
  | .hbm, ⟨83, _⟩ => ⟨S1x4096x4x1, .f32⟩
  | .hbm, ⟨84, _⟩ => ⟨S4x4096x4x128, .f32⟩
  | .hbm, ⟨85, _⟩ => ⟨S4x4096x4x128, .f32⟩
  | .hbm, ⟨86, _⟩ => ⟨S4x4x128x128, .f32⟩
  | .hbm, ⟨87, _⟩ => ⟨S4x4x128x128, .f32⟩
  | .hbm, ⟨88, _⟩ => ⟨S_, .f32⟩
  | .hbm, ⟨89, _⟩ => ⟨S4x4096x4, .f32⟩
  | .hbm, ⟨90, _⟩ => ⟨S4x4096x4x1, .f32⟩
  | .hbm, ⟨91, _⟩ => ⟨S_, .f32⟩
  | .hbm, ⟨92, _⟩ => ⟨S4x4096x4x1, .f32⟩
  | .hbm, ⟨93, _⟩ => ⟨S4x4096x4x1, .f32⟩
  | .hbm, ⟨94, _⟩ => ⟨S4x4096x4x128, .f32⟩
  | .hbm, ⟨95, _⟩ => ⟨S4x4096x4x128, .f32⟩
  | .hbm, ⟨96, _⟩ => ⟨S4x4096x4x128, .f32⟩
  | .hbm, ⟨97, _⟩ => ⟨S_, .f32⟩
  | .hbm, ⟨98, _⟩ => ⟨S4x4096x4, .f32⟩
  | .hbm, ⟨99, _⟩ => ⟨S4x4096x4x1, .f32⟩
  | .hbm, ⟨100, _⟩ => ⟨S_, .f32⟩
  | .hbm, ⟨101, _⟩ => ⟨S4x4096x4x1, .f32⟩
  | .hbm, ⟨102, _⟩ => ⟨S4x4096x4x1, .f32⟩
  | .hbm, ⟨103, _⟩ => ⟨S4x4096x4x128, .f32⟩
  | .hbm, ⟨104, _⟩ => ⟨S4x4096x4x128, .f32⟩
  | .hbm, ⟨105, _⟩ => ⟨S_, .f32⟩
  | .hbm, ⟨106, _⟩ => ⟨S4x4096x4x1, .f32⟩
  | .hbm, ⟨107, _⟩ => ⟨S4x4096x4x1, .f32⟩
  | .hbm, ⟨108, _⟩ => ⟨S4x4096x4x1, .f32⟩
  | .hbm, ⟨109, _⟩ => ⟨S4x4096x4x128, .f32⟩
  | .hbm, ⟨110, _⟩ => ⟨S4x4096x4x128, .f32⟩
  | .hbm, ⟨111, _⟩ => ⟨S4x4096x512, .f32⟩
  | .hbm, ⟨112, _⟩ => ⟨S4x4096x512, .f32⟩
  | .hbm, ⟨113, _⟩ => ⟨S4x4096x512, .f32⟩
  | .hbm, ⟨114, _⟩ => ⟨S4x4096x512, .f32⟩
  | .hbm, ⟨115, _⟩ => ⟨S_, .f32⟩
  | .hbm, ⟨116, _⟩ => ⟨S4x4096x512, .f32⟩
  | .hbm, ⟨117, _⟩ => ⟨S4x4096x512, .f32⟩
  | .hbm, ⟨118, _⟩ => ⟨S_, .f32⟩
  | .hbm, ⟨119, _⟩ => ⟨S4x4096x512, .f32⟩
  | .hbm, ⟨120, _⟩ => ⟨S4x4096x512, .f32⟩
  | .hbm, ⟨121, _⟩ => ⟨S4x4096x512, .f32⟩
  | .hbm, ⟨122, _⟩ => ⟨S4x4096x512, .f32⟩
  | .hbm, ⟨123, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_8 : Ref sig .tc := ⟨.hbm, 88, rfl⟩
abbrev main_v72 : Ref sig .tc := ⟨.hbm, 89, rfl⟩
abbrev main_v73 : Ref sig .tc := ⟨.hbm, 90, rfl⟩
abbrev main_cst_9 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_cst_11 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_12 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_call1_v5 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩

abbrev nD : Nat := 1
abbrev τ : Topo := Topo.v7x

variable {F : FTy → Type} [FloatOps F]
-- ==== Inproj.lean ====
abbrev S4x4096x1024 : Shape := ⟨3, ![4, 4096, 1024]⟩
abbrev S2x1024 : Shape := ⟨2, ![2, 1024]⟩
abbrev S2x1024x5700 : Shape := ⟨3, ![2, 1024, 5700]⟩
abbrev S2x64 : Shape := ⟨2, ![2, 64]⟩
abbrev S128x128 : Shape := ⟨2, ![128, 128]⟩
abbrev S_ : Shape := ⟨0, ![]⟩
abbrev S4096 : Shape := ⟨1, ![4096]⟩
abbrev S4096x1 : Shape := ⟨2, ![4096, 1]⟩
abbrev S128 : Shape := ⟨1, ![128]⟩
abbrev S1x128 : Shape := ⟨2, ![1, 128]⟩
abbrev S64 : Shape := ⟨1, ![64]⟩
abbrev S1x64 : Shape := ⟨2, ![1, 64]⟩
abbrev S4096x128 : Shape := ⟨2, ![4096, 128]⟩
abbrev S8 : Shape := ⟨1, ![8]⟩
abbrev S1x8 : Shape := ⟨2, ![1, 8]⟩
abbrev S16x8 : Shape := ⟨2, ![16, 8]⟩
abbrev S5700x2x1024 : Shape := ⟨3, ![5700, 2, 1024]⟩
abbrev S16384x1024 : Shape := ⟨2, ![16384, 1024]⟩
abbrev S1x1024 : Shape := ⟨2, ![1, 1024]⟩
abbrev S1024 : Shape := ⟨1, ![1024]⟩
abbrev S5700x1x1024 : Shape := ⟨3, ![5700, 1, 1024]⟩
abbrev S5700x1024 : Shape := ⟨2, ![5700, 1024]⟩
abbrev S512x1024 : Shape := ⟨2, ![512, 1024]⟩
abbrev S128x1024 : Shape := ⟨2, ![128, 1024]⟩
abbrev S256x1024 : Shape := ⟨2, ![256, 1024]⟩
abbrev S64x1024 : Shape := ⟨2, ![64, 1024]⟩
abbrev S4x1024 : Shape := ⟨2, ![4, 1024]⟩
abbrev S1024x1024 : Shape := ⟨2, ![1024, 1024]⟩
abbrev S2x4x64x1024 : Shape := ⟨4, ![2, 4, 64, 1024]⟩
abbrev S1x4x64x1024 : Shape := ⟨4, ![1, 4, 64, 1024]⟩
abbrev S4x64x1024 : Shape := ⟨3, ![4, 64, 1024]⟩
abbrev S4x128x1024 : Shape := ⟨3, ![4, 128, 1024]⟩
abbrev S5888x1024 : Shape := ⟨2, ![5888, 1024]⟩
abbrev S16384x512 : Shape := ⟨2, ![16384, 512]⟩
abbrev S16384x128 : Shape := ⟨2, ![16384, 128]⟩
abbrev S144x16384 : Shape := ⟨2, ![144, 16384]⟩
abbrev S16384x256 : Shape := ⟨2, ![16384, 256]⟩
abbrev S16384x64 : Shape := ⟨2, ![16384, 64]⟩
abbrev S512x128 : Shape := ⟨2, ![512, 128]⟩
abbrev S512x512 : Shape := ⟨2, ![512, 512]⟩
abbrev S144x512 : Shape := ⟨2, ![144, 512]⟩
abbrev S512x256 : Shape := ⟨2, ![512, 256]⟩
abbrev S512x64 : Shape := ⟨2, ![512, 64]⟩
abbrev S512 : Shape := ⟨1, ![512]⟩
abbrev S512x1 : Shape := ⟨2, ![512, 1]⟩
abbrev S128x512 : Shape := ⟨2, ![128, 512]⟩
abbrev S16x512 : Shape := ⟨2, ![16, 512]⟩

abbrev nBuf : Space → Nat
  | .hbm => 214
  | .vmem => 49
  | .smem => 0
  | _ => 0

abbrev hbmTy0_0 (i : Nat) : BufTy := match i % 128 with
  | 0 => ⟨S4x4096x1024, .f32⟩
  | 1 => ⟨S2x1024, .f32⟩
  | 2 => ⟨S2x1024x5700, .f32⟩
  | 3 => ⟨S2x64, .f32⟩
  | 4 => ⟨S2x64, .f32⟩
  | 5 => ⟨S128x128, .i32⟩
  | 6 => ⟨S_, .i32⟩
  | 7 => ⟨S_, .i32⟩
  | 8 => ⟨S128x128, .i32⟩
  | 9 => ⟨S128x128, .i32⟩
  | 10 => ⟨S128x128, .i32⟩
  | 11 => ⟨S_, .i32⟩
  | 12 => ⟨S128x128, .i32⟩
  | 13 => ⟨S128x128, .i1⟩
  | 14 => ⟨S128x128, .i32⟩
  | 15 => ⟨S128x128, .i32⟩
  | 16 => ⟨S_, .i32⟩
  | 17 => ⟨S128x128, .i32⟩
  | 18 => ⟨S128x128, .i1⟩
  | 19 => ⟨S128x128, .i1⟩
  | 20 => ⟨S_, .i32⟩
  | 21 => ⟨S128x128, .i32⟩
  | 22 => ⟨S128x128, .i32⟩
  | 23 => ⟨S128x128, .i32⟩
  | 24 => ⟨S128x128, .i32⟩
  | 25 => ⟨S_, .i32⟩
  | 26 => ⟨S_, .i32⟩
  | 27 => ⟨S128x128, .i32⟩
  | 28 => ⟨S128x128, .i32⟩
  | 29 => ⟨S128x128, .i32⟩
  | 30 => ⟨S_, .i32⟩
  | 31 => ⟨S128x128, .i32⟩
  | 32 => ⟨S128x128, .i1⟩
  | 33 => ⟨S128x128, .i32⟩
  | 34 => ⟨S128x128, .i32⟩
  | 35 => ⟨S_, .i32⟩
  | 36 => ⟨S128x128, .i32⟩
  | 37 => ⟨S128x128, .i1⟩
  | 38 => ⟨S128x128, .i1⟩
  | 39 => ⟨S_, .i32⟩
  | 40 => ⟨S128x128, .i32⟩
  | 41 => ⟨S128x128, .i32⟩
  | 42 => ⟨S128x128, .i32⟩
  | 43 => ⟨S128x128, .i1⟩
  | 44 => ⟨S_, .f32⟩
  | 45 => ⟨S_, .f32⟩
  | 46 => ⟨S128x128, .f32⟩
  | 47 => ⟨S128x128, .f32⟩
  | 48 => ⟨S128x128, .f32⟩
  | 49 => ⟨S128x128, .bf16⟩
  | 50 => ⟨S4096, .i32⟩
  | 51 => ⟨S4096, .f32⟩
  | 52 => ⟨S4096x1, .f32⟩
  | 53 => ⟨S128, .i32⟩
  | 54 => ⟨S1x128, .i32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S64, .f32⟩
  | 63 => ⟨S1x64, .f32⟩
  | 64 => ⟨S2x64, .f32⟩
  | 65 => ⟨S128, .f32⟩
  | 66 => ⟨S1x128, .f32⟩
  | 67 => ⟨S4096x128, .f32⟩
  | 68 => ⟨S4096x128, .f32⟩
  | 69 => ⟨S4096x128, .f32⟩
  | 70 => ⟨S4096x128, .f32⟩
  | 71 => ⟨S_, .i32⟩
  | 72 => ⟨S1x128, .i32⟩
  | 73 => ⟨S1x128, .i1⟩
  | 74 => ⟨S4096x128, .f32⟩
  | 75 => ⟨S4096x128, .f32⟩
  | 76 => ⟨S4096x128, .f32⟩
  | 77 => ⟨S4096x128, .i1⟩
  | 78 => ⟨S4096x128, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S1x8, .f32⟩
  | 88 => ⟨S16x8, .f32⟩
  | 89 => ⟨S128, .f32⟩
  | 90 => ⟨S1x128, .f32⟩
  | 91 => ⟨S4096x128, .f32⟩
  | 92 => ⟨S4096x128, .f32⟩
  | 93 => ⟨S4096x128, .f32⟩
  | 94 => ⟨S4096x128, .f32⟩
  | 95 => ⟨S4096x128, .f32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S1x128, .i32⟩
  | 103 => ⟨S1x128, .i32⟩
  | 104 => ⟨S_, .i32⟩
  | 105 => ⟨S1x128, .i32⟩
  | 106 => ⟨S1x128, .i1⟩
  | 107 => ⟨S_, .i32⟩
  | 108 => ⟨S1x128, .i32⟩
  | 109 => ⟨S1x128, .i1⟩
  | 110 => ⟨S_, .i32⟩
  | 111 => ⟨S_, .i1⟩
  | 112 => ⟨S1x128, .i1⟩
  | 113 => ⟨S1x128, .i1⟩
  | 114 => ⟨S1x128, .i1⟩
  | 115 => ⟨S1x128, .i32⟩
  | 116 => ⟨S1x128, .i32⟩
  | 117 => ⟨S1x128, .i32⟩
  | 118 => ⟨S_, .i32⟩
  | 119 => ⟨S1x128, .i32⟩
  | 120 => ⟨S1x128, .i1⟩
  | 121 => ⟨S_, .f32⟩
  | 122 => ⟨S_, .f32⟩
  | 123 => ⟨S4096x128, .i1⟩
  | 124 => ⟨S4096x128, .f32⟩
  | 125 => ⟨S4096x128, .f32⟩
  | 126 => ⟨S_, .i32⟩
  | 127 => ⟨S1x128, .i32⟩
  | _ => ⟨S4x4096x1024, .f32⟩

abbrev hbmTy0_1 (i : Nat) : BufTy := match i % 128 with
  | 0 => ⟨S1x128, .i1⟩
  | 1 => ⟨S4096x128, .f32⟩
  | 2 => ⟨S_, .f32⟩
  | 3 => ⟨S_, .f32⟩
  | 4 => ⟨S4096x128, .i1⟩
  | 5 => ⟨S4096x128, .f32⟩
  | 6 => ⟨S4096x128, .f32⟩
  | 7 => ⟨S_, .i32⟩
  | 8 => ⟨S1x128, .i32⟩
  | 9 => ⟨S1x128, .i1⟩
  | 10 => ⟨S_, .i32⟩
  | 11 => ⟨S1x128, .i32⟩
  | 12 => ⟨S1x128, .i1⟩
  | 13 => ⟨S1x128, .i1⟩
  | 14 => ⟨S_, .f32⟩
  | 15 => ⟨S_, .f32⟩
  | 16 => ⟨S4096x128, .i1⟩
  | 17 => ⟨S4096x128, .f32⟩
  | 18 => ⟨S4096x128, .f32⟩
  | 19 => ⟨S5700x2x1024, .f32⟩
  | 20 => ⟨S16384x1024, .f32⟩
  | 21 => ⟨S1x1024, .f32⟩
  | 22 => ⟨S1024, .f32⟩
  | 23 => ⟨S1x1024, .f32⟩
  | 24 => ⟨S5700x1x1024, .f32⟩
  | 25 => ⟨S5700x1024, .f32⟩
  | 26 => ⟨S512x1024, .f32⟩
  | 27 => ⟨S512x1024, .f32⟩
  | 28 => ⟨S512x1024, .f32⟩
  | 29 => ⟨S512x1024, .f32⟩
  | 30 => ⟨S512x1024, .f32⟩
  | 31 => ⟨S128x1024, .f32⟩
  | 32 => ⟨S128x1024, .f32⟩
  | 33 => ⟨S512x1024, .f32⟩
  | 34 => ⟨S256x1024, .f32⟩
  | 35 => ⟨S64x1024, .f32⟩
  | 36 => ⟨S4x1024, .f32⟩
  | 37 => ⟨S1024x1024, .f32⟩
  | 38 => ⟨S1024x1024, .f32⟩
  | 39 => ⟨S_, .i32⟩
  | 40 => ⟨S_, .f32⟩
  | 41 => ⟨S128x1024, .f32⟩
  | 42 => ⟨S2x4x64x1024, .f32⟩
  | 43 => ⟨S1x4x64x1024, .f32⟩
  | 44 => ⟨S4x64x1024, .f32⟩
  | 45 => ⟨S1x4x64x1024, .f32⟩
  | 46 => ⟨S4x64x1024, .f32⟩
  | 47 => ⟨S4x128x1024, .f32⟩
  | 48 => ⟨S512x1024, .f32⟩
  | 49 => ⟨S2x4x64x1024, .f32⟩
  | 50 => ⟨S1x4x64x1024, .f32⟩
  | 51 => ⟨S4x64x1024, .f32⟩
  | 52 => ⟨S1x4x64x1024, .f32⟩
  | 53 => ⟨S4x64x1024, .f32⟩
  | 54 => ⟨S4x128x1024, .f32⟩
  | 55 => ⟨S512x1024, .f32⟩
  | 56 => ⟨S5888x1024, .f32⟩
  | 57 => ⟨S5888x1024, .bf16⟩
  | 58 => ⟨S1x64, .f32⟩
  | 59 => ⟨S64, .f32⟩
  | 60 => ⟨S1x64, .f32⟩
  | 61 => ⟨S2x64, .f32⟩
  | 62 => ⟨S128, .f32⟩
  | 63 => ⟨S1x128, .f32⟩
  | 64 => ⟨S1x64, .f32⟩
  | 65 => ⟨S64, .f32⟩
  | 66 => ⟨S1x64, .f32⟩
  | 67 => ⟨S2x64, .f32⟩
  | 68 => ⟨S128, .f32⟩
  | 69 => ⟨S1x128, .f32⟩
  | 70 => ⟨S16384x512, .bf16⟩
  | 71 => ⟨S16384x512, .bf16⟩
  | 72 => ⟨S16384x512, .bf16⟩
  | 73 => ⟨S16384x512, .bf16⟩
  | 74 => ⟨S16384x512, .bf16⟩
  | 75 => ⟨S16384x512, .bf16⟩
  | 76 => ⟨S16384x128, .bf16⟩
  | 77 => ⟨S144x16384, .bf16⟩
  | 78 => ⟨S16384x256, .bf16⟩
  | 79 => ⟨S16384x128, .bf16⟩
  | 80 => ⟨S16384x1024, .bf16⟩
  | 81 => ⟨S16384x1024, .bf16⟩
  | 82 => ⟨S16384x128, .f32⟩
  | 83 => ⟨S16384x128, .f32⟩
  | 84 => ⟨S16384x64, .f32⟩
  | 85 => ⟨S16384x128, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5888x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x128, .f32⟩
  | .local _ .vmem, ⟨15, _⟩ => ⟨S1x128, .f32⟩
  | .local _ .vmem, ⟨16, _⟩ => ⟨S128x128, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x128, .bf16⟩
  | .local _ .vmem, ⟨30, _⟩ => ⟨S512x128, .bf16⟩
  | .local _ .vmem, ⟨31, _⟩ => ⟨S144x512, .bf16⟩
  | .local _ .vmem, ⟨32, _⟩ => ⟨S144x512, .bf16⟩
  | .local _ .vmem, ⟨33, _⟩ => ⟨S512x256, .bf16⟩
  | .local _ .vmem, ⟨34, _⟩ => ⟨S512x256, .bf16⟩
  | .local _ .vmem, ⟨35, _⟩ => ⟨S512x128, .bf16⟩
  | .local _ .vmem, ⟨36, _⟩ => ⟨S512x128, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x128, .f32⟩
  | .local _ .vmem, ⟨42, _⟩ => ⟨S512x128, .f32⟩
  | .local _ .vmem, ⟨43, _⟩ => ⟨S512x128, .f32⟩
  | .local _ .vmem, ⟨44, _⟩ => ⟨S512x128, .f32⟩
  | .local _ .vmem, ⟨45, _⟩ => ⟨S512x64, .f32⟩
  | .local _ .vmem, ⟨46, _⟩ => ⟨S512x64, .f32⟩
  | .local _ .vmem, ⟨47, _⟩ => ⟨S512x128, .f32⟩
  | .local _ .vmem, ⟨48, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v3 : Ref sig .tc := ⟨.hbm, 42, rfl⟩
abbrev main_v4 : Ref sig .tc := ⟨.hbm, 43, rfl⟩
abbrev main_cst : Ref sig .tc := ⟨.hbm, 44, rfl⟩
abbrev main_cst_1 : Ref sig .tc := ⟨.hbm, 45, rfl⟩
abbrev main_call2_v0 : Ref sig .tc := ⟨.hbm, 46, rfl⟩
abbrev main_call2_v1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_cst_2 : Ref sig .tc := ⟨.hbm, 56, rfl⟩
abbrev main_v13 : Ref sig .tc := ⟨.hbm, 57, rfl⟩
abbrev main_v14 : Ref sig .tc := ⟨.hbm, 58, rfl⟩
abbrev main_cst_3 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_4 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_call3_v0 : Ref sig .tc := ⟨.hbm, 77, rfl⟩
abbrev main_v31 : Ref sig .tc := ⟨.hbm, 78, rfl⟩
abbrev main_v32 : Ref sig .tc := ⟨.hbm, 79, rfl⟩
abbrev main_cst_5 : Ref sig .tc := ⟨.hbm, 80, rfl⟩
abbrev main_v33 : Ref sig .tc := ⟨.hbm, 81, rfl⟩
abbrev main_v34 : Ref sig .tc := ⟨.hbm, 82, rfl⟩
abbrev main_cst_6 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_c_7 : Ref sig .tc := ⟨.hbm, 96, rfl⟩
abbrev main_call4_v0 : Ref sig .tc := ⟨.hbm, 97, rfl⟩
abbrev main_call4_c : Ref sig .tc := ⟨.hbm, 98, rfl⟩
abbrev main_call4_v1 : Ref sig .tc := ⟨.hbm, 99, rfl⟩
abbrev main_call4_c_0 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_c_1 : Ref sig .tc := ⟨.hbm, 104, rfl⟩
abbrev main_call4_v5 : Ref sig .tc := ⟨.hbm, 105, rfl⟩
abbrev main_call4_v6 : Ref sig .tc := ⟨.hbm, 106, rfl⟩
abbrev main_call4_c_2 : Ref sig .tc := ⟨.hbm, 107, rfl⟩
abbrev main_call4_v7 : Ref sig .tc := ⟨.hbm, 108, rfl⟩
abbrev main_call4_v8 : Ref sig .tc := ⟨.hbm, 109, rfl⟩
abbrev main_call4_c_3 : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_call4_v12 : Ref sig .tc := ⟨.hbm, 114, rfl⟩
abbrev main_call4_v13 : Ref sig .tc := ⟨.hbm, 115, rfl⟩
abbrev main_call4_v14 : Ref sig .tc := ⟨.hbm, 116, rfl⟩
abbrev main_v47 : Ref sig .tc := ⟨.hbm, 117, rfl⟩
abbrev main_c_8 : Ref sig .tc := ⟨.hbm, 118, rfl⟩
abbrev main_v48 : Ref sig .tc := ⟨.hbm, 119, rfl⟩
abbrev main_v49 : Ref sig .tc := ⟨.hbm, 120, rfl⟩
abbrev main_cst_9 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_v50 : Ref sig .tc := ⟨.hbm, 125, rfl⟩
abbrev main_c_10 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_cst_11 : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_v54 : Ref sig .tc := ⟨.hbm, 134, rfl⟩
abbrev main_c_12 : Ref sig .tc := ⟨.hbm, 135, rfl⟩
abbrev main_v55 : Ref sig .tc := ⟨.hbm, 136, rfl⟩
abbrev main_v56 : Ref sig .tc := ⟨.hbm, 137, rfl⟩
abbrev main_c_13 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_cst_14 : Ref sig .tc := ⟨.hbm, 142, rfl⟩
abbrev main_call7_v0 : Ref sig .tc := ⟨.hbm, 143, rfl⟩
abbrev main_call7_v1 : Ref sig .tc := ⟨.hbm, 144, rfl⟩
abbrev main_call7_v2 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_c_15 : Ref sig .tc := ⟨.hbm, 167, rfl⟩
abbrev main_call8_v0 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110_0 : Ref sig .tc := ⟨.hbm, 198, rfl⟩
abbrev main_v110_1 : Ref sig .tc := ⟨.hbm, 199, rfl⟩
abbrev main_v110_2 : Ref sig .tc := ⟨.hbm, 200, rfl⟩
abbrev main_v110_3 : Ref sig .tc := ⟨.hbm, 201, rfl⟩
abbrev main_v110_4 : Ref sig .tc := ⟨.hbm, 202, rfl⟩
abbrev main_v110_5 : Ref sig .tc := ⟨.hbm, 203, rfl⟩
abbrev main_v110_6 : Ref sig .tc := ⟨.hbm, 204, rfl⟩
abbrev main_v110_7 : Ref sig .tc := ⟨.hbm, 205, rfl⟩
abbrev main_v110_8 : Ref sig .tc := ⟨.hbm, 206, rfl⟩
abbrev main_v110_9 : Ref sig .tc := ⟨.hbm, 207, rfl⟩
abbrev main_v110_10 : Ref sig .tc := ⟨.hbm, 208, rfl⟩
abbrev main_v110_11 : Ref sig .tc := ⟨.hbm, 209, rfl⟩
abbrev main_v110_12 : Ref sig .tc := ⟨.hbm, 210, rfl⟩
abbrev main_v110_13 : Ref sig .tc := ⟨.hbm, 211, rfl⟩
abbrev main_v110_14 : Ref sig .tc := ⟨.hbm, 212, rfl⟩
abbrev main_v110_15 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_stg25_1 : Ref sig .tc := ⟨.vmem, 46, rfl⟩
abbrev cc0_stg26_0 : Ref sig .tc := ⟨.vmem, 47, rfl⟩
abbrev cc0_stg26_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44
abbrev cc0_sem25_0 : DmaSem sig := 45
abbrev cc0_sem25_1 : DmaSem sig := 46
abbrev cc0_sem26_0 : DmaSem sig := 47
abbrev cc0_sem26_1 : DmaSem sig := 48

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5888x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S144x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x64 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== InprojReferenceIdeal.lean ====
abbrev S4x4096x1024 : Shape := ⟨3, ![4, 4096, 1024]⟩
abbrev S2x1024 : Shape := ⟨2, ![2, 1024]⟩
abbrev S2x1024x5700 : Shape := ⟨3, ![2, 1024, 5700]⟩
abbrev S2x64 : Shape := ⟨2, ![2, 64]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5700 : Shape := ⟨3, ![1, 1024, 5700]⟩
abbrev S1024x5700 : Shape := ⟨2, ![1024, 5700]⟩
abbrev S4x4096x5700 : Shape := ⟨3, ![4, 4096, 5700]⟩
abbrev S4x4096x512 : Shape := ⟨3, ![4, 4096, 512]⟩
abbrev S4x4096x4x128 : Shape := ⟨4, ![4, 4096, 4, 128]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4x4096x4x64 : Shape := ⟨4, ![4, 4096, 4, 64]⟩
abbrev S4x4096x4x0 : Shape := ⟨4, ![4, 4096, 4, 0]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S8 : Shape := ⟨1, ![8]⟩
abbrev S1x8 : Shape := ⟨2, ![1, 8]⟩
abbrev S4096x8 : Shape := ⟨2, ![4096, 8]⟩
abbrev S1x4096x1x8 : Shape := ⟨4, ![1, 4096, 1, 8]⟩
abbrev S4x4096x8x8 : Shape := ⟨4, ![4, 4096, 8, 8]⟩
abbrev S4x4096x8x48 : Shape := ⟨4, ![4, 4096, 8, 48]⟩
abbrev S4x4096x128 : Shape := ⟨3, ![4, 4096, 128]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S4x4096x2x8 : Shape := ⟨4, ![4, 4096, 2, 8]⟩
abbrev S4x4096x2x48 : Shape := ⟨4, ![4, 4096, 2, 48]⟩
abbrev S4x4096x256 : Shape := ⟨3, ![4, 4096, 256]⟩
abbrev S4x4096x4x8 : Shape := ⟨4, ![4, 4096, 4, 8]⟩
abbrev S4x4096x4x48 : Shape := ⟨4, ![4, 4096, 4, 48]⟩
abbrev S4x4096x64 : Shape := ⟨3, ![4, 4096, 64]⟩
abbrev S4x4096x1x64 : Shape := ⟨4, ![4, 4096, 1, 64]⟩
abbrev S4x4096x1x8 : Shape := ⟨4, ![4, 4096, 1, 8]⟩
abbrev S4x4096x1x48 : Shape := ⟨4, ![4, 4096, 1, 48]⟩
abbrev S4x4096x4 : Shape := ⟨3, ![4, 4096, 4]⟩
abbrev S16384x128 : Shape := ⟨2, ![16384, 128]⟩
abbrev S16384x64 : Shape := ⟨2, ![16384, 64]⟩
abbrev S128x16384 : Shape := ⟨2, ![128, 16384]⟩
abbrev S16x16384 : Shape := ⟨2, ![16, 16384]⟩
abbrev S144x16384 : Shape := ⟨2, ![144, 16384]⟩
abbrev S16384x512 : Shape := ⟨2, ![16384, 512]⟩
abbrev S16384x2x4x64 : Shape := ⟨4, ![16384, 2, 4, 64]⟩
abbrev S16384x4x2x64 : Shape := ⟨4, ![16384, 4, 2, 64]⟩
abbrev S16384x256 : Shape := ⟨2, ![16384, 256]⟩
abbrev S16384x1024 : Shape := ⟨2, ![16384, 1024]⟩
abbrev S16384x4 : Shape := ⟨2, ![16384, 4]⟩

abbrev nBuf : Space → Nat
  | .hbm => 319
  | .vmem => 0
  | .smem => 0
  | _ => 0

abbrev hbmTy0_0 (i : Nat) : BufTy := match i % 128 with
  | 0 => ⟨S4x4096x1024, .f32⟩
  | 1 => ⟨S2x1024, .f32⟩
  | 2 => ⟨S2x1024x5700, .f32⟩
  | 3 => ⟨S2x64, .f32⟩
  | 4 => ⟨S2x64, .f32⟩
  | 5 => ⟨S1x1024, .f32⟩
  | 6 => ⟨S1024, .f32⟩
  | 7 => ⟨S4x4096x1024, .f32⟩
  | 8 => ⟨S_, .f32⟩
  | 9 => ⟨S4x4096, .f32⟩
  | 10 => ⟨S4x4096x1, .f32⟩
  | 11 => ⟨S_, .f32⟩
  | 12 => ⟨S4x4096x1, .f32⟩
  | 13 => ⟨S4x4096x1, .f32⟩
  | 14 => ⟨S_, .f32⟩
  | 15 => ⟨S4x4096x1, .f32⟩
  | 16 => ⟨S4x4096x1, .f32⟩
  | 17 => ⟨S4x4096x1, .f32⟩
  | 18 => ⟨S4x4096x1024, .f32⟩
  | 19 => ⟨S4x4096x1024, .f32⟩
  | 20 => ⟨S1x1x1024, .f32⟩
  | 21 => ⟨S4x4096x1024, .f32⟩
  | 22 => ⟨S4x4096x1024, .f32⟩
  | 23 => ⟨S1x1024x5700, .f32⟩
  | 24 => ⟨S1024x5700, .f32⟩
  | 25 => ⟨S4x4096x5700, .f32⟩
  | 26 => ⟨S4x4096x512, .f32⟩
  | 27 => ⟨S4x4096x4x128, .f32⟩
  | 28 => ⟨S64, .f32⟩
  | 29 => ⟨S_, .f32⟩
  | 30 => ⟨S64, .f32⟩
  | 31 => ⟨S64, .f32⟩
  | 32 => ⟨S_, .f32⟩
  | 33 => ⟨S64, .f32⟩
  | 34 => ⟨S64, .f32⟩
  | 35 => ⟨S64, .f32⟩
  | 36 => ⟨S4096, .i32⟩
  | 37 => ⟨S4096, .f32⟩
  | 38 => ⟨S4096x1, .f32⟩
  | 39 => ⟨S1x64, .f32⟩
  | 40 => ⟨S4096x64, .f32⟩
  | 41 => ⟨S4096x64, .f32⟩
  | 42 => ⟨S4096x64, .f32⟩
  | 43 => ⟨S4096x64, .f32⟩
  | 44 => ⟨S1x4096x1x64, .f32⟩
  | 45 => ⟨S4096x64, .f32⟩
  | 46 => ⟨S1x4096x1x64, .f32⟩
  | 47 => ⟨S4x4096x4x64, .f32⟩
  | 48 => ⟨S4x4096x4x64, .f32⟩
  | 49 => ⟨S4x4096x4x64, .f32⟩
  | 50 => ⟨S4x4096x4x64, .f32⟩
  | 51 => ⟨S4x4096x4x64, .f32⟩
  | 52 => ⟨S4x4096x4x64, .f32⟩
  | 53 => ⟨S4x4096x4x64, .f32⟩
  | 54 => ⟨S4x4096x4x64, .f32⟩
  | 55 => ⟨S4x4096x4x64, .f32⟩
  | 56 => ⟨S4x4096x4x64, .f32⟩
  | 57 => ⟨S4x4096x4x64, .f32⟩
  | 58 => ⟨S4x4096x4x64, .f32⟩
  | 59 => ⟨S4x4096x4x0, .f32⟩
  | 60 => ⟨S4x4096x4x128, .f32⟩
  | 61 => ⟨S4x4096x512, .f32⟩
  | 62 => ⟨S4x4096x4x128, .f32⟩
  | 63 => ⟨S64, .f32⟩
  | 64 => ⟨S_, .f32⟩
  | 65 => ⟨S64, .f32⟩
  | 66 => ⟨S64, .f32⟩
  | 67 => ⟨S_, .f32⟩
  | 68 => ⟨S64, .f32⟩
  | 69 => ⟨S64, .f32⟩
  | 70 => ⟨S64, .f32⟩
  | 71 => ⟨S4096, .i32⟩
  | 72 => ⟨S4096, .f32⟩
  | 73 => ⟨S4096x1, .f32⟩
  | 74 => ⟨S1x64, .f32⟩
  | 75 => ⟨S4096x64, .f32⟩
  | 76 => ⟨S4096x64, .f32⟩
  | 77 => ⟨S4096x64, .f32⟩
  | 78 => ⟨S4096x64, .f32⟩
  | 79 => ⟨S1x4096x1x64, .f32⟩
  | 80 => ⟨S4096x64, .f32⟩
  | 81 => ⟨S1x4096x1x64, .f32⟩
  | 82 => ⟨S4x4096x4x64, .f32⟩
  | 83 => ⟨S4x4096x4x64, .f32⟩
  | 84 => ⟨S4x4096x4x64, .f32⟩
  | 85 => ⟨S4x4096x4x64, .f32⟩
  | 86 => ⟨S4x4096x4x64, .f32⟩
  | 87 => ⟨S4x4096x4x64, .f32⟩
  | 88 => ⟨S4x4096x4x64, .f32⟩
  | 89 => ⟨S4x4096x4x64, .f32⟩
  | 90 => ⟨S4x4096x4x64, .f32⟩
  | 91 => ⟨S4x4096x4x64, .f32⟩
  | 92 => ⟨S4x4096x4x64, .f32⟩
  | 93 => ⟨S4x4096x4x64, .f32⟩
  | 94 => ⟨S4x4096x4x0, .f32⟩
  | 95 => ⟨S4x4096x4x128, .f32⟩
  | 96 => ⟨S_, .f32⟩
  | 97 => ⟨S4x4096x4x128, .f32⟩
  | 98 => ⟨S4x4096x4x128, .f32⟩
  | 99 => ⟨S4x4096x512, .f32⟩
  | 100 => ⟨S4x4096x512, .f32⟩
  | 101 => ⟨S4x4096x512, .f32⟩
  | 102 => ⟨S4x4096x8x64, .f32⟩
  | 103 => ⟨S1x64, .f32⟩
  | 104 => ⟨S64, .f32⟩
  | 105 => ⟨S4x4096x8x64, .f32⟩
  | 106 => ⟨S_, .f32⟩
  | 107 => ⟨S4x4096x8, .f32⟩
  | 108 => ⟨S4x4096x8x1, .f32⟩
  | 109 => ⟨S_, .f32⟩
  | 110 => ⟨S4x4096x8x1, .f32⟩
  | 111 => ⟨S4x4096x8x1, .f32⟩
  | 112 => ⟨S_, .f32⟩
  | 113 => ⟨S4x4096x8x1, .f32⟩
  | 114 => ⟨S4x4096x8x1, .f32⟩
  | 115 => ⟨S4x4096x8x1, .f32⟩
  | 116 => ⟨S4x4096x8x64, .f32⟩
  | 117 => ⟨S4x4096x8x64, .f32⟩
  | 118 => ⟨S1x1x1x64, .f32⟩
  | 119 => ⟨S4x4096x8x64, .f32⟩
  | 120 => ⟨S4x4096x8x64, .f32⟩
  | 121 => ⟨S8, .f32⟩
  | 122 => ⟨S_, .f32⟩
  | 123 => ⟨S8, .f32⟩
  | 124 => ⟨S8, .f32⟩
  | 125 => ⟨S_, .f32⟩
  | 126 => ⟨S8, .f32⟩
  | 127 => ⟨S8, .f32⟩
  | _ => ⟨S4x4096x1024, .f32⟩

abbrev hbmTy0_1 (i : Nat) : BufTy := match i % 128 with
  | 0 => ⟨S8, .f32⟩
  | 1 => ⟨S4096, .i32⟩
  | 2 => ⟨S4096, .f32⟩
  | 3 => ⟨S4096x1, .f32⟩
  | 4 => ⟨S1x8, .f32⟩
  | 5 => ⟨S4096x8, .f32⟩
  | 6 => ⟨S4096x8, .f32⟩
  | 7 => ⟨S4096x8, .f32⟩
  | 8 => ⟨S4096x8, .f32⟩
  | 9 => ⟨S1x4096x1x8, .f32⟩
  | 10 => ⟨S4096x8, .f32⟩
  | 11 => ⟨S1x4096x1x8, .f32⟩
  | 12 => ⟨S4x4096x8x8, .f32⟩
  | 13 => ⟨S4x4096x8x8, .f32⟩
  | 14 => ⟨S4x4096x8x8, .f32⟩
  | 15 => ⟨S4x4096x8x8, .f32⟩
  | 16 => ⟨S4x4096x8x8, .f32⟩
  | 17 => ⟨S4x4096x8x8, .f32⟩
  | 18 => ⟨S4x4096x8x8, .f32⟩
  | 19 => ⟨S4x4096x8x8, .f32⟩
  | 20 => ⟨S4x4096x8x8, .f32⟩
  | 21 => ⟨S4x4096x8x8, .f32⟩
  | 22 => ⟨S4x4096x8x8, .f32⟩
  | 23 => ⟨S4x4096x8x8, .f32⟩
  | 24 => ⟨S4x4096x8x48, .f32⟩
  | 25 => ⟨S4x4096x8x64, .f32⟩
  | 26 => ⟨S4x4096x128, .f32⟩
  | 27 => ⟨S4x4096x2x64, .f32⟩
  | 28 => ⟨S1x64, .f32⟩
  | 29 => ⟨S64, .f32⟩
  | 30 => ⟨S4x4096x2x64, .f32⟩
  | 31 => ⟨S_, .f32⟩
  | 32 => ⟨S4x4096x2, .f32⟩
  | 33 => ⟨S4x4096x2x1, .f32⟩
  | 34 => ⟨S_, .f32⟩
  | 35 => ⟨S4x4096x2x1, .f32⟩
  | 36 => ⟨S4x4096x2x1, .f32⟩
  | 37 => ⟨S_, .f32⟩
  | 38 => ⟨S4x4096x2x1, .f32⟩
  | 39 => ⟨S4x4096x2x1, .f32⟩
  | 40 => ⟨S4x4096x2x1, .f32⟩
  | 41 => ⟨S4x4096x2x64, .f32⟩
  | 42 => ⟨S4x4096x2x64, .f32⟩
  | 43 => ⟨S1x1x1x64, .f32⟩
  | 44 => ⟨S4x4096x2x64, .f32⟩
  | 45 => ⟨S4x4096x2x64, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S8, .f32⟩
  | 54 => ⟨S4096, .i32⟩
  | 55 => ⟨S4096, .f32⟩
  | 56 => ⟨S4096x1, .f32⟩
  | 57 => ⟨S1x8, .f32⟩
  | 58 => ⟨S4096x8, .f32⟩
  | 59 => ⟨S4096x8, .f32⟩
  | 60 => ⟨S4096x8, .f32⟩
  | 61 => ⟨S4096x8, .f32⟩
  | 62 => ⟨S1x4096x1x8, .f32⟩
  | 63 => ⟨S4096x8, .f32⟩
  | 64 => ⟨S1x4096x1x8, .f32⟩
  | 65 => ⟨S4x4096x2x8, .f32⟩
  | 66 => ⟨S4x4096x2x8, .f32⟩
  | 67 => ⟨S4x4096x2x8, .f32⟩
  | 68 => ⟨S4x4096x2x8, .f32⟩
  | 69 => ⟨S4x4096x2x8, .f32⟩
  | 70 => ⟨S4x4096x2x8, .f32⟩
  | 71 => ⟨S4x4096x2x8, .f32⟩
  | 72 => ⟨S4x4096x2x8, .f32⟩
  | 73 => ⟨S4x4096x2x8, .f32⟩
  | 74 => ⟨S4x4096x2x8, .f32⟩
  | 75 => ⟨S4x4096x2x8, .f32⟩
  | 76 => ⟨S4x4096x2x8, .f32⟩
  | 77 => ⟨S4x4096x2x48, .f32⟩
  | 78 => ⟨S4x4096x2x64, .f32⟩
  | 79 => ⟨S4x4096x128, .f32⟩
  | 80 => ⟨S4x4096x512, .f32⟩
  | 81 => ⟨S4x4096x256, .f32⟩
  | 82 => ⟨S4x4096x4x64, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S8, .f32⟩
  | 91 => ⟨S4096, .i32⟩
  | 92 => ⟨S4096, .f32⟩
  | 93 => ⟨S4096x1, .f32⟩
  | 94 => ⟨S1x8, .f32⟩
  | 95 => ⟨S4096x8, .f32⟩
  | 96 => ⟨S4096x8, .f32⟩
  | 97 => ⟨S4096x8, .f32⟩
  | 98 => ⟨S4096x8, .f32⟩
  | 99 => ⟨S1x4096x1x8, .f32⟩
  | 100 => ⟨S4096x8, .f32⟩
  | 101 => ⟨S1x4096x1x8, .f32⟩
  | 102 => ⟨S4x4096x4x8, .f32⟩
  | 103 => ⟨S4x4096x4x8, .f32⟩
  | 104 => ⟨S4x4096x4x8, .f32⟩
  | 105 => ⟨S4x4096x4x8, .f32⟩
  | 106 => ⟨S4x4096x4x8, .f32⟩
  | 107 => ⟨S4x4096x4x8, .f32⟩
  | 108 => ⟨S4x4096x4x8, .f32⟩
  | 109 => ⟨S4x4096x4x8, .f32⟩
  | 110 => ⟨S4x4096x4x8, .f32⟩
  | 111 => ⟨S4x4096x4x8, .f32⟩
  | 112 => ⟨S4x4096x4x8, .f32⟩
  | 113 => ⟨S4x4096x4x8, .f32⟩
  | 114 => ⟨S4x4096x4x48, .f32⟩
  | 115 => ⟨S4x4096x4x64, .f32⟩
  | 116 => ⟨S4x4096x64, .f32⟩
  | 117 => ⟨S4x4096x1x64, .f32⟩
  | 118 => ⟨S8, .f32⟩
  | 119 => ⟨S_, .f32⟩
  | 120 => ⟨S8, .f32⟩
  | 121 => ⟨S8, .f32⟩
  | 122 => ⟨S_, .f32⟩
  | 123 => ⟨S8, .f32⟩
  | 124 => ⟨S8, .f32⟩
  | 125 => ⟨S8, .f32⟩
  | 126 => ⟨S4096, .i32⟩
  | 127 => ⟨S4096, .f32⟩
  | _ => ⟨S4x4096x1024, .f32⟩

abbrev hbmTy0_2 (i : Nat) : BufTy := match i % 128 with
  | 0 => ⟨S4096x1, .f32⟩
  | 1 => ⟨S1x8, .f32⟩
  | 2 => ⟨S4096x8, .f32⟩
  | 3 => ⟨S4096x8, .f32⟩
  | 4 => ⟨S4096x8, .f32⟩
  | 5 => ⟨S4096x8, .f32⟩
  | 6 => ⟨S1x4096x1x8, .f32⟩
  | 7 => ⟨S4096x8, .f32⟩
  | 8 => ⟨S1x4096x1x8, .f32⟩
  | 9 => ⟨S4x4096x1x8, .f32⟩
  | 10 => ⟨S4x4096x1x8, .f32⟩
  | 11 => ⟨S4x4096x1x8, .f32⟩
  | 12 => ⟨S4x4096x1x8, .f32⟩
  | 13 => ⟨S4x4096x1x8, .f32⟩
  | 14 => ⟨S4x4096x1x8, .f32⟩
  | 15 => ⟨S4x4096x1x8, .f32⟩
  | 16 => ⟨S4x4096x1x8, .f32⟩
  | 17 => ⟨S4x4096x1x8, .f32⟩
  | 18 => ⟨S4x4096x1x8, .f32⟩
  | 19 => ⟨S4x4096x1x8, .f32⟩
  | 20 => ⟨S4x4096x1x8, .f32⟩
  | 21 => ⟨S4x4096x1x48, .f32⟩
  | 22 => ⟨S4x4096x1x64, .f32⟩
  | 23 => ⟨S4x4096x4, .f32⟩
  | 24 => ⟨S4x4096x1024, .f32⟩
  | 25 => ⟨S4x4096x1024, .f32⟩
  | 26 => ⟨S16384x128, .f32⟩
  | 27 => ⟨S16384x128, .f32⟩
  | 28 => ⟨S16384x64, .f32⟩
  | 29 => ⟨S128x16384, .f32⟩
  | 30 => ⟨S_, .f32⟩
  | 31 => ⟨S16x16384, .f32⟩
  | 32 => ⟨S144x16384, .f32⟩
  | 33 => ⟨S16384x512, .f32⟩
  | 34 => ⟨S16384x512, .bf16⟩
  | 35 => ⟨S16384x512, .f32⟩
  | 36 => ⟨S16384x512, .bf16⟩
  | 37 => ⟨S16384x512, .f32⟩
  | 38 => ⟨S16384x512, .bf16⟩
  | 39 => ⟨S16384x512, .f32⟩
  | 40 => ⟨S16384x512, .bf16⟩
  | 41 => ⟨S16384x2x4x64, .f32⟩
  | 42 => ⟨S16384x4x2x64, .f32⟩
  | 43 => ⟨S16384x512, .f32⟩
  | 44 => ⟨S16384x512, .bf16⟩
  | 45 => ⟨S16384x2x4x64, .f32⟩
  | 46 => ⟨S16384x4x2x64, .f32⟩
  | 47 => ⟨S16384x512, .f32⟩
  | 48 => ⟨S16384x512, .bf16⟩
  | 49 => ⟨S16384x128, .bf16⟩
  | 50 => ⟨S144x16384, .bf16⟩
  | 51 => ⟨S16384x256, .f32⟩
  | 52 => ⟨S16384x256, .bf16⟩
  | 53 => ⟨S16384x128, .f32⟩
  | 54 => ⟨S16384x128, .bf16⟩
  | 55 => ⟨S16384x1024, .f32⟩
  | 56 => ⟨S16384x1024, .bf16⟩
  | 57 => ⟨S16384x1024, .f32⟩
  | 58 => ⟨S16384x1024, .bf16⟩
  | 59 => ⟨S16384x4, .f32⟩
  | 60 => ⟨S_, .i32⟩
  | 61 => ⟨S_, .f32⟩
  | 62 => ⟨S16384x128, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_4 : Ref sig .tc := ⟨.hbm, 64, rfl⟩
abbrev main_v54 : Ref sig .tc := ⟨.hbm, 65, rfl⟩
abbrev main_v55 : Ref sig .tc := ⟨.hbm, 66, rfl⟩
abbrev main_cst_5 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_6 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_cst_7 : Ref sig .tc := ⟨.hbm, 106, rfl⟩
abbrev main_v93 : Ref sig .tc := ⟨.hbm, 107, rfl⟩
abbrev main_v94 : Ref sig .tc := ⟨.hbm, 108, rfl⟩
abbrev main_cst_8 : Ref sig .tc := ⟨.hbm, 109, rfl⟩
abbrev main_v95 : Ref sig .tc := ⟨.hbm, 110, rfl⟩
abbrev main_v96 : Ref sig .tc := ⟨.hbm, 111, rfl⟩
abbrev main_cst_9 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_10 : Ref sig .tc := ⟨.hbm, 122, rfl⟩
abbrev main_v106 : Ref sig .tc := ⟨.hbm, 123, rfl⟩
abbrev main_v107 : Ref sig .tc := ⟨.hbm, 124, rfl⟩
abbrev main_cst_11 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_cst_12 : Ref sig .tc := ⟨.hbm, 159, rfl⟩
abbrev main_v141 : Ref sig .tc := ⟨.hbm, 160, rfl⟩
abbrev main_v142 : Ref sig .tc := ⟨.hbm, 161, rfl⟩
abbrev main_cst_13 : Ref sig .tc := ⟨.hbm, 162, rfl⟩
abbrev main_v143 : Ref sig .tc := ⟨.hbm, 163, rfl⟩
abbrev main_v144 : Ref sig .tc := ⟨.hbm, 164, rfl⟩
abbrev main_cst_14 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_cst_15 : Ref sig .tc := ⟨.hbm, 175, rfl⟩
abbrev main_v154 : Ref sig .tc := ⟨.hbm, 176, rfl⟩
abbrev main_v155 : Ref sig .tc := ⟨.hbm, 177, rfl⟩
abbrev main_cst_16 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_cst_17 : Ref sig .tc := ⟨.hbm, 212, rfl⟩
abbrev main_v189 : Ref sig .tc := ⟨.hbm, 213, rfl⟩
abbrev main_v190 : Ref sig .tc := ⟨.hbm, 214, rfl⟩
abbrev main_cst_18 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_cst_19 : Ref sig .tc := ⟨.hbm, 247, rfl⟩
abbrev main_v222 : Ref sig .tc := ⟨.hbm, 248, rfl⟩
abbrev main_v223 : Ref sig .tc := ⟨.hbm, 249, rfl⟩
abbrev main_cst_20 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_v250 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_cst_21 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_c : Ref sig .tc := ⟨.hbm, 316, rfl⟩
abbrev main_call0_v0 : Ref sig .tc := ⟨.hbm, 317, rfl⟩
abbrev main_v288 : Ref sig .tc := ⟨.hbm, 318, rfl⟩

abbrev nD : Nat := 1
abbrev τ : Topo := Topo.v7x

variable {F : FTy → Type} [FloatOps F]
-- ==== Merge.lean ====
abbrev S16384x1024 : Shape := ⟨2, ![16384, 1024]⟩
abbrev S2x4x4096x256 : Shape := ⟨4, ![2, 4, 4096, 256]⟩
abbrev S16384x512 : Shape := ⟨2, ![16384, 512]⟩
abbrev S2x512x1024 : Shape := ⟨3, ![2, 512, 1024]⟩
abbrev S2x1024x1024 : Shape := ⟨3, ![2, 1024, 1024]⟩
abbrev S2x256x1024 : Shape := ⟨3, ![2, 256, 1024]⟩
abbrev S2x16384x256 : Shape := ⟨3, ![2, 16384, 256]⟩
abbrev S2x2x4x64x1024 : Shape := ⟨5, ![2, 2, 4, 64, 1024]⟩
abbrev S2x1x4x64x1024 : Shape := ⟨5, ![2, 1, 4, 64, 1024]⟩
abbrev S2x4x64x1024 : Shape := ⟨4, ![2, 4, 64, 1024]⟩
abbrev S2x4x128x1024 : Shape := ⟨4, ![2, 4, 128, 1024]⟩
abbrev S512x1024 : Shape := ⟨2, ![512, 1024]⟩
abbrev S1x512x256 : Shape := ⟨3, ![1, 512, 256]⟩
abbrev S512x512 : Shape := ⟨2, ![512, 512]⟩
abbrev S1x512x1024 : Shape := ⟨3, ![1, 512, 1024]⟩
abbrev S1x1024x1024 : Shape := ⟨3, ![1, 1024, 1024]⟩
abbrev S1x256x1024 : Shape := ⟨3, ![1, 256, 1024]⟩
abbrev S1024x1024 : Shape := ⟨2, ![1024, 1024]⟩
abbrev S512x256 : Shape := ⟨2, ![512, 256]⟩
abbrev S256x1024 : Shape := ⟨2, ![256, 1024]⟩

abbrev nBuf : Space → Nat
  | .hbm => 25
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S2x4x4096x256, .f32⟩
  | .hbm, ⟨2, _⟩ => ⟨S16384x1024, .bf16⟩
  | .hbm, ⟨3, _⟩ => ⟨S16384x1024, .bf16⟩
  | .hbm, ⟨4, _⟩ => ⟨S16384x512, .bf16⟩
  | .hbm, ⟨5, _⟩ => ⟨S16384x512, .bf16⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S2x1024x1024, .f32⟩
  | .hbm, ⟨10, _⟩ => ⟨S2x256x1024, .f32⟩
  | .hbm, ⟨11, _⟩ => ⟨S2x16384x256, .f32⟩
  | .hbm, ⟨12, _⟩ => ⟨S2x2x4x64x1024, .f32⟩
  | .hbm, ⟨13, _⟩ => ⟨S2x1x4x64x1024, .f32⟩
  | .hbm, ⟨14, _⟩ => ⟨S2x4x64x1024, .f32⟩
  | .hbm, ⟨15, _⟩ => ⟨S2x1x4x64x1024, .f32⟩
  | .hbm, ⟨16, _⟩ => ⟨S2x4x64x1024, .f32⟩
  | .hbm, ⟨17, _⟩ => ⟨S2x4x128x1024, .f32⟩
  | .hbm, ⟨18, _⟩ => ⟨S2x512x1024, .f32⟩
  | .hbm, ⟨19, _⟩ => ⟨S2x512x1024, .bf16⟩
  | .hbm, ⟨20, _⟩ => ⟨S2x512x1024, .bf16⟩
  | .hbm, ⟨21, _⟩ => ⟨S2x1024x1024, .bf16⟩
  | .hbm, ⟨22, _⟩ => ⟨S2x1024x1024, .bf16⟩
  | .hbm, ⟨23, _⟩ => ⟨S2x256x1024, .bf16⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x256x1024, .bf16⟩
  | .local _ .vmem, ⟨17, _⟩ => ⟨S512x1024, .f32⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeReferenceIdeal.lean ====
abbrev S16384x1024 : Shape := ⟨2, ![16384, 1024]⟩
abbrev S2x4x4096x256 : Shape := ⟨4, ![2, 4, 4096, 256]⟩
abbrev S16384x512 : Shape := ⟨2, ![16384, 512]⟩
abbrev S2x512x1024 : Shape := ⟨3, ![2, 512, 1024]⟩
abbrev S2x1024x1024 : Shape := ⟨3, ![2, 1024, 1024]⟩
abbrev S2x256x1024 : Shape := ⟨3, ![2, 256, 1024]⟩
abbrev S16384x4x2x64 : Shape := ⟨4, ![16384, 4, 2, 64]⟩
abbrev S16384x2x4x64 : Shape := ⟨4, ![16384, 2, 4, 64]⟩
abbrev S1x512x1024 : Shape := ⟨3, ![1, 512, 1024]⟩
abbrev S512x1024 : Shape := ⟨2, ![512, 1024]⟩
abbrev S_ : Shape := ⟨0, ![]⟩
abbrev S1x1024x1024 : Shape := ⟨3, ![1, 1024, 1024]⟩
abbrev S1024x1024 : Shape := ⟨2, ![1024, 1024]⟩
abbrev S1x4x4096x256 : Shape := ⟨4, ![1, 4, 4096, 256]⟩
abbrev S4x4096x256 : Shape := ⟨3, ![4, 4096, 256]⟩
abbrev S16384x256 : Shape := ⟨2, ![16384, 256]⟩
abbrev S1x256x1024 : Shape := ⟨3, ![1, 256, 1024]⟩
abbrev S256x1024 : Shape := ⟨2, ![256, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x4x4096x256, .f32⟩
  | .hbm, ⟨2, _⟩ => ⟨S16384x1024, .bf16⟩
  | .hbm, ⟨3, _⟩ => ⟨S16384x1024, .bf16⟩
  | .hbm, ⟨4, _⟩ => ⟨S16384x512, .bf16⟩
  | .hbm, ⟨5, _⟩ => ⟨S16384x512, .bf16⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S2x1024x1024, .f32⟩
  | .hbm, ⟨10, _⟩ => ⟨S2x256x1024, .f32⟩
  | .hbm, ⟨11, _⟩ => ⟨S16384x512, .f32⟩
  | .hbm, ⟨12, _⟩ => ⟨S16384x4x2x64, .f32⟩
  | .hbm, ⟨13, _⟩ => ⟨S16384x2x4x64, .f32⟩
  | .hbm, ⟨14, _⟩ => ⟨S16384x512, .f32⟩
  | .hbm, ⟨15, _⟩ => ⟨S16384x512, .f32⟩
  | .hbm, ⟨16, _⟩ => ⟨S1x512x1024, .f32⟩
  | .hbm, ⟨17, _⟩ => ⟨S512x1024, .f32⟩
  | .hbm, ⟨18, _⟩ => ⟨S16384x1024, .f32⟩
  | .hbm, ⟨19, _⟩ => ⟨S1x512x1024, .f32⟩
  | .hbm, ⟨20, _⟩ => ⟨S512x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S1x1024x1024, .f32⟩
  | .hbm, ⟨44, _⟩ => ⟨S1024x1024, .f32⟩
  | .hbm, ⟨45, _⟩ => ⟨S16384x1024, .f32⟩
  | .hbm, ⟨46, _⟩ => ⟨S16384x1024, .f32⟩
  | .hbm, ⟨47, _⟩ => ⟨S1x1024x1024, .f32⟩
  | .hbm, ⟨48, _⟩ => ⟨S1024x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S1x4x4096x256, .f32⟩
  | .hbm, ⟨59, _⟩ => ⟨S4x4096x256, .f32⟩
  | .hbm, ⟨60, _⟩ => ⟨S16384x256, .f32⟩
  | .hbm, ⟨61, _⟩ => ⟨S1x256x1024, .f32⟩
  | .hbm, ⟨62, _⟩ => ⟨S256x1024, .f32⟩
  | .hbm, ⟨63, _⟩ => ⟨S16384x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== InprojSample.lean ====
abbrev S128x8x1024 : Shape := ⟨3, ![128, 8, 1024]⟩
abbrev S2x1024 : Shape := ⟨2, ![2, 1024]⟩
abbrev S2x1024x5700 : Shape := ⟨3, ![2, 1024, 5700]⟩
abbrev S2x64 : Shape := ⟨2, ![2, 64]⟩
abbrev S128x128 : Shape := ⟨2, ![128, 128]⟩
abbrev S_ : Shape := ⟨0, ![]⟩
abbrev S256 : Shape := ⟨1, ![256]⟩
abbrev S256x1 : Shape := ⟨2, ![256, 1]⟩
abbrev S128 : Shape := ⟨1, ![128]⟩
abbrev S1x128 : Shape := ⟨2, ![1, 128]⟩
abbrev S64 : Shape := ⟨1, ![64]⟩
abbrev S1x64 : Shape := ⟨2, ![1, 64]⟩
abbrev S256x128 : Shape := ⟨2, ![256, 128]⟩
abbrev S8 : Shape := ⟨1, ![8]⟩
abbrev S1x8 : Shape := ⟨2, ![1, 8]⟩
abbrev S16x8 : Shape := ⟨2, ![16, 8]⟩
abbrev S5700x2x1024 : Shape := ⟨3, ![5700, 2, 1024]⟩
abbrev S1024x1024 : Shape := ⟨2, ![1024, 1024]⟩
abbrev S1x1024 : Shape := ⟨2, ![1, 1024]⟩
abbrev S1024 : Shape := ⟨1, ![1024]⟩
abbrev S5700x1x1024 : Shape := ⟨3, ![5700, 1, 1024]⟩
abbrev S5700x1024 : Shape := ⟨2, ![5700, 1024]⟩
abbrev S512x1024 : Shape := ⟨2, ![512, 1024]⟩
abbrev S128x1024 : Shape := ⟨2, ![128, 1024]⟩
abbrev S256x1024 : Shape := ⟨2, ![256, 1024]⟩
abbrev S64x1024 : Shape := ⟨2, ![64, 1024]⟩
abbrev S4x1024 : Shape := ⟨2, ![4, 1024]⟩
abbrev S2x4x64x1024 : Shape := ⟨4, ![2, 4, 64, 1024]⟩
abbrev S1x4x64x1024 : Shape := ⟨4, ![1, 4, 64, 1024]⟩
abbrev S4x64x1024 : Shape := ⟨3, ![4, 64, 1024]⟩
abbrev S4x128x1024 : Shape := ⟨3, ![4, 128, 1024]⟩
abbrev S5888x1024 : Shape := ⟨2, ![5888, 1024]⟩
abbrev S1024x512 : Shape := ⟨2, ![1024, 512]⟩
abbrev S1024x128 : Shape := ⟨2, ![1024, 128]⟩
abbrev S144x1024 : Shape := ⟨2, ![144, 1024]⟩
abbrev S1024x256 : Shape := ⟨2, ![1024, 256]⟩
abbrev S1024x64 : Shape := ⟨2, ![1024, 64]⟩
abbrev S256x512 : Shape := ⟨2, ![256, 512]⟩
abbrev S144x256 : Shape := ⟨2, ![144, 256]⟩
abbrev S256x256 : Shape := ⟨2, ![256, 256]⟩
abbrev S256x64 : Shape := ⟨2, ![256, 64]⟩
abbrev S128x256 : Shape := ⟨2, ![128, 256]⟩
abbrev S16x256 : Shape := ⟨2, ![16, 256]⟩

abbrev nBuf : Space → Nat
  | .hbm => 239
  | .vmem => 44
  | .smem => 0
  | _ => 0

abbrev hbmTy0_0 (i : Nat) : BufTy := match i % 128 with
  | 0 => ⟨S128x8x1024, .f32⟩
  | 1 => ⟨S2x1024, .f32⟩
  | 2 => ⟨S2x1024x5700, .f32⟩
  | 3 => ⟨S2x64, .f32⟩
  | 4 => ⟨S2x64, .f32⟩
  | 5 => ⟨S128x128, .i32⟩
  | 6 => ⟨S_, .i32⟩
  | 7 => ⟨S_, .i32⟩
  | 8 => ⟨S128x128, .i32⟩
  | 9 => ⟨S128x128, .i32⟩
  | 10 => ⟨S128x128, .i32⟩
  | 11 => ⟨S_, .i32⟩
  | 12 => ⟨S128x128, .i32⟩
  | 13 => ⟨S128x128, .i1⟩
  | 14 => ⟨S128x128, .i32⟩
  | 15 => ⟨S128x128, .i32⟩
  | 16 => ⟨S_, .i32⟩
  | 17 => ⟨S128x128, .i32⟩
  | 18 => ⟨S128x128, .i1⟩
  | 19 => ⟨S128x128, .i1⟩
  | 20 => ⟨S_, .i32⟩
  | 21 => ⟨S128x128, .i32⟩
  | 22 => ⟨S128x128, .i32⟩
  | 23 => ⟨S128x128, .i32⟩
  | 24 => ⟨S128x128, .i32⟩
  | 25 => ⟨S_, .i32⟩
  | 26 => ⟨S_, .i32⟩
  | 27 => ⟨S128x128, .i32⟩
  | 28 => ⟨S128x128, .i32⟩
  | 29 => ⟨S128x128, .i32⟩
  | 30 => ⟨S_, .i32⟩
  | 31 => ⟨S128x128, .i32⟩
  | 32 => ⟨S128x128, .i1⟩
  | 33 => ⟨S128x128, .i32⟩
  | 34 => ⟨S128x128, .i32⟩
  | 35 => ⟨S_, .i32⟩
  | 36 => ⟨S128x128, .i32⟩
  | 37 => ⟨S128x128, .i1⟩
  | 38 => ⟨S128x128, .i1⟩
  | 39 => ⟨S_, .i32⟩
  | 40 => ⟨S128x128, .i32⟩
  | 41 => ⟨S128x128, .i32⟩
  | 42 => ⟨S128x128, .i32⟩
  | 43 => ⟨S128x128, .i1⟩
  | 44 => ⟨S_, .f32⟩
  | 45 => ⟨S_, .f32⟩
  | 46 => ⟨S128x128, .f32⟩
  | 47 => ⟨S128x128, .f32⟩
  | 48 => ⟨S128x128, .f32⟩
  | 49 => ⟨S128x128, .bf16⟩
  | 50 => ⟨S256, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S256, .i32⟩
  | 58 => ⟨S256, .i32⟩
  | 59 => ⟨S_, .i32⟩
  | 60 => ⟨S256, .i32⟩
  | 61 => ⟨S256, .i1⟩
  | 62 => ⟨S_, .i32⟩
  | 63 => ⟨S256, .i32⟩
  | 64 => ⟨S256, .i1⟩
  | 65 => ⟨S_, .i32⟩
  | 66 => ⟨S_, .i1⟩
  | 67 => ⟨S256, .i1⟩
  | 68 => ⟨S256, .i1⟩
  | 69 => ⟨S256, .i1⟩
  | 70 => ⟨S256, .i32⟩
  | 71 => ⟨S256, .i32⟩
  | 72 => ⟨S256, .i32⟩
  | 73 => ⟨S_, .i32⟩
  | 74 => ⟨S256, .i32⟩
  | 75 => ⟨S256, .i32⟩
  | 76 => ⟨S256, .f32⟩
  | 77 => ⟨S256x1, .f32⟩
  | 78 => ⟨S128, .i32⟩
  | 79 => ⟨S1x128, .i32⟩
  | 80 => ⟨S64, .f32⟩
  | 81 => ⟨S_, .f32⟩
  | 82 => ⟨S64, .f32⟩
  | 83 => ⟨S64, .f32⟩
  | 84 => ⟨S_, .f32⟩
  | 85 => ⟨S64, .f32⟩
  | 86 => ⟨S64, .f32⟩
  | 87 => ⟨S64, .f32⟩
  | 88 => ⟨S1x64, .f32⟩
  | 89 => ⟨S2x64, .f32⟩
  | 90 => ⟨S128, .f32⟩
  | 91 => ⟨S1x128, .f32⟩
  | 92 => ⟨S256x128, .f32⟩
  | 93 => ⟨S256x128, .f32⟩
  | 94 => ⟨S256x128, .f32⟩
  | 95 => ⟨S256x128, .f32⟩
  | 96 => ⟨S_, .i32⟩
  | 97 => ⟨S1x128, .i32⟩
  | 98 => ⟨S1x128, .i1⟩
  | 99 => ⟨S256x128, .f32⟩
  | 100 => ⟨S256x128, .f32⟩
  | 101 => ⟨S256x128, .f32⟩
  | 102 => ⟨S256x128, .i1⟩
  | 103 => ⟨S256x128, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S8, .f32⟩
  | 112 => ⟨S1x8, .f32⟩
  | 113 => ⟨S16x8, .f32⟩
  | 114 => ⟨S128, .f32⟩
  | 115 => ⟨S1x128, .f32⟩
  | 116 => ⟨S256x128, .f32⟩
  | 117 => ⟨S256x128, .f32⟩
  | 118 => ⟨S256x128, .f32⟩
  | 119 => ⟨S256x128, .f32⟩
  | 120 => ⟨S256x128, .f32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S1x128, .i32⟩
  | _ => ⟨S128x8x1024, .f32⟩

abbrev hbmTy0_1 (i : Nat) : BufTy := match i % 128 with
  | 0 => ⟨S1x128, .i32⟩
  | 1 => ⟨S_, .i32⟩
  | 2 => ⟨S1x128, .i32⟩
  | 3 => ⟨S1x128, .i1⟩
  | 4 => ⟨S_, .i32⟩
  | 5 => ⟨S1x128, .i32⟩
  | 6 => ⟨S1x128, .i1⟩
  | 7 => ⟨S_, .i32⟩
  | 8 => ⟨S_, .i1⟩
  | 9 => ⟨S1x128, .i1⟩
  | 10 => ⟨S1x128, .i1⟩
  | 11 => ⟨S1x128, .i1⟩
  | 12 => ⟨S1x128, .i32⟩
  | 13 => ⟨S1x128, .i32⟩
  | 14 => ⟨S1x128, .i32⟩
  | 15 => ⟨S_, .i32⟩
  | 16 => ⟨S1x128, .i32⟩
  | 17 => ⟨S1x128, .i1⟩
  | 18 => ⟨S_, .f32⟩
  | 19 => ⟨S_, .f32⟩
  | 20 => ⟨S256x128, .i1⟩
  | 21 => ⟨S256x128, .f32⟩
  | 22 => ⟨S256x128, .f32⟩
  | 23 => ⟨S_, .i32⟩
  | 24 => ⟨S1x128, .i32⟩
  | 25 => ⟨S1x128, .i1⟩
  | 26 => ⟨S256x128, .f32⟩
  | 27 => ⟨S_, .f32⟩
  | 28 => ⟨S_, .f32⟩
  | 29 => ⟨S256x128, .i1⟩
  | 30 => ⟨S256x128, .f32⟩
  | 31 => ⟨S256x128, .f32⟩
  | 32 => ⟨S_, .i32⟩
  | 33 => ⟨S1x128, .i32⟩
  | 34 => ⟨S1x128, .i1⟩
  | 35 => ⟨S_, .i32⟩
  | 36 => ⟨S1x128, .i32⟩
  | 37 => ⟨S1x128, .i1⟩
  | 38 => ⟨S1x128, .i1⟩
  | 39 => ⟨S_, .f32⟩
  | 40 => ⟨S_, .f32⟩
  | 41 => ⟨S256x128, .i1⟩
  | 42 => ⟨S256x128, .f32⟩
  | 43 => ⟨S256x128, .f32⟩
  | 44 => ⟨S5700x2x1024, .f32⟩
  | 45 => ⟨S1024x1024, .f32⟩
  | 46 => ⟨S1x1024, .f32⟩
  | 47 => ⟨S1024, .f32⟩
  | 48 => ⟨S1x1024, .f32⟩
  | 49 => ⟨S5700x1x1024, .f32⟩
  | 50 => ⟨S5700x1024, .f32⟩
  | 51 => ⟨S512x1024, .f32⟩
  | 52 => ⟨S512x1024, .f32⟩
  | 53 => ⟨S512x1024, .f32⟩
  | 54 => ⟨S512x1024, .f32⟩
  | 55 => ⟨S512x1024, .f32⟩
  | 56 => ⟨S128x1024, .f32⟩
  | 57 => ⟨S128x1024, .f32⟩
  | 58 => ⟨S512x1024, .f32⟩
  | 59 => ⟨S256x1024, .f32⟩
  | 60 => ⟨S64x1024, .f32⟩
  | 61 => ⟨S4x1024, .f32⟩
  | 62 => ⟨S1024x1024, .f32⟩
  | 63 => ⟨S1024x1024, .f32⟩
  | 64 => ⟨S_, .i32⟩
  | 65 => ⟨S_, .f32⟩
  | 66 => ⟨S128x1024, .f32⟩
  | 67 => ⟨S2x4x64x1024, .f32⟩
  | 68 => ⟨S1x4x64x1024, .f32⟩
  | 69 => ⟨S4x64x1024, .f32⟩
  | 70 => ⟨S1x4x64x1024, .f32⟩
  | 71 => ⟨S4x64x1024, .f32⟩
  | 72 => ⟨S4x128x1024, .f32⟩
  | 73 => ⟨S512x1024, .f32⟩
  | 74 => ⟨S2x4x64x1024, .f32⟩
  | 75 => ⟨S1x4x64x1024, .f32⟩
  | 76 => ⟨S4x64x1024, .f32⟩
  | 77 => ⟨S1x4x64x1024, .f32⟩
  | 78 => ⟨S4x64x1024, .f32⟩
  | 79 => ⟨S4x128x1024, .f32⟩
  | 80 => ⟨S512x1024, .f32⟩
  | 81 => ⟨S5888x1024, .f32⟩
  | 82 => ⟨S5888x1024, .bf16⟩
  | 83 => ⟨S1x64, .f32⟩
  | 84 => ⟨S64, .f32⟩
  | 85 => ⟨S1x64, .f32⟩
  | 86 => ⟨S2x64, .f32⟩
  | 87 => ⟨S128, .f32⟩
  | 88 => ⟨S1x128, .f32⟩
  | 89 => ⟨S1x64, .f32⟩
  | 90 => ⟨S64, .f32⟩
  | 91 => ⟨S1x64, .f32⟩
  | 92 => ⟨S2x64, .f32⟩
  | 93 => ⟨S128, .f32⟩
  | 94 => ⟨S1x128, .f32⟩
  | 95 => ⟨S1024x512, .f32⟩
  | 96 => ⟨S1024x512, .f32⟩
  | 97 => ⟨S1024x512, .f32⟩
  | 98 => ⟨S1024x512, .f32⟩
  | 99 => ⟨S1024x512, .f32⟩
  | 100 => ⟨S1024x512, .f32⟩
  | 101 => ⟨S1024x128, .bf16⟩
  | 102 => ⟨S144x1024, .bf16⟩
  | 103 => ⟨S1024x256, .f32⟩
  | 104 => ⟨S1024x128, .bf16⟩
  | 105 => ⟨S1024x1024, .f32⟩
  | 106 => ⟨S1024x1024, .f32⟩
  | 107 => ⟨S1024x128, .f32⟩
  | 108 => ⟨S1024x128, .f32⟩
  | 109 => ⟨S1024x64, .f32⟩
  | 110 => ⟨S1024x128, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5888x1024, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S1x128, .f32⟩
  | .local _ .vmem, ⟨10, _⟩ => ⟨S1x128, .f32⟩
  | .local _ .vmem, ⟨11, _⟩ => ⟨S128x128, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x128, .bf16⟩
  | .local _ .vmem, ⟨25, _⟩ => ⟨S256x128, .bf16⟩
  | .local _ .vmem, ⟨26, _⟩ => ⟨S144x256, .bf16⟩
  | .local _ .vmem, ⟨27, _⟩ => ⟨S144x256, .bf16⟩
  | .local _ .vmem, ⟨28, _⟩ => ⟨S256x256, .f32⟩
  | .local _ .vmem, ⟨29, _⟩ => ⟨S256x256, .f32⟩
  | .local _ .vmem, ⟨30, _⟩ => ⟨S256x128, .bf16⟩
  | .local _ .vmem, ⟨31, _⟩ => ⟨S256x128, .bf16⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x128, .f32⟩
  | .local _ .vmem, ⟨37, _⟩ => ⟨S256x128, .f32⟩
  | .local _ .vmem, ⟨38, _⟩ => ⟨S256x128, .f32⟩
  | .local _ .vmem, ⟨39, _⟩ => ⟨S256x128, .f32⟩
  | .local _ .vmem, ⟨40, _⟩ => ⟨S256x64, .f32⟩
  | .local _ .vmem, ⟨41, _⟩ => ⟨S256x64, .f32⟩
  | .local _ .vmem, ⟨42, _⟩ => ⟨S256x128, .f32⟩
  | .local _ .vmem, ⟨43, _⟩ => ⟨S256x128, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v3 : Ref sig .tc := ⟨.hbm, 42, rfl⟩
abbrev main_v4 : Ref sig .tc := ⟨.hbm, 43, rfl⟩
abbrev main_cst : Ref sig .tc := ⟨.hbm, 44, rfl⟩
abbrev main_cst_1 : Ref sig .tc := ⟨.hbm, 45, rfl⟩
abbrev main_call2_v0 : Ref sig .tc := ⟨.hbm, 46, rfl⟩
abbrev main_call2_v1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_c_2 : Ref sig .tc := ⟨.hbm, 51, rfl⟩
abbrev main_call3_v0 : Ref sig .tc := ⟨.hbm, 52, rfl⟩
abbrev main_call3_c : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_c_1 : Ref sig .tc := ⟨.hbm, 59, rfl⟩
abbrev main_call3_v5 : Ref sig .tc := ⟨.hbm, 60, rfl⟩
abbrev main_call3_v6 : Ref sig .tc := ⟨.hbm, 61, rfl⟩
abbrev main_call3_c_2 : Ref sig .tc := ⟨.hbm, 62, rfl⟩
abbrev main_call3_v7 : Ref sig .tc := ⟨.hbm, 63, rfl⟩
abbrev main_call3_v8 : Ref sig .tc := ⟨.hbm, 64, rfl⟩
abbrev main_call3_c_3 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_v12 : Ref sig .tc := ⟨.hbm, 69, rfl⟩
abbrev main_call3_v13 : Ref sig .tc := ⟨.hbm, 70, rfl⟩
abbrev main_call3_v14 : Ref sig .tc := ⟨.hbm, 71, rfl⟩
abbrev main_v8 : Ref sig .tc := ⟨.hbm, 72, rfl⟩
abbrev main_c_3 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_cst_4 : Ref sig .tc := ⟨.hbm, 81, rfl⟩
abbrev main_v16 : Ref sig .tc := ⟨.hbm, 82, rfl⟩
abbrev main_v17 : Ref sig .tc := ⟨.hbm, 83, rfl⟩
abbrev main_cst_5 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_c_6 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_call4_v0 : Ref sig .tc := ⟨.hbm, 102, rfl⟩
abbrev main_v34 : Ref sig .tc := ⟨.hbm, 103, rfl⟩
abbrev main_v35 : Ref sig .tc := ⟨.hbm, 104, rfl⟩
abbrev main_cst_7 : Ref sig .tc := ⟨.hbm, 105, rfl⟩
abbrev main_v36 : Ref sig .tc := ⟨.hbm, 106, rfl⟩
abbrev main_v37 : Ref sig .tc := ⟨.hbm, 107, rfl⟩
abbrev main_cst_8 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_c_9 : Ref sig .tc := ⟨.hbm, 121, rfl⟩
abbrev main_call5_v0 : Ref sig .tc := ⟨.hbm, 122, rfl⟩
abbrev main_call5_c : Ref sig .tc := ⟨.hbm, 123, rfl⟩
abbrev main_call5_v1 : Ref sig .tc := ⟨.hbm, 124, rfl⟩
abbrev main_call5_c_0 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_call5_c_1 : Ref sig .tc := ⟨.hbm, 129, rfl⟩
abbrev main_call5_v5 : Ref sig .tc := ⟨.hbm, 130, rfl⟩
abbrev main_call5_v6 : Ref sig .tc := ⟨.hbm, 131, rfl⟩
abbrev main_call5_c_2 : Ref sig .tc := ⟨.hbm, 132, rfl⟩
abbrev main_call5_v7 : Ref sig .tc := ⟨.hbm, 133, rfl⟩
abbrev main_call5_v8 : Ref sig .tc := ⟨.hbm, 134, rfl⟩
abbrev main_call5_c_3 : Ref sig .tc := ⟨.hbm, 135, rfl⟩
abbrev main_call5_v9 : Ref sig .tc := ⟨.hbm, 136, rfl⟩
abbrev main_call5_v10 : Ref sig .tc := ⟨.hbm, 137, rfl⟩
abbrev main_call5_v11 : Ref sig .tc := ⟨.hbm, 138, rfl⟩
abbrev main_call5_v12 : Ref sig .tc := ⟨.hbm, 139, rfl⟩
abbrev main_call5_v13 : Ref sig .tc := ⟨.hbm, 140, rfl⟩
abbrev main_call5_v14 : Ref sig .tc := ⟨.hbm, 141, rfl⟩
abbrev main_v50 : Ref sig .tc := ⟨.hbm, 142, rfl⟩
abbrev main_c_10 : Ref sig .tc := ⟨.hbm, 143, rfl⟩
abbrev main_v51 : Ref sig .tc := ⟨.hbm, 144, rfl⟩
abbrev main_v52 : Ref sig .tc := ⟨.hbm, 145, rfl⟩
abbrev main_cst_11 : Ref sig .tc := ⟨.hbm, 146, rfl⟩
abbrev main_call6_v0 : Ref sig .tc := ⟨.hbm, 147, rfl⟩
abbrev main_call6_v1 : Ref sig .tc := ⟨.hbm, 148, rfl⟩
abbrev main_call6_v2 : Ref sig .tc := ⟨.hbm, 149, rfl⟩
abbrev main_v53 : Ref sig .tc := ⟨.hbm, 150, rfl⟩
abbrev main_c_12 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_cst_13 : Ref sig .tc := ⟨.hbm, 155, rfl⟩
abbrev main_call7_v0 : Ref sig .tc := ⟨.hbm, 156, rfl⟩
abbrev main_call7_v1 : Ref sig .tc := ⟨.hbm, 157, rfl⟩
abbrev main_call7_v2 : Ref sig .tc := ⟨.hbm, 158, rfl⟩
abbrev main_v57 : Ref sig .tc := ⟨.hbm, 159, rfl⟩
abbrev main_c_14 : Ref sig .tc := ⟨.hbm, 160, rfl⟩
abbrev main_v58 : Ref sig .tc := ⟨.hbm, 161, rfl⟩
abbrev main_v59 : Ref sig .tc := ⟨.hbm, 162, rfl⟩
abbrev main_c_15 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_cst_16 : Ref sig .tc := ⟨.hbm, 167, rfl⟩
abbrev main_call8_v0 : Ref sig .tc := ⟨.hbm, 168, rfl⟩
abbrev main_call8_v1 : Ref sig .tc := ⟨.hbm, 169, rfl⟩
abbrev main_call8_v2 : Ref sig .tc := ⟨.hbm, 170, rfl⟩
abbrev main_v63 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_v77 : Ref sig .tc := ⟨.hbm, 185, rfl⟩
abbrev main_v78 : Ref sig .tc := ⟨.hbm, 186, rfl⟩
abbrev main_v79 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_c_17 : Ref sig .tc := ⟨.hbm, 192, rfl⟩
abbrev main_call9_v0 : Ref sig .tc := ⟨.hbm, 193, rfl⟩
abbrev main_v84 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113_0 : Ref sig .tc := ⟨.hbm, 223, rfl⟩
abbrev main_v113_1 : Ref sig .tc := ⟨.hbm, 224, rfl⟩
abbrev main_v113_2 : Ref sig .tc := ⟨.hbm, 225, rfl⟩
abbrev main_v113_3 : Ref sig .tc := ⟨.hbm, 226, rfl⟩
abbrev main_v113_4 : Ref sig .tc := ⟨.hbm, 227, rfl⟩
abbrev main_v113_5 : Ref sig .tc := ⟨.hbm, 228, rfl⟩
abbrev main_v113_6 : Ref sig .tc := ⟨.hbm, 229, rfl⟩
abbrev main_v113_7 : Ref sig .tc := ⟨.hbm, 230, rfl⟩
abbrev main_v113_8 : Ref sig .tc := ⟨.hbm, 231, rfl⟩
abbrev main_v113_9 : Ref sig .tc := ⟨.hbm, 232, rfl⟩
abbrev main_v113_10 : Ref sig .tc := ⟨.hbm, 233, rfl⟩
abbrev main_v113_11 : Ref sig .tc := ⟨.hbm, 234, rfl⟩
abbrev main_v113_12 : Ref sig .tc := ⟨.hbm, 235, rfl⟩
abbrev main_v113_13 : Ref sig .tc := ⟨.hbm, 236, rfl⟩
abbrev main_v113_14 : Ref sig .tc := ⟨.hbm, 237, rfl⟩
abbrev main_v113_15 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_stg26_0 : Ref sig .tc := ⟨.vmem, 42, rfl⟩
abbrev cc0_stg26_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41
abbrev cc0_sem26_0 : DmaSem sig := 42
abbrev cc0_sem26_1 : DmaSem sig := 43

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5888x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S144x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x64 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== InprojSampleReferenceIdeal.lean ====
abbrev S128x8x1024 : Shape := ⟨3, ![128, 8, 1024]⟩
abbrev S2x1024 : Shape := ⟨2, ![2, 1024]⟩
abbrev S2x1024x5700 : Shape := ⟨3, ![2, 1024, 5700]⟩
abbrev S2x64 : Shape := ⟨2, ![2, 64]⟩
abbrev S1x1024 : Shape := ⟨2, ![1, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1x1024x5700 : Shape := ⟨3, ![1, 1024, 5700]⟩
abbrev S1024x5700 : Shape := ⟨2, ![1024, 5700]⟩
abbrev S128x8x5700 : Shape := ⟨3, ![128, 8, 5700]⟩
abbrev S128x8x512 : Shape := ⟨3, ![128, 8, 512]⟩
abbrev S128x8x4x128 : Shape := ⟨4, ![128, 8, 4, 128]⟩
abbrev S64 : Shape := ⟨1, ![64]⟩
abbrev S8 : Shape := ⟨1, ![8]⟩
abbrev S8x1 : Shape := ⟨2, ![8, 1]⟩
abbrev S1x64 : Shape := ⟨2, ![1, 64]⟩
abbrev S8x64 : Shape := ⟨2, ![8, 64]⟩
abbrev S1x8x1x64 : Shape := ⟨4, ![1, 8, 1, 64]⟩
abbrev S128x8x4x64 : Shape := ⟨4, ![128, 8, 4, 64]⟩
abbrev S128x8x4x0 : Shape := ⟨4, ![128, 8, 4, 0]⟩
abbrev S128x8x8x64 : Shape := ⟨4, ![128, 8, 8, 64]⟩
abbrev S128x8x8 : Shape := ⟨3, ![128, 8, 8]⟩
abbrev S128x8x8x1 : Shape := ⟨4, ![128, 8, 8, 1]⟩
abbrev S1x1x1x64 : Shape := ⟨4, ![1, 1, 1, 64]⟩
abbrev S1x8 : Shape := ⟨2, ![1, 8]⟩
abbrev S8x8 : Shape := ⟨2, ![8, 8]⟩
abbrev S1x8x1x8 : Shape := ⟨4, ![1, 8, 1, 8]⟩
abbrev S128x8x8x8 : Shape := ⟨4, ![128, 8, 8, 8]⟩
abbrev S128x8x8x48 : Shape := ⟨4, ![128, 8, 8, 48]⟩
abbrev S128x8x128 : Shape := ⟨3, ![128, 8, 128]⟩
abbrev S128x8x2x64 : Shape := ⟨4, ![128, 8, 2, 64]⟩
abbrev S128x8x2 : Shape := ⟨3, ![128, 8, 2]⟩
abbrev S128x8x2x1 : Shape := ⟨4, ![128, 8, 2, 1]⟩
abbrev S128x8x2x8 : Shape := ⟨4, ![128, 8, 2, 8]⟩
abbrev S128x8x2x48 : Shape := ⟨4, ![128, 8, 2, 48]⟩
abbrev S128x8x256 : Shape := ⟨3, ![128, 8, 256]⟩
abbrev S128x8x4x8 : Shape := ⟨4, ![128, 8, 4, 8]⟩
abbrev S128x8x4x48 : Shape := ⟨4, ![128, 8, 4, 48]⟩
abbrev S128x8x64 : Shape := ⟨3, ![128, 8, 64]⟩
abbrev S128x8x1x64 : Shape := ⟨4, ![128, 8, 1, 64]⟩
abbrev S128x8x1x8 : Shape := ⟨4, ![128, 8, 1, 8]⟩
abbrev S128x8x1x48 : Shape := ⟨4, ![128, 8, 1, 48]⟩
abbrev S128x8x4 : Shape := ⟨3, ![128, 8, 4]⟩
abbrev S1024x128 : Shape := ⟨2, ![1024, 128]⟩
abbrev S1024x64 : Shape := ⟨2, ![1024, 64]⟩
abbrev S128x1024 : Shape := ⟨2, ![128, 1024]⟩
abbrev S16x1024 : Shape := ⟨2, ![16, 1024]⟩
abbrev S144x1024 : Shape := ⟨2, ![144, 1024]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x256 : Shape := ⟨2, ![1024, 256]⟩
abbrev S1024x1024 : Shape := ⟨2, ![1024, 1024]⟩
abbrev S1024x4 : Shape := ⟨2, ![1024, 4]⟩

abbrev nBuf : Space → Nat
  | .hbm => 328
  | .vmem => 0
  | .smem => 0
  | _ => 0

abbrev hbmTy0_0 (i : Nat) : BufTy := match i % 128 with
  | 0 => ⟨S128x8x1024, .f32⟩
  | 1 => ⟨S2x1024, .f32⟩
  | 2 => ⟨S2x1024x5700, .f32⟩
  | 3 => ⟨S2x64, .f32⟩
  | 4 => ⟨S2x64, .f32⟩
  | 5 => ⟨S1x1024, .f32⟩
  | 6 => ⟨S1024, .f32⟩
  | 7 => ⟨S128x8x1024, .f32⟩
  | 8 => ⟨S_, .f32⟩
  | 9 => ⟨S128x8, .f32⟩
  | 10 => ⟨S128x8x1, .f32⟩
  | 11 => ⟨S_, .f32⟩
  | 12 => ⟨S128x8x1, .f32⟩
  | 13 => ⟨S128x8x1, .f32⟩
  | 14 => ⟨S_, .f32⟩
  | 15 => ⟨S128x8x1, .f32⟩
  | 16 => ⟨S128x8x1, .f32⟩
  | 17 => ⟨S128x8x1, .f32⟩
  | 18 => ⟨S128x8x1024, .f32⟩
  | 19 => ⟨S128x8x1024, .f32⟩
  | 20 => ⟨S1x1x1024, .f32⟩
  | 21 => ⟨S128x8x1024, .f32⟩
  | 22 => ⟨S128x8x1024, .f32⟩
  | 23 => ⟨S1x1024x5700, .f32⟩
  | 24 => ⟨S1024x5700, .f32⟩
  | 25 => ⟨S128x8x5700, .f32⟩
  | 26 => ⟨S128x8x512, .f32⟩
  | 27 => ⟨S128x8x4x128, .f32⟩
  | 28 => ⟨S64, .f32⟩
  | 29 => ⟨S_, .f32⟩
  | 30 => ⟨S64, .f32⟩
  | 31 => ⟨S64, .f32⟩
  | 32 => ⟨S_, .f32⟩
  | 33 => ⟨S64, .f32⟩
  | 34 => ⟨S64, .f32⟩
  | 35 => ⟨S64, .f32⟩
  | 36 => ⟨S8, .i32⟩
  | 37 => ⟨S_, .i32⟩
  | 38 => ⟨S8, .i32⟩
  | 39 => ⟨S8, .i32⟩
  | 40 => ⟨S8, .f32⟩
  | 41 => ⟨S8x1, .f32⟩
  | 42 => ⟨S1x64, .f32⟩
  | 43 => ⟨S8x64, .f32⟩
  | 44 => ⟨S8x64, .f32⟩
  | 45 => ⟨S8x64, .f32⟩
  | 46 => ⟨S8x64, .f32⟩
  | 47 => ⟨S1x8x1x64, .f32⟩
  | 48 => ⟨S8x64, .f32⟩
  | 49 => ⟨S1x8x1x64, .f32⟩
  | 50 => ⟨S128x8x4x64, .f32⟩
  | 51 => ⟨S128x8x4x64, .f32⟩
  | 52 => ⟨S128x8x4x64, .f32⟩
  | 53 => ⟨S128x8x4x64, .f32⟩
  | 54 => ⟨S128x8x4x64, .f32⟩
  | 55 => ⟨S128x8x4x64, .f32⟩
  | 56 => ⟨S128x8x4x64, .f32⟩
  | 57 => ⟨S128x8x4x64, .f32⟩
  | 58 => ⟨S128x8x4x64, .f32⟩
  | 59 => ⟨S128x8x4x64, .f32⟩
  | 60 => ⟨S128x8x4x64, .f32⟩
  | 61 => ⟨S128x8x4x64, .f32⟩
  | 62 => ⟨S128x8x4x0, .f32⟩
  | 63 => ⟨S128x8x4x128, .f32⟩
  | 64 => ⟨S128x8x512, .f32⟩
  | 65 => ⟨S128x8x4x128, .f32⟩
  | 66 => ⟨S64, .f32⟩
  | 67 => ⟨S_, .f32⟩
  | 68 => ⟨S64, .f32⟩
  | 69 => ⟨S64, .f32⟩
  | 70 => ⟨S_, .f32⟩
  | 71 => ⟨S64, .f32⟩
  | 72 => ⟨S64, .f32⟩
  | 73 => ⟨S64, .f32⟩
  | 74 => ⟨S8, .i32⟩
  | 75 => ⟨S_, .i32⟩
  | 76 => ⟨S8, .i32⟩
  | 77 => ⟨S8, .i32⟩
  | 78 => ⟨S8, .f32⟩
  | 79 => ⟨S8x1, .f32⟩
  | 80 => ⟨S1x64, .f32⟩
  | 81 => ⟨S8x64, .f32⟩
  | 82 => ⟨S8x64, .f32⟩
  | 83 => ⟨S8x64, .f32⟩
  | 84 => ⟨S8x64, .f32⟩
  | 85 => ⟨S1x8x1x64, .f32⟩
  | 86 => ⟨S8x64, .f32⟩
  | 87 => ⟨S1x8x1x64, .f32⟩
  | 88 => ⟨S128x8x4x64, .f32⟩
  | 89 => ⟨S128x8x4x64, .f32⟩
  | 90 => ⟨S128x8x4x64, .f32⟩
  | 91 => ⟨S128x8x4x64, .f32⟩
  | 92 => ⟨S128x8x4x64, .f32⟩
  | 93 => ⟨S128x8x4x64, .f32⟩
  | 94 => ⟨S128x8x4x64, .f32⟩
  | 95 => ⟨S128x8x4x64, .f32⟩
  | 96 => ⟨S128x8x4x64, .f32⟩
  | 97 => ⟨S128x8x4x64, .f32⟩
  | 98 => ⟨S128x8x4x64, .f32⟩
  | 99 => ⟨S128x8x4x64, .f32⟩
  | 100 => ⟨S128x8x4x0, .f32⟩
  | 101 => ⟨S128x8x4x128, .f32⟩
  | 102 => ⟨S_, .f32⟩
  | 103 => ⟨S128x8x4x128, .f32⟩
  | 104 => ⟨S128x8x4x128, .f32⟩
  | 105 => ⟨S128x8x512, .f32⟩
  | 106 => ⟨S128x8x512, .f32⟩
  | 107 => ⟨S128x8x512, .f32⟩
  | 108 => ⟨S128x8x8x64, .f32⟩
  | 109 => ⟨S1x64, .f32⟩
  | 110 => ⟨S64, .f32⟩
  | 111 => ⟨S128x8x8x64, .f32⟩
  | 112 => ⟨S_, .f32⟩
  | 113 => ⟨S128x8x8, .f32⟩
  | 114 => ⟨S128x8x8x1, .f32⟩
  | 115 => ⟨S_, .f32⟩
  | 116 => ⟨S128x8x8x1, .f32⟩
  | 117 => ⟨S128x8x8x1, .f32⟩
  | 118 => ⟨S_, .f32⟩
  | 119 => ⟨S128x8x8x1, .f32⟩
  | 120 => ⟨S128x8x8x1, .f32⟩
  | 121 => ⟨S128x8x8x1, .f32⟩
  | 122 => ⟨S128x8x8x64, .f32⟩
  | 123 => ⟨S128x8x8x64, .f32⟩
  | 124 => ⟨S1x1x1x64, .f32⟩
  | 125 => ⟨S128x8x8x64, .f32⟩
  | 126 => ⟨S128x8x8x64, .f32⟩
  | 127 => ⟨S8, .f32⟩
  | _ => ⟨S128x8x1024, .f32⟩

abbrev hbmTy0_1 (i : Nat) : BufTy := match i % 128 with
  | 0 => ⟨S_, .f32⟩
  | 1 => ⟨S8, .f32⟩
  | 2 => ⟨S8, .f32⟩
  | 3 => ⟨S_, .f32⟩
  | 4 => ⟨S8, .f32⟩
  | 5 => ⟨S8, .f32⟩
  | 6 => ⟨S8, .f32⟩
  | 7 => ⟨S8, .i32⟩
  | 8 => ⟨S_, .i32⟩
  | 9 => ⟨S8, .i32⟩
  | 10 => ⟨S8, .i32⟩
  | 11 => ⟨S8, .f32⟩
  | 12 => ⟨S8x1, .f32⟩
  | 13 => ⟨S1x8, .f32⟩
  | 14 => ⟨S8x8, .f32⟩
  | 15 => ⟨S8x8, .f32⟩
  | 16 => ⟨S8x8, .f32⟩
  | 17 => ⟨S8x8, .f32⟩
  | 18 => ⟨S1x8x1x8, .f32⟩
  | 19 => ⟨S8x8, .f32⟩
  | 20 => ⟨S1x8x1x8, .f32⟩
  | 21 => ⟨S128x8x8x8, .f32⟩
  | 22 => ⟨S128x8x8x8, .f32⟩
  | 23 => ⟨S128x8x8x8, .f32⟩
  | 24 => ⟨S128x8x8x8, .f32⟩
  | 25 => ⟨S128x8x8x8, .f32⟩
  | 26 => ⟨S128x8x8x8, .f32⟩
  | 27 => ⟨S128x8x8x8, .f32⟩
  | 28 => ⟨S128x8x8x8, .f32⟩
  | 29 => ⟨S128x8x8x8, .f32⟩
  | 30 => ⟨S128x8x8x8, .f32⟩
  | 31 => ⟨S128x8x8x8, .f32⟩
  | 32 => ⟨S128x8x8x8, .f32⟩
  | 33 => ⟨S128x8x8x48, .f32⟩
  | 34 => ⟨S128x8x8x64, .f32⟩
  | 35 => ⟨S128x8x128, .f32⟩
  | 36 => ⟨S128x8x2x64, .f32⟩
  | 37 => ⟨S1x64, .f32⟩
  | 38 => ⟨S64, .f32⟩
  | 39 => ⟨S128x8x2x64, .f32⟩
  | 40 => ⟨S_, .f32⟩
  | 41 => ⟨S128x8x2, .f32⟩
  | 42 => ⟨S128x8x2x1, .f32⟩
  | 43 => ⟨S_, .f32⟩
  | 44 => ⟨S128x8x2x1, .f32⟩
  | 45 => ⟨S128x8x2x1, .f32⟩
  | 46 => ⟨S_, .f32⟩
  | 47 => ⟨S128x8x2x1, .f32⟩
  | 48 => ⟨S128x8x2x1, .f32⟩
  | 49 => ⟨S128x8x2x1, .f32⟩
  | 50 => ⟨S128x8x2x64, .f32⟩
  | 51 => ⟨S128x8x2x64, .f32⟩
  | 52 => ⟨S1x1x1x64, .f32⟩
  | 53 => ⟨S128x8x2x64, .f32⟩
  | 54 => ⟨S128x8x2x64, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S8, .f32⟩
  | 63 => ⟨S8, .i32⟩
  | 64 => ⟨S_, .i32⟩
  | 65 => ⟨S8, .i32⟩
  | 66 => ⟨S8, .i32⟩
  | 67 => ⟨S8, .f32⟩
  | 68 => ⟨S8x1, .f32⟩
  | 69 => ⟨S1x8, .f32⟩
  | 70 => ⟨S8x8, .f32⟩
  | 71 => ⟨S8x8, .f32⟩
  | 72 => ⟨S8x8, .f32⟩
  | 73 => ⟨S8x8, .f32⟩
  | 74 => ⟨S1x8x1x8, .f32⟩
  | 75 => ⟨S8x8, .f32⟩
  | 76 => ⟨S1x8x1x8, .f32⟩
  | 77 => ⟨S128x8x2x8, .f32⟩
  | 78 => ⟨S128x8x2x8, .f32⟩
  | 79 => ⟨S128x8x2x8, .f32⟩
  | 80 => ⟨S128x8x2x8, .f32⟩
  | 81 => ⟨S128x8x2x8, .f32⟩
  | 82 => ⟨S128x8x2x8, .f32⟩
  | 83 => ⟨S128x8x2x8, .f32⟩
  | 84 => ⟨S128x8x2x8, .f32⟩
  | 85 => ⟨S128x8x2x8, .f32⟩
  | 86 => ⟨S128x8x2x8, .f32⟩
  | 87 => ⟨S128x8x2x8, .f32⟩
  | 88 => ⟨S128x8x2x8, .f32⟩
  | 89 => ⟨S128x8x2x48, .f32⟩
  | 90 => ⟨S128x8x2x64, .f32⟩
  | 91 => ⟨S128x8x128, .f32⟩
  | 92 => ⟨S128x8x512, .f32⟩
  | 93 => ⟨S128x8x256, .f32⟩
  | 94 => ⟨S128x8x4x64, .f32⟩
  | 95 => ⟨S8, .f32⟩
  | 96 => ⟨S_, .f32⟩
  | 97 => ⟨S8, .f32⟩
  | 98 => ⟨S8, .f32⟩
  | 99 => ⟨S_, .f32⟩
  | 100 => ⟨S8, .f32⟩
  | 101 => ⟨S8, .f32⟩
  | 102 => ⟨S8, .f32⟩
  | 103 => ⟨S8, .i32⟩
  | 104 => ⟨S_, .i32⟩
  | 105 => ⟨S8, .i32⟩
  | 106 => ⟨S8, .i32⟩
  | 107 => ⟨S8, .f32⟩
  | 108 => ⟨S8x1, .f32⟩
  | 109 => ⟨S1x8, .f32⟩
  | 110 => ⟨S8x8, .f32⟩
  | 111 => ⟨S8x8, .f32⟩
  | 112 => ⟨S8x8, .f32⟩
  | 113 => ⟨S8x8, .f32⟩
  | 114 => ⟨S1x8x1x8, .f32⟩
  | 115 => ⟨S8x8, .f32⟩
  | 116 => ⟨S1x8x1x8, .f32⟩
  | 117 => ⟨S128x8x4x8, .f32⟩
  | 118 => ⟨S128x8x4x8, .f32⟩
  | 119 => ⟨S128x8x4x8, .f32⟩
  | 120 => ⟨S128x8x4x8, .f32⟩
  | 121 => ⟨S128x8x4x8, .f32⟩
  | 122 => ⟨S128x8x4x8, .f32⟩
  | 123 => ⟨S128x8x4x8, .f32⟩
  | 124 => ⟨S128x8x4x8, .f32⟩
  | 125 => ⟨S128x8x4x8, .f32⟩
  | 126 => ⟨S128x8x4x8, .f32⟩
  | 127 => ⟨S128x8x4x8, .f32⟩
  | _ => ⟨S128x8x1024, .f32⟩

abbrev hbmTy0_2 (i : Nat) : BufTy := match i % 128 with
  | 0 => ⟨S128x8x4x8, .f32⟩
  | 1 => ⟨S128x8x4x48, .f32⟩
  | 2 => ⟨S128x8x4x64, .f32⟩
  | 3 => ⟨S128x8x64, .f32⟩
  | 4 => ⟨S128x8x1x64, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S8, .f32⟩
  | 13 => ⟨S8, .i32⟩
  | 14 => ⟨S_, .i32⟩
  | 15 => ⟨S8, .i32⟩
  | 16 => ⟨S8, .i32⟩
  | 17 => ⟨S8, .f32⟩
  | 18 => ⟨S8x1, .f32⟩
  | 19 => ⟨S1x8, .f32⟩
  | 20 => ⟨S8x8, .f32⟩
  | 21 => ⟨S8x8, .f32⟩
  | 22 => ⟨S8x8, .f32⟩
  | 23 => ⟨S8x8, .f32⟩
  | 24 => ⟨S1x8x1x8, .f32⟩
  | 25 => ⟨S8x8, .f32⟩
  | 26 => ⟨S1x8x1x8, .f32⟩
  | 27 => ⟨S128x8x1x8, .f32⟩
  | 28 => ⟨S128x8x1x8, .f32⟩
  | 29 => ⟨S128x8x1x8, .f32⟩
  | 30 => ⟨S128x8x1x8, .f32⟩
  | 31 => ⟨S128x8x1x8, .f32⟩
  | 32 => ⟨S128x8x1x8, .f32⟩
  | 33 => ⟨S128x8x1x8, .f32⟩
  | 34 => ⟨S128x8x1x8, .f32⟩
  | 35 => ⟨S128x8x1x8, .f32⟩
  | 36 => ⟨S128x8x1x8, .f32⟩
  | 37 => ⟨S128x8x1x8, .f32⟩
  | 38 => ⟨S128x8x1x8, .f32⟩
  | 39 => ⟨S128x8x1x48, .f32⟩
  | 40 => ⟨S128x8x1x64, .f32⟩
  | 41 => ⟨S128x8x4, .f32⟩
  | 42 => ⟨S128x8x1024, .f32⟩
  | 43 => ⟨S128x8x1024, .f32⟩
  | 44 => ⟨S1024x128, .f32⟩
  | 45 => ⟨S1024x128, .f32⟩
  | 46 => ⟨S1024x64, .f32⟩
  | 47 => ⟨S128x1024, .f32⟩
  | 48 => ⟨S_, .f32⟩
  | 49 => ⟨S16x1024, .f32⟩
  | 50 => ⟨S144x1024, .f32⟩
  | 51 => ⟨S1024x512, .f32⟩
  | 52 => ⟨S1024x512, .f32⟩
  | 53 => ⟨S1024x512, .f32⟩
  | 54 => ⟨S1024x512, .f32⟩
  | 55 => ⟨S1024x2x4x64, .f32⟩
  | 56 => ⟨S1024x4x2x64, .f32⟩
  | 57 => ⟨S1024x512, .f32⟩
  | 58 => ⟨S1024x2x4x64, .f32⟩
  | 59 => ⟨S1024x4x2x64, .f32⟩
  | 60 => ⟨S1024x512, .f32⟩
  | 61 => ⟨S1024x128, .bf16⟩
  | 62 => ⟨S144x1024, .bf16⟩
  | 63 => ⟨S1024x256, .f32⟩
  | 64 => ⟨S1024x128, .f32⟩
  | 65 => ⟨S1024x128, .bf16⟩
  | 66 => ⟨S1024x1024, .f32⟩
  | 67 => ⟨S1024x1024, .f32⟩
  | 68 => ⟨S1024x4, .f32⟩
  | 69 => ⟨S_, .i32⟩
  | 70 => ⟨S_, .f32⟩
  | 71 => ⟨S1024x128, .f32⟩
  | _ => ⟨S128x8x1024, .f32⟩

abbrev hbmTy (i : Nat) : BufTy := match i / 128 with
  | 0 => hbmTy0_0 i
  | 1 => hbmTy0_1 i
  | 2 => hbmTy0_2 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_4 : Ref sig .tc := ⟨.hbm, 67, rfl⟩
abbrev main_v56 : Ref sig .tc := ⟨.hbm, 68, rfl⟩
abbrev main_v57 : Ref sig .tc := ⟨.hbm, 69, rfl⟩
abbrev main_cst_5 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_c_6 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_7 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_cst_8 : Ref sig .tc := ⟨.hbm, 112, rfl⟩
abbrev main_v97 : Ref sig .tc := ⟨.hbm, 113, rfl⟩
abbrev main_v98 : Ref sig .tc := ⟨.hbm, 114, rfl⟩
abbrev main_cst_9 : Ref sig .tc := ⟨.hbm, 115, rfl⟩
abbrev main_v99 : Ref sig .tc := ⟨.hbm, 116, rfl⟩
abbrev main_v100 : Ref sig .tc := ⟨.hbm, 117, rfl⟩
abbrev main_cst_10 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_cst_11 : Ref sig .tc := ⟨.hbm, 128, rfl⟩
abbrev main_v110 : Ref sig .tc := ⟨.hbm, 129, rfl⟩
abbrev main_v111 : Ref sig .tc := ⟨.hbm, 130, rfl⟩
abbrev main_cst_12 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_c_13 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_cst_14 : Ref sig .tc := ⟨.hbm, 168, rfl⟩
abbrev main_v147 : Ref sig .tc := ⟨.hbm, 169, rfl⟩
abbrev main_v148 : Ref sig .tc := ⟨.hbm, 170, rfl⟩
abbrev main_cst_15 : Ref sig .tc := ⟨.hbm, 171, rfl⟩
abbrev main_v149 : Ref sig .tc := ⟨.hbm, 172, rfl⟩
abbrev main_v150 : Ref sig .tc := ⟨.hbm, 173, rfl⟩
abbrev main_cst_16 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_cst_17 : Ref sig .tc := ⟨.hbm, 184, rfl⟩
abbrev main_v160 : Ref sig .tc := ⟨.hbm, 185, rfl⟩
abbrev main_v161 : Ref sig .tc := ⟨.hbm, 186, rfl⟩
abbrev main_cst_18 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_c_19 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_cst_20 : Ref sig .tc := ⟨.hbm, 224, rfl⟩
abbrev main_v197 : Ref sig .tc := ⟨.hbm, 225, rfl⟩
abbrev main_v198 : Ref sig .tc := ⟨.hbm, 226, rfl⟩
abbrev main_cst_21 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_c_22 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_cst_23 : Ref sig .tc := ⟨.hbm, 262, rfl⟩
abbrev main_v232 : Ref sig .tc := ⟨.hbm, 263, rfl⟩
abbrev main_v233 : Ref sig .tc := ⟨.hbm, 264, rfl⟩
abbrev main_cst_24 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_c_25 : Ref sig .tc := ⟨.hbm, 270, rfl⟩
abbrev main_v238 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_v252 : Ref sig .tc := ⟨.hbm, 285, rfl⟩
abbrev main_v253 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_cst_26 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_c_27 : Ref sig .tc := ⟨.hbm, 325, rfl⟩
abbrev main_call0_v0 : Ref sig .tc := ⟨.hbm, 326, rfl⟩
abbrev main_v291 : Ref sig .tc := ⟨.hbm, 327, rfl⟩

abbrev nD : Nat := 1
abbrev τ : Topo := Topo.v7x

variable {F : FTy → Type} [FloatOps F]
-- ==== MergeSample.lean ====
abbrev S1024x1024 : Shape := ⟨2, ![1024, 1024]⟩
abbrev S2x128x8x256 : Shape := ⟨4, ![2, 128, 8, 256]⟩
abbrev S1024x512 : Shape := ⟨2, ![1024, 512]⟩
abbrev S2x512x1024 : Shape := ⟨3, ![2, 512, 1024]⟩
abbrev S2x1024x1024 : Shape := ⟨3, ![2, 1024, 1024]⟩
abbrev S2x256x1024 : Shape := ⟨3, ![2, 256, 1024]⟩
abbrev S2x1024x256 : Shape := ⟨3, ![2, 1024, 256]⟩
abbrev S2x2x4x64x1024 : Shape := ⟨5, ![2, 2, 4, 64, 1024]⟩
abbrev S2x1x4x64x1024 : Shape := ⟨5, ![2, 1, 4, 64, 1024]⟩
abbrev S2x4x64x1024 : Shape := ⟨4, ![2, 4, 64, 1024]⟩
abbrev S2x4x128x1024 : Shape := ⟨4, ![2, 4, 128, 1024]⟩
abbrev S256x1024 : Shape := ⟨2, ![256, 1024]⟩
abbrev S1x256x256 : Shape := ⟨3, ![1, 256, 256]⟩
abbrev S256x512 : Shape := ⟨2, ![256, 512]⟩
abbrev S1x512x1024 : Shape := ⟨3, ![1, 512, 1024]⟩
abbrev S1x1024x1024 : Shape := ⟨3, ![1, 1024, 1024]⟩
abbrev S1x256x1024 : Shape := ⟨3, ![1, 256, 1024]⟩
abbrev S512x1024 : Shape := ⟨2, ![512, 1024]⟩
abbrev S256x256 : Shape := ⟨2, ![256, 256]⟩

abbrev nBuf : Space → Nat
  | .hbm => 25
  | .vmem => 19
  | .smem => 0
  | _ => 0

abbrev bufTy : (tb : Table) → Fin (tcTables nBuf tb) → BufTy
  | .hbm, ⟨0, _⟩ => ⟨S1024x1024, .f32⟩
  | .hbm, ⟨1, _⟩ => ⟨S2x128x8x256, .f32⟩
  | .hbm, ⟨2, _⟩ => ⟨S1024x1024, .f32⟩
  | .hbm, ⟨3, _⟩ => ⟨S1024x1024, .f32⟩
  | .hbm, ⟨4, _⟩ => ⟨S1024x512, .f32⟩
  | .hbm, ⟨5, _⟩ => ⟨S1024x512, .f32⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S2x1024x1024, .f32⟩
  | .hbm, ⟨10, _⟩ => ⟨S2x256x1024, .f32⟩
  | .hbm, ⟨11, _⟩ => ⟨S2x1024x256, .f32⟩
  | .hbm, ⟨12, _⟩ => ⟨S2x2x4x64x1024, .f32⟩
  | .hbm, ⟨13, _⟩ => ⟨S2x1x4x64x1024, .f32⟩
  | .hbm, ⟨14, _⟩ => ⟨S2x4x64x1024, .f32⟩
  | .hbm, ⟨15, _⟩ => ⟨S2x1x4x64x1024, .f32⟩
  | .hbm, ⟨16, _⟩ => ⟨S2x4x64x1024, .f32⟩
  | .hbm, ⟨17, _⟩ => ⟨S2x4x128x1024, .f32⟩
  | .hbm, ⟨18, _⟩ => ⟨S2x512x1024, .f32⟩
  | .hbm, ⟨19, _⟩ => ⟨S2x512x1024, .bf16⟩
  | .hbm, ⟨20, _⟩ => ⟨S2x512x1024, .bf16⟩
  | .hbm, ⟨21, _⟩ => ⟨S2x1024x1024, .bf16⟩
  | .hbm, ⟨22, _⟩ => ⟨S2x1024x1024, .bf16⟩
  | .hbm, ⟨23, _⟩ => ⟨S2x256x1024, .bf16⟩
  | .hbm, ⟨24, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1x256x256, .f32⟩
  | .local _ .vmem, ⟨3, _⟩ => ⟨S1x256x256, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x512x1024, .bf16⟩
  | .local _ .vmem, ⟨13, _⟩ => ⟨S1x512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x256x1024, .bf16⟩
  | .local _ .vmem, ⟨17, _⟩ => ⟨S256x1024, .f32⟩
  | .local _ .vmem, ⟨18, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeSampleReferenceIdeal.lean ====
abbrev S1024x1024 : Shape := ⟨2, ![1024, 1024]⟩
abbrev S2x128x8x256 : Shape := ⟨4, ![2, 128, 8, 256]⟩
abbrev S1024x512 : Shape := ⟨2, ![1024, 512]⟩
abbrev S2x512x1024 : Shape := ⟨3, ![2, 512, 1024]⟩
abbrev S2x1024x1024 : Shape := ⟨3, ![2, 1024, 1024]⟩
abbrev S2x256x1024 : Shape := ⟨3, ![2, 256, 1024]⟩
abbrev S1024x4x2x64 : Shape := ⟨4, ![1024, 4, 2, 64]⟩
abbrev S1024x2x4x64 : Shape := ⟨4, ![1024, 2, 4, 64]⟩
abbrev S1x512x1024 : Shape := ⟨3, ![1, 512, 1024]⟩
abbrev S512x1024 : Shape := ⟨2, ![512, 1024]⟩
abbrev S_ : Shape := ⟨0, ![]⟩
abbrev S1x1024x1024 : Shape := ⟨3, ![1, 1024, 1024]⟩
abbrev S1x128x8x256 : Shape := ⟨4, ![1, 128, 8, 256]⟩
abbrev S128x8x256 : Shape := ⟨3, ![128, 8, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 62
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2x128x8x256, .f32⟩
  | .hbm, ⟨2, _⟩ => ⟨S1024x1024, .f32⟩
  | .hbm, ⟨3, _⟩ => ⟨S1024x1024, .f32⟩
  | .hbm, ⟨4, _⟩ => ⟨S1024x512, .f32⟩
  | .hbm, ⟨5, _⟩ => ⟨S1024x512, .f32⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S2x1024x1024, .f32⟩
  | .hbm, ⟨10, _⟩ => ⟨S2x256x1024, .f32⟩
  | .hbm, ⟨11, _⟩ => ⟨S1024x4x2x64, .f32⟩
  | .hbm, ⟨12, _⟩ => ⟨S1024x2x4x64, .f32⟩
  | .hbm, ⟨13, _⟩ => ⟨S1024x512, .f32⟩
  | .hbm, ⟨14, _⟩ => ⟨S1x512x1024, .f32⟩
  | .hbm, ⟨15, _⟩ => ⟨S512x1024, .f32⟩
  | .hbm, ⟨16, _⟩ => ⟨S1024x1024, .f32⟩
  | .hbm, ⟨17, _⟩ => ⟨S1x512x1024, .f32⟩
  | .hbm, ⟨18, _⟩ => ⟨S512x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S1x1024x1024, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1x1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S_, .f32⟩
  | .hbm, ⟨52, _⟩ => ⟨S1024x1024, .f32⟩
  | .hbm, ⟨53, _⟩ => ⟨S1024x1024, .f32⟩
  | .hbm, ⟨54, _⟩ => ⟨S1x128x8x256, .f32⟩
  | .hbm, ⟨55, _⟩ => ⟨S128x8x256, .f32⟩
  | .hbm, ⟨56, _⟩ => ⟨S1024x256, .f32⟩
  | .hbm, ⟨57, _⟩ => ⟨S1x256x1024, .f32⟩
  | .hbm, ⟨58, _⟩ => ⟨S256x1024, .f32⟩
  | .hbm, ⟨59, _⟩ => ⟨S1024x1024, .f32⟩
  | .hbm, ⟨60, _⟩ => ⟨S1024x1024, .f32⟩
  | .hbm, ⟨61, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Proof.ProjIdealFrame.lean ====
module

public import proofs.«01_k».proof.Proof.Gen.InprojIdeal.Launch
public import proofs.«01_k».proof.Proof.Gen.InprojIdeal.Skeleton
public import proofs.«01_k».proof.Proof.Gen.InprojIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Projecting

open Cert.InprojIdeal Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b)) b

set_option maxHeartbeats 800000 in

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; repeat' constructor) main_chain

/-- The host operations leave the arguments as they are. -/
theorem V_arg (c : Dev nD) (b : Ref sig .tc) (hb : b = main_arg0 ∨ b = main_arg1 ∨ b = main_arg2 ∨ b = main_arg3 ∨ b = main_arg4) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by rcases hb with rfl | rfl | rfl | rfl | rfl <;> decide)))

theorem V_main_arg0 (c : Dev nD) : V m c main_arg0 = m ((c : Thread nD τ).loc main_arg0) := V_arg m c _ (.inl rfl)
theorem V_main_arg1 (c : Dev nD) : V m c main_arg1 = m ((c : Thread nD τ).loc main_arg1) := V_arg m c _ (.inr (.inl rfl))
theorem V_main_arg2 (c : Dev nD) : V m c main_arg2 = m ((c : Thread nD τ).loc main_arg2) := V_arg m c _ (.inr (.inr (.inl rfl)))
theorem V_main_arg3 (c : Dev nD) : V m c main_arg3 = m ((c : Thread nD τ).loc main_arg3) := V_arg m c _ (.inr (.inr (.inr (.inl rfl))))
theorem V_main_arg4 (c : Dev nD) : V m c main_arg4 = m ((c : Thread nD τ).loc main_arg4) := V_arg m c _ (.inr (.inr (.inr (.inr rfl))))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

set_option maxHeartbeats 1620000 in

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S512x128 := Rect.unit (s := S512x128) ![0, 0] S512x128.size inb_S512x128_S512x128_0_0
abbrev r0_3 : Rect S128x128 := Rect.unit (s := S128x128) ![0, 0] S128x128.size inb_S128x128_S128x128_0_0
abbrev r0_4 : Rect S5888x1024 := Rect.unit (s := S5888x1024) ![0, 0] S512x1024.size inb_S5888x1024_S512x1024_0_0
abbrev r0_5 : Rect S512x512 := Rect.unit (s := S512x512) ![0, 0] S512x128.size inb_S512x512_S512x128_0_0
abbrev r0_6 : Rect S512x512 := Rect.unit (s := S512x512) ![0, 128] S512x128.size inb_S512x512_S512x128_0_128
abbrev r0_7 : Rect S512x512 := Rect.unit (s := S512x512) ![0, 256] S512x128.size inb_S512x512_S512x128_0_256
abbrev r0_8 : Rect S512x512 := Rect.unit (s := S512x512) ![0, 384] S512x128.size inb_S512x512_S512x128_0_384
abbrev r0_9 : Rect S5888x1024 := Rect.unit (s := S5888x1024) ![512, 0] S512x1024.size inb_S5888x1024_S512x1024_512_0
abbrev r0_10 : Rect S5888x1024 := Rect.unit (s := S5888x1024) ![1024, 0] S512x1024.size inb_S5888x1024_S512x1024_1024_0
abbrev r0_11 : Rect S512x512 := Rect.unit (s := S512x512) ![0, 0] S512x512.size inb_S512x512_S512x512_0_0
abbrev r0_12 : Rect S5888x1024 := Rect.unit (s := S5888x1024) ![1536, 0] S512x1024.size inb_S5888x1024_S512x1024_1536_0
abbrev r0_13 : Rect S1x128 := Rect.unit (s := S1x128) ![0, 0] S1x128.size inb_S1x128_S1x128_0_0
abbrev r0_14 : Rect S5888x1024 := Rect.unit (s := S5888x1024) ![2048, 0] S512x1024.size inb_S5888x1024_S512x1024_2048_0
abbrev r0_15 : Rect S5888x1024 := Rect.unit (s := S5888x1024) ![2560, 0] S512x1024.size inb_S5888x1024_S512x1024_2560_0
abbrev r0_16 : Rect S5888x1024 := Rect.unit (s := S5888x1024) ![3072, 0] S256x1024.size inb_S5888x1024_S256x1024_3072_0
abbrev r0_17 : Rect S144x512 := Rect.unit (s := S144x512) ![0, 0] S144x512.size inb_S144x512_S144x512_0_0
abbrev r0_18 : Rect S5888x1024 := Rect.unit (s := S5888x1024) ![3328, 0] S512x1024.size inb_S5888x1024_S512x1024_3328_0
abbrev r0_19 : Rect S512x256 := Rect.unit (s := S512x256) ![0, 0] S512x128.size inb_S512x256_S512x128_0_0
abbrev r0_20 : Rect S512x256 := Rect.unit (s := S512x256) ![0, 128] S512x128.size inb_S512x256_S512x128_0_128
abbrev r0_21 : Rect S512x64 := Rect.unit (s := S512x64) ![0, 0] S512x64.size inb_S512x64_S512x64_0_0
abbrev r0_22 : Rect S5888x1024 := Rect.unit (s := S5888x1024) ![3840, 0] S1024x1024.size inb_S5888x1024_S1024x1024_3840_0
abbrev r0_23 : Rect S5888x1024 := Rect.unit (s := S5888x1024) ![4864, 0] S1024x1024.size inb_S5888x1024_S1024x1024_4864_0

section

variable (x0 : Vec F S512x1024 .f32) (x1 : Vec F S1x1024 .f32) (x2 : Vec F S5888x1024 .bf16) (x3 : Vec F S512x128 .f32) (x4 : Vec F S512x128 .f32) (x5 : Vec F S512x128 .f32) (x6 : Vec F S512x128 .f32) (x7 : Vec F S512x128 .f32) (x8 : Vec F S1x128 .f32) (x9 : Vec F S1x128 .f32) (x10 : Vec F S128x128 .bf16)

def k0_pay57 : FVec F S512x1024 .bf16 :=
  k0_pay2 (View.ld x0 r0_0) (View.ld x1 r0_1) -- `v16`
def k0_pay58 : FVec F S512x128 .f32 :=
  k0_pay3 (View.ld x3 r0_2) -- `v18`
def k0_pay59 : FVec F S512x128 .f32 :=
  k0_pay4 (View.ld x4 r0_2) -- `v20`
def k0_pay60 : FVec F S512x128 .f32 :=
  k0_pay5 (View.ld x5 r0_2) -- `v22`
def k0_pay61 : FVec F S512x128 .f32 :=
  k0_pay6 (View.ld x6 r0_2) -- `v24`
def k0_pay62 : FVec F S512x128 .f32 :=
  k0_pay7 (View.ld x7 r0_2) -- `v26`
def k0_pay63 : FVec F S128x128 .bf16 :=
  k0_pay8 (View.ld x10 r0_3) -- `v28`
def k0_pay64 : FVec F S512x512 .f32 :=
  k0_pay9 (View.ld x0 r0_0) (View.ld x1 r0_1) (View.ld x2 r0_4) -- `v31`
def k0_pay65 : FVec F S512x512 .f32 :=
  k0_pay17 (k0_pay57 x0 x1) (View.ld x2 r0_9) -- `v62`
def k0_pay66 : FVec F S1x128 .f32 :=
  k0_pay25 (View.ld x8 r0_13) -- `v110`
def k0_pay67 : FVec F S1x128 .f32 :=
  k0_pay26 (View.ld x9 r0_13) -- `v112`
def k0_pay68 : FVec F S512x512 .f32 :=
  k0_pay27 (k0_pay57 x0 x1) (View.ld x2 r0_14) -- `v115`
def k0_pay69 : FVec F S512x256 .f32 :=
  k0_pay38 (k0_pay57 x0 x1) (View.ld x2 r0_16) -- `v227`
def k0_pay70 : FVec F S512x128 .f32 :=
  k0_pay39 (k0_pay57 x0 x1) (View.ld x2 r0_16) -- `v228`
def k0_pay71 : FVec F S512x128 .bf16 :=
  k0_pay41 (k0_pay57 x0 x1) (View.ld x2 r0_16) -- `v230`
def k0_pay72 : FVec F S512x128 .bf16 :=
  k0_pay42 (k0_pay57 x0 x1) (View.ld x2 r0_16) -- `v233`
def k0_pay73 : FVec F S512x512 .f32 :=
  k0_pay47 (k0_pay57 x0 x1) (View.ld x2 r0_18) -- `v264`

def out0_11 : Vec F S512x512 .bf16 :=
  View.canon [⟨r0_8, k0_pay16 (k0_pay58 x3) (k0_pay59 x4) (k0_pay64 x0 x1 x2)⟩,
    ⟨r0_7, k0_pay15 (k0_pay58 x3) (k0_pay59 x4) (k0_pay64 x0 x1 x2)⟩,
    ⟨r0_6, k0_pay14 (k0_pay58 x3) (k0_pay59 x4) (k0_pay64 x0 x1 x2)⟩,
    ⟨r0_5, k0_pay13 (k0_pay11 (View.ld x0 r0_0) (View.ld x1 r0_1) (View.ld x3 r0_2) (View.ld x2 r0_4)) (k0_pay12 (View.ld x0 r0_0) (View.ld x1 r0_1) (View.ld x4 r0_2) (View.ld x2 r0_4))⟩]

theorem cover0_11 {e : EltTy} (p0 : Vec F S512x128 e) (p1 : Vec F S512x128 e) (p2 : Vec F S512x128 e) (p3 : Vec F S512x128 e) (y : S512x512.Idx) :
    ∃ pc ∈ ([⟨r0_8, p0⟩, ⟨r0_7, p1⟩, ⟨r0_6, p2⟩, ⟨r0_5, p3⟩] : List (View.Piece (Elt F) S512x512 e)), y ∈ pc.1.set :=
  View.cover_of_tiled [⟨r0_8, p0⟩, ⟨r0_7, p1⟩, ⟨r0_6, p2⟩, ⟨r0_5, p3⟩] S512x128.size (by rfl) y

def out0_12 : Vec F S512x512 .bf16 :=
  View.canon [⟨r0_8, k0_pay22 (k0_pay58 x3) (k0_pay59 x4) (k0_pay65 x0 x1 x2)⟩,
    ⟨r0_7, k0_pay21 (k0_pay58 x3) (k0_pay59 x4) (k0_pay65 x0 x1 x2)⟩,
    ⟨r0_6, k0_pay20 (k0_pay58 x3) (k0_pay59 x4) (k0_pay19 (k0_pay57 x0 x1) (View.ld x2 r0_9))⟩,
    ⟨r0_5, k0_pay18 (k0_pay57 x0 x1) (k0_pay58 x3) (k0_pay59 x4) (View.ld x2 r0_9)⟩]

def out0_13 : Vec F S512x512 .bf16 :=
  View.canon [⟨r0_11, k0_pay23 (k0_pay57 x0 x1) (View.ld x2 r0_10)⟩]

theorem cover0_13 {e : EltTy} (p0 : Vec F S512x512 e) (y : S512x512.Idx) :
    ∃ pc ∈ ([⟨r0_11, p0⟩] : List (View.Piece (Elt F) S512x512 e)), y ∈ pc.1.set :=
  View.cover_of_tiled [⟨r0_11, p0⟩] S512x512.size (by rfl) y

def out0_14 : Vec F S512x512 .bf16 :=
  View.canon [⟨r0_11, k0_pay24 (k0_pay57 x0 x1) (View.ld x2 r0_12)⟩]

def out0_15 : Vec F S512x512 .bf16 :=
  View.canon [⟨r0_8, k0_pay36 (k0_pay60 x5) (k0_pay61 x6) (k0_pay62 x7) (k0_pay63 x10) (k0_pay66 x8) (k0_pay68 x0 x1 x2)⟩,
    ⟨r0_7, k0_pay35 (k0_pay60 x5) (k0_pay61 x6) (k0_pay62 x7) (k0_pay63 x10) (k0_pay66 x8) (k0_pay68 x0 x1 x2)⟩,
    ⟨r0_6, k0_pay34 (k0_pay60 x5) (k0_pay61 x6) (k0_pay62 x7) (k0_pay63 x10) (k0_pay66 x8) (k0_pay29 (k0_pay57 x0 x1) (View.ld x2 r0_14)) (k0_pay32 (k0_pay57 x0 x1) (View.ld x2 r0_14)) (k0_pay33 (k0_pay57 x0 x1) (k0_pay63 x10) (View.ld x2 r0_14))⟩,
    ⟨r0_5, k0_pay28 (k0_pay57 x0 x1) (k0_pay60 x5) (k0_pay61 x6) (k0_pay62 x7) (k0_pay63 x10) (View.ld x8 r0_13) (View.ld x2 r0_14)⟩]

def out0_16 : Vec F S512x512 .bf16 :=
  View.canon [⟨r0_11, k0_pay37 (k0_pay57 x0 x1) (View.ld x2 r0_15)⟩]

def out0_17 : Vec F S512x128 .bf16 :=
  View.canon [⟨r0_2, k0_pay44 (k0_pay60 x5) (k0_pay61 x6) (k0_pay62 x7) (k0_pay63 x10) (k0_pay67 x9) (k0_pay70 x0 x1 x2) (k0_pay71 x0 x1 x2) (k0_pay72 x0 x1 x2)⟩]

theorem cover0_17 {e : EltTy} (p0 : Vec F S512x128 e) (y : S512x128.Idx) :
    ∃ pc ∈ ([⟨r0_2, p0⟩] : List (View.Piece (Elt F) S512x128 e)), y ∈ pc.1.set :=
  View.cover_of_tiled [⟨r0_2, p0⟩] S512x128.size (by rfl) y

def out0_18 : Vec F S144x512 .bf16 :=
  View.canon [⟨r0_17, k0_pay46 (k0_pay69 x0 x1 x2)⟩]

theorem cover0_18 {e : EltTy} (p0 : Vec F S144x512 e) (y : S144x512.Idx) :
    ∃ pc ∈ ([⟨r0_17, p0⟩] : List (View.Piece (Elt F) S144x512 e)), y ∈ pc.1.set :=
  View.cover_of_tiled [⟨r0_17, p0⟩] S144x512.size (by rfl) y

def out0_19 : Vec F S512x256 .bf16 :=
  View.canon [⟨r0_20, k0_pay51 (k0_pay60 x5) (k0_pay61 x6) (k0_pay62 x7) (k0_pay73 x0 x1 x2)⟩,
    ⟨r0_19, k0_pay50 (k0_pay62 x7) (k0_pay48 (k0_pay57 x0 x1) (View.ld x2 r0_18)) (k0_pay49 (k0_pay57 x0 x1) (k0_pay60 x5) (k0_pay61 x6) (View.ld x2 r0_18)) 8#32⟩]

theorem cover0_19 {e : EltTy} (p0 : Vec F S512x128 e) (p1 : Vec F S512x128 e) (y : S512x256.Idx) :
    ∃ pc ∈ ([⟨r0_20, p0⟩, ⟨r0_19, p1⟩] : List (View.Piece (Elt F) S512x256 e)), y ∈ pc.1.set :=
  View.cover_of_tiled [⟨r0_20, p0⟩, ⟨r0_19, p1⟩] S512x128.size (by rfl) y

def out0_20 : Vec F S512x128 .bf16 :=
  View.canon [⟨r0_2, k0_pay53 (k0_pay60 x5) (k0_pay61 x6) (k0_pay62 x7) (k0_pay73 x0 x1 x2)⟩]

def out0_21 : Vec F S512x1024 .bf16 :=
  View.canon [⟨r0_0, k0_pay56 (k0_pay57 x0 x1) (View.ld x2 r0_22)⟩]

theorem cover0_21 {e : EltTy} (p0 : Vec F S512x1024 e) (y : S512x1024.Idx) :
    ∃ pc ∈ ([⟨r0_0, p0⟩] : List (View.Piece (Elt F) S512x1024 e)), y ∈ pc.1.set :=
  View.cover_of_tiled [⟨r0_0, p0⟩] S512x1024.size (by rfl) y

def out0_22 : Vec F S512x1024 .bf16 :=
  View.canon [⟨r0_0, k0_pay1 (k0_pay57 x0 x1) (View.ld x2 r0_23)⟩]

def out0_23 : Vec F S512x128 .f32 :=
  View.canon [⟨r0_2, k0_pay43 (k0_pay60 x5) (k0_pay61 x6) (k0_pay62 x7) (k0_pay63 x10) (k0_pay67 x9) (k0_pay70 x0 x1 x2) (k0_pay71 x0 x1 x2) (k0_pay72 x0 x1 x2)⟩]

def out0_24 : Vec F S512x128 .f32 :=
  View.canon [⟨r0_2, k0_pay45 (k0_pay69 x0 x1 x2)⟩]

def out0_25 : Vec F S512x64 .f32 :=
  View.canon [⟨r0_21, k0_pay54 (k0_pay60 x5) (k0_pay61 x6) (k0_pay62 x7) (k0_pay73 x0 x1 x2)⟩]

theorem cover0_25 {e : EltTy} (p0 : Vec F S512x64 e) (y : S512x64.Idx) :
    ∃ pc ∈ ([⟨r0_21, p0⟩] : List (View.Piece (Elt F) S512x64 e)), y ∈ pc.1.set :=
  View.cover_of_tiled [⟨r0_21, p0⟩] S512x64.size (by rfl) y

def out0_26 : Vec F S512x128 .f32 :=
  View.canon [⟨r0_2, k0_pay55 (k0_pay73 x0 x1 x2)⟩]

end

set_option maxHeartbeats 1000000 in

theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S5888x1024 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x128 .bf16) (harg18 : arg18.IsWhole) (arg19 : Memref sig .tc .vmem S144x512 .bf16) (harg19 : arg19.IsWhole) (arg20 : Memref sig .tc .vmem S512x256 .bf16) (harg20 : arg20.IsWhole) (arg21 : Memref sig .tc .vmem S512x128 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x128 .f32) (harg24 : arg24.IsWhole) (arg25 : Memref sig .tc .vmem S512x128 .f32) (harg25 : arg25.IsWhole) (arg26 : Memref sig .tc .vmem S512x64 .f32) (harg26 : arg26.IsWhole) (arg27 : Memref sig .tc .vmem S512x128 .f32) (harg27 : arg27.IsWhole)
    (x0 : Vec F S512x1024 .f32) (x1 : Vec F S1x1024 .f32) (x2 : Vec F S5888x1024 .bf16) (x3 : Vec F S512x128 .f32) (x4 : Vec F S512x128 .f32) (x5 : Vec F S512x128 .f32) (x6 : Vec F S512x128 .f32) (x7 : Vec F S512x128 .f32) (x8 : Vec F S1x128 .f32) (x9 : Vec F S1x128 .f32) (x10 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4) ∗ owns (c : Thread nD τ) arg13 fullShare (out0_12 x0 x1 x2 x3 x4) ∗ owns (c : Thread nD τ) arg14 fullShare (out0_13 x0 x1 x2) ∗ owns (c : Thread nD τ) arg15 fullShare (out0_14 x0 x1 x2) ∗ owns (c : Thread nD τ) arg16 fullShare (out0_15 x0 x1 x2 x5 x6 x7 x8 x10) ∗ owns (c : Thread nD τ) arg17 fullShare (out0_16 x0 x1 x2) ∗ owns (c : Thread nD τ) arg18 fullShare (out0_17 x0 x1 x2 x5 x6 x7 x9 x10) ∗ owns (c : Thread nD τ) arg19 fullShare (out0_18 x0 x1 x2) ∗ owns (c : Thread nD τ) arg20 fullShare (out0_19 x0 x1 x2 x5 x6 x7) ∗ owns (c : Thread nD τ) arg21 fullShare (out0_20 x0 x1 x2 x5 x6 x7) ∗ owns (c : Thread nD τ) arg22 fullShare (out0_21 x0 x1 x2) ∗ owns (c : Thread nD τ) arg23 fullShare (out0_22 x0 x1 x2) ∗ owns (c : Thread nD τ) arg24 fullShare (out0_23 x0 x1 x2 x5 x6 x7 x9 x10) ∗ owns (c : Thread nD τ) arg25 fullShare (out0_24 x0 x1 x2) ∗ owns (c : Thread nD τ) arg26 fullShare (out0_25 x0 x1 x2 x5 x6 x7) ∗ owns (c : Thread nD τ) arg27 fullShare (out0_26 x0 x1 x2)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _ _ _ _)).trans ?_
    rfl
  isplitl [H12]
  · iexists _; isplitr
    swap; · iexact H12
    ipureintro
    refine (View.read_writes_eq_canon _ _ _ (cover0_11 _ _ _ _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_13 _)).trans ?_
    rfl
  isplitl [H15]
  · iexists _; isplitr
    swap; · iexact H15
    ipureintro
    refine (View.read_writes_eq_canon _ _ _ (cover0_11 _ _ _ _)).trans ?_
    rfl
  isplitl [H16]
  · iexists _; isplitr
    swap; · iexact H16
    ipureintro
    refine (View.read_writes_eq_canon _ _ _ (cover0_13 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _ _)).trans ?_
    rfl
  isplitl [H20]
  · iexists _; isplitr
    swap; · iexact H20
    ipureintro
    refine (View.read_writes_eq_canon _ _ _ (cover0_17 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_21 _)).trans ?_
    rfl
  isplitl [H23]
  · iexists _; isplitr
    swap; · iexact H23
    ipureintro
    refine (View.read_writes_eq_canon _ _ _ (cover0_17 _)).trans ?_
    rfl
  isplitl [H24]
  · iexists _; isplitr
    swap; · iexact H24
    ipureintro
    refine (View.read_writes_eq_canon _ _ _ (cover0_17 _)).trans ?_
    rfl
  isplitl [H25]
  · iexists _; isplitr
    swap; · iexact H25
    ipureintro
    refine (View.read_writes_eq_canon _ _ _ (cover0_25 _)).trans ?_
    rfl
  iexists _; isplitr
  swap; · iexact H26
  ipureintro
  refine (View.read_writes_eq_canon _ _ _ (cover0_17 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t)
    | ⟨12, _⟩ => out0_12 (iblk m c 0 t) (iblk m c 1 t) (iblk m c 2 t) (iblk m c 3 t) (iblk m c 4 t)
    | ⟨13, _⟩ => out0_13 (iblk m c 0 t) (iblk m c 1 t) (iblk m c 2 t)
    | ⟨14, _⟩ => out0_14 (iblk m c 0 t) (iblk m c 1 t) (iblk m c 2 t)
    | ⟨15, _⟩ => out0_15 (iblk m c 0 t) (iblk m c 1 t) (iblk m c 2 t) (iblk m c 5 t) (iblk m c 6 t) (iblk m c 7 t) (iblk m c 8 t) (iblk m c 10 t)
    | ⟨16, _⟩ => out0_16 (iblk m c 0 t) (iblk m c 1 t) (iblk m c 2 t)
    | ⟨17, _⟩ => out0_17 (iblk m c 0 t) (iblk m c 1 t) (iblk m c 2 t) (iblk m c 5 t) (iblk m c 6 t) (iblk m c 7 t) (iblk m c 9 t) (iblk m c 10 t)
    | ⟨18, _⟩ => out0_18 (iblk m c 0 t) (iblk m c 1 t) (iblk m c 2 t)
    | ⟨19, _⟩ => out0_19 (iblk m c 0 t) (iblk m c 1 t) (iblk m c 2 t) (iblk m c 5 t) (iblk m c 6 t) (iblk m c 7 t)
    | ⟨20, _⟩ => out0_20 (iblk m c 0 t) (iblk m c 1 t) (iblk m c 2 t) (iblk m c 5 t) (iblk m c 6 t) (iblk m c 7 t)
    | ⟨21, _⟩ => out0_21 (iblk m c 0 t) (iblk m c 1 t) (iblk m c 2 t)
    | ⟨22, _⟩ => out0_22 (iblk m c 0 t) (iblk m c 1 t) (iblk m c 2 t)
    | ⟨23, _⟩ => out0_23 (iblk m c 0 t) (iblk m c 1 t) (iblk m c 2 t) (iblk m c 5 t) (iblk m c 6 t) (iblk m c 7 t) (iblk m c 9 t) (iblk m c 10 t)
    | ⟨24, _⟩ => out0_24 (iblk m c 0 t) (iblk m c 1 t) (iblk m c 2 t)
    | ⟨25, _⟩ => out0_25 (iblk m c 0 t) (iblk m c 1 t) (iblk m c 2 t) (iblk m c 5 t) (iblk m c 6 t) (iblk m c 7 t)
    | ⟨26, _⟩ => out0_26 (iblk m c 0 t) (iblk m c 1 t) (iblk m c 2 t)
    | ⟨_ + 27, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) := by dsimp only [dats]
theorem after0_12 (c : Dev nD) (t : Fin cfg0.N) : (dats m 0 c).after 12 t = out0_12 (iblk m c 0 t) (iblk m c 1 t) (iblk m c 2 t) (iblk m c 3 t) (iblk m c 4 t) := by dsimp only [dats]
theorem after0_13 (c : Dev nD) (t : Fin cfg0.N) : (dats m 0 c).after 13 t = out0_13 (iblk m c 0 t) (iblk m c 1 t) (iblk m c 2 t) := by dsimp only [dats]
theorem after0_14 (c : Dev nD) (t : Fin cfg0.N) : (dats m 0 c).after 14 t = out0_14 (iblk m c 0 t) (iblk m c 1 t) (iblk m c 2 t) := by dsimp only [dats]
theorem after0_15 (c : Dev nD) (t : Fin cfg0.N) : (dats m 0 c).after 15 t = out0_15 (iblk m c 0 t) (iblk m c 1 t) (iblk m c 2 t) (iblk m c 5 t) (iblk m c 6 t) (iblk m c 7 t) (iblk m c 8 t) (iblk m c 10 t) := by dsimp only [dats]
theorem after0_16 (c : Dev nD) (t : Fin cfg0.N) : (dats m 0 c).after 16 t = out0_16 (iblk m c 0 t) (iblk m c 1 t) (iblk m c 2 t) := by dsimp only [dats]
theorem after0_17 (c : Dev nD) (t : Fin cfg0.N) : (dats m 0 c).after 17 t = out0_17 (iblk m c 0 t) (iblk m c 1 t) (iblk m c 2 t) (iblk m c 5 t) (iblk m c 6 t) (iblk m c 7 t) (iblk m c 9 t) (iblk m c 10 t) := by dsimp only [dats]
theorem after0_18 (c : Dev nD) (t : Fin cfg0.N) : (dats m 0 c).after 18 t = out0_18 (iblk m c 0 t) (iblk m c 1 t) (iblk m c 2 t) := by dsimp only [dats]
theorem after0_19 (c : Dev nD) (t : Fin cfg0.N) : (dats m 0 c).after 19 t = out0_19 (iblk m c 0 t) (iblk m c 1 t) (iblk m c 2 t) (iblk m c 5 t) (iblk m c 6 t) (iblk m c 7 t) := by dsimp only [dats]
theorem after0_20 (c : Dev nD) (t : Fin cfg0.N) : (dats m 0 c).after 20 t = out0_20 (iblk m c 0 t) (iblk m c 1 t) (iblk m c 2 t) (iblk m c 5 t) (iblk m c 6 t) (iblk m c 7 t) := by dsimp only [dats]
theorem after0_21 (c : Dev nD) (t : Fin cfg0.N) : (dats m 0 c).after 21 t = out0_21 (iblk m c 0 t) (iblk m c 1 t) (iblk m c 2 t) := by dsimp only [dats]
theorem after0_22 (c : Dev nD) (t : Fin cfg0.N) : (dats m 0 c).after 22 t = out0_22 (iblk m c 0 t) (iblk m c 1 t) (iblk m c 2 t) := by dsimp only [dats]
theorem after0_23 (c : Dev nD) (t : Fin cfg0.N) : (dats m 0 c).after 23 t = out0_23 (iblk m c 0 t) (iblk m c 1 t) (iblk m c 2 t) (iblk m c 5 t) (iblk m c 6 t) (iblk m c 7 t) (iblk m c 9 t) (iblk m c 10 t) := by dsimp only [dats]
theorem after0_24 (c : Dev nD) (t : Fin cfg0.N) : (dats m 0 c).after 24 t = out0_24 (iblk m c 0 t) (iblk m c 1 t) (iblk m c 2 t) := by dsimp only [dats]
theorem after0_25 (c : Dev nD) (t : Fin cfg0.N) : (dats m 0 c).after 25 t = out0_25 (iblk m c 0 t) (iblk m c 1 t) (iblk m c 2 t) (iblk m c 5 t) (iblk m c 6 t) (iblk m c 7 t) := by dsimp only [dats]
theorem after0_26 (c : Dev nD) (t : Fin cfg0.N) : (dats m 0 c).after 26 t = out0_26 (iblk m c 0 t) (iblk m c 1 t) (iblk m c 2 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)

/-- Before a visit: every window's block at what it holds. -/
def bodyPre (c : Dev nD) (t : Fin cfg0.N) : sProp 𝕄 :=
  iprop((dats m 0 c).Φ t.castSucc ∗ (dats m 0 c).owesAt () t.castSucc
    ∗ bigSep Finset.univ fun w : Fin 27 => iprop(∃ d, owns (c : Thread nD τ) ((cfg0.win w).stage (cfg0.slots t w)) fullShare ((dats m 0 c).before w t d)))

/-- After it: every window's block at what the body leaves. -/
def bodyPost (c : Dev nD) (t : Fin cfg0.N) : sProp 𝕄 :=
  iprop((dats m 0 c).Φ t.succ ∗ (dats m 0 c).owesAt () t.succ
    ∗ bigSep Finset.univ fun w : Fin 27 => owns (c : Thread nD τ) ((cfg0.win w).stage (cfg0.slots t w)) fullShare ((dats m 0 c).after w t))

set_option maxHeartbeats 400000 in
/-- The body of one visit, from the blocks of its windows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bigSep_W0, before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have h := sound_body m c t
  unfold bodyPre bodyPost at h
  rw [bigSep_W0, bigSep_W0] at h
  rw [bigSep_W0, bigSep_W0, defs₀_row]
  exact triple_restated h rfl .rfl fun _ => .rfl
set_option backward.isDefEq.respectTransparency.types false in
set_option maxHeartbeats 800000 in

theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Projecting

end
-- ==== Proof.ProjSpec.lean ====
module

public import Idealize.ShloMosaic.Lib.Pointwise
public import Idealize.ShloMosaic.Lib.Pipeline.ValueKit
public import Idealize.ShloMosaic.PureOps.Ideal.Laws

@[expose] public section

set_option maxRecDepth 16384

noncomputable section

namespace Cert.Projecting

open Idealize.ShloMosaic Idealize.ShloMosaic.TcCoe Idealize.SL.Sem

/-- A row of numbers read at any number: zero past its end. -/
def lanes {n : ℕ} (f : Fin n → EReal) (l : ℕ) : EReal := if h : l < n then f ⟨l, h⟩ else 0

theorem lanes_lt {n : ℕ} (f : Fin n → EReal) (l : ℕ) (h : l < n) : lanes f l = f ⟨l, h⟩ := dif_pos h

theorem lanes_val {n : ℕ} (f : Fin n → EReal) (l : Fin n) : lanes f l.val = f l := dif_pos l.isLt

/-- One position's stream, normalised and scaled by its gain. -/
def normed (x g : Fin 1024 → EReal) (k : Fin 1024) : EReal :=
  x k * Ideal.rsqrt (Ideal.div (∑ j, x j * x j) (Ideal.ofBits FTy.f32 1149239296#32) + Ideal.ofBits FTy.f32 897988541#32) * g k

/-- One position's projection, column by column. -/
def proj (x g : Fin 1024 → EReal) (w : Fin 1024 → Fin 5700 → EReal) : ℕ → EReal :=
  lanes fun e => ∑ k, normed x g k * w k e

/-- The angle of a position and a frequency of the retention's heads. -/
def angR (t j : ℕ) : EReal :=
  FloatOps.sitofp (F := Ideal) FTy.f32 (BitVec.ofNat 32 t)
    * Ideal.exp (Ideal.div (Ideal.ofBits FTy.f32 3239271822#32 * FloatOps.sitofp (F := Ideal) FTy.f32 (BitVec.ofNat 32 j)) (Ideal.ofBits FTy.f32 1115684864#32))

/-- The angle of a position and a frequency of the attention's heads. -/
def angA (t j : ℕ) : EReal :=
  FloatOps.sitofp (F := Ideal) FTy.f32 (BitVec.ofNat 32 t)
    * Ideal.exp (Ideal.div (Ideal.ofBits FTy.f32 3243373875#32 * FloatOps.sitofp (F := Ideal) FTy.f32 (BitVec.ofNat 32 j)) (Ideal.ofBits FTy.f32 1090519040#32))

/-- A head of 128 lanes turned by its position's angles. -/
def turnR (t : ℕ) (z : ℕ → EReal) (l : ℕ) : EReal :=
  if l < 64 then z l * Ideal.cos (angR t l) - z (64 + l) * Ideal.sin (angR t l)
  else z l * Ideal.cos (angR t (l - 64)) + z (l - 64) * Ideal.sin (angR t (l - 64))

/-- A head of 64 lanes, of which the first sixteen are turned by its position's angles. -/
def turnA (t : ℕ) (z : ℕ → EReal) (l : ℕ) : EReal :=
  if l < 8 then z l * Ideal.cos (angA t l) - z (8 + l) * Ideal.sin (angA t l)
  else if l < 16 then z l * Ideal.cos (angA t (l - 8)) + z (l - 8) * Ideal.sin (angA t (l - 8))
  else z l

/-- A head of 64 lanes, normalised and scaled by its gain. -/
def headNorm (q z : ℕ → EReal) (l : ℕ) : EReal :=
  z l * Ideal.rsqrt (Ideal.div (∑ x : Fin 64, z x.val * z x.val) (Ideal.ofBits FTy.f32 1115684864#32) + Ideal.ofBits FTy.f32 897988541#32) * q l

/-- 128 lanes turned by two tables. -/
def rollR (c s z : ℕ → EReal) (k : ℕ) : EReal := z k * c k + z ((k + 128 - 64) % 128) * s k

/-- 128 lanes turned by three tables. -/
def rollA (a b c z : ℕ → EReal) (k : ℕ) : EReal := z k * a k + z ((k + 128 - 120) % 128) * b k + z ((k + 128 - 8) % 128) * c k

/-- 128 lanes normalised group by group. -/
def groupNorm (s : Fin 128 → ℕ → EReal) (q z : ℕ → EReal) (k : ℕ) : EReal :=
  z k * Ideal.rsqrt ((∑ x : Fin 128, z x.val * z x.val * s x k + ∑ x : Fin 128, (z x.val * z x.val - z x.val * z x.val) * s x k)
    * Ideal.ofBits FTy.f32 1015021568#32 + Ideal.ofBits FTy.f32 897988541#32) * q k

theorem rollR_eq (t : ℕ) (c s z : ℕ → EReal) (k : ℕ) (hk : k < 128) (hc : c k = Ideal.cos (angR t (k % 64)))
    (hs : s k = if k < 64 then -Ideal.sin (angR t (k % 64)) else Ideal.sin (angR t (k % 64))) : rollR c s z k = turnR t z k := by
  unfold rollR turnR
  rw [hc, hs]
  by_cases h : k < 64
  · rw [if_pos h, if_pos h, show (k + 128 - 64) % 128 = 64 + k by omega, show k % 64 = k by omega, mul_neg, sub_eq_add_neg]
  · rw [if_neg h, if_neg h, show (k + 128 - 64) % 128 = k - 64 by omega, show k % 64 = k - 64 by omega]

theorem rollA_eq (t : ℕ) (a b c z : ℕ → EReal) (k : ℕ) (hk : k < 128)
    (ha : a k = if k % 64 < 16 then Ideal.cos (angA t (k % 8)) else 1)
    (hb : b k = if k % 64 < 8 then -Ideal.sin (angA t (k % 8)) else 0)
    (hc : c k = if 8 ≤ k % 64 ∧ k % 64 < 16 then Ideal.sin (angA t (k % 8)) else 0) :
    rollA a b c z k = turnA t (fun l => z (k / 64 * 64 + l)) (k % 64) := by
  unfold rollA turnA
  beta_reduce
  rw [ha, hb, hc, show k / 64 * 64 + k % 64 = k by omega]
  by_cases h : k % 64 < 8
  · rw [if_pos h, if_pos h, if_pos (by omega), if_neg (by omega), show (k + 128 - 120) % 128 = k / 64 * 64 + (8 + k % 64) by omega,
      show k % 8 = k % 64 by omega, mul_neg, sub_eq_add_neg, mul_zero, add_zero]
  · by_cases h' : k % 64 < 16
    · rw [if_neg h, if_neg h, if_pos h', if_pos h', if_pos ⟨by omega, h'⟩, show (k + 128 - 8) % 128 = k / 64 * 64 + (k % 64 - 8) by omega,
        show k % 8 = k % 64 - 8 by omega, mul_zero, add_zero]
    · rw [if_neg h, if_neg h, if_neg h', if_neg h', if_neg (by omega), mul_zero, mul_zero, add_zero, add_zero, mul_one]

theorem lit_64 : Ideal.ofBits FTy.f32 1115684864#32 = ((64 : ℝ) : EReal) := by
  simp [Ideal.ofBits, Ideal.ieee, -EReal.coe_mul]; norm_num

theorem lit_64th : Ideal.ofBits FTy.f32 1015021568#32 = ((1 / 64 : ℝ) : EReal) := by
  simp [Ideal.ofBits, Ideal.ieee, -EReal.coe_mul]; norm_num

theorem sub_self_of_real (x : EReal) (h : x ≠ ⊤ ∧ x ≠ ⊥) : x * x - x * x = 0 := by
  induction x using EReal.rec with
  | bot => exact absurd rfl h.2
  | top => exact absurd rfl h.1
  | coe r => rw [← EReal.coe_mul, ← EReal.coe_sub, sub_self]; rfl

/-- A sum over 128 lanes that keeps one group of 64. -/
theorem sum_group (f : ℕ → EReal) (s : Fin 128 → ℕ → EReal) (k : ℕ) (hk : k < 128)
    (hs : ∀ x : Fin 128, s x k = if x.val / 64 = k / 64 then 1 else 0) :
    ∑ x : Fin 128, f x.val * s x k = ∑ l : Fin 64, f (k / 64 * 64 + l.val) := by
  have e : ∀ x : Fin 128, f x.val * s x k = if x.val / 64 = k / 64 then f x.val else 0 := fun x => by
    rw [hs x]; by_cases h : x.val / 64 = k / 64
    · rw [if_pos h, if_pos h, mul_one]
    · rw [if_neg h, if_neg h, mul_zero]
  rw [Finset.sum_congr rfl fun x _ => e x]
  refine (Fin.sum_univ_add (a := 64) (b := 64) fun x : Fin 128 => if x.val / 64 = k / 64 then f x.val else 0).trans ?_
  rcases (by omega : k / 64 = 0 ∨ k / 64 = 1) with h | h <;> rw [h]
  · refine (congrArg₂ (· + ·) (Finset.sum_congr rfl fun (x : Fin 64) _ => if_pos (show x.val / 64 = 0 by omega))
      (Finset.sum_congr rfl fun (x : Fin 64) _ => if_neg (show ¬ (64 + x.val) / 64 = 0 by omega))).trans ?_
    rw [Finset.sum_const_zero, add_zero]
    exact Finset.sum_congr rfl fun x _ => congrArg f (by show x.val = 0 * 64 + x.val; omega)
  · refine (congrArg₂ (· + ·) (Finset.sum_congr rfl fun (x : Fin 64) _ => if_neg (show ¬ x.val / 64 = 1 by omega))
      (Finset.sum_congr rfl fun (x : Fin 64) _ => if_pos (show (64 + x.val) / 64 = 1 by omega))).trans ?_
    rw [Finset.sum_const_zero, zero_add]
    exact Finset.sum_congr rfl fun x _ => congrArg f (by show 64 + x.val = 1 * 64 + x.val; omega)

theorem groupNorm_eq (s : Fin 128 → ℕ → EReal) (q z : ℕ → EReal) (k : ℕ) (hk : k < 128)
    (hs : ∀ x : Fin 128, s x k = if x.val / 64 = k / 64 then 1 else 0) (hz : ∀ l, l < 128 → z l ≠ ⊤ ∧ z l ≠ ⊥) (q' : ℕ → EReal) (hq : q k = q' (k % 64)) :
    groupNorm s q z k = headNorm q' (fun l => z (k / 64 * 64 + l)) (k % 64) := by
  unfold groupNorm headNorm
  beta_reduce
  rw [sum_group (fun x => z x * z x) s k hk hs,
    Finset.sum_congr rfl fun (x : Fin 128) _ => (congrArg (· * s x k) (sub_self_of_real _ (hz x.val x.isLt))).trans (zero_mul _),
    Finset.sum_const_zero, add_zero, lit_64, Ideal.div_coe (by norm_num), lit_64th, hq, show k / 64 * 64 + k % 64 = k by omega]

theorem sitofp_zero : FloatOps.sitofp (F := Ideal) FTy.f32 (0#32) = (0 : EReal) := by
  show (((0#32 : BitVec 32).toInt : ℝ) : EReal) = 0
  simp

theorem turnA_congr (t : ℕ) (z z' : ℕ → EReal) (l : ℕ) (hl : l < 64) (h : ∀ l < 64, z l = z' l) : turnA t z l = turnA t z' l := by
  unfold turnA
  rw [h l hl]
  by_cases h0 : l < 8
  · rw [if_pos h0, if_pos h0, h (8 + l) (by omega)]
  · by_cases h1 : l < 16
    · rw [if_neg h0, if_neg h0, if_pos h1, if_pos h1, h (l - 8) (by omega)]
    · rw [if_neg h0, if_neg h0, if_neg h1, if_neg h1]

theorem turnR_congr (t : ℕ) (z z' : ℕ → EReal) (l : ℕ) (hl : l < 128) (h : ∀ l < 128, z l = z' l) : turnR t z l = turnR t z' l := by
  unfold turnR
  rw [h l hl]
  by_cases h0 : l < 64
  · rw [if_pos h0, if_pos h0, h (64 + l) (by omega)]
  · rw [if_neg h0, if_neg h0, h (l - 64) (by omega)]

theorem headNorm_congr (q z z' : ℕ → EReal) (l : ℕ) (hl : l < 64) (h : ∀ l < 64, z l = z' l) : headNorm q z l = headNorm q z' l := by
  unfold headNorm
  rw [h l hl, Finset.sum_congr rfl fun (x : Fin 64) _ => by rw [h x.val x.isLt]]

/-- A real value. -/
def IsReal (a : EReal) : Prop := a ≠ ⊤ ∧ a ≠ ⊥

theorem IsReal.coe (r : ℝ) : IsReal (r : EReal) := ⟨EReal.coe_ne_top r, EReal.coe_ne_bot r⟩

theorem IsReal.ex {a : EReal} (h : IsReal a) : ∃ r : ℝ, a = r := ⟨a.toReal, (EReal.coe_toReal h.1 h.2).symm⟩

theorem IsReal.mul {a b : EReal} (ha : IsReal a) (hb : IsReal b) : IsReal (a * b) := by
  obtain ⟨r, rfl⟩ := ha.ex; obtain ⟨s, rfl⟩ := hb.ex
  rw [← EReal.coe_mul]; exact IsReal.coe _

theorem IsReal.sum {n : ℕ} (f : Fin n → EReal) (h : ∀ i, IsReal (f i)) : IsReal (∑ i, f i) := by
  have e : ∀ i, f i = ((f i).toReal : EReal) := fun i => (EReal.coe_toReal (h i).1 (h i).2).symm
  rw [Finset.sum_congr rfl fun i _ => e i]
  have : (∑ i, ((f i).toReal : EReal)) = ((∑ i, (f i).toReal : ℝ) : EReal) := (map_sum (⟨⟨fun r : ℝ => (r : EReal), EReal.coe_zero⟩, EReal.coe_add⟩ : ℝ →+ EReal) _ _).symm
  rw [this]; exact IsReal.coe _

theorem lit_1024 : Ideal.ofBits FTy.f32 1149239296#32 = ((1024 : ℝ) : EReal) := by
  simp [Ideal.ofBits, Ideal.ieee, -EReal.coe_mul]; norm_num

theorem lit_eps : ∃ r : ℝ, 0 < r ∧ Ideal.ofBits FTy.f32 897988541#32 = (r : EReal) := by
  refine ⟨(8796093 / 8796093022208 : ℝ), by norm_num, ?_⟩
  simp [Ideal.ofBits, Ideal.ieee, -EReal.coe_mul]; norm_num

theorem square_nonneg (a : EReal) : 0 ≤ a * a := by
  induction a using EReal.rec with
  | bot => simp
  | top => simp
  | coe r => rw [← EReal.coe_mul]; exact EReal.coe_nonneg.mpr (mul_self_nonneg r)

theorem rsqrt_real (r : ℝ) (h : 0 < r) : IsReal (Ideal.rsqrt (r : EReal)) := by
  have e : Ideal.rsqrt (r : EReal) = if r < 0 then ⊥ else if r = 0 then ⊤ else (((Real.sqrt r)⁻¹ : ℝ) : EReal) := rfl
  rw [e, if_neg (not_lt.mpr h.le), if_neg h.ne']
  exact IsReal.coe _

/-- A normalised stream is real whatever the stream is: an infinite one has an infinite mean, and its scale is zero. -/
theorem normed_real (x g : Fin 1024 → EReal) (k : Fin 1024) (hg : IsReal (g k)) : IsReal (normed x g k) := by
  unfold normed
  refine IsReal.mul ?_ hg
  obtain ⟨ε, hε, eε⟩ := lit_eps
  rw [lit_1024, Ideal.div_coe (by norm_num), eε]
  by_cases hx : ∀ i, IsReal (x i)
  · refine IsReal.mul (hx k) ?_
    choose y hy using fun i => (hx i).ex
    have hS : ∑ j, x j * x j = ((∑ j, y j * y j : ℝ) : EReal) := by
      rw [Finset.sum_congr rfl fun j _ => by rw [hy j, ← EReal.coe_mul]]
      exact (map_sum (⟨⟨fun r : ℝ => (r : EReal), EReal.coe_zero⟩, EReal.coe_add⟩ : ℝ →+ EReal) _ _).symm
    rw [hS, ← EReal.coe_mul, ← EReal.coe_add]
    refine rsqrt_real _ (add_pos_of_nonneg_of_pos (mul_nonneg (Finset.sum_nonneg fun j _ => mul_self_nonneg (y j)) (by norm_num)) hε)
  · have ⟨i, hi⟩ := not_forall.mp hx
    have ht : x i * x i = ⊤ := by
      by_cases h1 : x i = ⊤
      · rw [h1]; simp
      · by_cases h2 : x i = ⊥
        · rw [h2]; simp
        · exact absurd ⟨h1, h2⟩ hi
    have hS : ∑ j, x j * x j = ⊤ := top_le_iff.mp (ht ▸ Finset.single_le_sum (fun j _ => square_nonneg (x j)) (Finset.mem_univ i))
    rw [hS, EReal.top_mul_coe_of_pos (by norm_num), EReal.top_add_coe]
    show IsReal (x k * 0)
    rw [mul_zero]
    exact IsReal.coe 0

theorem proj_real (x g : Fin 1024 → EReal) (w : Fin 1024 → Fin 5700 → EReal) (e : ℕ) (he : e < 5700) (hg : ∀ k, IsReal (g k))
    (hw : ∀ k, IsReal (w k ⟨e, he⟩)) : IsReal (proj x g w e) := by
  unfold proj
  rw [lanes_lt _ e he]
  exact IsReal.sum _ fun k => (normed_real x g k (hg k)).mul (hw k)

end Cert.Projecting

end
end
-- ==== Proof.ProjOut.lean ====
module

public import proofs.«01_k».proof.Proof.ProjIdealFrame
public import proofs.«01_k».proof.Proof.ProjSpec

@[expose] public section

set_option maxRecDepth 16384

noncomputable section

namespace Cert.Projecting

open Idealize.ShloMosaic Idealize.ShloMosaic.TcCoe Idealize.SL.Sem

open Cert.InprojIdeal Cert.InprojIdeal.Gen

variable (x0 : Vec Ideal S512x1024 .f32) (x1 : Vec Ideal S1x1024 .f32) (x2 : Vec Ideal S5888x1024 .bf16)
  (x3 x4 x5 x6 x7 : Vec Ideal S512x128 .f32) (x8 x9 : Vec Ideal S1x128 .f32) (x10 : Vec Ideal S128x128 .bf16)

/-- A row of a block projected to the packed columns. -/
def packed (i : Fin 512) : ℕ → EReal :=
  lanes fun r : Fin 5888 => ∑ k, normed (fun k => x0 (ix2 i k)) (fun k => x1 (ix2 0 k)) k * x2 (ix2 r k)

/-- A row of a block of a table. -/
def tab (a : Vec Ideal S512x128 .f32) (i : Fin 512) : ℕ → EReal := lanes fun k : Fin 128 => a (ix2 i k)

/-- The mask of the groups of lanes. -/
def mask (x : Fin 128) : ℕ → EReal := lanes fun k : Fin 128 => x10 (ix2 x k)

/-- A gain's row. -/
def gain (a : Vec Ideal S1x128 .f32) : ℕ → EReal := lanes fun k : Fin 128 => a (ix2 0 k)

theorem emb_5 (i : Fin 512) (k : Fin 128) : r0_5.emb (ix2 i k) = ix2 i (⟨k.val, by omega⟩ : Fin 512) := by
  funext a; apply Fin.ext
  match a with
  | ⟨0, _⟩ => show 0 + 1 * i.val = i.val; omega
  | ⟨1, _⟩ => show 0 + 1 * k.val = k.val; omega

theorem emb_6 (i : Fin 512) (k : Fin 128) : r0_6.emb (ix2 i k) = ix2 i (⟨128 + k.val, by omega⟩ : Fin 512) := by
  funext a; apply Fin.ext
  match a with
  | ⟨0, _⟩ => show 0 + 1 * i.val = i.val; omega
  | ⟨1, _⟩ => show 128 + 1 * k.val = 128 + k.val; omega

theorem emb_7 (i : Fin 512) (k : Fin 128) : r0_7.emb (ix2 i k) = ix2 i (⟨256 + k.val, by omega⟩ : Fin 512) := by
  funext a; apply Fin.ext
  match a with
  | ⟨0, _⟩ => show 0 + 1 * i.val = i.val; omega
  | ⟨1, _⟩ => show 256 + 1 * k.val = 256 + k.val; omega

theorem emb_8 (i : Fin 512) (k : Fin 128) : r0_8.emb (ix2 i k) = ix2 i (⟨384 + k.val, by omega⟩ : Fin 512) := by
  funext a; apply Fin.ext
  match a with
  | ⟨0, _⟩ => show 0 + 1 * i.val = i.val; omega
  | ⟨1, _⟩ => show 384 + 1 * k.val = 384 + k.val; omega

theorem emb_11 (i : Fin 512) (k : Fin 512) : r0_11.emb (ix2 i k) = ix2 i (k : Fin 512) := by
  funext a; apply Fin.ext
  match a with
  | ⟨0, _⟩ => show 0 + 1 * i.val = i.val; omega
  | ⟨1, _⟩ => show 0 + 1 * k.val = k.val; omega

theorem emb_2 (i : Fin 512) (k : Fin 128) : r0_2.emb (ix2 i k) = ix2 i (k : Fin 128) := by
  funext a; apply Fin.ext
  match a with
  | ⟨0, _⟩ => show 0 + 1 * i.val = i.val; omega
  | ⟨1, _⟩ => show 0 + 1 * k.val = k.val; omega

theorem emb_17 (i : Fin 144) (k : Fin 512) : r0_17.emb (ix2 i k) = ix2 i (k : Fin 512) := by
  funext a; apply Fin.ext
  match a with
  | ⟨0, _⟩ => show 0 + 1 * i.val = i.val; omega
  | ⟨1, _⟩ => show 0 + 1 * k.val = k.val; omega

theorem emb_19 (i : Fin 512) (k : Fin 128) : r0_19.emb (ix2 i k) = ix2 i (⟨k.val, by omega⟩ : Fin 256) := by
  funext a; apply Fin.ext
  match a with
  | ⟨0, _⟩ => show 0 + 1 * i.val = i.val; omega
  | ⟨1, _⟩ => show 0 + 1 * k.val = k.val; omega

theorem emb_20 (i : Fin 512) (k : Fin 128) : r0_20.emb (ix2 i k) = ix2 i (⟨128 + k.val, by omega⟩ : Fin 256) := by
  funext a; apply Fin.ext
  match a with
  | ⟨0, _⟩ => show 0 + 1 * i.val = i.val; omega
  | ⟨1, _⟩ => show 128 + 1 * k.val = 128 + k.val; omega

theorem emb_21 (i : Fin 512) (k : Fin 64) : r0_21.emb (ix2 i k) = ix2 i (k : Fin 64) := by
  funext a; apply Fin.ext
  match a with
  | ⟨0, _⟩ => show 0 + 1 * i.val = i.val; omega
  | ⟨1, _⟩ => show 0 + 1 * k.val = k.val; omega

theorem emb_0 (i : Fin 512) (k : Fin 1024) : r0_0.emb (ix2 i k) = ix2 i (k : Fin 1024) := by
  funext a; apply Fin.ext
  match a with
  | ⟨0, _⟩ => show 0 + 1 * i.val = i.val; omega
  | ⟨1, _⟩ => show 0 + 1 * k.val = k.val; omega

theorem out11 (i : Fin 512) (e : Fin 512) : out0_11 x0 x1 x2 x3 x4 (ix2 i e)
    = rollR (tab x3 i) (tab x4 i) (fun l => packed x0 x1 x2 i (e.val / 128 * 128 + l)) (e.val % 128) := by
  unfold out0_11
  refine View.canon_apply_of_pieces (Val := Elt Ideal) (S := S512x512) (e := .bf16) (fun y => rollR (tab x3 (y 0)) (tab x4 (y 0)) (fun l => packed x0 x1 x2 (y 0) ((y 1).val / 128 * 128 + l)) ((y 1).val % 128)) _ ?_ _ (cover0_11 _ _ _ _ _)
  intro p hp x
  simp only [List.mem_cons, List.not_mem_nil, or_false] at hp
  rcases hp with rfl | rfl | rfl | rfl
  · obtain ⟨i, k, rfl⟩ : ∃ i k, x = ix2 (i : Fin 512) (k : Fin 128) := ⟨_, _, ValueIdx.eq_ix2 x⟩
    dsimp only
    rw [emb_8]
    show _ = rollR (tab x3 i) (tab x4 i) (fun l => packed x0 x1 x2 i ((384 + k.val) / 128 * 128 + l)) ((384 + k.val) % 128)
    rw [show (384 + k.val) / 128 * 128 = 384 by omega, show (384 + k.val) % 128 = k.val by omega]
    unfold rollR tab packed
    simp (disch := omega) only [lanes_lt]
    pointwise [k0_pay16, k0_pay58, k0_pay59, k0_pay3, k0_pay4, k0_pay64, k0_pay9, k0_pay57, k0_pay2]
    rfl
  · obtain ⟨i, k, rfl⟩ : ∃ i k, x = ix2 (i : Fin 512) (k : Fin 128) := ⟨_, _, ValueIdx.eq_ix2 x⟩
    dsimp only
    rw [emb_7]
    show _ = rollR (tab x3 i) (tab x4 i) (fun l => packed x0 x1 x2 i ((256 + k.val) / 128 * 128 + l)) ((256 + k.val) % 128)
    rw [show (256 + k.val) / 128 * 128 = 256 by omega, show (256 + k.val) % 128 = k.val by omega]
    unfold rollR tab packed
    simp (disch := omega) only [lanes_lt]
    pointwise [k0_pay15, k0_pay58, k0_pay59, k0_pay3, k0_pay4, k0_pay64, k0_pay9, k0_pay57, k0_pay2]
    rfl
  · obtain ⟨i, k, rfl⟩ : ∃ i k, x = ix2 (i : Fin 512) (k : Fin 128) := ⟨_, _, ValueIdx.eq_ix2 x⟩
    dsimp only
    rw [emb_6]
    show _ = rollR (tab x3 i) (tab x4 i) (fun l => packed x0 x1 x2 i ((128 + k.val) / 128 * 128 + l)) ((128 + k.val) % 128)
    rw [show (128 + k.val) / 128 * 128 = 128 by omega, show (128 + k.val) % 128 = k.val by omega]
    unfold rollR tab packed
    simp (disch := omega) only [lanes_lt]
    pointwise [k0_pay14, k0_pay58, k0_pay59, k0_pay3, k0_pay4, k0_pay64, k0_pay9, k0_pay57, k0_pay2]
    rfl
  · obtain ⟨i, k, rfl⟩ : ∃ i k, x = ix2 (i : Fin 512) (k : Fin 128) := ⟨_, _, ValueIdx.eq_ix2 x⟩
    dsimp only
    rw [emb_5]
    show _ = rollR (tab x3 i) (tab x4 i) (fun l => packed x0 x1 x2 i (k.val / 128 * 128 + l)) (k.val % 128)
    rw [show k.val / 128 * 128 = 0 by omega, show k.val % 128 = k.val by omega]
    simp only [Nat.zero_add]
    unfold rollR tab packed
    simp (disch := omega) only [lanes_lt]
    pointwise [k0_pay13, k0_pay11, k0_pay12, k0_pay10, k0_pay58, k0_pay59, k0_pay3, k0_pay4, k0_pay64, k0_pay9, k0_pay57, k0_pay2]
    rfl

theorem out12 (i : Fin 512) (e : Fin 512) : out0_12 x0 x1 x2 x3 x4 (ix2 i e)
    = rollR (tab x3 i) (tab x4 i) (fun l => packed x0 x1 x2 i (512 + (e.val / 128 * 128 + l))) (e.val % 128) * Ideal.ofBits FTy.f32 1035273459#32 := by
  unfold out0_12
  refine View.canon_apply_of_pieces (Val := Elt Ideal) (S := S512x512) (e := .bf16) (fun y => rollR (tab x3 (y 0)) (tab x4 (y 0)) (fun l => packed x0 x1 x2 (y 0) (512 + ((y 1).val / 128 * 128 + l))) ((y 1).val % 128) * Ideal.ofBits FTy.f32 1035273459#32) _ ?_ _ (cover0_11 _ _ _ _ _)
  intro p hp x
  simp only [List.mem_cons, List.not_mem_nil, or_false] at hp
  rcases hp with rfl | rfl | rfl | rfl
  · obtain ⟨i, k, rfl⟩ : ∃ i k, x = ix2 (i : Fin 512) (k : Fin 128) := ⟨_, _, ValueIdx.eq_ix2 x⟩
    dsimp only
    rw [emb_8]
    show _ = rollR (tab x3 i) (tab x4 i) (fun l => packed x0 x1 x2 i (512 + ((384 + k.val) / 128 * 128 + l))) ((384 + k.val) % 128) * Ideal.ofBits FTy.f32 1035273459#32
    rw [show (384 + k.val) / 128 * 128 = 384 by omega, show (384 + k.val) % 128 = k.val by omega]
    unfold rollR tab packed
    simp (disch := omega) only [lanes_lt]
    pointwise [k0_pay22, k0_pay58, k0_pay59, k0_pay3, k0_pay4, k0_pay65, k0_pay17, k0_pay57, k0_pay2]
    rfl
  · obtain ⟨i, k, rfl⟩ : ∃ i k, x = ix2 (i : Fin 512) (k : Fin 128) := ⟨_, _, ValueIdx.eq_ix2 x⟩
    dsimp only
    rw [emb_7]
    show _ = rollR (tab x3 i) (tab x4 i) (fun l => packed x0 x1 x2 i (512 + ((256 + k.val) / 128 * 128 + l))) ((256 + k.val) % 128) * Ideal.ofBits FTy.f32 1035273459#32
    rw [show (256 + k.val) / 128 * 128 = 256 by omega, show (256 + k.val) % 128 = k.val by omega]
    unfold rollR tab packed
    simp (disch := omega) only [lanes_lt]
    pointwise [k0_pay21, k0_pay58, k0_pay59, k0_pay3, k0_pay4, k0_pay65, k0_pay17, k0_pay57, k0_pay2]
    rfl
  · obtain ⟨i, k, rfl⟩ : ∃ i k, x = ix2 (i : Fin 512) (k : Fin 128) := ⟨_, _, ValueIdx.eq_ix2 x⟩
    dsimp only
    rw [emb_6]
    show _ = rollR (tab x3 i) (tab x4 i) (fun l => packed x0 x1 x2 i (512 + ((128 + k.val) / 128 * 128 + l))) ((128 + k.val) % 128) * Ideal.ofBits FTy.f32 1035273459#32
    rw [show (128 + k.val) / 128 * 128 = 128 by omega, show (128 + k.val) % 128 = k.val by omega]
    unfold rollR tab packed
    simp (disch := omega) only [lanes_lt]
    pointwise [k0_pay20, k0_pay19, k0_pay58, k0_pay59, k0_pay3, k0_pay4, k0_pay65, k0_pay17, k0_pay57, k0_pay2]
    rfl
  · obtain ⟨i, k, rfl⟩ : ∃ i k, x = ix2 (i : Fin 512) (k : Fin 128) := ⟨_, _, ValueIdx.eq_ix2 x⟩
    dsimp only
    rw [emb_5]
    show _ = rollR (tab x3 i) (tab x4 i) (fun l => packed x0 x1 x2 i (512 + (k.val / 128 * 128 + l))) (k.val % 128) * Ideal.ofBits FTy.f32 1035273459#32
    rw [show k.val / 128 * 128 = 0 by omega, show k.val % 128 = k.val by omega]
    simp only [Nat.zero_add]
    unfold rollR tab packed
    simp (disch := omega) only [lanes_lt]
    pointwise [k0_pay18, k0_pay58, k0_pay59, k0_pay3, k0_pay4, k0_pay65, k0_pay17, k0_pay57, k0_pay2]
    rfl

theorem out13 (i : Fin 512) (e : Fin 512) : out0_13 x0 x1 x2 (ix2 i e)
    = packed x0 x1 x2 i (1024 + e.val) := by
  unfold out0_13
  refine View.canon_apply_of_pieces (Val := Elt Ideal) (S := S512x512) (e := .bf16) (fun y => packed x0 x1 x2 (y 0) (1024 + (y 1).val)) _ ?_ _ (cover0_13 _ _)
  intro p hp x
  simp only [List.mem_cons, List.not_mem_nil, or_false] at hp
  obtain rfl := hp
  obtain ⟨i, k, rfl⟩ : ∃ i k, x = ix2 (i : Fin 512) (k : Fin 512) := ⟨_, _, ValueIdx.eq_ix2 x⟩
  dsimp only
  rw [emb_11]
  show _ = packed x0 x1 x2 i (1024 + k.val)
  unfold packed
  simp (disch := omega) only [lanes_lt]
  pointwise [k0_pay23, k0_pay57, k0_pay2]
  rfl

theorem out14 (i : Fin 512) (e : Fin 512) : out0_14 x0 x1 x2 (ix2 i e)
    = packed x0 x1 x2 i (1536 + e.val) := by
  unfold out0_14
  refine View.canon_apply_of_pieces (Val := Elt Ideal) (S := S512x512) (e := .bf16) (fun y => packed x0 x1 x2 (y 0) (1536 + (y 1).val)) _ ?_ _ (cover0_13 _ _)
  intro p hp x
  simp only [List.mem_cons, List.not_mem_nil, or_false] at hp
  obtain rfl := hp
  obtain ⟨i, k, rfl⟩ : ∃ i k, x = ix2 (i : Fin 512) (k : Fin 512) := ⟨_, _, ValueIdx.eq_ix2 x⟩
  dsimp only
  rw [emb_11]
  show _ = packed x0 x1 x2 i (1536 + k.val)
  unfold packed
  simp (disch := omega) only [lanes_lt]
  pointwise [k0_pay24, k0_pay57, k0_pay2]
  rfl

theorem out15 (i : Fin 512) (e : Fin 512) : out0_15 x0 x1 x2 x5 x6 x7 x8 x10 (ix2 i e)
    = rollA (tab x5 i) (tab x6 i) (tab x7 i) (groupNorm (mask x10) (gain x8) (fun l => packed x0 x1 x2 i (2048 + (e.val / 128 * 128 + l)))) (e.val % 128) := by
  unfold out0_15
  refine View.canon_apply_of_pieces (Val := Elt Ideal) (S := S512x512) (e := .bf16) (fun y => rollA (tab x5 (y 0)) (tab x6 (y 0)) (tab x7 (y 0)) (groupNorm (mask x10) (gain x8) (fun l => packed x0 x1 x2 (y 0) (2048 + ((y 1).val / 128 * 128 + l)))) ((y 1).val % 128)) _ ?_ _ (cover0_11 _ _ _ _ _)
  intro p hp x
  simp only [List.mem_cons, List.not_mem_nil, or_false] at hp
  rcases hp with rfl | rfl | rfl | rfl
  · obtain ⟨i, k, rfl⟩ : ∃ i k, x = ix2 (i : Fin 512) (k : Fin 128) := ⟨_, _, ValueIdx.eq_ix2 x⟩
    dsimp only
    rw [emb_8]
    show _ = rollA (tab x5 i) (tab x6 i) (tab x7 i) (groupNorm (mask x10) (gain x8) (fun l => packed x0 x1 x2 i (2048 + ((384 + k.val) / 128 * 128 + l)))) ((384 + k.val) % 128)
    rw [show (384 + k.val) / 128 * 128 = 384 by omega, show (384 + k.val) % 128 = k.val by omega]
    unfold groupNorm rollA mask gain tab packed
    simp (disch := omega) only [lanes_lt]
    pointwise [k0_pay36, k0_pay60, k0_pay61, k0_pay62, k0_pay63, k0_pay5, k0_pay6, k0_pay7, k0_pay8, k0_pay66, k0_pay25, k0_pay68, k0_pay27, k0_pay57, k0_pay2]
    rfl
  · obtain ⟨i, k, rfl⟩ : ∃ i k, x = ix2 (i : Fin 512) (k : Fin 128) := ⟨_, _, ValueIdx.eq_ix2 x⟩
    dsimp only
    rw [emb_7]
    show _ = rollA (tab x5 i) (tab x6 i) (tab x7 i) (groupNorm (mask x10) (gain x8) (fun l => packed x0 x1 x2 i (2048 + ((256 + k.val) / 128 * 128 + l)))) ((256 + k.val) % 128)
    rw [show (256 + k.val) / 128 * 128 = 256 by omega, show (256 + k.val) % 128 = k.val by omega]
    unfold groupNorm rollA mask gain tab packed
    simp (disch := omega) only [lanes_lt]
    pointwise [k0_pay35, k0_pay60, k0_pay61, k0_pay62, k0_pay63, k0_pay5, k0_pay6, k0_pay7, k0_pay8, k0_pay66, k0_pay25, k0_pay68, k0_pay27, k0_pay57, k0_pay2]
    rfl
  · obtain ⟨i, k, rfl⟩ : ∃ i k, x = ix2 (i : Fin 512) (k : Fin 128) := ⟨_, _, ValueIdx.eq_ix2 x⟩
    dsimp only
    rw [emb_6]
    show _ = rollA (tab x5 i) (tab x6 i) (tab x7 i) (groupNorm (mask x10) (gain x8) (fun l => packed x0 x1 x2 i (2048 + ((128 + k.val) / 128 * 128 + l)))) ((128 + k.val) % 128)
    rw [show (128 + k.val) / 128 * 128 = 128 by omega, show (128 + k.val) % 128 = k.val by omega]
    unfold groupNorm rollA mask gain tab packed
    simp (disch := omega) only [lanes_lt]
    pointwise [k0_pay34, k0_pay29, k0_pay30, k0_pay31, k0_pay32, k0_pay33, k0_pay60, k0_pay61, k0_pay62, k0_pay63, k0_pay5, k0_pay6, k0_pay7, k0_pay8, k0_pay66, k0_pay25, k0_pay68, k0_pay27, k0_pay57, k0_pay2]
    rfl
  · obtain ⟨i, k, rfl⟩ : ∃ i k, x = ix2 (i : Fin 512) (k : Fin 128) := ⟨_, _, ValueIdx.eq_ix2 x⟩
    dsimp only
    rw [emb_5]
    show _ = rollA (tab x5 i) (tab x6 i) (tab x7 i) (groupNorm (mask x10) (gain x8) (fun l => packed x0 x1 x2 i (2048 + (k.val / 128 * 128 + l)))) (k.val % 128)
    rw [show k.val / 128 * 128 = 0 by omega, show k.val % 128 = k.val by omega]
    simp only [Nat.zero_add]
    unfold groupNorm rollA mask gain tab packed
    simp (disch := omega) only [lanes_lt]
    pointwise [k0_pay28, k0_pay60, k0_pay61, k0_pay62, k0_pay63, k0_pay5, k0_pay6, k0_pay7, k0_pay8, k0_pay66, k0_pay25, k0_pay68, k0_pay27, k0_pay57, k0_pay2]
    rfl

theorem out16 (i : Fin 512) (e : Fin 512) : out0_16 x0 x1 x2 (ix2 i e)
    = packed x0 x1 x2 i (2560 + e.val) := by
  unfold out0_16
  refine View.canon_apply_of_pieces (Val := Elt Ideal) (S := S512x512) (e := .bf16) (fun y => packed x0 x1 x2 (y 0) (2560 + (y 1).val)) _ ?_ _ (cover0_13 _ _)
  intro p hp x
  simp only [List.mem_cons, List.not_mem_nil, or_false] at hp
  obtain rfl := hp
  obtain ⟨i, k, rfl⟩ : ∃ i k, x = ix2 (i : Fin 512) (k : Fin 512) := ⟨_, _, ValueIdx.eq_ix2 x⟩
  dsimp only
  rw [emb_11]
  show _ = packed x0 x1 x2 i (2560 + k.val)
  unfold packed
  simp (disch := omega) only [lanes_lt]
  pointwise [k0_pay37, k0_pay57, k0_pay2]
  rfl

theorem out17 (i : Fin 512) (e : Fin 128) : out0_17 x0 x1 x2 x5 x6 x7 x9 x10 (ix2 i e)
    = rollA (tab x5 i) (tab x6 i) (tab x7 i) (groupNorm (mask x10) (gain x9) (fun l => packed x0 x1 x2 i (3072 + l))) e.val := by
  unfold out0_17
  refine View.canon_apply_of_pieces (Val := Elt Ideal) (S := S512x128) (e := .bf16) (fun y => rollA (tab x5 (y 0)) (tab x6 (y 0)) (tab x7 (y 0)) (groupNorm (mask x10) (gain x9) (fun l => packed x0 x1 x2 (y 0) (3072 + l))) (y 1).val) _ ?_ _ (cover0_17 _ _)
  intro p hp x
  simp only [List.mem_cons, List.not_mem_nil, or_false] at hp
  obtain rfl := hp
  obtain ⟨i, k, rfl⟩ : ∃ i k, x = ix2 (i : Fin 512) (k : Fin 128) := ⟨_, _, ValueIdx.eq_ix2 x⟩
  dsimp only
  rw [emb_2]
  show _ = rollA (tab x5 i) (tab x6 i) (tab x7 i) (groupNorm (mask x10) (gain x9) (fun l => packed x0 x1 x2 i (3072 + l))) k.val
  unfold groupNorm rollA mask gain tab packed
  simp (disch := omega) only [lanes_lt]
  pointwise [k0_pay44, k0_pay43, k0_pay60, k0_pay61, k0_pay62, k0_pay63, k0_pay5, k0_pay6, k0_pay7, k0_pay8, k0_pay67, k0_pay26, k0_pay70, k0_pay71, k0_pay72, k0_pay38, k0_pay39, k0_pay40, k0_pay41, k0_pay42, k0_pay57, k0_pay2]
  rfl

theorem out18 (i : Fin 144) (e : Fin 512) : out0_18 x0 x1 x2 (ix2 i e)
    = if i.val < 128 then packed x0 x1 x2 e (3072 + (128 + i.val)) else 1 := by
  unfold out0_18
  refine View.canon_apply_of_pieces (Val := Elt Ideal) (S := S144x512) (e := .bf16) (fun y => if (y 0).val < 128 then packed x0 x1 x2 (y 1) (3072 + (128 + (y 0).val)) else 1) _ ?_ _ (cover0_18 _ _)
  intro p hp x
  simp only [List.mem_cons, List.not_mem_nil, or_false] at hp
  obtain rfl := hp
  obtain ⟨i, k, rfl⟩ : ∃ i k, x = ix2 (i : Fin 144) (k : Fin 512) := ⟨_, _, ValueIdx.eq_ix2 x⟩
  dsimp only
  rw [emb_17]
  show _ = if i.val < 128 then packed x0 x1 x2 k (3072 + (128 + i.val)) else 1
  pointwise [k0_pay46, k0_pay45, k0_pay69, k0_pay38, k0_pay57, k0_pay2]
  by_cases h : i.val < 128
  · rw [dif_pos h, if_pos h]
    unfold packed
    rw [lanes_lt _ _ (by omega)]
    rfl
  · rw [dif_neg h, if_neg h]

theorem out19 (i : Fin 512) (e : Fin 256) : out0_19 x0 x1 x2 x5 x6 x7 (ix2 i e)
    = rollA (tab x5 i) (tab x6 i) (tab x7 i) (fun l => packed x0 x1 x2 i (3328 + (e.val / 128 * 128 + l))) (e.val % 128) := by
  unfold out0_19
  refine View.canon_apply_of_pieces (Val := Elt Ideal) (S := S512x256) (e := .bf16) (fun y => rollA (tab x5 (y 0)) (tab x6 (y 0)) (tab x7 (y 0)) (fun l => packed x0 x1 x2 (y 0) (3328 + ((y 1).val / 128 * 128 + l))) ((y 1).val % 128)) _ ?_ _ (cover0_19 _ _ _)
  intro p hp x
  simp only [List.mem_cons, List.not_mem_nil, or_false] at hp
  rcases hp with rfl | rfl
  · obtain ⟨i, k, rfl⟩ : ∃ i k, x = ix2 (i : Fin 512) (k : Fin 128) := ⟨_, _, ValueIdx.eq_ix2 x⟩
    dsimp only
    rw [emb_20]
    show _ = rollA (tab x5 i) (tab x6 i) (tab x7 i) (fun l => packed x0 x1 x2 i (3328 + ((128 + k.val) / 128 * 128 + l))) ((128 + k.val) % 128)
    rw [show (128 + k.val) / 128 * 128 = 128 by omega, show (128 + k.val) % 128 = k.val by omega]
    unfold rollA tab packed
    simp (disch := omega) only [lanes_lt]
    pointwise [k0_pay51, k0_pay60, k0_pay61, k0_pay62, k0_pay63, k0_pay5, k0_pay6, k0_pay7, k0_pay8, k0_pay73, k0_pay47, k0_pay57, k0_pay2]
    rfl
  · obtain ⟨i, k, rfl⟩ : ∃ i k, x = ix2 (i : Fin 512) (k : Fin 128) := ⟨_, _, ValueIdx.eq_ix2 x⟩
    dsimp only
    rw [emb_19]
    show _ = rollA (tab x5 i) (tab x6 i) (tab x7 i) (fun l => packed x0 x1 x2 i (3328 + (k.val / 128 * 128 + l))) (k.val % 128)
    rw [show k.val / 128 * 128 = 0 by omega, show k.val % 128 = k.val by omega]
    simp only [Nat.zero_add]
    unfold rollA tab packed
    simp (disch := omega) only [lanes_lt]
    pointwise [k0_pay50, k0_pay48, k0_pay49, k0_pay60, k0_pay61, k0_pay62, k0_pay63, k0_pay5, k0_pay6, k0_pay7, k0_pay8, k0_pay73, k0_pay47, k0_pay57, k0_pay2]
    rfl

theorem out20 (i : Fin 512) (e : Fin 128) : out0_20 x0 x1 x2 x5 x6 x7 (ix2 i e)
    = rollA (tab x5 i) (tab x6 i) (tab x7 i) (fun l => packed x0 x1 x2 i (3328 + (256 + l))) e.val := by
  unfold out0_20
  refine View.canon_apply_of_pieces (Val := Elt Ideal) (S := S512x128) (e := .bf16) (fun y => rollA (tab x5 (y 0)) (tab x6 (y 0)) (tab x7 (y 0)) (fun l => packed x0 x1 x2 (y 0) (3328 + (256 + l))) (y 1).val) _ ?_ _ (cover0_17 _ _)
  intro p hp x
  simp only [List.mem_cons, List.not_mem_nil, or_false] at hp
  obtain rfl := hp
  obtain ⟨i, k, rfl⟩ : ∃ i k, x = ix2 (i : Fin 512) (k : Fin 128) := ⟨_, _, ValueIdx.eq_ix2 x⟩
  dsimp only
  rw [emb_2]
  show _ = rollA (tab x5 i) (tab x6 i) (tab x7 i) (fun l => packed x0 x1 x2 i (3328 + (256 + l))) k.val
  unfold rollA tab packed
  simp (disch := omega) only [lanes_lt]
  pointwise [k0_pay53, k0_pay52, k0_pay60, k0_pay61, k0_pay62, k0_pay63, k0_pay5, k0_pay6, k0_pay7, k0_pay8, k0_pay73, k0_pay47, k0_pay57, k0_pay2]
  rfl

theorem out21 (i : Fin 512) (e : Fin 1024) : out0_21 x0 x1 x2 (ix2 i e)
    = packed x0 x1 x2 i (3840 + e.val) := by
  unfold out0_21
  refine View.canon_apply_of_pieces (Val := Elt Ideal) (S := S512x1024) (e := .bf16) (fun y => packed x0 x1 x2 (y 0) (3840 + (y 1).val)) _ ?_ _ (cover0_21 _ _)
  intro p hp x
  simp only [List.mem_cons, List.not_mem_nil, or_false] at hp
  obtain rfl := hp
  obtain ⟨i, k, rfl⟩ : ∃ i k, x = ix2 (i : Fin 512) (k : Fin 1024) := ⟨_, _, ValueIdx.eq_ix2 x⟩
  dsimp only
  rw [emb_0]
  show _ = packed x0 x1 x2 i (3840 + k.val)
  unfold packed
  simp (disch := omega) only [lanes_lt]
  pointwise [k0_pay56, k0_pay57, k0_pay2]
  rfl

theorem out22 (i : Fin 512) (e : Fin 1024) : out0_22 x0 x1 x2 (ix2 i e)
    = packed x0 x1 x2 i (4864 + e.val) := by
  unfold out0_22
  refine View.canon_apply_of_pieces (Val := Elt Ideal) (S := S512x1024) (e := .bf16) (fun y => packed x0 x1 x2 (y 0) (4864 + (y 1).val)) _ ?_ _ (cover0_21 _ _)
  intro p hp x
  simp only [List.mem_cons, List.not_mem_nil, or_false] at hp
  obtain rfl := hp
  obtain ⟨i, k, rfl⟩ : ∃ i k, x = ix2 (i : Fin 512) (k : Fin 1024) := ⟨_, _, ValueIdx.eq_ix2 x⟩
  dsimp only
  rw [emb_0]
  show _ = packed x0 x1 x2 i (4864 + k.val)
  unfold packed
  simp (disch := omega) only [lanes_lt]
  pointwise [k0_pay1, k0_pay57, k0_pay2]
  rfl

theorem out23 (i : Fin 512) (e : Fin 128) : out0_23 x0 x1 x2 x5 x6 x7 x9 x10 (ix2 i e)
    = rollA (tab x5 i) (tab x6 i) (tab x7 i) (groupNorm (mask x10) (gain x9) (fun l => packed x0 x1 x2 i (3072 + l))) e.val := by
  unfold out0_23
  refine View.canon_apply_of_pieces (Val := Elt Ideal) (S := S512x128) (e := .f32) (fun y => rollA (tab x5 (y 0)) (tab x6 (y 0)) (tab x7 (y 0)) (groupNorm (mask x10) (gain x9) (fun l => packed x0 x1 x2 (y 0) (3072 + l))) (y 1).val) _ ?_ _ (cover0_17 _ _)
  intro p hp x
  simp only [List.mem_cons, List.not_mem_nil, or_false] at hp
  obtain rfl := hp
  obtain ⟨i, k, rfl⟩ : ∃ i k, x = ix2 (i : Fin 512) (k : Fin 128) := ⟨_, _, ValueIdx.eq_ix2 x⟩
  dsimp only
  rw [emb_2]
  show _ = rollA (tab x5 i) (tab x6 i) (tab x7 i) (groupNorm (mask x10) (gain x9) (fun l => packed x0 x1 x2 i (3072 + l))) k.val
  unfold groupNorm rollA mask gain tab packed
  simp (disch := omega) only [lanes_lt]
  pointwise [k0_pay43, k0_pay60, k0_pay61, k0_pay62, k0_pay63, k0_pay5, k0_pay6, k0_pay7, k0_pay8, k0_pay67, k0_pay26, k0_pay70, k0_pay71, k0_pay72, k0_pay38, k0_pay39, k0_pay40, k0_pay41, k0_pay42, k0_pay57, k0_pay2]
  rfl

theorem out24 (i : Fin 512) (e : Fin 128) : out0_24 x0 x1 x2 (ix2 i e)
    = packed x0 x1 x2 i (3072 + (128 + e.val)) := by
  unfold out0_24
  refine View.canon_apply_of_pieces (Val := Elt Ideal) (S := S512x128) (e := .f32) (fun y => packed x0 x1 x2 (y 0) (3072 + (128 + (y 1).val))) _ ?_ _ (cover0_17 _ _)
  intro p hp x
  simp only [List.mem_cons, List.not_mem_nil, or_false] at hp
  obtain rfl := hp
  obtain ⟨i, k, rfl⟩ : ∃ i k, x = ix2 (i : Fin 512) (k : Fin 128) := ⟨_, _, ValueIdx.eq_ix2 x⟩
  dsimp only
  rw [emb_2]
  show _ = packed x0 x1 x2 i (3072 + (128 + k.val))
  unfold packed
  simp (disch := omega) only [lanes_lt]
  pointwise [k0_pay45, k0_pay69, k0_pay38, k0_pay57, k0_pay2]
  rfl

theorem out25 (i : Fin 512) (e : Fin 64) : out0_25 x0 x1 x2 x5 x6 x7 (ix2 i e)
    = rollA (tab x5 i) (tab x6 i) (tab x7 i) (fun l => packed x0 x1 x2 i (3328 + (256 + l))) e.val := by
  unfold out0_25
  refine View.canon_apply_of_pieces (Val := Elt Ideal) (S := S512x64) (e := .f32) (fun y => rollA (tab x5 (y 0)) (tab x6 (y 0)) (tab x7 (y 0)) (fun l => packed x0 x1 x2 (y 0) (3328 + (256 + l))) (y 1).val) _ ?_ _ (cover0_25 _ _)
  intro p hp x
  simp only [List.mem_cons, List.not_mem_nil, or_false] at hp
  obtain rfl := hp
  obtain ⟨i, k, rfl⟩ : ∃ i k, x = ix2 (i : Fin 512) (k : Fin 64) := ⟨_, _, ValueIdx.eq_ix2 x⟩
  dsimp only
  rw [emb_21]
  show _ = rollA (tab x5 i) (tab x6 i) (tab x7 i) (fun l => packed x0 x1 x2 i (3328 + (256 + l))) k.val
  unfold rollA tab packed
  simp (disch := omega) only [lanes_lt]
  pointwise [k0_pay54, k0_pay52, k0_pay60, k0_pay61, k0_pay62, k0_pay63, k0_pay5, k0_pay6, k0_pay7, k0_pay8, k0_pay73, k0_pay47, k0_pay57, k0_pay2]
  rfl

theorem out26 (i : Fin 512) (e : Fin 128) : out0_26 x0 x1 x2 (ix2 i e)
    = packed x0 x1 x2 i (3328 + (384 + e.val)) := by
  unfold out0_26
  refine View.canon_apply_of_pieces (Val := Elt Ideal) (S := S512x128) (e := .f32) (fun y => packed x0 x1 x2 (y 0) (3328 + (384 + (y 1).val))) _ ?_ _ (cover0_17 _ _)
  intro p hp x
  simp only [List.mem_cons, List.not_mem_nil, or_false] at hp
  obtain rfl := hp
  obtain ⟨i, k, rfl⟩ : ∃ i k, x = ix2 (i : Fin 512) (k : Fin 128) := ⟨_, _, ValueIdx.eq_ix2 x⟩
  dsimp only
  rw [emb_2]
  show _ = packed x0 x1 x2 i (3328 + (384 + k.val))
  unfold packed
  simp (disch := omega) only [lanes_lt]
  pointwise [k0_pay55, k0_pay73, k0_pay47, k0_pay57, k0_pay2]
  rfl

end Cert.Projecting

end
end
-- ==== Proof.ProjHost.lean ====
module

public import proofs.«01_k».proof.Proof.ProjIdealFrame
public import proofs.«01_k».proof.Proof.ProjSpec
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Projecting

open Idealize.ShloMosaic Idealize.ShloMosaic.TcCoe Idealize.SL.Sem

open Cert.InprojIdeal Cert.InprojIdeal.Gen

/-- A choice by a bit that tells a proposition. -/
theorem sel {α : Type} (p : Prop) [Decidable p] (b : BitVec 1) (x y : α) (h : b = if p then 1#1 else 0#1) :
    Scalar.select b x y = if p then x else y := by
  subst h
  by_cases hp : p
  · rw [if_pos hp, if_pos hp]; rfl
  · rw [if_neg hp, if_neg hp]; rfl

/-- The group of a lane, as the mask computes it. -/
def fdiv (b : BitVec 32) : BitVec 32 :=
  Scalar.select
    (IntOp.andi
      (IntOp.cmpi CmpIPredicate.ne (if b = 0 then (0 : BitVec 32) else if b.msb = true then -1 else 1)
        (if (64#32 : BitVec 32) = 0 then (0 : BitVec 32) else if BitVec.msb (64#32 : BitVec 32) = true then -1 else 1))
      (IntOp.cmpi CmpIPredicate.ne (IntOp.remsi ArithUnit.host b 64#32) 0#32))
    (IntOp.subi (IntOp.divsi ArithUnit.host b 64#32) 1#32)
    (IntOp.divsi ArithUnit.host b 64#32)

theorem fdiv_lane : ∀ k : Fin 128, fdiv (BitVec.ofNat 32 k.val) = BitVec.ofNat 32 (k.val / 64) := by decide +kernel

theorem cmp_lane : ∀ a b : Fin 2, IntOp.cmpi CmpIPredicate.eq (BitVec.ofNat 32 a.val) (BitVec.ofNat 32 b.val) = if a.val = b.val then 1#1 else 0#1 := by
  decide

theorem lit_one' : (id (constant (F := Ideal) S_ FTy.f32 1065353216#32) ix0 : EReal) = 1 := by
  show Ideal.ofBits FTy.f32 1065353216#32 = 1
  simp [Ideal.ofBits, Ideal.ieee, -EReal.coe_mul]; norm_num

theorem lit_zero' : (id (constant (F := Ideal) S_ FTy.f32 0#32) ix0 : EReal) = 0 := by
  show Ideal.ofBits FTy.f32 0#32 = 0
  simp [Ideal.ofBits, Ideal.ieee, -EReal.coe_mul]

variable (m : (ℓ : Loc nD τ sig) → Buf (Elt Ideal) ℓ) (c : Dev nD)

theorem host_x (n : Fin 16384) (k : Fin 1024) : V m c main_v62 (ix2 n k)
    = m ((c : Thread nD τ).loc main_arg0) (ix3 (⟨n.val / 4096, by omega⟩ : Fin 4) (⟨n.val % 4096, by omega⟩ : Fin 4096) k) := by
  unfold V
  after_reads_at

theorem host_g (k : Fin 1024) : V m c main_v65 (ix2 0 k) = m ((c : Thread nD τ).loc main_arg1) (ix2 0 k) := by
  unfold V
  after_reads_at

theorem host_q (k : Fin 128) : V m c main_v103 (ix2 0 k) = m ((c : Thread nD τ).loc main_arg3) (ix2 0 (⟨k.val % 64, by omega⟩ : Fin 64)) := by
  unfold V
  after_reads_at

theorem host_k (k : Fin 128) : V m c main_v109 (ix2 0 k) = m ((c : Thread nD τ).loc main_arg4) (ix2 0 (⟨k.val % 64, by omega⟩ : Fin 64)) := by
  unfold V
  after_reads_at

theorem host_rc (n : Fin 4096) (k : Fin 128) : V m c main_v25 (ix2 n k) = Ideal.cos (angR n.val (k.val % 64)) := by
  unfold V
  after_reads_at
  rfl

theorem host_rs (n : Fin 4096) (k : Fin 128) : V m c main_v31 (ix2 n k)
    = if k.val < 64 then -Ideal.sin (angR n.val (k.val % 64)) else Ideal.sin (angR n.val (k.val % 64)) := by
  unfold V
  after_reads_at
  refine sel (k.val < 64) _ _ _ ?_
  revert k; decide +kernel

theorem host_ac (n : Fin 4096) (k : Fin 128) : V m c main_v50 (ix2 n k) = if k.val % 64 < 16 then Ideal.cos (angA n.val (k.val % 8)) else 1 := by
  unfold V
  after_reads_at
  rw [lit_one']
  refine sel (k.val % 64 < 16) _ _ _ ?_
  revert k; decide +kernel

theorem host_as1 (n : Fin 4096) (k : Fin 128) : V m c main_v54 (ix2 n k) = if k.val % 64 < 8 then -Ideal.sin (angA n.val (k.val % 8)) else 0 := by
  unfold V
  after_reads_at
  rw [lit_zero']
  refine sel (k.val % 64 < 8) _ _ _ ?_
  revert k; decide +kernel

theorem host_as2 (n : Fin 4096) (k : Fin 128) : V m c main_v60 (ix2 n k)
    = if 8 ≤ k.val % 64 ∧ k.val % 64 < 16 then Ideal.sin (angA n.val (k.val % 8)) else 0 := by
  unfold V
  after_reads_at
  rw [lit_zero']
  refine sel (8 ≤ k.val % 64 ∧ k.val % 64 < 16) _ _ _ ?_
  revert k; decide +kernel

theorem host_mask (x k : Fin 128) : V m c main_v6 (ix2 x k) = if x.val / 64 = k.val / 64 then (1 : EReal) else (0 : EReal) := by
  unfold V
  after_reads_at
  refine sel (x.val / 64 = k.val / 64) _ _ _ ?_
  show IntOp.cmpi CmpIPredicate.eq (fdiv (BitVec.ofNat 32 x.val)) (fdiv (BitVec.ofNat 32 k.val)) = _
  rw [fdiv_lane, fdiv_lane]
  exact cmp_lane ⟨x.val / 64, by omega⟩ ⟨k.val / 64, by omega⟩

/-- The buffers' contents before the projection's rows are put together. -/
abbrev U (b : Ref sig .tc) : Buf (Elt Ideal) ((c : Thread nD τ).loc b) :=
  StableHlo.upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b)) 179 b

/-- The packed weight is its pieces, one after another. -/
theorem packed_row (i : S5888x1024.Idx) : V m c main_v97 i
    = concatenate S5888x1024 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩]
      concatenates_S512x1024_S512x1024_S512x1024_S512x1024_S512x1024_S512x1024_S128x1024_S128x1024_S256x1024_S64x1024_S64x1024_S128x1024_S1024x1024_S1024x1024_S5888x1024_d0 i := by
  unfold V
  rw [StableHlo.after_last_write (i := 180) [main_v98, main_v99, main_v100, main_v101, main_v102, main_v103, main_v104, main_v105, main_v106, main_v107, main_v108, main_v109] rfl rfl (by decide)]
  rw [StableHlo.unary_result']
  rw [StableHlo.upto_last_write (i := 179) [] rfl rfl (by decide)]
  rw [StableHlo.nary_result']
  rfl

/-- Piece 0 of the packed weight. -/
theorem row_0 (r : Fin 512) (k : Fin 1024) : V m c main_v97 (ix2 (⟨r.val, by omega⟩ : Fin 5888) k)
    = m ((c : Thread nD τ).loc main_arg2) (ix3 0 k (⟨r.val, by omega⟩ : Fin 5700)) := by
  rw [packed_row]
  refine Eq.trans (concatenate_apply_piece (t := S5888x1024) 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩] _ _ 0 (by simp) S512x1024 (U m c main_v68) rfl rfl 0 (by rfl) (ix2 r k) ?_ ?_) ?_
  · intro a ha
    match a with
    | ⟨0, _⟩ => exact absurd rfl ha
    | ⟨1, _⟩ => rfl
  · show 0 + r.val = r.val; omega
  · unfold U
    after_reads_at

/-- Piece 1 of the packed weight. -/
theorem row_1 (r : Fin 512) (k : Fin 1024) : V m c main_v97 (ix2 (⟨512 + r.val, by omega⟩ : Fin 5888) k)
    = m ((c : Thread nD τ).loc main_arg2) (ix3 0 k (⟨512 + r.val, by omega⟩ : Fin 5700)) := by
  rw [packed_row]
  refine Eq.trans (concatenate_apply_piece (t := S5888x1024) 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩] _ _ 1 (by simp) S512x1024 (U m c main_v69) rfl rfl 512 (by rfl) (ix2 r k) ?_ ?_) ?_
  · intro a ha
    match a with
    | ⟨0, _⟩ => exact absurd rfl ha
    | ⟨1, _⟩ => rfl
  · rfl
  · unfold U
    after_reads_at

/-- Piece 2 of the packed weight. -/
theorem row_2 (r : Fin 512) (k : Fin 1024) : V m c main_v97 (ix2 (⟨1024 + r.val, by omega⟩ : Fin 5888) k)
    = m ((c : Thread nD τ).loc main_arg2) (ix3 0 k (⟨1024 + r.val, by omega⟩ : Fin 5700)) := by
  rw [packed_row]
  refine Eq.trans (concatenate_apply_piece (t := S5888x1024) 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩] _ _ 2 (by simp) S512x1024 (U m c main_v70) rfl rfl 1024 (by rfl) (ix2 r k) ?_ ?_) ?_
  · intro a ha
    match a with
    | ⟨0, _⟩ => exact absurd rfl ha
    | ⟨1, _⟩ => rfl
  · rfl
  · unfold U
    after_reads_at

/-- Piece 3 of the packed weight. -/
theorem row_3 (r : Fin 512) (k : Fin 1024) : V m c main_v97 (ix2 (⟨1536 + r.val, by omega⟩ : Fin 5888) k)
    = m ((c : Thread nD τ).loc main_arg2) (ix3 0 k (⟨1536 + r.val, by omega⟩ : Fin 5700)) := by
  rw [packed_row]
  refine Eq.trans (concatenate_apply_piece (t := S5888x1024) 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩] _ _ 3 (by simp) S512x1024 (U m c main_v71) rfl rfl 1536 (by rfl) (ix2 r k) ?_ ?_) ?_
  · intro a ha
    match a with
    | ⟨0, _⟩ => exact absurd rfl ha
    | ⟨1, _⟩ => rfl
  · rfl
  · unfold U
    after_reads_at

/-- Piece 4 of the packed weight. -/
theorem row_4 (r : Fin 512) (k : Fin 1024) : V m c main_v97 (ix2 (⟨2048 + r.val, by omega⟩ : Fin 5888) k)
    = m ((c : Thread nD τ).loc main_arg2) (ix3 0 k (⟨2048 + ((r.val / 64 % 2 * 4 + r.val / 128) * 64 + r.val % 64), by omega⟩ : Fin 5700)) := by
  rw [packed_row]
  refine Eq.trans (concatenate_apply_piece (t := S5888x1024) 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩] _ _ 4 (by simp) S512x1024 (U m c main_v88) rfl rfl 2048 (by rfl) (ix2 r k) ?_ ?_) ?_
  · intro a ha
    match a with
    | ⟨0, _⟩ => exact absurd rfl ha
    | ⟨1, _⟩ => rfl
  · rfl
  · unfold U
    after_reads_at
    by_cases h : r.val % 128 < 64
    · rw [dif_pos h]
      after_reads_at
      exact congrArg (fun a : Fin 5700 => m ((c : Thread nD τ).loc main_arg2) (ix3 0 k a)) (Fin.ext (by
        show 2048 + (r.val / 128 * 64 + r.val % 128) = 2048 + ((r.val / 64 % 2 * 4 + r.val / 128) * 64 + r.val % 64)
        omega))
    · rw [dif_neg h]
      after_reads_at
      exact congrArg (fun a : Fin 5700 => m ((c : Thread nD τ).loc main_arg2) (ix3 0 k a)) (Fin.ext (by
        show 2048 + (256 + r.val / 128 * 64 + (r.val % 128 - 64)) = 2048 + ((r.val / 64 % 2 * 4 + r.val / 128) * 64 + r.val % 64)
        omega))

/-- Piece 5 of the packed weight. -/
theorem row_5 (r : Fin 512) (k : Fin 1024) : V m c main_v97 (ix2 (⟨2560 + r.val, by omega⟩ : Fin 5888) k)
    = m ((c : Thread nD τ).loc main_arg2) (ix3 0 k (⟨2816 + ((r.val / 64 % 2 * 4 + r.val / 128) * 64 + r.val % 64), by omega⟩ : Fin 5700)) := by
  rw [packed_row]
  refine Eq.trans (concatenate_apply_piece (t := S5888x1024) 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩] _ _ 5 (by simp) S512x1024 (U m c main_v95) rfl rfl 2560 (by rfl) (ix2 r k) ?_ ?_) ?_
  · intro a ha
    match a with
    | ⟨0, _⟩ => exact absurd rfl ha
    | ⟨1, _⟩ => rfl
  · rfl
  · unfold U
    after_reads_at
    by_cases h : r.val % 128 < 64
    · rw [dif_pos h]
      after_reads_at
      exact congrArg (fun a : Fin 5700 => m ((c : Thread nD τ).loc main_arg2) (ix3 0 k a)) (Fin.ext (by
        show 2816 + (r.val / 128 * 64 + r.val % 128) = 2816 + ((r.val / 64 % 2 * 4 + r.val / 128) * 64 + r.val % 64)
        omega))
    · rw [dif_neg h]
      after_reads_at
      exact congrArg (fun a : Fin 5700 => m ((c : Thread nD τ).loc main_arg2) (ix3 0 k a)) (Fin.ext (by
        show 2816 + (256 + r.val / 128 * 64 + (r.val % 128 - 64)) = 2816 + ((r.val / 64 % 2 * 4 + r.val / 128) * 64 + r.val % 64)
        omega))

/-- Piece 6 of the packed weight. -/
theorem row_6 (r : Fin 128) (k : Fin 1024) : V m c main_v97 (ix2 (⟨3072 + r.val, by omega⟩ : Fin 5888) k)
    = m ((c : Thread nD τ).loc main_arg2) (ix3 0 k (⟨2560 + r.val, by omega⟩ : Fin 5700)) := by
  rw [packed_row]
  refine Eq.trans (concatenate_apply_piece (t := S5888x1024) 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩] _ _ 6 (by simp) S128x1024 (U m c main_v73) rfl rfl 3072 (by rfl) (ix2 r k) ?_ ?_) ?_
  · intro a ha
    match a with
    | ⟨0, _⟩ => exact absurd rfl ha
    | ⟨1, _⟩ => rfl
  · rfl
  · unfold U
    after_reads_at

/-- Piece 7 of the packed weight. -/
theorem row_7 (r : Fin 128) (k : Fin 1024) : V m c main_v97 (ix2 (⟨3200 + r.val, by omega⟩ : Fin 5888) k)
    = m ((c : Thread nD τ).loc main_arg2) (ix3 0 k (⟨2688 + r.val, by omega⟩ : Fin 5700)) := by
  rw [packed_row]
  refine Eq.trans (concatenate_apply_piece (t := S5888x1024) 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩] _ _ 7 (by simp) S128x1024 (U m c main_v74) rfl rfl 3200 (by rfl) (ix2 r k) ?_ ?_) ?_
  · intro a ha
    match a with
    | ⟨0, _⟩ => exact absurd rfl ha
    | ⟨1, _⟩ => rfl
  · rfl
  · unfold U
    after_reads_at

/-- Piece 8 of the packed weight. -/
theorem row_8 (r : Fin 256) (k : Fin 1024) : V m c main_v97 (ix2 (⟨3328 + r.val, by omega⟩ : Fin 5888) k)
    = m ((c : Thread nD τ).loc main_arg2) (ix3 0 k (⟨3328 + r.val, by omega⟩ : Fin 5700)) := by
  rw [packed_row]
  refine Eq.trans (concatenate_apply_piece (t := S5888x1024) 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩] _ _ 8 (by simp) S256x1024 (U m c main_v76) rfl rfl 3328 (by rfl) (ix2 r k) ?_ ?_) ?_
  · intro a ha
    match a with
    | ⟨0, _⟩ => exact absurd rfl ha
    | ⟨1, _⟩ => rfl
  · rfl
  · unfold U
    after_reads_at

/-- Piece 9 of the packed weight. -/
theorem row_9 (r : Fin 64) (k : Fin 1024) : V m c main_v97 (ix2 (⟨3584 + r.val, by omega⟩ : Fin 5888) k)
    = m ((c : Thread nD τ).loc main_arg2) (ix3 0 k (⟨3584 + r.val, by omega⟩ : Fin 5700)) := by
  rw [packed_row]
  refine Eq.trans (concatenate_apply_piece (t := S5888x1024) 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩] _ _ 9 (by simp) S64x1024 (U m c main_v77) rfl rfl 3584 (by rfl) (ix2 r k) ?_ ?_) ?_
  · intro a ha
    match a with
    | ⟨0, _⟩ => exact absurd rfl ha
    | ⟨1, _⟩ => rfl
  · rfl
  · unfold U
    after_reads_at

/-- Piece 10 of the packed weight. -/
theorem row_10 (r : Fin 64) (k : Fin 1024) : V m c main_v97 (ix2 (⟨3648 + r.val, by omega⟩ : Fin 5888) k)
    = m ((c : Thread nD τ).loc main_arg2) (ix3 0 k (⟨3584 + r.val, by omega⟩ : Fin 5700)) := by
  rw [packed_row]
  refine Eq.trans (concatenate_apply_piece (t := S5888x1024) 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩] _ _ 10 (by simp) S64x1024 (U m c main_v77) rfl rfl 3648 (by rfl) (ix2 r k) ?_ ?_) ?_
  · intro a ha
    match a with
    | ⟨0, _⟩ => exact absurd rfl ha
    | ⟨1, _⟩ => rfl
  · rfl
  · unfold U
    after_reads_at

/-- Piece 11 of the packed weight. -/
theorem row_11 (r : Fin 128) (k : Fin 1024) : V m c main_v97 (ix2 (⟨3712 + r.val, by omega⟩ : Fin 5888) k)
    = if h : r.val < 4 then (m ((c : Thread nD τ).loc main_arg2) (ix3 0 k (⟨3648 + r.val, by omega⟩ : Fin 5700)) : EReal) else (0 : EReal) := by
  rw [packed_row]
  refine Eq.trans (concatenate_apply_piece (t := S5888x1024) 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩] _ _ 11 (by simp) S128x1024 (U m c main_v81) rfl rfl 3712 (by rfl) (ix2 r k) ?_ ?_) ?_
  · intro a ha
    match a with
    | ⟨0, _⟩ => exact absurd rfl ha
    | ⟨1, _⟩ => rfl
  · rfl
  · unfold U
    after_reads_at
    by_cases h : r.val < 4
    · rw [dif_pos h, dif_pos h]
    · rw [dif_neg h, dif_neg h]
      exact sitofp_zero

set_option maxHeartbeats 2000000 in
/-- Piece 12 of the packed weight. -/
theorem row_12 (r : Fin 1024) (k : Fin 1024) : V m c main_v97 (ix2 (⟨3840 + r.val, by omega⟩ : Fin 5888) k)
    = m ((c : Thread nD τ).loc main_arg2) (ix3 0 k (⟨3652 + r.val, by omega⟩ : Fin 5700)) := by
  rw [packed_row]
  refine Eq.trans (concatenate_apply_piece (t := S5888x1024) 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩] _ _ 12 (by simp) S1024x1024 (U m c main_v79) rfl rfl 3840 (by rfl) (ix2 r k) ?_ ?_) ?_
  · intro a ha
    match a with
    | ⟨0, _⟩ => exact absurd rfl ha
    | ⟨1, _⟩ => rfl
  · rfl
  · unfold U
    after_reads_at

set_option maxHeartbeats 2000000 in
/-- Piece 13 of the packed weight. -/
theorem row_13 (r : Fin 1024) (k : Fin 1024) : V m c main_v97 (ix2 (⟨4864 + r.val, by omega⟩ : Fin 5888) k)
    = m ((c : Thread nD τ).loc main_arg2) (ix3 0 k (⟨4676 + r.val, by omega⟩ : Fin 5700)) := by
  rw [packed_row]
  refine Eq.trans (concatenate_apply_piece (t := S5888x1024) 0 [⟨S512x1024, U m c main_v68⟩, ⟨S512x1024, U m c main_v69⟩, ⟨S512x1024, U m c main_v70⟩, ⟨S512x1024, U m c main_v71⟩, ⟨S512x1024, U m c main_v88⟩, ⟨S512x1024, U m c main_v95⟩, ⟨S128x1024, U m c main_v73⟩, ⟨S128x1024, U m c main_v74⟩, ⟨S256x1024, U m c main_v76⟩, ⟨S64x1024, U m c main_v77⟩, ⟨S64x1024, U m c main_v77⟩, ⟨S128x1024, U m c main_v81⟩, ⟨S1024x1024, U m c main_v79⟩, ⟨S1024x1024, U m c main_v80⟩] _ _ 13 (by simp) S1024x1024 (U m c main_v80) rfl rfl 4864 (by rfl) (ix2 r k) ?_ ?_) ?_
  · intro a ha
    match a with
    | ⟨0, _⟩ => exact absurd rfl ha
    | ⟨1, _⟩ => rfl
  · rfl
  · unfold U
    after_reads_at

theorem hz_facts : ∀ t : Fin cfg0.N,
    win0_0.index t = ![t.val, 0] ∧ win0_1.index t = ![0, 0] ∧ win0_2.index t = ![0, 0] ∧ win0_8.index t = ![0, 0] ∧ win0_9.index t = ![0, 0]
    ∧ win0_10.index t = ![0, 0] := by
  decide

theorem tab_facts : ∀ t : Fin cfg0.N,
    win0_3.index t = ![t.val % 8, 0] ∧ win0_4.index t = ![t.val % 8, 0] ∧ win0_5.index t = ![t.val % 8, 0] ∧ win0_6.index t = ![t.val % 8, 0]
    ∧ win0_7.index t = ![t.val % 8, 0] := by
  decide

theorem N_0 : cfg0.N = 32 := by decide

/-- The row of the whole array that row `i` of block `t` is. -/
def row (t : Fin cfg0.N) (i : Fin 512) : Fin 16384 :=
  ⟨512 * t.val + i.val, by have : t.val < 32 := lt_of_lt_of_eq t.isLt N_0; omega⟩

/-- The row of a table that row `i` of block `t` is. -/
def trow (t : Fin cfg0.N) (i : Fin 512) : Fin 4096 := ⟨512 * (t.val % 8) + i.val, by omega⟩

theorem read_0 (t : Fin cfg0.N) (i : Fin 512) (d : Fin 1024) : iblk m c 0 t (ix2 i d) = V m c main_v62 (ix2 (row t i) d) := by
  have h := (hz_facts t).1
  have h0 := congrFun h 0; have h1 := congrFun h 1
  blk_ext! [iblk, row, h0, h1]

theorem read_1 (t : Fin cfg0.N) (d : Fin 1024) : iblk m c 1 t (ix2 0 d) = V m c main_v65 (ix2 0 d) := by
  have h := (hz_facts t).2.1
  have h0 := congrFun h 0; have h1 := congrFun h 1
  blk_ext! [iblk, h0, h1]

theorem read_2 (t : Fin cfg0.N) (i : Fin 5888) (d : Fin 1024) : iblk m c 2 t (ix2 i d) = V m c main_v97 (ix2 i d) := by
  have h := (hz_facts t).2.2.1
  have h0 := congrFun h 0; have h1 := congrFun h 1
  blk_ext! [iblk, h0, h1]

theorem read_3 (t : Fin cfg0.N) (i : Fin 512) (d : Fin 128) : iblk m c 3 t (ix2 i d) = V m c main_v25 (ix2 (trow t i) d) := by
  have h := (tab_facts t).1
  have h0 := congrFun h 0; have h1 := congrFun h 1
  blk_ext! [iblk, trow, h0, h1]

theorem read_4 (t : Fin cfg0.N) (i : Fin 512) (d : Fin 128) : iblk m c 4 t (ix2 i d) = V m c main_v31 (ix2 (trow t i) d) := by
  have h := (tab_facts t).2.1
  have h0 := congrFun h 0; have h1 := congrFun h 1
  blk_ext! [iblk, trow, h0, h1]

theorem read_5 (t : Fin cfg0.N) (i : Fin 512) (d : Fin 128) : iblk m c 5 t (ix2 i d) = V m c main_v50 (ix2 (trow t i) d) := by
  have h := (tab_facts t).2.2.1
  have h0 := congrFun h 0; have h1 := congrFun h 1
  blk_ext! [iblk, trow, h0, h1]

theorem read_6 (t : Fin cfg0.N) (i : Fin 512) (d : Fin 128) : iblk m c 6 t (ix2 i d) = V m c main_v54 (ix2 (trow t i) d) := by
  have h := (tab_facts t).2.2.2.1
  have h0 := congrFun h 0; have h1 := congrFun h 1
  blk_ext! [iblk, trow, h0, h1]

theorem read_7 (t : Fin cfg0.N) (i : Fin 512) (d : Fin 128) : iblk m c 7 t (ix2 i d) = V m c main_v60 (ix2 (trow t i) d) := by
  have h := (tab_facts t).2.2.2.2
  have h0 := congrFun h 0; have h1 := congrFun h 1
  blk_ext! [iblk, trow, h0, h1]

theorem read_8 (t : Fin cfg0.N) (d : Fin 128) : iblk m c 8 t (ix2 0 d) = V m c main_v103 (ix2 0 d) := by
  have h := (hz_facts t).2.2.2.1
  have h0 := congrFun h 0; have h1 := congrFun h 1
  blk_ext! [iblk, h0, h1]

theorem read_9 (t : Fin cfg0.N) (d : Fin 128) : iblk m c 9 t (ix2 0 d) = V m c main_v109 (ix2 0 d) := by
  have h := (hz_facts t).2.2.2.2.1
  have h0 := congrFun h 0; have h1 := congrFun h 1
  blk_ext! [iblk, h0, h1]

theorem read_10 (t : Fin cfg0.N) (i : Fin 128) (d : Fin 128) : iblk m c 10 t (ix2 i d) = V m c main_v6 (ix2 i d) := by
  have h := (hz_facts t).2.2.2.2.2
  have h0 := congrFun h 0; have h1 := congrFun h 1
  blk_ext! [iblk, h0, h1]

end Cert.Projecting

end
end
-- ==== Proof.ProjRun.lean ====
module

public import proofs.«01_k».proof.Proof.ProjIdealFrame
public import Idealize.ShloMosaic.Lib.Pipeline.Value

@[expose] public section

set_option maxRecDepth 16384

noncomputable section

namespace Cert.Projecting

open Idealize.ShloMosaic Idealize.ShloMosaic.TcCoe Idealize.SL.Sem
open Cert.InprojIdeal Cert.InprojIdeal.Gen
open Idealize.ShloMosaic.Pipeline (Dat)

variable {F : FTy → Type} [FloatOps F]
variable (m : (ℓ : Loc nD τ sig) → Buf (Elt F) ℓ) (ρ : Dev nD → PrngReg)

/-- After the run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v110_0) = (dats m 0 c).arrAt 11 cfg0.N :=
  (h c).1 11

/-- After the run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v110_1) = (dats m 0 c).arrAt 12 cfg0.N :=
  (h c).1 12

/-- After the run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v110_2) = (dats m 0 c).arrAt 13 cfg0.N :=
  (h c).1 13

/-- After the run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v110_3) = (dats m 0 c).arrAt 14 cfg0.N :=
  (h c).1 14

/-- After the run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v110_4) = (dats m 0 c).arrAt 15 cfg0.N :=
  (h c).1 15

/-- After the run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v110_5) = (dats m 0 c).arrAt 16 cfg0.N :=
  (h c).1 16

/-- After the run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v110_6) = (dats m 0 c).arrAt 17 cfg0.N :=
  (h c).1 17

/-- After the run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v110_7) = (dats m 0 c).arrAt 18 cfg0.N :=
  (h c).1 18

/-- After the run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v110_8) = (dats m 0 c).arrAt 19 cfg0.N :=
  (h c).1 19

/-- After the run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v110_9) = (dats m 0 c).arrAt 20 cfg0.N :=
  (h c).1 20

/-- After the run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v110_10) = (dats m 0 c).arrAt 21 cfg0.N :=
  (h c).1 21

/-- After the run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v110_11) = (dats m 0 c).arrAt 22 cfg0.N :=
  (h c).1 22

/-- After the run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v110_12) = (dats m 0 c).arrAt 23 cfg0.N :=
  (h c).1 23

/-- After the run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v110_13) = (dats m 0 c).arrAt 24 cfg0.N :=
  (h c).1 24

/-- After the run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v110_14) = (dats m 0 c).arrAt 25 cfg0.N :=
  (h c).1 25

/-- After the run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v110_15) = (dats m 0 c).arrAt 26 cfg0.N :=
  (h c).1 26

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

set_option maxHeartbeats 623620 in
/-- The run with each output array namedand the arguments unchanged. -/
theorem run_blocks : θ_run defs (onTc (τ := τ) (main (F := F))) ⟨m, fun _ => 0, ρ⟩ fun r => ∀ c : Dev nD,
      r.2.mem ((c : Thread nD τ).loc main_v110_0) = (dats m 0 c).arrAt 11 cfg0.N
      ∧ r.2.mem ((c : Thread nD τ).loc main_v110_1) = (dats m 0 c).arrAt 12 cfg0.N
      ∧ r.2.mem ((c : Thread nD τ).loc main_v110_2) = (dats m 0 c).arrAt 13 cfg0.N
      ∧ r.2.mem ((c : Thread nD τ).loc main_v110_3) = (dats m 0 c).arrAt 14 cfg0.N
      ∧ r.2.mem ((c : Thread nD τ).loc main_v110_4) = (dats m 0 c).arrAt 15 cfg0.N
      ∧ r.2.mem ((c : Thread nD τ).loc main_v110_5) = (dats m 0 c).arrAt 16 cfg0.N
      ∧ r.2.mem ((c : Thread nD τ).loc main_v110_6) = (dats m 0 c).arrAt 17 cfg0.N
      ∧ r.2.mem ((c : Thread nD τ).loc main_v110_7) = (dats m 0 c).arrAt 18 cfg0.N
      ∧ r.2.mem ((c : Thread nD τ).loc main_v110_8) = (dats m 0 c).arrAt 19 cfg0.N
      ∧ r.2.mem ((c : Thread nD τ).loc main_v110_9) = (dats m 0 c).arrAt 20 cfg0.N
      ∧ r.2.mem ((c : Thread nD τ).loc main_v110_10) = (dats m 0 c).arrAt 21 cfg0.N
      ∧ r.2.mem ((c : Thread nD τ).loc main_v110_11) = (dats m 0 c).arrAt 22 cfg0.N
      ∧ r.2.mem ((c : Thread nD τ).loc main_v110_12) = (dats m 0 c).arrAt 23 cfg0.N
      ∧ r.2.mem ((c : Thread nD τ).loc main_v110_13) = (dats m 0 c).arrAt 24 cfg0.N
      ∧ r.2.mem ((c : Thread nD τ).loc main_v110_14) = (dats m 0 c).arrAt 25 cfg0.N
      ∧ r.2.mem ((c : Thread nD τ).loc main_v110_15) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post11 m r h c,
      post12 m r h c,
      post13 m r h c,
      post14 m r h c,
      post15 m r h c,
      post16 m r h c,
      post17 m r h c,
      post18 m r h c,
      post19 m r h c,
      post20 m r h c,
      post21 m r h c,
      post22 m r h c,
      post23 m r h c,
      post24 m r h c,
      post25 m r h c,
      post26 m r h c,
      kept_main_arg0 m r h c,
      kept_main_arg1 m r h c,
      kept_main_arg2 m r h c,
      kept_main_arg3 m r h c,
      kept_main_arg4 m r h c⟩)
    (run_main m ρ)

end Cert.Projecting

end
end
-- ==== Proof.ProjRef.lean ====
module

public import proofs.«01_k».proof.Proof.Gen.InprojReferenceIdeal.Read
public import proofs.«01_k».proof.Proof.ProjSpec
public import Idealize.ShloMosaic.Lib.Pointwise
public import Idealize.ShloMosaic.Lib.Pipeline.ValueKit

@[expose] public section

set_option maxRecDepth 16384

noncomputable section

namespace Cert.Projecting.Ref

open Idealize.ShloMosaic Idealize.ShloMosaic.TcCoe Idealize.SL.Sem

open Cert.InprojReferenceIdeal Cert.InprojReferenceIdeal.Read

variable (x : (⟨S4x4096x1024, .f32⟩ : BufTy).Contents (Elt Ideal)) (g : (⟨S2x1024, .f32⟩ : BufTy).Contents (Elt Ideal)) (w : (⟨S2x1024x5700, .f32⟩ : BufTy).Contents (Elt Ideal)) (q k : (⟨S2x64, .f32⟩ : BufTy).Contents (Elt Ideal))

/-- A row of the input projected to the columns. -/
def P (b : Fin 4) (t : Fin 4096) : ℕ → EReal :=
  proj (fun k => x (ix3 b t k)) (fun k => g (ix2 0 k)) (fun k e => w (ix3 0 k e))

theorem r17 (b : Fin 4) (t : Fin 4096) (e : Fin 5700) : val_main_v17 (F := Ideal) x g w (ix3 b t e) = P x g w b t e.val := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17]
  exact (lanes_val (fun e => ∑ c, normed (fun c => x (ix3 b t c)) (fun c => g (ix2 0 c)) c * w (ix3 0 c e)) e).symm

theorem r50 (b : Fin 4) (t : Fin 4096) (h : Fin 4) (l : Fin 128) : val_main_v50 (F := Ideal) x g w (ix4 b t h l) = turnR t.val (fun l => P x g w b t (h.val * 128 + l)) l.val := by
  pointwise [val_main_v18, val_main_v19, val_main_v20, val_main_cst_2, val_main_v21, val_main_v22, val_main_cst_3, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50]
  simp only [r17]
  unfold turnR
  by_cases h0 : l.val < 64
  · rw [dif_pos h0, if_pos h0]; rfl
  · have h1 : l.val - 64 < 64 := by omega
    have h2 : 64 + (l.val - 64) = l.val := by omega
    rw [dif_neg h0, if_neg h0, dif_pos h1]
    simp only [h2]; rfl

theorem r85 (b : Fin 4) (t : Fin 4096) (h : Fin 4) (l : Fin 128) : val_main_v85 (F := Ideal) x g w (ix4 b t h l) = turnR t.val (fun l => P x g w b t (512 + (h.val * 128 + l))) l.val * Ideal.ofBits FTy.f32 1035273459#32 := by
  pointwise [val_main_v51, val_main_v52, val_main_v53, val_main_cst_4, val_main_v54, val_main_v55, val_main_cst_5, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_cst_6, val_main_v84, val_main_v85]
  simp only [r17]
  unfold turnR
  by_cases h0 : l.val < 64
  · rw [dif_pos h0, if_pos h0]; rfl
  · have h1 : l.val - 64 < 64 := by omega
    have h2 : 64 + (l.val - 64) = l.val := by omega
    rw [dif_neg h0, if_neg h0, dif_pos h1]
    simp only [h2]; rfl

theorem r104 (b : Fin 4) (t : Fin 4096) (h : Fin 8) (l : Fin 64) : val_main_v104 (F := Ideal) x g w q (ix4 b t h l) = headNorm (lanes fun l : Fin 64 => q (ix2 0 l)) (fun l => P x g w b t (2048 + (h.val * 64 + l))) l.val := by
  pointwise [val_main_v88, val_main_v89, val_main_v90, val_main_v91, val_main_v92, val_main_cst_7, val_main_v93, val_main_v94, val_main_cst_8, val_main_v95, val_main_v96, val_main_cst_9, val_main_v97, val_main_v98, val_main_v99, val_main_v100, val_main_v101, val_main_v102, val_main_v103, val_main_v104]
  simp only [r17]
  unfold headNorm
  rw [lanes_val]

theorem r135 (b : Fin 4) (t : Fin 4096) (h : Fin 8) (l : Fin 64) : val_main_v135 (F := Ideal) x g w q (ix4 b t h l) = turnA t.val (headNorm (lanes fun l : Fin 64 => q (ix2 0 l)) (fun l => P x g w b t (2048 + (h.val * 64 + l)))) l.val := by
  pointwise [val_main_v105, val_main_cst_10, val_main_v106, val_main_v107, val_main_cst_11, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135]
  simp only [r104]
  unfold turnA
  by_cases h0 : l.val < 8
  · rw [dif_pos h0, if_pos h0]; rfl
  · by_cases h1 : l.val < 16
    · have h1' : l.val - 8 < 8 := by omega
      have h2 : 8 + (l.val - 8) = l.val := by omega
      rw [dif_neg h0, if_neg h0, dif_pos h1', if_pos h1]
      simp only [h2]; rfl
    · have h1' : ¬ (l.val - 8 < 8) := by omega
      have h2 : 16 + (l.val - 8 - 8) = l.val := by omega
      rw [dif_neg h0, if_neg h0, dif_neg h1', if_neg h1]
      simp only [h2]

theorem r152 (b : Fin 4) (t : Fin 4096) (h : Fin 2) (l : Fin 64) : val_main_v152 (F := Ideal) x g w k (ix4 b t h l) = headNorm (lanes fun l : Fin 64 => k (ix2 0 l)) (fun l => P x g w b t (2560 + (h.val * 64 + l))) l.val := by
  pointwise [val_main_v136, val_main_v137, val_main_v138, val_main_v139, val_main_v140, val_main_cst_12, val_main_v141, val_main_v142, val_main_cst_13, val_main_v143, val_main_v144, val_main_cst_14, val_main_v145, val_main_v146, val_main_v147, val_main_v148, val_main_v149, val_main_v150, val_main_v151, val_main_v152]
  simp only [r17]
  unfold headNorm
  rw [lanes_val]

theorem r183 (b : Fin 4) (t : Fin 4096) (h : Fin 2) (l : Fin 64) : val_main_v183 (F := Ideal) x g w k (ix4 b t h l) = turnA t.val (headNorm (lanes fun l : Fin 64 => k (ix2 0 l)) (fun l => P x g w b t (2560 + (h.val * 64 + l)))) l.val := by
  pointwise [val_main_v153, val_main_cst_15, val_main_v154, val_main_v155, val_main_cst_16, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183]
  simp only [r152]
  unfold turnA
  by_cases h0 : l.val < 8
  · rw [dif_pos h0, if_pos h0]; rfl
  · by_cases h1 : l.val < 16
    · have h1' : l.val - 8 < 8 := by omega
      have h2 : 8 + (l.val - 8) = l.val := by omega
      rw [dif_neg h0, if_neg h0, dif_pos h1', if_pos h1]
      simp only [h2]; rfl
    · have h1' : ¬ (l.val - 8 < 8) := by omega
      have h2 : 16 + (l.val - 8 - 8) = l.val := by omega
      rw [dif_neg h0, if_neg h0, dif_neg h1', if_neg h1]
      simp only [h2]

theorem r218 (b : Fin 4) (t : Fin 4096) (h : Fin 4) (l : Fin 64) : val_main_v218 (F := Ideal) x g w (ix4 b t h l) = turnA t.val (fun l => P x g w b t (3328 + (h.val * 64 + l))) l.val := by
  pointwise [val_main_v186, val_main_v187, val_main_v188, val_main_cst_17, val_main_v189, val_main_v190, val_main_cst_18, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218]
  simp only [r17]
  unfold turnA
  by_cases h0 : l.val < 8
  · rw [dif_pos h0, if_pos h0]; rfl
  · by_cases h1 : l.val < 16
    · have h1' : l.val - 8 < 8 := by omega
      have h2 : 8 + (l.val - 8) = l.val := by omega
      rw [dif_neg h0, if_neg h0, dif_pos h1', if_pos h1]
      simp only [h2]; rfl
    · have h1' : ¬ (l.val - 8 < 8) := by omega
      have h2 : 16 + (l.val - 8 - 8) = l.val := by omega
      rw [dif_neg h0, if_neg h0, dif_neg h1', if_neg h1]
      simp only [h2]

theorem r251 (b : Fin 4) (t : Fin 4096) (h : Fin 1) (l : Fin 64) : val_main_v251 (F := Ideal) x g w (ix4 b t h l) = turnA t.val (fun l => P x g w b t (3584 + l)) l.val := by
  pointwise [val_main_v219, val_main_v220, val_main_v221, val_main_cst_19, val_main_v222, val_main_v223, val_main_cst_20, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251]
  simp only [r17]
  unfold turnA
  by_cases h0 : l.val < 8
  · rw [dif_pos h0, if_pos h0]; rfl
  · by_cases h1 : l.val < 16
    · have h1' : l.val - 8 < 8 := by omega
      have h2 : 8 + (l.val - 8) = l.val := by omega
      rw [dif_neg h0, if_neg h0, dif_pos h1', if_pos h1]
      simp only [h2]; rfl
    · have h1' : ¬ (l.val - 8 < 8) := by omega
      have h2 : 16 + (l.val - 8 - 8) = l.val := by omega
      rw [dif_neg h0, if_neg h0, dif_neg h1', if_neg h1]
      simp only [h2]

theorem r262 (n : Fin 16384) (e : Fin 512) : val_main_v262 (F := Ideal) x g w (ix2 n e) = turnR (n.val % 4096) (fun l => P x g w (⟨n.val / 4096, by omega⟩ : Fin 4) (⟨n.val % 4096, by omega⟩ : Fin 4096) (e.val / 128 * 128 + l)) (e.val % 128) := by
  pointwise [val_main_v261, val_main_v262]
  simp only [r50]

theorem r264 (n : Fin 16384) (e : Fin 512) : val_main_v264 (F := Ideal) x g w (ix2 n e) = turnR (n.val % 4096) (fun l => P x g w (⟨n.val / 4096, by omega⟩ : Fin 4) (⟨n.val % 4096, by omega⟩ : Fin 4096) (512 + (e.val / 128 * 128 + l))) (e.val % 128) * Ideal.ofBits FTy.f32 1035273459#32 := by
  pointwise [val_main_v263, val_main_v264]
  simp only [r85]

theorem r266 (n : Fin 16384) (e : Fin 512) : val_main_v266 (F := Ideal) x g w (ix2 n e) = P x g w (⟨n.val / 4096, by omega⟩ : Fin 4) (⟨n.val % 4096, by omega⟩ : Fin 4096) (1024 + e.val) := by
  pointwise [val_main_v86, val_main_v265, val_main_v266]
  simp only [r17]

theorem r268 (n : Fin 16384) (e : Fin 512) : val_main_v268 (F := Ideal) x g w (ix2 n e) = P x g w (⟨n.val / 4096, by omega⟩ : Fin 4) (⟨n.val % 4096, by omega⟩ : Fin 4096) (1536 + e.val) := by
  pointwise [val_main_v87, val_main_v267, val_main_v268]
  simp only [r17]

theorem r272 (n : Fin 16384) (e : Fin 512) : val_main_v272 (F := Ideal) x g w q (ix2 n e) = turnA (n.val % 4096) (headNorm (lanes fun l : Fin 64 => q (ix2 0 l)) (fun l => P x g w (⟨n.val / 4096, by omega⟩ : Fin 4) (⟨n.val % 4096, by omega⟩ : Fin 4096) (2048 + ((e.val / 64 % 2 * 4 + e.val / 128) * 64 + l)))) (e.val % 64) := by
  pointwise [val_main_v269, val_main_v270, val_main_v271, val_main_v272]
  simp only [r135]

theorem r276 (n : Fin 16384) (e : Fin 512) : val_main_v276 (F := Ideal) x g w (ix2 n e) = P x g w (⟨n.val / 4096, by omega⟩ : Fin 4) (⟨n.val % 4096, by omega⟩ : Fin 4096) (2816 + ((e.val / 64 % 2 * 4 + e.val / 128) * 64 + e.val % 64)) := by
  pointwise [val_main_v185, val_main_v273, val_main_v274, val_main_v275, val_main_v276]
  simp only [r17]
  exact congrArg (P x g w _ _) (by omega)

theorem r255 (n : Fin 16384) (e : Fin 128) : val_main_v255 (F := Ideal) x g w k (ix2 n e) = turnA (n.val % 4096) (headNorm (lanes fun l : Fin 64 => k (ix2 0 l)) (fun l => P x g w (⟨n.val / 4096, by omega⟩ : Fin 4) (⟨n.val % 4096, by omega⟩ : Fin 4096) (2560 + ((e.val / 64) * 64 + l)))) (e.val % 64) := by
  pointwise [val_main_v255]
  simp only [r183]

theorem r277 (n : Fin 16384) (e : Fin 128) : val_main_v277 (F := Ideal) x g w k (ix2 n e) = turnA (n.val % 4096) (headNorm (lanes fun l : Fin 64 => k (ix2 0 l)) (fun l => P x g w (⟨n.val / 4096, by omega⟩ : Fin 4) (⟨n.val % 4096, by omega⟩ : Fin 4096) (2560 + ((e.val / 64) * 64 + l)))) (e.val % 64) := by
  pointwise [val_main_v255, val_main_v277]
  simp only [r183]

theorem r256 (n : Fin 16384) (e : Fin 128) : val_main_v256 (F := Ideal) x g w (ix2 n e) = P x g w (⟨n.val / 4096, by omega⟩ : Fin 4) (⟨n.val % 4096, by omega⟩ : Fin 4096) (2688 + e.val) := by
  pointwise [val_main_v184, val_main_v256]
  simp only [r17]

theorem r278 (i : Fin 144) (n : Fin 16384) : val_main_v278 (F := Ideal) x g w (ix2 i n) = if i.val < 128 then P x g w (⟨n.val / 4096, by omega⟩ : Fin 4) (⟨n.val % 4096, by omega⟩ : Fin 4096) (2688 + i.val) else 1 := by
  pointwise [val_main_v184, val_main_v256, val_main_v258, val_main_cst_21, val_main_v259, val_main_v260, val_main_v278]
  simp only [r17]
  by_cases h : i.val < 128
  · rw [dif_pos h, if_pos h]
  · rw [dif_neg h, if_neg h]

theorem r280 (n : Fin 16384) (e : Fin 256) : val_main_v280 (F := Ideal) x g w (ix2 n e) = turnA (n.val % 4096) (fun l => P x g w (⟨n.val / 4096, by omega⟩ : Fin 4) (⟨n.val % 4096, by omega⟩ : Fin 4096) (3328 + (e.val / 64 * 64 + l))) (e.val % 64) := by
  pointwise [val_main_v279, val_main_v280]
  simp only [r218]

theorem r257 (n : Fin 16384) (e : Fin 64) : val_main_v257 (F := Ideal) x g w (ix2 n e) = turnA (n.val % 4096) (fun l => P x g w (⟨n.val / 4096, by omega⟩ : Fin 4) (⟨n.val % 4096, by omega⟩ : Fin 4096) (3584 + l)) e.val := by
  pointwise [val_main_v257]
  simp only [r251]

theorem r282 (n : Fin 16384) (e : Fin 128) : val_main_v282 (F := Ideal) x g w (ix2 n e) = turnA (n.val % 4096) (fun l => P x g w (⟨n.val / 4096, by omega⟩ : Fin 4) (⟨n.val % 4096, by omega⟩ : Fin 4096) (3584 + l)) (e.val % 64) := by
  pointwise [val_main_v257, val_main_v281, val_main_v282]
  simp only [r251]
  by_cases h : e.val < 64
  · rw [dif_pos h, show e.val % 64 = e.val by omega]
  · rw [dif_neg h, show e.val % 64 = e.val - 64 by omega]

theorem r284 (n : Fin 16384) (e : Fin 1024) : val_main_v284 (F := Ideal) x g w (ix2 n e) = P x g w (⟨n.val / 4096, by omega⟩ : Fin 4) (⟨n.val % 4096, by omega⟩ : Fin 4096) (3652 + e.val) := by
  pointwise [val_main_v253, val_main_v283, val_main_v284]
  simp only [r17]

theorem r286 (n : Fin 16384) (e : Fin 1024) : val_main_v286 (F := Ideal) x g w (ix2 n e) = P x g w (⟨n.val / 4096, by omega⟩ : Fin 4) (⟨n.val % 4096, by omega⟩ : Fin 4096) (4676 + e.val) := by
  pointwise [val_main_v254, val_main_v285, val_main_v286]
  simp only [r17]

theorem r288 (n : Fin 16384) (e : Fin 128) : val_main_v288 (F := Ideal) x g w (ix2 n e) = if e.val < 4 then P x g w (⟨n.val / 4096, by omega⟩ : Fin 4) (⟨n.val % 4096, by omega⟩ : Fin 4096) (3648 + e.val) else 0 := by
  pointwise [val_main_v252, val_main_v287, val_main_c, val_main_call0_v0, val_main_v288]
  simp only [r17]
  by_cases h : e.val < 4
  · rw [dif_pos h, if_pos h]
  · rw [dif_neg h, if_neg h]
    exact sitofp_zero

end Cert.Projecting.Ref

end
end
-- ==== Proof.ProjFinal.lean ====
module

public import proofs.«01_k».proof.Proof.ProjOut
public import proofs.«01_k».proof.Proof.ProjHost
public import proofs.«01_k».proof.Proof.ProjRun
public import proofs.«01_k».proof.Proof.ProjRef
public import proofs.«01_k».proof.Proof.Gen.InprojReferenceIdeal.Run
public import proofs.«01_k».proof.Proof.Gen.InprojReferenceIdeal.Read
public import Idealize.ShloMosaic.Lib.Pointwise
public import Idealize.ShloMosaic.Lib.Pipeline.ValueKit

@[expose] public section

set_option maxRecDepth 16384

noncomputable section

namespace Cert.Projecting

open Idealize.ShloMosaic Idealize.ShloMosaic.TcCoe Idealize.SL.Sem

open Cert.InprojIdeal Cert.InprojIdeal.Gen

variable (m : (ℓ : Loc nD τ sig) → Buf (Elt Ideal) ℓ) (c : Dev nD)

/-- The projection of a row of the whole input. -/
abbrev Z (n : Fin 16384) : ℕ → EReal :=
  Ref.P (m ((c : Thread nD τ).loc main_arg0)) (m ((c : Thread nD τ).loc main_arg1)) (m ((c : Thread nD τ).loc main_arg2))
    (⟨n.val / 4096, by omega⟩ : Fin 4) (⟨n.val % 4096, by omega⟩ : Fin 4096)

/-- A packed column of a block's row. -/
abbrev Y (t : Fin cfg0.N) (i : Fin 512) : ℕ → EReal := packed (iblk m c 0 t) (iblk m c 1 t) (iblk m c 2 t) i

/-- The gain of the stream and the columns that are normalised are real. -/
def Fine : Prop :=
  (∀ k : Fin 1024, IsReal (m ((c : Thread nD τ).loc main_arg1) (ix2 0 k)))
  ∧ ∀ (k : Fin 1024) (e : Fin 5700), 2048 ≤ e.val → e.val < 2688 → IsReal (m ((c : Thread nD τ).loc main_arg2) (ix3 0 k e))

theorem Z_real (h : Fine m c) (n : Fin 16384) (e : ℕ) (h0 : 2048 ≤ e) (h1 : e < 2688) : IsReal (Z m c n e) :=
  proj_real _ _ _ e (by omega) h.1 fun k => h.2 k ⟨e, by omega⟩ h0 h1

theorem row_split (t : Fin cfg0.N) (i : Fin 512) : (trow t i).val = (row t i).val % 4096 := by
  show 512 * (t.val % 8) + i.val = (512 * t.val + i.val) % 4096
  omega

/-- A packed column that holds a column of the weight. -/
theorem packed_of (t : Fin cfg0.N) (i : Fin 512) (r s : ℕ) (hr : r < 5888) (hs : s < 5700)
    (h : ∀ k : Fin 1024, V m c main_v97 (ix2 (⟨r, hr⟩ : Fin 5888) k) = m ((c : Thread nD τ).loc main_arg2) (ix3 0 k (⟨s, hs⟩ : Fin 5700))) :
    Y m c t i r = Z m c (row t i) s := by
  unfold Y Z packed Ref.P proj
  rw [lanes_lt _ r hr, lanes_lt _ s hs]
  refine Finset.sum_congr rfl fun k _ => ?_
  simp only [read_0, read_1, read_2, h k]
  exact congrArg₂ (fun (a b : Fin 1024 → EReal) => normed a b k * m ((c : Thread nD τ).loc main_arg2) (ix3 0 k (⟨s, hs⟩ : Fin 5700)))
    (funext fun k => host_x m c (row t i) k) (funext fun k => host_g m c k)

/-- A packed column that holds zero. -/
theorem packed_zero (t : Fin cfg0.N) (i : Fin 512) (r : ℕ) (hr : r < 5888)
    (h : ∀ k : Fin 1024, V m c main_v97 (ix2 (⟨r, hr⟩ : Fin 5888) k) = (0 : EReal)) : Y m c t i r = 0 := by
  unfold Y packed
  rw [lanes_lt _ r hr]
  refine Finset.sum_eq_zero fun k _ => ?_
  rw [read_2, h k, mul_zero]

theorem col_0 (t : Fin cfg0.N) (i : Fin 512) (r : ℕ) (h : r < 512) : Y m c t i (r) = Z m c (row t i) (r) :=
  packed_of m c t i _ _ (by omega) (by omega) fun k => row_0 m c ⟨r, h⟩ k

theorem col_1 (t : Fin cfg0.N) (i : Fin 512) (r : ℕ) (h : r < 512) : Y m c t i (512 + r) = Z m c (row t i) (512 + r) :=
  packed_of m c t i _ _ (by omega) (by omega) fun k => row_1 m c ⟨r, h⟩ k

theorem col_2 (t : Fin cfg0.N) (i : Fin 512) (r : ℕ) (h : r < 512) : Y m c t i (1024 + r) = Z m c (row t i) (1024 + r) :=
  packed_of m c t i _ _ (by omega) (by omega) fun k => row_2 m c ⟨r, h⟩ k

theorem col_3 (t : Fin cfg0.N) (i : Fin 512) (r : ℕ) (h : r < 512) : Y m c t i (1536 + r) = Z m c (row t i) (1536 + r) :=
  packed_of m c t i _ _ (by omega) (by omega) fun k => row_3 m c ⟨r, h⟩ k

theorem col_4 (t : Fin cfg0.N) (i : Fin 512) (r : ℕ) (h : r < 512) : Y m c t i (2048 + r) = Z m c (row t i) (2048 + ((r / 64 % 2 * 4 + r / 128) * 64 + r % 64)) :=
  packed_of m c t i _ _ (by omega) (by omega) fun k => row_4 m c ⟨r, h⟩ k

theorem col_5 (t : Fin cfg0.N) (i : Fin 512) (r : ℕ) (h : r < 512) : Y m c t i (2560 + r) = Z m c (row t i) (2816 + ((r / 64 % 2 * 4 + r / 128) * 64 + r % 64)) :=
  packed_of m c t i _ _ (by omega) (by omega) fun k => row_5 m c ⟨r, h⟩ k

theorem col_6 (t : Fin cfg0.N) (i : Fin 512) (r : ℕ) (h : r < 128) : Y m c t i (3072 + r) = Z m c (row t i) (2560 + r) :=
  packed_of m c t i _ _ (by omega) (by omega) fun k => row_6 m c ⟨r, h⟩ k

theorem col_7 (t : Fin cfg0.N) (i : Fin 512) (r : ℕ) (h : r < 128) : Y m c t i (3200 + r) = Z m c (row t i) (2688 + r) :=
  packed_of m c t i _ _ (by omega) (by omega) fun k => row_7 m c ⟨r, h⟩ k

theorem col_8 (t : Fin cfg0.N) (i : Fin 512) (r : ℕ) (h : r < 256) : Y m c t i (3328 + r) = Z m c (row t i) (3328 + r) :=
  packed_of m c t i _ _ (by omega) (by omega) fun k => row_8 m c ⟨r, h⟩ k

theorem col_9 (t : Fin cfg0.N) (i : Fin 512) (r : ℕ) (h : r < 64) : Y m c t i (3584 + r) = Z m c (row t i) (3584 + r) :=
  packed_of m c t i _ _ (by omega) (by omega) fun k => row_9 m c ⟨r, h⟩ k

theorem col_10 (t : Fin cfg0.N) (i : Fin 512) (r : ℕ) (h : r < 64) : Y m c t i (3648 + r) = Z m c (row t i) (3584 + r) :=
  packed_of m c t i _ _ (by omega) (by omega) fun k => row_10 m c ⟨r, h⟩ k

theorem col_11 (t : Fin cfg0.N) (i : Fin 512) (r : ℕ) (h : r < 128) : Y m c t i (3712 + r) = if r < 4 then Z m c (row t i) (3648 + r) else 0 := by
  by_cases h4 : r < 4
  · rw [if_pos h4]
    exact packed_of m c t i _ _ (by omega) (by omega) fun k => (row_11 m c ⟨r, h⟩ k).trans (dif_pos h4)
  · rw [if_neg h4]
    exact packed_zero m c t i _ (by omega) fun k => (row_11 m c ⟨r, h⟩ k).trans (dif_neg h4)

theorem col_12 (t : Fin cfg0.N) (i : Fin 512) (r : ℕ) (h : r < 1024) : Y m c t i (3840 + r) = Z m c (row t i) (3652 + r) :=
  packed_of m c t i _ _ (by omega) (by omega) fun k => row_12 m c ⟨r, h⟩ k

theorem col_13 (t : Fin cfg0.N) (i : Fin 512) (r : ℕ) (h : r < 1024) : Y m c t i (4864 + r) = Z m c (row t i) (4676 + r) :=
  packed_of m c t i _ _ (by omega) (by omega) fun k => row_13 m c ⟨r, h⟩ k

theorem rollR_blk (t : Fin cfg0.N) (i : Fin 512) (z : ℕ → EReal) (k : ℕ) (hk : k < 128) :
    rollR (tab (iblk m c 3 t) i) (tab (iblk m c 4 t) i) z k = turnR ((row t i).val % 4096) z k := by
  refine rollR_eq _ _ _ z k hk ?_ ?_
  · unfold tab
    rw [lanes_lt _ k hk, read_3, host_rc, row_split]
  · unfold tab
    rw [lanes_lt _ k hk, read_4, host_rs, row_split]

theorem rollA_blk (t : Fin cfg0.N) (i : Fin 512) (z : ℕ → EReal) (k : ℕ) (hk : k < 128) :
    rollA (tab (iblk m c 5 t) i) (tab (iblk m c 6 t) i) (tab (iblk m c 7 t) i) z k
      = turnA ((row t i).val % 4096) (fun l => z (k / 64 * 64 + l)) (k % 64) := by
  refine rollA_eq _ _ _ _ z k hk ?_ ?_ ?_
  · unfold tab
    rw [lanes_lt _ k hk, read_5, host_ac, row_split]
  · unfold tab
    rw [lanes_lt _ k hk, read_6, host_as1, row_split]
  · unfold tab
    rw [lanes_lt _ k hk, read_7, host_as2, row_split]

/-- The gain of a head. -/
abbrev gain_q : ℕ → EReal := lanes fun l : Fin 64 => m ((c : Thread nD τ).loc main_arg3) (ix2 0 l)

theorem norm_q (t : Fin cfg0.N) (z : ℕ → EReal) (k : ℕ) (hk : k < 128) (hz : ∀ l < 128, IsReal (z l)) :
    groupNorm (mask (iblk m c 10 t)) (gain (iblk m c 8 t)) z k = headNorm (gain_q m c) (fun l => z (k / 64 * 64 + l)) (k % 64) := by
  refine groupNorm_eq _ _ z k hk (fun x => ?_) (fun l hl => hz l hl) _ ?_
  · unfold mask
    rw [lanes_lt _ k hk, read_10, host_mask]
  · unfold gain gain_q
    rw [lanes_lt _ k hk, lanes_lt _ (k % 64) (by omega), read_8, host_q]

/-- The gain of a head. -/
abbrev gain_k : ℕ → EReal := lanes fun l : Fin 64 => m ((c : Thread nD τ).loc main_arg4) (ix2 0 l)

theorem norm_k (t : Fin cfg0.N) (z : ℕ → EReal) (k : ℕ) (hk : k < 128) (hz : ∀ l < 128, IsReal (z l)) :
    groupNorm (mask (iblk m c 10 t)) (gain (iblk m c 9 t)) z k = headNorm (gain_k m c) (fun l => z (k / 64 * 64 + l)) (k % 64) := by
  refine groupNorm_eq _ _ z k hk (fun x => ?_) (fun l hl => hz l hl) _ ?_
  · unfold mask
    rw [lanes_lt _ k hk, read_10, host_mask]
  · unfold gain gain_k
    rw [lanes_lt _ k hk, lanes_lt _ (k % 64) (by omega), read_9, host_k]

/-- The reference's result 0 on the kernel's arguments. -/
def G11 : (⟨S16384x512, .bf16⟩ : BufTy).Contents (Elt Ideal) :=
  Cert.InprojReferenceIdeal.Read.val_main_v262 (F := Ideal) (m ((c : Thread nD τ).loc main_arg0)) (m ((c : Thread nD τ).loc main_arg1)) (m ((c : Thread nD τ).loc main_arg2))

theorem block11 (t : Fin cfg0.N) (i : Fin 512) (e : Fin 512) :
    out0_11 (iblk m c 0 t) (iblk m c 1 t) (iblk m c 2 t) (iblk m c 3 t) (iblk m c 4 t) (ix2 i e) = G11 m c (ix2 (row t i) e) := by
  rw [out11]
  unfold G11
  rw [rollR_blk m c t i _ _ (by omega), Ref.r262]
  exact turnR_congr _ _ _ _ (by omega) fun l hl => col_0 m c t i _ (by omega)

/-- The reference's result 1 on the kernel's arguments. -/
def G12 : (⟨S16384x512, .bf16⟩ : BufTy).Contents (Elt Ideal) :=
  Cert.InprojReferenceIdeal.Read.val_main_v264 (F := Ideal) (m ((c : Thread nD τ).loc main_arg0)) (m ((c : Thread nD τ).loc main_arg1)) (m ((c : Thread nD τ).loc main_arg2))

theorem block12 (t : Fin cfg0.N) (i : Fin 512) (e : Fin 512) :
    out0_12 (iblk m c 0 t) (iblk m c 1 t) (iblk m c 2 t) (iblk m c 3 t) (iblk m c 4 t) (ix2 i e) = G12 m c (ix2 (row t i) e) := by
  rw [out12]
  unfold G12
  rw [rollR_blk m c t i _ _ (by omega), Ref.r264]
  exact congrArg (· * Ideal.ofBits FTy.f32 1035273459#32) (turnR_congr _ _ _ _ (by omega) fun l hl => col_1 m c t i _ (by omega))

/-- The reference's result 2 on the kernel's arguments. -/
def G13 : (⟨S16384x512, .bf16⟩ : BufTy).Contents (Elt Ideal) :=
  Cert.InprojReferenceIdeal.Read.val_main_v266 (F := Ideal) (m ((c : Thread nD τ).loc main_arg0)) (m ((c : Thread nD τ).loc main_arg1)) (m ((c : Thread nD τ).loc main_arg2))

theorem block13 (t : Fin cfg0.N) (i : Fin 512) (e : Fin 512) :
    out0_13 (iblk m c 0 t) (iblk m c 1 t) (iblk m c 2 t) (ix2 i e) = G13 m c (ix2 (row t i) e) := by
  rw [out13]
  unfold G13
  rw [Ref.r266]
  exact col_2 m c t i _ (by omega)

/-- The reference's result 3 on the kernel's arguments. -/
def G14 : (⟨S16384x512, .bf16⟩ : BufTy).Contents (Elt Ideal) :=
  Cert.InprojReferenceIdeal.Read.val_main_v268 (F := Ideal) (m ((c : Thread nD τ).loc main_arg0)) (m ((c : Thread nD τ).loc main_arg1)) (m ((c : Thread nD τ).loc main_arg2))

theorem block14 (t : Fin cfg0.N) (i : Fin 512) (e : Fin 512) :
    out0_14 (iblk m c 0 t) (iblk m c 1 t) (iblk m c 2 t) (ix2 i e) = G14 m c (ix2 (row t i) e) := by
  rw [out14]
  unfold G14
  rw [Ref.r268]
  exact col_3 m c t i _ (by omega)

/-- The reference's result 4 on the kernel's arguments. -/
def G15 : (⟨S16384x512, .bf16⟩ : BufTy).Contents (Elt Ideal) :=
  Cert.InprojReferenceIdeal.Read.val_main_v272 (F := Ideal) (m ((c : Thread nD τ).loc main_arg0)) (m ((c : Thread nD τ).loc main_arg1)) (m ((c : Thread nD τ).loc main_arg2)) (m ((c : Thread nD τ).loc main_arg3))

theorem block15 (hf : Fine m c) (t : Fin cfg0.N) (i : Fin 512) (e : Fin 512) :
    out0_15 (iblk m c 0 t) (iblk m c 1 t) (iblk m c 2 t) (iblk m c 5 t) (iblk m c 6 t) (iblk m c 7 t) (iblk m c 8 t) (iblk m c 10 t) (ix2 i e) = G15 m c (ix2 (row t i) e) := by
  rw [out15]
  unfold G15
  rw [rollA_blk m c t i _ _ (by omega), Ref.r272, show e.val % 128 % 64 = e.val % 64 by omega]
  refine turnA_congr _ _ _ _ (by omega) fun l hl => ?_
  beta_reduce
  rw [norm_q m c t _ _ (by omega) fun l' hl' => ?_]
  · rw [show (e.val % 128 / 64 * 64 + l) % 64 = l by omega]
    refine headNorm_congr _ _ _ l hl fun l' hl' => ?_
    beta_reduce
    refine (col_4 m c t i _ (by omega)).trans (congrArg (Z m c (row t i)) ?_)
    have h1 : (e.val / 128 * 128 + ((e.val % 128 / 64 * 64 + l) / 64 * 64 + l')) / 128 = e.val / 128 := by omega
    have h2 : (e.val / 128 * 128 + ((e.val % 128 / 64 * 64 + l) / 64 * 64 + l')) / 64 % 2 = e.val / 64 % 2 := by omega
    have h3 : (e.val / 128 * 128 + ((e.val % 128 / 64 * 64 + l) / 64 * 64 + l')) % 64 = l' := by omega
    rw [h1, h2, h3]
  · beta_reduce
    have hh : e.val / 128 * 128 + l' < 512 := by omega
    rw [show packed (iblk m c 0 t) (iblk m c 1 t) (iblk m c 2 t) i (2048 + (e.val / 128 * 128 + l')) = _ from col_4 m c t i _ hh]
    exact Z_real m c hf _ _ (by omega) (by omega)

/-- The reference's result 5 on the kernel's arguments. -/
def G16 : (⟨S16384x512, .bf16⟩ : BufTy).Contents (Elt Ideal) :=
  Cert.InprojReferenceIdeal.Read.val_main_v276 (F := Ideal) (m ((c : Thread nD τ).loc main_arg0)) (m ((c : Thread nD τ).loc main_arg1)) (m ((c : Thread nD τ).loc main_arg2))

theorem block16 (t : Fin cfg0.N) (i : Fin 512) (e : Fin 512) :
    out0_16 (iblk m c 0 t) (iblk m c 1 t) (iblk m c 2 t) (ix2 i e) = G16 m c (ix2 (row t i) e) := by
  rw [out16]
  unfold G16
  rw [Ref.r276]
  exact col_5 m c t i _ (by omega)

/-- The reference's result 6 on the kernel's arguments. -/
def G17 : (⟨S16384x128, .bf16⟩ : BufTy).Contents (Elt Ideal) :=
  Cert.InprojReferenceIdeal.Read.val_main_v277 (F := Ideal) (m ((c : Thread nD τ).loc main_arg0)) (m ((c : Thread nD τ).loc main_arg1)) (m ((c : Thread nD τ).loc main_arg2)) (m ((c : Thread nD τ).loc main_arg4))

theorem block17 (hf : Fine m c) (t : Fin cfg0.N) (i : Fin 512) (e : Fin 128) :
    out0_17 (iblk m c 0 t) (iblk m c 1 t) (iblk m c 2 t) (iblk m c 5 t) (iblk m c 6 t) (iblk m c 7 t) (iblk m c 9 t) (iblk m c 10 t) (ix2 i e) = G17 m c (ix2 (row t i) e) := by
  rw [out17]
  unfold G17
  rw [rollA_blk m c t i _ _ (by omega), Ref.r277]
  refine turnA_congr _ _ _ _ (by omega) fun l hl => ?_
  beta_reduce
  rw [norm_k m c t _ _ (by omega) fun l' hl' => ?_]
  · rw [show (e.val / 64 * 64 + l) % 64 = l by omega, show (e.val / 64 * 64 + l) / 64 = e.val / 64 by omega]
    exact headNorm_congr _ _ _ l hl fun l' hl' => col_6 m c t i _ (by omega)
  · beta_reduce
    rw [show packed (iblk m c 0 t) (iblk m c 1 t) (iblk m c 2 t) i (3072 + l') = _ from col_6 m c t i _ hl']
    exact Z_real m c hf _ _ (by omega) (by omega)

/-- The reference's result 7 on the kernel's arguments. -/
def G18 : (⟨S144x16384, .bf16⟩ : BufTy).Contents (Elt Ideal) :=
  Cert.InprojReferenceIdeal.Read.val_main_v278 (F := Ideal) (m ((c : Thread nD τ).loc main_arg0)) (m ((c : Thread nD τ).loc main_arg1)) (m ((c : Thread nD τ).loc main_arg2))

theorem block18 (t : Fin cfg0.N) (i : Fin 144) (e : Fin 512) :
    out0_18 (iblk m c 0 t) (iblk m c 1 t) (iblk m c 2 t) (ix2 i e) = G18 m c (ix2 i (row t e)) := by
  rw [out18]
  unfold G18
  rw [Ref.r278, show 3072 + (128 + i.val) = 3200 + i.val by omega]
  by_cases h : i.val < 128
  · rw [if_pos h, if_pos h]
    exact col_7 m c t e _ h
  · rw [if_neg h, if_neg h]

/-- The reference's result 8 on the kernel's arguments. -/
def G19 : (⟨S16384x256, .bf16⟩ : BufTy).Contents (Elt Ideal) :=
  Cert.InprojReferenceIdeal.Read.val_main_v280 (F := Ideal) (m ((c : Thread nD τ).loc main_arg0)) (m ((c : Thread nD τ).loc main_arg1)) (m ((c : Thread nD τ).loc main_arg2))

theorem block19 (t : Fin cfg0.N) (i : Fin 512) (e : Fin 256) :
    out0_19 (iblk m c 0 t) (iblk m c 1 t) (iblk m c 2 t) (iblk m c 5 t) (iblk m c 6 t) (iblk m c 7 t) (ix2 i e) = G19 m c (ix2 (row t i) e) := by
  rw [out19]
  unfold G19
  rw [rollA_blk m c t i _ _ (by omega), Ref.r280, show e.val % 128 % 64 = e.val % 64 by omega]
  refine turnA_congr _ _ _ _ (by omega) fun l hl => ?_
  beta_reduce
  rw [show e.val / 128 * 128 + (e.val % 128 / 64 * 64 + l) = e.val / 64 * 64 + l by omega]
  exact col_8 m c t i _ (by omega)

/-- The reference's result 9 on the kernel's arguments. -/
def G20 : (⟨S16384x128, .bf16⟩ : BufTy).Contents (Elt Ideal) :=
  Cert.InprojReferenceIdeal.Read.val_main_v282 (F := Ideal) (m ((c : Thread nD τ).loc main_arg0)) (m ((c : Thread nD τ).loc main_arg1)) (m ((c : Thread nD τ).loc main_arg2))

theorem block20 (t : Fin cfg0.N) (i : Fin 512) (e : Fin 128) :
    out0_20 (iblk m c 0 t) (iblk m c 1 t) (iblk m c 2 t) (iblk m c 5 t) (iblk m c 6 t) (iblk m c 7 t) (ix2 i e) = G20 m c (ix2 (row t i) e) := by
  rw [out20]
  unfold G20
  rw [rollA_blk m c t i _ _ (by omega), Ref.r282]
  refine turnA_congr _ _ _ _ (by omega) fun l hl => ?_
  beta_reduce
  by_cases h : e.val < 64
  · rw [show 3328 + (256 + (e.val / 64 * 64 + l)) = 3584 + l by omega]
    exact col_9 m c t i _ hl
  · rw [show 3328 + (256 + (e.val / 64 * 64 + l)) = 3648 + l by omega]
    exact col_10 m c t i _ hl

/-- The reference's result 10 on the kernel's arguments. -/
def G21 : (⟨S16384x1024, .bf16⟩ : BufTy).Contents (Elt Ideal) :=
  Cert.InprojReferenceIdeal.Read.val_main_v284 (F := Ideal) (m ((c : Thread nD τ).loc main_arg0)) (m ((c : Thread nD τ).loc main_arg1)) (m ((c : Thread nD τ).loc main_arg2))

theorem block21 (t : Fin cfg0.N) (i : Fin 512) (e : Fin 1024) :
    out0_21 (iblk m c 0 t) (iblk m c 1 t) (iblk m c 2 t) (ix2 i e) = G21 m c (ix2 (row t i) e) := by
  rw [out21]
  unfold G21
  rw [Ref.r284]
  exact col_12 m c t i _ (by omega)

/-- The reference's result 11 on the kernel's arguments. -/
def G22 : (⟨S16384x1024, .bf16⟩ : BufTy).Contents (Elt Ideal) :=
  Cert.InprojReferenceIdeal.Read.val_main_v286 (F := Ideal) (m ((c : Thread nD τ).loc main_arg0)) (m ((c : Thread nD τ).loc main_arg1)) (m ((c : Thread nD τ).loc main_arg2))

theorem block22 (t : Fin cfg0.N) (i : Fin 512) (e : Fin 1024) :
    out0_22 (iblk m c 0 t) (iblk m c 1 t) (iblk m c 2 t) (ix2 i e) = G22 m c (ix2 (row t i) e) := by
  rw [out22]
  unfold G22
  rw [Ref.r286]
  exact col_13 m c t i _ (by omega)

/-- The reference's result 12 on the kernel's arguments. -/
def G23 : (⟨S16384x128, .f32⟩ : BufTy).Contents (Elt Ideal) :=
  Cert.InprojReferenceIdeal.Read.val_main_v255 (F := Ideal) (m ((c : Thread nD τ).loc main_arg0)) (m ((c : Thread nD τ).loc main_arg1)) (m ((c : Thread nD τ).loc main_arg2)) (m ((c : Thread nD τ).loc main_arg4))

theorem block23 (hf : Fine m c) (t : Fin cfg0.N) (i : Fin 512) (e : Fin 128) :
    out0_23 (iblk m c 0 t) (iblk m c 1 t) (iblk m c 2 t) (iblk m c 5 t) (iblk m c 6 t) (iblk m c 7 t) (iblk m c 9 t) (iblk m c 10 t) (ix2 i e) = G23 m c (ix2 (row t i) e) := by
  rw [out23]
  unfold G23
  rw [rollA_blk m c t i _ _ (by omega), Ref.r255]
  refine turnA_congr _ _ _ _ (by omega) fun l hl => ?_
  beta_reduce
  rw [norm_k m c t _ _ (by omega) fun l' hl' => ?_]
  · rw [show (e.val / 64 * 64 + l) % 64 = l by omega, show (e.val / 64 * 64 + l) / 64 = e.val / 64 by omega]
    exact headNorm_congr _ _ _ l hl fun l' hl' => col_6 m c t i _ (by omega)
  · beta_reduce
    rw [show packed (iblk m c 0 t) (iblk m c 1 t) (iblk m c 2 t) i (3072 + l') = _ from col_6 m c t i _ hl']
    exact Z_real m c hf _ _ (by omega) (by omega)

/-- The reference's result 13 on the kernel's arguments. -/
def G24 : (⟨S16384x128, .f32⟩ : BufTy).Contents (Elt Ideal) :=
  Cert.InprojReferenceIdeal.Read.val_main_v256 (F := Ideal) (m ((c : Thread nD τ).loc main_arg0)) (m ((c : Thread nD τ).loc main_arg1)) (m ((c : Thread nD τ).loc main_arg2))

theorem block24 (t : Fin cfg0.N) (i : Fin 512) (e : Fin 128) :
    out0_24 (iblk m c 0 t) (iblk m c 1 t) (iblk m c 2 t) (ix2 i e) = G24 m c (ix2 (row t i) e) := by
  rw [out24]
  unfold G24
  rw [Ref.r256, show 3072 + (128 + e.val) = 3200 + e.val by omega]
  exact col_7 m c t i _ (by omega)

/-- The reference's result 14 on the kernel's arguments. -/
def G25 : (⟨S16384x64, .f32⟩ : BufTy).Contents (Elt Ideal) :=
  Cert.InprojReferenceIdeal.Read.val_main_v257 (F := Ideal) (m ((c : Thread nD τ).loc main_arg0)) (m ((c : Thread nD τ).loc main_arg1)) (m ((c : Thread nD τ).loc main_arg2))

theorem block25 (t : Fin cfg0.N) (i : Fin 512) (e : Fin 64) :
    out0_25 (iblk m c 0 t) (iblk m c 1 t) (iblk m c 2 t) (iblk m c 5 t) (iblk m c 6 t) (iblk m c 7 t) (ix2 i e) = G25 m c (ix2 (row t i) e) := by
  rw [out25]
  unfold G25
  rw [rollA_blk m c t i _ _ (by omega), Ref.r257, show e.val % 64 = e.val by omega]
  refine turnA_congr _ _ _ _ (by omega) fun l hl => ?_
  beta_reduce
  · rw [show 3328 + (256 + (e.val / 64 * 64 + l)) = 3584 + l by omega]
    exact col_9 m c t i _ hl

/-- The reference's result 15 on the kernel's arguments. -/
def G26 : (⟨S16384x128, .f32⟩ : BufTy).Contents (Elt Ideal) :=
  Cert.InprojReferenceIdeal.Read.val_main_v288 (F := Ideal) (m ((c : Thread nD τ).loc main_arg0)) (m ((c : Thread nD τ).loc main_arg1)) (m ((c : Thread nD τ).loc main_arg2))

theorem block26 (t : Fin cfg0.N) (i : Fin 512) (e : Fin 128) :
    out0_26 (iblk m c 0 t) (iblk m c 1 t) (iblk m c 2 t) (ix2 i e) = G26 m c (ix2 (row t i) e) := by
  rw [out26]
  unfold G26
  rw [Ref.r288, show 3328 + (384 + e.val) = 3712 + e.val by omega]
  exact col_11 m c t i _ (by omega)

/-- Which block each output window writes at a point of the grid. -/
theorem out_facts : ∀ t : Fin cfg0.N, win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![t.val, 0]
    ∧ win0_18.index t = ![0, t.val]
    ∧ win0_19.index t = ![t.val, 0]
    ∧ win0_20.index t = ![t.val, 0]
    ∧ win0_21.index t = ![t.val, 0]
    ∧ win0_22.index t = ![t.val, 0]
    ∧ win0_23.index t = ![t.val, 0]
    ∧ win0_24.index t = ![t.val, 0]
    ∧ win0_25.index t = ![t.val, 0]
    ∧ win0_26.index t = ![t.val, 0] := by
  decide

theorem final11 : (dats m 0 c).arrAt 11 cfg0.N = G11 m c := by
  refine (dats m 0 c).arrAt_eq_of_covers 11 _ (by decide +kernel) fun t hfl y => ?_
  blk_simp
  rw [after0_11]
  obtain ⟨i, e, rfl⟩ : ∃ i e, y = ix2 (i : Fin 512) (e : Fin 512) := ⟨_, _, ValueIdx.eq_ix2 y⟩
  have h := (out_facts t).1
  have h0 := congrFun h 0
  have h1 := congrFun h 1
  refine (block11 m c t i e).trans (congrArg (G11 m c) (funext fun a => Fin.ext ?_))
  match a with
  | ⟨0, _⟩ => show 512 * t.val + i.val = win0_11.index t 0 * 512 + 1 * i.val; rw [h0]; show _ = t.val * 512 + 1 * i.val; omega
  | ⟨1, _⟩ => show e.val = win0_11.index t 1 * 512 + 1 * e.val; rw [h1]; show _ = 0 * 512 + 1 * e.val; omega

theorem final12 : (dats m 0 c).arrAt 12 cfg0.N = G12 m c := by
  refine (dats m 0 c).arrAt_eq_of_covers 12 _ (by decide +kernel) fun t hfl y => ?_
  blk_simp
  rw [after0_12]
  obtain ⟨i, e, rfl⟩ : ∃ i e, y = ix2 (i : Fin 512) (e : Fin 512) := ⟨_, _, ValueIdx.eq_ix2 y⟩
  have h := (out_facts t).2.1
  have h0 := congrFun h 0
  have h1 := congrFun h 1
  refine (block12 m c t i e).trans (congrArg (G12 m c) (funext fun a => Fin.ext ?_))
  match a with
  | ⟨0, _⟩ => show 512 * t.val + i.val = win0_12.index t 0 * 512 + 1 * i.val; rw [h0]; show _ = t.val * 512 + 1 * i.val; omega
  | ⟨1, _⟩ => show e.val = win0_12.index t 1 * 512 + 1 * e.val; rw [h1]; show _ = 0 * 512 + 1 * e.val; omega

theorem final13 : (dats m 0 c).arrAt 13 cfg0.N = G13 m c := by
  refine (dats m 0 c).arrAt_eq_of_covers 13 _ (by decide +kernel) fun t hfl y => ?_
  blk_simp
  rw [after0_13]
  obtain ⟨i, e, rfl⟩ : ∃ i e, y = ix2 (i : Fin 512) (e : Fin 512) := ⟨_, _, ValueIdx.eq_ix2 y⟩
  have h := (out_facts t).2.2.1
  have h0 := congrFun h 0
  have h1 := congrFun h 1
  refine (block13 m c t i e).trans (congrArg (G13 m c) (funext fun a => Fin.ext ?_))
  match a with
  | ⟨0, _⟩ => show 512 * t.val + i.val = win0_13.index t 0 * 512 + 1 * i.val; rw [h0]; show _ = t.val * 512 + 1 * i.val; omega
  | ⟨1, _⟩ => show e.val = win0_13.index t 1 * 512 + 1 * e.val; rw [h1]; show _ = 0 * 512 + 1 * e.val; omega

theorem final14 : (dats m 0 c).arrAt 14 cfg0.N = G14 m c := by
  refine (dats m 0 c).arrAt_eq_of_covers 14 _ (by decide +kernel) fun t hfl y => ?_
  blk_simp
  rw [after0_14]
  obtain ⟨i, e, rfl⟩ : ∃ i e, y = ix2 (i : Fin 512) (e : Fin 512) := ⟨_, _, ValueIdx.eq_ix2 y⟩
  have h := (out_facts t).2.2.2.1
  have h0 := congrFun h 0
  have h1 := congrFun h 1
  refine (block14 m c t i e).trans (congrArg (G14 m c) (funext fun a => Fin.ext ?_))
  match a with
  | ⟨0, _⟩ => show 512 * t.val + i.val = win0_14.index t 0 * 512 + 1 * i.val; rw [h0]; show _ = t.val * 512 + 1 * i.val; omega
  | ⟨1, _⟩ => show e.val = win0_14.index t 1 * 512 + 1 * e.val; rw [h1]; show _ = 0 * 512 + 1 * e.val; omega

theorem final15 (hf : Fine m c) : (dats m 0 c).arrAt 15 cfg0.N = G15 m c := by
  refine (dats m 0 c).arrAt_eq_of_covers 15 _ (by decide +kernel) fun t hfl y => ?_
  blk_simp
  rw [after0_15]
  obtain ⟨i, e, rfl⟩ : ∃ i e, y = ix2 (i : Fin 512) (e : Fin 512) := ⟨_, _, ValueIdx.eq_ix2 y⟩
  have h := (out_facts t).2.2.2.2.1
  have h0 := congrFun h 0
  have h1 := congrFun h 1
  refine (block15 m c hf t i e).trans (congrArg (G15 m c) (funext fun a => Fin.ext ?_))
  match a with
  | ⟨0, _⟩ => show 512 * t.val + i.val = win0_15.index t 0 * 512 + 1 * i.val; rw [h0]; show _ = t.val * 512 + 1 * i.val; omega
  | ⟨1, _⟩ => show e.val = win0_15.index t 1 * 512 + 1 * e.val; rw [h1]; show _ = 0 * 512 + 1 * e.val; omega

theorem final16 : (dats m 0 c).arrAt 16 cfg0.N = G16 m c := by
  refine (dats m 0 c).arrAt_eq_of_covers 16 _ (by decide +kernel) fun t hfl y => ?_
  blk_simp
  rw [after0_16]
  obtain ⟨i, e, rfl⟩ : ∃ i e, y = ix2 (i : Fin 512) (e : Fin 512) := ⟨_, _, ValueIdx.eq_ix2 y⟩
  have h := (out_facts t).2.2.2.2.2.1
  have h0 := congrFun h 0
  have h1 := congrFun h 1
  refine (block16 m c t i e).trans (congrArg (G16 m c) (funext fun a => Fin.ext ?_))
  match a with
  | ⟨0, _⟩ => show 512 * t.val + i.val = win0_16.index t 0 * 512 + 1 * i.val; rw [h0]; show _ = t.val * 512 + 1 * i.val; omega
  | ⟨1, _⟩ => show e.val = win0_16.index t 1 * 512 + 1 * e.val; rw [h1]; show _ = 0 * 512 + 1 * e.val; omega

theorem final17 (hf : Fine m c) : (dats m 0 c).arrAt 17 cfg0.N = G17 m c := by
  refine (dats m 0 c).arrAt_eq_of_covers 17 _ (by decide +kernel) fun t hfl y => ?_
  blk_simp
  rw [after0_17]
  obtain ⟨i, e, rfl⟩ : ∃ i e, y = ix2 (i : Fin 512) (e : Fin 128) := ⟨_, _, ValueIdx.eq_ix2 y⟩
  have h := (out_facts t).2.2.2.2.2.2.1
  have h0 := congrFun h 0
  have h1 := congrFun h 1
  refine (block17 m c hf t i e).trans (congrArg (G17 m c) (funext fun a => Fin.ext ?_))
  match a with
  | ⟨0, _⟩ => show 512 * t.val + i.val = win0_17.index t 0 * 512 + 1 * i.val; rw [h0]; show _ = t.val * 512 + 1 * i.val; omega
  | ⟨1, _⟩ => show e.val = win0_17.index t 1 * 128 + 1 * e.val; rw [h1]; show _ = 0 * 128 + 1 * e.val; omega

theorem final18 : (dats m 0 c).arrAt 18 cfg0.N = G18 m c := by
  refine (dats m 0 c).arrAt_eq_of_covers 18 _ (by decide +kernel) fun t hfl y => ?_
  blk_simp
  rw [after0_18]
  obtain ⟨i, e, rfl⟩ : ∃ i e, y = ix2 (i : Fin 144) (e : Fin 512) := ⟨_, _, ValueIdx.eq_ix2 y⟩
  have h := (out_facts t).2.2.2.2.2.2.2.1
  have h0 := congrFun h 0
  have h1 := congrFun h 1
  refine (block18 m c t i e).trans (congrArg (G18 m c) (funext fun a => Fin.ext ?_))
  match a with
  | ⟨0, _⟩ => show i.val = win0_18.index t 0 * 144 + 1 * i.val; rw [h0]; show _ = 0 * 144 + 1 * i.val; omega
  | ⟨1, _⟩ => show 512 * t.val + e.val = win0_18.index t 1 * 512 + 1 * e.val; rw [h1]; show _ = t.val * 512 + 1 * e.val; omega

theorem final19 : (dats m 0 c).arrAt 19 cfg0.N = G19 m c := by
  refine (dats m 0 c).arrAt_eq_of_covers 19 _ (by decide +kernel) fun t hfl y => ?_
  blk_simp
  rw [after0_19]
  obtain ⟨i, e, rfl⟩ : ∃ i e, y = ix2 (i : Fin 512) (e : Fin 256) := ⟨_, _, ValueIdx.eq_ix2 y⟩
  have h := (out_facts t).2.2.2.2.2.2.2.2.1
  have h0 := congrFun h 0
  have h1 := congrFun h 1
  refine (block19 m c t i e).trans (congrArg (G19 m c) (funext fun a => Fin.ext ?_))
  match a with
  | ⟨0, _⟩ => show 512 * t.val + i.val = win0_19.index t 0 * 512 + 1 * i.val; rw [h0]; show _ = t.val * 512 + 1 * i.val; omega
  | ⟨1, _⟩ => show e.val = win0_19.index t 1 * 256 + 1 * e.val; rw [h1]; show _ = 0 * 256 + 1 * e.val; omega

theorem final20 : (dats m 0 c).arrAt 20 cfg0.N = G20 m c := by
  refine (dats m 0 c).arrAt_eq_of_covers 20 _ (by decide +kernel) fun t hfl y => ?_
  blk_simp
  rw [after0_20]
  obtain ⟨i, e, rfl⟩ : ∃ i e, y = ix2 (i : Fin 512) (e : Fin 128) := ⟨_, _, ValueIdx.eq_ix2 y⟩
  have h := (out_facts t).2.2.2.2.2.2.2.2.2.1
  have h0 := congrFun h 0
  have h1 := congrFun h 1
  refine (block20 m c t i e).trans (congrArg (G20 m c) (funext fun a => Fin.ext ?_))
  match a with
  | ⟨0, _⟩ => show 512 * t.val + i.val = win0_20.index t 0 * 512 + 1 * i.val; rw [h0]; show _ = t.val * 512 + 1 * i.val; omega
  | ⟨1, _⟩ => show e.val = win0_20.index t 1 * 128 + 1 * e.val; rw [h1]; show _ = 0 * 128 + 1 * e.val; omega

theorem final21 : (dats m 0 c).arrAt 21 cfg0.N = G21 m c := by
  refine (dats m 0 c).arrAt_eq_of_covers 21 _ (by decide +kernel) fun t hfl y => ?_
  blk_simp
  rw [after0_21]
  obtain ⟨i, e, rfl⟩ : ∃ i e, y = ix2 (i : Fin 512) (e : Fin 1024) := ⟨_, _, ValueIdx.eq_ix2 y⟩
  have h := (out_facts t).2.2.2.2.2.2.2.2.2.2.1
  have h0 := congrFun h 0
  have h1 := congrFun h 1
  refine (block21 m c t i e).trans (congrArg (G21 m c) (funext fun a => Fin.ext ?_))
  match a with
  | ⟨0, _⟩ => show 512 * t.val + i.val = win0_21.index t 0 * 512 + 1 * i.val; rw [h0]; show _ = t.val * 512 + 1 * i.val; omega
  | ⟨1, _⟩ => show e.val = win0_21.index t 1 * 1024 + 1 * e.val; rw [h1]; show _ = 0 * 1024 + 1 * e.val; omega

theorem final22 : (dats m 0 c).arrAt 22 cfg0.N = G22 m c := by
  refine (dats m 0 c).arrAt_eq_of_covers 22 _ (by decide +kernel) fun t hfl y => ?_
  blk_simp
  rw [after0_22]
  obtain ⟨i, e, rfl⟩ : ∃ i e, y = ix2 (i : Fin 512) (e : Fin 1024) := ⟨_, _, ValueIdx.eq_ix2 y⟩
  have h := (out_facts t).2.2.2.2.2.2.2.2.2.2.2.1
  have h0 := congrFun h 0
  have h1 := congrFun h 1
  refine (block22 m c t i e).trans (congrArg (G22 m c) (funext fun a => Fin.ext ?_))
  match a with
  | ⟨0, _⟩ => show 512 * t.val + i.val = win0_22.index t 0 * 512 + 1 * i.val; rw [h0]; show _ = t.val * 512 + 1 * i.val; omega
  | ⟨1, _⟩ => show e.val = win0_22.index t 1 * 1024 + 1 * e.val; rw [h1]; show _ = 0 * 1024 + 1 * e.val; omega

theorem final23 (hf : Fine m c) : (dats m 0 c).arrAt 23 cfg0.N = G23 m c := by
  refine (dats m 0 c).arrAt_eq_of_covers 23 _ (by decide +kernel) fun t hfl y => ?_
  blk_simp
  rw [after0_23]
  obtain ⟨i, e, rfl⟩ : ∃ i e, y = ix2 (i : Fin 512) (e : Fin 128) := ⟨_, _, ValueIdx.eq_ix2 y⟩
  have h := (out_facts t).2.2.2.2.2.2.2.2.2.2.2.2.1
  have h0 := congrFun h 0
  have h1 := congrFun h 1
  refine (block23 m c hf t i e).trans (congrArg (G23 m c) (funext fun a => Fin.ext ?_))
  match a with
  | ⟨0, _⟩ => show 512 * t.val + i.val = win0_23.index t 0 * 512 + 1 * i.val; rw [h0]; show _ = t.val * 512 + 1 * i.val; omega
  | ⟨1, _⟩ => show e.val = win0_23.index t 1 * 128 + 1 * e.val; rw [h1]; show _ = 0 * 128 + 1 * e.val; omega

theorem final24 : (dats m 0 c).arrAt 24 cfg0.N = G24 m c := by
  refine (dats m 0 c).arrAt_eq_of_covers 24 _ (by decide +kernel) fun t hfl y => ?_
  blk_simp
  rw [after0_24]
  obtain ⟨i, e, rfl⟩ : ∃ i e, y = ix2 (i : Fin 512) (e : Fin 128) := ⟨_, _, ValueIdx.eq_ix2 y⟩
  have h := (out_facts t).2.2.2.2.2.2.2.2.2.2.2.2.2.1
  have h0 := congrFun h 0
  have h1 := congrFun h 1
  refine (block24 m c t i e).trans (congrArg (G24 m c) (funext fun a => Fin.ext ?_))
  match a with
  | ⟨0, _⟩ => show 512 * t.val + i.val = win0_24.index t 0 * 512 + 1 * i.val; rw [h0]; show _ = t.val * 512 + 1 * i.val; omega
  | ⟨1, _⟩ => show e.val = win0_24.index t 1 * 128 + 1 * e.val; rw [h1]; show _ = 0 * 128 + 1 * e.val; omega

theorem final25 : (dats m 0 c).arrAt 25 cfg0.N = G25 m c := by
  refine (dats m 0 c).arrAt_eq_of_covers 25 _ (by decide +kernel) fun t hfl y => ?_
  blk_simp
  rw [after0_25]
  obtain ⟨i, e, rfl⟩ : ∃ i e, y = ix2 (i : Fin 512) (e : Fin 64) := ⟨_, _, ValueIdx.eq_ix2 y⟩
  have h := (out_facts t).2.2.2.2.2.2.2.2.2.2.2.2.2.2.1
  have h0 := congrFun h 0
  have h1 := congrFun h 1
  refine (block25 m c t i e).trans (congrArg (G25 m c) (funext fun a => Fin.ext ?_))
  match a with
  | ⟨0, _⟩ => show 512 * t.val + i.val = win0_25.index t 0 * 512 + 1 * i.val; rw [h0]; show _ = t.val * 512 + 1 * i.val; omega
  | ⟨1, _⟩ => show e.val = win0_25.index t 1 * 64 + 1 * e.val; rw [h1]; show _ = 0 * 64 + 1 * e.val; omega

theorem final26 : (dats m 0 c).arrAt 26 cfg0.N = G26 m c := by
  refine (dats m 0 c).arrAt_eq_of_covers 26 _ (by decide +kernel) fun t hfl y => ?_
  blk_simp
  rw [after0_26]
  obtain ⟨i, e, rfl⟩ : ∃ i e, y = ix2 (i : Fin 512) (e : Fin 128) := ⟨_, _, ValueIdx.eq_ix2 y⟩
  have h := (out_facts t).2.2.2.2.2.2.2.2.2.2.2.2.2.2.2
  have h0 := congrFun h 0
  have h1 := congrFun h 1
  refine (block26 m c t i e).trans (congrArg (G26 m c) (funext fun a => Fin.ext ?_))
  match a with
  | ⟨0, _⟩ => show 512 * t.val + i.val = win0_26.index t 0 * 512 + 1 * i.val; rw [h0]; show _ = t.val * 512 + 1 * i.val; omega
  | ⟨1, _⟩ => show e.val = win0_26.index t 1 * 128 + 1 * e.val; rw [h1]; show _ = 0 * 128 + 1 * e.val; omega

end Cert.Projecting

end
end
-- ==== Proof.ProjClaim.lean ====
module

public import proofs.«01_k».proof.Defs
public import proofs.«01_k».proof.Proof.ProjFinal
public import proofs.«01_k».proof.Proof.Gen.InprojReferenceIdeal.Run
public import proofs.«01_k».proof.Proof.Gen.Pre_inproj_finite

@[expose] public section

set_option maxRecDepth 16384

noncomputable section

namespace Cert.Projecting

open Idealize.ShloMosaic Idealize.ShloMosaic.TcCoe Idealize.SL.Sem

theorem real_of_sub_self (x : EReal) (h : x - x = 0) : IsReal x := by
  constructor
  · rintro rfl; simp at h
  · rintro rfl; simp at h

/-- The precondition's test of one entry. -/
theorem real_of_test (x : EReal) (h : BitVec.ofBool (decide (x - x = Ideal.ofBits FTy.f32 0#32)) = 1#1) : IsReal x := by
  apply real_of_sub_self
  have hz : Ideal.ofBits FTy.f32 0#32 = 0 := by simp [Ideal.ofBits, Ideal.ieee, -EReal.coe_mul]
  rw [hz] at h
  by_contra hn
  rw [decide_eq_false hn] at h
  exact absurd h (by decide)

theorem bit_and : ∀ a b : BitVec 1, a &&& b = 1#1 → a = 1#1 ∧ b = 1#1 := by decide

/-- The precondition at one row and column. -/
theorem pre_read [Cert.Pre_inproj_finite.Facts] (a0 : Vec Ideal Cert.InprojIdeal.S4x4096x1024 .f32) (a1 : Vec Ideal Cert.InprojIdeal.S2x1024 .f32)
    (a2 : Vec Ideal Cert.InprojIdeal.S2x1024x5700 .f32) (a3 a4 : Vec Ideal Cert.InprojIdeal.S2x64 .f32) (k : Fin 1024) (j : Fin 640) :
    Cert.Pre_inproj_finite.fn (F := Ideal) a0 a1 a2 a3 a4 (ix2 k j)
      = IntOp.andi (BitVec.ofBool (decide (a1 (ix2 0 k) - a1 (ix2 0 k) = Ideal.ofBits FTy.f32 0#32)))
        (BitVec.ofBool (decide (a2 (ix3 0 k (⟨2048 + j.val, by omega⟩ : Fin 5700)) - a2 (ix3 0 k (⟨2048 + j.val, by omega⟩ : Fin 5700)) = Ideal.ofBits FTy.f32 0#32))) := by
  pointwise [Cert.Pre_inproj_finite.fn]

/-- Under the precondition the gain and the normalised columns are real numbers. -/
theorem fine_of_pre [Cert.Pre_inproj_finite.Facts] (m : (ℓ : Loc Cert.InprojIdeal.nD Cert.InprojIdeal.τ Cert.InprojIdeal.sig) → Buf (Elt Ideal) ℓ)
    (c : Dev Cert.InprojIdeal.nD) (a0 : Vec Ideal Cert.InprojIdeal.S4x4096x1024 .f32) (a3 a4 : Vec Ideal Cert.InprojIdeal.S2x64 .f32)
    (h : Cert.Pre_inproj_finite.fn (F := Ideal) a0 (m ((c : Thread Cert.InprojIdeal.nD Cert.InprojIdeal.τ).loc Cert.InprojIdeal.main_arg1))
      (m ((c : Thread Cert.InprojIdeal.nD Cert.InprojIdeal.τ).loc Cert.InprojIdeal.main_arg2)) a3 a4 = fun _ => 1#1) : Fine m c := by
  have e := fun (k : Fin 1024) (j : Fin 640) => bit_and _ _ ((pre_read a0 _ _ a3 a4 k j).symm.trans (congrFun h (ix2 k j)))
  refine ⟨fun k => real_of_test _ (e k 0).1, fun k l h0 h1 => ?_⟩
  have hl : (⟨2048 + (l.val - 2048), by omega⟩ : Fin 5700) = l := Fin.ext (by show 2048 + (l.val - 2048) = l.val; omega)
  have := real_of_test _ (e k ⟨l.val - 2048, by omega⟩).2
  dsimp only at this
  rw [hl] at this
  exact this

/-- The reference of the projection runs to the end, leaves its arguments unchanged and no semaphore raised. -/
theorem reference_frame : Cert.quiescent_InprojReferenceIdeal := fun m ρ _ =>
  (θ_run Cert.InprojReferenceIdeal.defs _ _).mono (fun r h => ⟨fun c => (h c).2.2.2.2.2.2.2.2.2.2.2.2.2.2.2.2, sem_eq_zero_of_no_sems (by decide) r.2⟩)
    (Cert.InprojReferenceIdeal.Value.run (F := Ideal) m ρ)

/-- The projection: under the precondition both programs run and leave the same sixteen outputs. -/
theorem algebraic [Cert.Pre_inproj_finite.Facts] : Cert.algebraic_InprojIdeal_InprojReferenceIdeal_pre_inproj_finite := by
  intro m ρ m' ρ' hpre hag
  have hf := fun c => fine_of_pre m c _ _ _ (hpre c)
  refine ⟨fun c => G11 m c, fun c => G12 m c, fun c => G13 m c, fun c => G14 m c, fun c => G15 m c, fun c => G16 m c, fun c => G17 m c, fun c => G18 m c, fun c => G19 m c, fun c => G20 m c, fun c => G21 m c, fun c => G22 m c, fun c => G23 m c, fun c => G24 m c, fun c => G25 m c, fun c => G26 m c,
    (θ_run _ _ _).mono (fun _ h c => ⟨(h c).1.trans (final11 m c), (h c).2.1.trans (final12 m c), (h c).2.2.1.trans (final13 m c), (h c).2.2.2.1.trans (final14 m c), (h c).2.2.2.2.1.trans (final15 m c (hf c)), (h c).2.2.2.2.2.1.trans (final16 m c), (h c).2.2.2.2.2.2.1.trans (final17 m c (hf c)), (h c).2.2.2.2.2.2.2.1.trans (final18 m c), (h c).2.2.2.2.2.2.2.2.1.trans (final19 m c), (h c).2.2.2.2.2.2.2.2.2.1.trans (final20 m c), (h c).2.2.2.2.2.2.2.2.2.2.1.trans (final21 m c), (h c).2.2.2.2.2.2.2.2.2.2.2.1.trans (final22 m c), (h c).2.2.2.2.2.2.2.2.2.2.2.2.1.trans (final23 m c (hf c)), (h c).2.2.2.2.2.2.2.2.2.2.2.2.2.1.trans (final24 m c), (h c).2.2.2.2.2.2.2.2.2.2.2.2.2.2.1.trans (final25 m c), (h c).2.2.2.2.2.2.2.2.2.2.2.2.2.2.2.1.trans (final26 m c), (h c).2.2.2.2.2.2.2.2.2.2.2.2.2.2.2.2⟩) (run_blocks m ρ),
    (θ_run _ _ _).mono (fun _ h c => ?_) (Cert.InprojReferenceIdeal.Value.run m' ρ')⟩
  obtain ⟨a0, a1, a2, a3, a4⟩ := hag c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2.1.trans ?_, (h c).2.2.2.2.2.2.2.2.2.2.2.2.2.1.trans ?_, (h c).2.2.2.2.2.2.2.2.2.2.2.2.2.2.1.trans ?_, (h c).2.2.2.2.2.2.2.2.2.2.2.2.2.2.2.1.trans ?_, (h c).2.2.2.2.2.2.2.2.2.2.2.2.2.2.2.2⟩
  · refine (Cert.InprojReferenceIdeal.Read.val_main_v262_eq _).trans ?_
    show Cert.InprojReferenceIdeal.Read.val_main_v262 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) = G11 m c
    rw [a0, a1, a2]; rfl
  · refine (Cert.InprojReferenceIdeal.Read.val_main_v264_eq _).trans ?_
    show Cert.InprojReferenceIdeal.Read.val_main_v264 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) = G12 m c
    rw [a0, a1, a2]; rfl
  · refine (Cert.InprojReferenceIdeal.Read.val_main_v266_eq _).trans ?_
    show Cert.InprojReferenceIdeal.Read.val_main_v266 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) = G13 m c
    rw [a0, a1, a2]; rfl
  · refine (Cert.InprojReferenceIdeal.Read.val_main_v268_eq _).trans ?_
    show Cert.InprojReferenceIdeal.Read.val_main_v268 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) = G14 m c
    rw [a0, a1, a2]; rfl
  · refine (Cert.InprojReferenceIdeal.Read.val_main_v272_eq _).trans ?_
    show Cert.InprojReferenceIdeal.Read.val_main_v272 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) (m' ((c : Thread Cert.InprojReferenceIdeal.nD Cert.InprojReferenceIdeal.τ).loc Cert.InprojReferenceIdeal.main_arg3)) = G15 m c
    rw [a0, a1, a2, a3]; rfl
  · refine (Cert.InprojReferenceIdeal.Read.val_main_v276_eq _).trans ?_
    show Cert.InprojReferenceIdeal.Read.val_main_v276 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) = G16 m c
    rw [a0, a1, a2]; rfl
  · refine (Cert.InprojReferenceIdeal.Read.val_main_v277_eq _).trans ?_
    show Cert.InprojReferenceIdeal.Read.val_main_v277 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) (m' ((c : Thread Cert.InprojReferenceIdeal.nD Cert.InprojReferenceIdeal.τ).loc Cert.InprojReferenceIdeal.main_arg4)) = G17 m c
    rw [a0, a1, a2, a4]; rfl
  · refine (Cert.InprojReferenceIdeal.Read.val_main_v278_eq _).trans ?_
    show Cert.InprojReferenceIdeal.Read.val_main_v278 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) = G18 m c
    rw [a0, a1, a2]; rfl
  · refine (Cert.InprojReferenceIdeal.Read.val_main_v280_eq _).trans ?_
    show Cert.InprojReferenceIdeal.Read.val_main_v280 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) = G19 m c
    rw [a0, a1, a2]; rfl
  · refine (Cert.InprojReferenceIdeal.Read.val_main_v282_eq _).trans ?_
    show Cert.InprojReferenceIdeal.Read.val_main_v282 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) = G20 m c
    rw [a0, a1, a2]; rfl
  · refine (Cert.InprojReferenceIdeal.Read.val_main_v284_eq _).trans ?_
    show Cert.InprojReferenceIdeal.Read.val_main_v284 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) = G21 m c
    rw [a0, a1, a2]; rfl
  · refine (Cert.InprojReferenceIdeal.Read.val_main_v286_eq _).trans ?_
    show Cert.InprojReferenceIdeal.Read.val_main_v286 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) = G22 m c
    rw [a0, a1, a2]; rfl
  · refine (Cert.InprojReferenceIdeal.Read.val_main_v255_eq _).trans ?_
    show Cert.InprojReferenceIdeal.Read.val_main_v255 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) (m' ((c : Thread Cert.InprojReferenceIdeal.nD Cert.InprojReferenceIdeal.τ).loc Cert.InprojReferenceIdeal.main_arg4)) = G23 m c
    rw [a0, a1, a2, a4]; rfl
  · refine (Cert.InprojReferenceIdeal.Read.val_main_v256_eq _).trans ?_
    show Cert.InprojReferenceIdeal.Read.val_main_v256 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) = G24 m c
    rw [a0, a1, a2]; rfl
  · refine (Cert.InprojReferenceIdeal.Read.val_main_v257_eq _).trans ?_
    show Cert.InprojReferenceIdeal.Read.val_main_v257 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) = G25 m c
    rw [a0, a1, a2]; rfl
  · refine (Cert.InprojReferenceIdeal.Read.val_main_v288_eq _).trans ?_
    show Cert.InprojReferenceIdeal.Read.val_main_v288 (F := Ideal) (m' ((c : Thread Cert.InprojReferenceIdeal.nD Cert.InprojReferenceIdeal.τ).loc Cert.InprojReferenceIdeal.main_arg0)) (m' ((c : Thread Cert.InprojReferenceIdeal.nD Cert.InprojReferenceIdeal.τ).loc Cert.InprojReferenceIdeal.main_arg1)) (m' ((c : Thread Cert.InprojReferenceIdeal.nD Cert.InprojReferenceIdeal.τ).loc Cert.InprojReferenceIdeal.main_arg2)) = G26 m c
    rw [a0, a1, a2]; rfl

end Cert.Projecting

end
end
-- ==== Proof.SProjIdealFrame.lean ====
module

public import proofs.«01_k».proof.Proof.Gen.InprojSampleIdeal.Launch
public import proofs.«01_k».proof.Proof.Gen.InprojSampleIdeal.Skeleton
public import proofs.«01_k».proof.Proof.Gen.InprojSampleIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Projecting.Sample

open Cert.InprojSampleIdeal Cert.InprojSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) b

set_option maxHeartbeats 800000 in

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; repeat' constructor) main_chain

/-- The host operations leave the arguments as they are. -/
theorem V_arg (c : Dev nD) (b : Ref sig .tc) (hb : b = main_arg0 ∨ b = main_arg1 ∨ b = main_arg2 ∨ b = main_arg3 ∨ b = main_arg4) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by rcases hb with rfl | rfl | rfl | rfl | rfl <;> decide)))

theorem V_main_arg0 (c : Dev nD) : V m c main_arg0 = m ((c : Thread nD τ).loc main_arg0) := V_arg m c _ (.inl rfl)
theorem V_main_arg1 (c : Dev nD) : V m c main_arg1 = m ((c : Thread nD τ).loc main_arg1) := V_arg m c _ (.inr (.inl rfl))
theorem V_main_arg2 (c : Dev nD) : V m c main_arg2 = m ((c : Thread nD τ).loc main_arg2) := V_arg m c _ (.inr (.inr (.inl rfl)))
theorem V_main_arg3 (c : Dev nD) : V m c main_arg3 = m ((c : Thread nD τ).loc main_arg3) := V_arg m c _ (.inr (.inr (.inr (.inl rfl))))
theorem V_main_arg4 (c : Dev nD) : V m c main_arg4 = m ((c : Thread nD τ).loc main_arg4) := V_arg m c _ (.inr (.inr (.inr (.inr rfl))))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

set_option maxHeartbeats 1620000 in

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S256x128 := Rect.unit (s := S256x128) ![0, 0] S256x128.size inb_S256x128_S256x128_0_0
abbrev r0_3 : Rect S128x128 := Rect.unit (s := S128x128) ![0, 0] S128x128.size inb_S128x128_S128x128_0_0
abbrev r0_4 : Rect S5888x1024 := Rect.unit (s := S5888x1024) ![0, 0] S512x1024.size inb_S5888x1024_S512x1024_0_0
abbrev r0_5 : Rect S256x512 := Rect.unit (s := S256x512) ![0, 0] S256x128.size inb_S256x512_S256x128_0_0
abbrev r0_6 : Rect S256x512 := Rect.unit (s := S256x512) ![0, 128] S256x128.size inb_S256x512_S256x128_0_128
abbrev r0_7 : Rect S256x512 := Rect.unit (s := S256x512) ![0, 256] S256x128.size inb_S256x512_S256x128_0_256
abbrev r0_8 : Rect S256x512 := Rect.unit (s := S256x512) ![0, 384] S256x128.size inb_S256x512_S256x128_0_384
abbrev r0_9 : Rect S5888x1024 := Rect.unit (s := S5888x1024) ![512, 0] S512x1024.size inb_S5888x1024_S512x1024_512_0
abbrev r0_10 : Rect S5888x1024 := Rect.unit (s := S5888x1024) ![1024, 0] S512x1024.size inb_S5888x1024_S512x1024_1024_0
abbrev r0_11 : Rect S256x512 := Rect.unit (s := S256x512) ![0, 0] S256x512.size inb_S256x512_S256x512_0_0
abbrev r0_12 : Rect S5888x1024 := Rect.unit (s := S5888x1024) ![1536, 0] S512x1024.size inb_S5888x1024_S512x1024_1536_0
abbrev r0_13 : Rect S1x128 := Rect.unit (s := S1x128) ![0, 0] S1x128.size inb_S1x128_S1x128_0_0
abbrev r0_14 : Rect S5888x1024 := Rect.unit (s := S5888x1024) ![2048, 0] S512x1024.size inb_S5888x1024_S512x1024_2048_0
abbrev r0_15 : Rect S5888x1024 := Rect.unit (s := S5888x1024) ![2560, 0] S512x1024.size inb_S5888x1024_S512x1024_2560_0
abbrev r0_16 : Rect S5888x1024 := Rect.unit (s := S5888x1024) ![3072, 0] S256x1024.size inb_S5888x1024_S256x1024_3072_0
abbrev r0_17 : Rect S144x256 := Rect.unit (s := S144x256) ![0, 0] S144x256.size inb_S144x256_S144x256_0_0
abbrev r0_18 : Rect S5888x1024 := Rect.unit (s := S5888x1024) ![3328, 0] S512x1024.size inb_S5888x1024_S512x1024_3328_0
abbrev r0_19 : Rect S256x256 := Rect.unit (s := S256x256) ![0, 0] S256x128.size inb_S256x256_S256x128_0_0
abbrev r0_20 : Rect S256x256 := Rect.unit (s := S256x256) ![0, 128] S256x128.size inb_S256x256_S256x128_0_128
abbrev r0_21 : Rect S256x64 := Rect.unit (s := S256x64) ![0, 0] S256x64.size inb_S256x64_S256x64_0_0
abbrev r0_22 : Rect S5888x1024 := Rect.unit (s := S5888x1024) ![3840, 0] S1024x1024.size inb_S5888x1024_S1024x1024_3840_0
abbrev r0_23 : Rect S5888x1024 := Rect.unit (s := S5888x1024) ![4864, 0] S1024x1024.size inb_S5888x1024_S1024x1024_4864_0

section

variable (x0 : Vec F S256x1024 .f32) (x1 : Vec F S1x1024 .f32) (x2 : Vec F S5888x1024 .bf16) (x3 : Vec F S256x128 .f32) (x4 : Vec F S256x128 .f32) (x5 : Vec F S256x128 .f32) (x6 : Vec F S256x128 .f32) (x7 : Vec F S256x128 .f32) (x8 : Vec F S1x128 .f32) (x9 : Vec F S1x128 .f32) (x10 : Vec F S128x128 .bf16)

def k0_pay53 : FVec F S256x1024 .bf16 :=
  k0_pay8 (View.ld x0 r0_0) (View.ld x1 r0_1) -- `v16`
def k0_pay54 : FVec F S256x128 .f32 :=
  k0_pay9 (View.ld x3 r0_2) -- `v18`
def k0_pay55 : FVec F S256x128 .f32 :=
  k0_pay10 (View.ld x4 r0_2) -- `v20`
def k0_pay56 : FVec F S256x128 .f32 :=
  k0_pay11 (View.ld x5 r0_2) -- `v22`
def k0_pay57 : FVec F S256x128 .f32 :=
  k0_pay12 (View.ld x6 r0_2) -- `v24`
def k0_pay58 : FVec F S256x128 .f32 :=
  k0_pay13 (View.ld x7 r0_2) -- `v26`
def k0_pay59 : FVec F S128x128 .bf16 :=
  k0_pay14 (View.ld x10 r0_3) -- `v28`
def k0_pay60 : FVec F S256x512 .f32 :=
  k0_pay15 (View.ld x0 r0_0) (View.ld x1 r0_1) (View.ld x2 r0_4) -- `v31`
def k0_pay61 : FVec F S256x512 .f32 :=
  k0_pay23 (k0_pay53 x0 x1) (View.ld x2 r0_9) -- `v58`
def k0_pay62 : FVec F S1x128 .f32 :=
  k0_pay31 (View.ld x8 r0_13) -- `v100`
def k0_pay63 : FVec F S256x512 .f32 :=
  k0_pay33 (k0_pay53 x0 x1) (View.ld x2 r0_14) -- `v105`
def k0_pay64 : FVec F S256x256 .f32 :=
  k0_pay42 (k0_pay53 x0 x1) (View.ld x2 r0_16) -- `v212`
def k0_pay65 : FVec F S256x128 .f32 :=
  k0_pay43 (k0_pay53 x0 x1) (k0_pay59 x10) (k0_pay32 (View.ld x9 r0_13)) (View.ld x2 r0_16) -- `v229`
def k0_pay66 : FVec F S256x512 .f32 :=
  k0_pay48 (k0_pay53 x0 x1) (View.ld x2 r0_18) -- `v249`

def out0_11 : Vec F S256x512 .f32 :=
  View.canon [⟨r0_8, k0_pay22 (k0_pay54 x3) (k0_pay55 x4) (k0_pay60 x0 x1 x2)⟩,
    ⟨r0_7, k0_pay21 (k0_pay54 x3) (k0_pay55 x4) (k0_pay60 x0 x1 x2)⟩,
    ⟨r0_6, k0_pay20 (k0_pay54 x3) (k0_pay55 x4) (k0_pay60 x0 x1 x2)⟩,
    ⟨r0_5, k0_pay19 (k0_pay17 (View.ld x0 r0_0) (View.ld x1 r0_1) (View.ld x3 r0_2) (View.ld x2 r0_4)) (k0_pay18 (View.ld x0 r0_0) (View.ld x1 r0_1) (View.ld x4 r0_2) (View.ld x2 r0_4))⟩]

theorem cover0_11 {e : EltTy} (p0 : Vec F S256x128 e) (p1 : Vec F S256x128 e) (p2 : Vec F S256x128 e) (p3 : Vec F S256x128 e) (y : S256x512.Idx) :
    ∃ pc ∈ ([⟨r0_8, p0⟩, ⟨r0_7, p1⟩, ⟨r0_6, p2⟩, ⟨r0_5, p3⟩] : List (View.Piece (Elt F) S256x512 e)), y ∈ pc.1.set :=
  View.cover_of_tiled [⟨r0_8, p0⟩, ⟨r0_7, p1⟩, ⟨r0_6, p2⟩, ⟨r0_5, p3⟩] S256x128.size (by rfl) y

def out0_12 : Vec F S256x512 .f32 :=
  View.canon [⟨r0_8, k0_pay28 (k0_pay54 x3) (k0_pay55 x4) (k0_pay61 x0 x1 x2)⟩,
    ⟨r0_7, k0_pay27 (k0_pay54 x3) (k0_pay55 x4) (k0_pay61 x0 x1 x2)⟩,
    ⟨r0_6, k0_pay26 (k0_pay25 (k0_pay53 x0 x1) (k0_pay54 x3) (k0_pay55 x4) (View.ld x2 r0_9))⟩,
    ⟨r0_5, k0_pay24 (k0_pay53 x0 x1) (k0_pay54 x3) (k0_pay55 x4) (View.ld x2 r0_9)⟩]

def out0_13 : Vec F S256x512 .f32 :=
  View.canon [⟨r0_11, k0_pay29 (k0_pay53 x0 x1) (View.ld x2 r0_10)⟩]

theorem cover0_13 {e : EltTy} (p0 : Vec F S256x512 e) (y : S256x512.Idx) :
    ∃ pc ∈ ([⟨r0_11, p0⟩] : List (View.Piece (Elt F) S256x512 e)), y ∈ pc.1.set :=
  View.cover_of_tiled [⟨r0_11, p0⟩] S256x512.size (by rfl) y

def out0_14 : Vec F S256x512 .f32 :=
  View.canon [⟨r0_11, k0_pay30 (k0_pay53 x0 x1) (View.ld x2 r0_12)⟩]

def out0_15 : Vec F S256x512 .f32 :=
  View.canon [⟨r0_8, k0_pay40 (k0_pay56 x5) (k0_pay57 x6) (k0_pay58 x7) (k0_pay62 x8) (k0_pay38 (k0_pay63 x0 x1 x2)) (k0_pay39 (k0_pay59 x10) (k0_pay63 x0 x1 x2))⟩,
    ⟨r0_7, k0_pay37 (k0_pay56 x5) (k0_pay57 x6) (k0_pay58 x7) (k0_pay59 x10) (k0_pay62 x8) (k0_pay63 x0 x1 x2)⟩,
    ⟨r0_6, k0_pay36 (k0_pay56 x5) (k0_pay57 x6) (k0_pay58 x7) (k0_pay62 x8) (k0_pay35 (k0_pay53 x0 x1) (k0_pay59 x10) (View.ld x2 r0_14))⟩,
    ⟨r0_5, k0_pay34 (k0_pay53 x0 x1) (k0_pay56 x5) (k0_pay57 x6) (k0_pay58 x7) (k0_pay59 x10) (k0_pay62 x8) (View.ld x2 r0_14)⟩]

def out0_16 : Vec F S256x512 .f32 :=
  View.canon [⟨r0_11, k0_pay41 (k0_pay53 x0 x1) (View.ld x2 r0_15)⟩]

def out0_17 : Vec F S256x128 .bf16 :=
  View.canon [⟨r0_2, k0_pay45 (k0_pay56 x5) (k0_pay57 x6) (k0_pay58 x7) (k0_pay65 x0 x1 x2 x9 x10)⟩]

theorem cover0_17 {e : EltTy} (p0 : Vec F S256x128 e) (y : S256x128.Idx) :
    ∃ pc ∈ ([⟨r0_2, p0⟩] : List (View.Piece (Elt F) S256x128 e)), y ∈ pc.1.set :=
  View.cover_of_tiled [⟨r0_2, p0⟩] S256x128.size (by rfl) y

def out0_18 : Vec F S144x256 .bf16 :=
  View.canon [⟨r0_17, k0_pay47 (k0_pay64 x0 x1 x2)⟩]

theorem cover0_18 {e : EltTy} (p0 : Vec F S144x256 e) (y : S144x256.Idx) :
    ∃ pc ∈ ([⟨r0_17, p0⟩] : List (View.Piece (Elt F) S144x256 e)), y ∈ pc.1.set :=
  View.cover_of_tiled [⟨r0_17, p0⟩] S144x256.size (by rfl) y

def out0_19 : Vec F S256x256 .f32 :=
  View.canon [⟨r0_20, k0_pay1 (k0_pay58 x7) (k0_pay51 (k0_pay53 x0 x1) (k0_pay56 x5) (k0_pay57 x6) (View.ld x2 r0_18)) (k0_pay52 (k0_pay53 x0 x1) (View.ld x2 r0_18))⟩,
    ⟨r0_19, k0_pay49 (k0_pay53 x0 x1) (k0_pay56 x5) (k0_pay57 x6) (k0_pay58 x7) (View.ld x2 r0_18)⟩]

theorem cover0_19 {e : EltTy} (p0 : Vec F S256x128 e) (p1 : Vec F S256x128 e) (y : S256x256.Idx) :
    ∃ pc ∈ ([⟨r0_20, p0⟩, ⟨r0_19, p1⟩] : List (View.Piece (Elt F) S256x256 e)), y ∈ pc.1.set :=
  View.cover_of_tiled [⟨r0_20, p0⟩, ⟨r0_19, p1⟩] S256x128.size (by rfl) y

def out0_20 : Vec F S256x128 .bf16 :=
  View.canon [⟨r0_2, k0_pay3 (k0_pay56 x5) (k0_pay57 x6) (k0_pay58 x7) (k0_pay66 x0 x1 x2)⟩]

def out0_21 : Vec F S256x1024 .f32 :=
  View.canon [⟨r0_0, k0_pay6 (k0_pay53 x0 x1) (View.ld x2 r0_22)⟩]

theorem cover0_21 {e : EltTy} (p0 : Vec F S256x1024 e) (y : S256x1024.Idx) :
    ∃ pc ∈ ([⟨r0_0, p0⟩] : List (View.Piece (Elt F) S256x1024 e)), y ∈ pc.1.set :=
  View.cover_of_tiled [⟨r0_0, p0⟩] S256x1024.size (by rfl) y

def out0_22 : Vec F S256x1024 .f32 :=
  View.canon [⟨r0_0, k0_pay7 (k0_pay53 x0 x1) (View.ld x2 r0_23)⟩]

def out0_23 : Vec F S256x128 .f32 :=
  View.canon [⟨r0_2, k0_pay44 (k0_pay56 x5) (k0_pay57 x6) (k0_pay58 x7) (k0_pay65 x0 x1 x2 x9 x10)⟩]

def out0_24 : Vec F S256x128 .f32 :=
  View.canon [⟨r0_2, k0_pay46 (k0_pay64 x0 x1 x2)⟩]

def out0_25 : Vec F S256x64 .f32 :=
  View.canon [⟨r0_21, k0_pay4 (k0_pay56 x5) (k0_pay57 x6) (k0_pay58 x7) (k0_pay66 x0 x1 x2)⟩]

theorem cover0_25 {e : EltTy} (p0 : Vec F S256x64 e) (y : S256x64.Idx) :
    ∃ pc ∈ ([⟨r0_21, p0⟩] : List (View.Piece (Elt F) S256x64 e)), y ∈ pc.1.set :=
  View.cover_of_tiled [⟨r0_21, p0⟩] S256x64.size (by rfl) y

def out0_26 : Vec F S256x128 .f32 :=
  View.canon [⟨r0_2, k0_pay5 (k0_pay66 x0 x1 x2)⟩]

end

set_option maxHeartbeats 1000000 in

theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S5888x1024 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x128 .bf16) (harg18 : arg18.IsWhole) (arg19 : Memref sig .tc .vmem S144x256 .bf16) (harg19 : arg19.IsWhole) (arg20 : Memref sig .tc .vmem S256x256 .f32) (harg20 : arg20.IsWhole) (arg21 : Memref sig .tc .vmem S256x128 .bf16) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x64 .f32) (harg26 : arg26.IsWhole) (arg27 : Memref sig .tc .vmem S256x128 .f32) (harg27 : arg27.IsWhole)
    (x0 : Vec F S256x1024 .f32) (x1 : Vec F S1x1024 .f32) (x2 : Vec F S5888x1024 .bf16) (x3 : Vec F S256x128 .f32) (x4 : Vec F S256x128 .f32) (x5 : Vec F S256x128 .f32) (x6 : Vec F S256x128 .f32) (x7 : Vec F S256x128 .f32) (x8 : Vec F S1x128 .f32) (x9 : Vec F S1x128 .f32) (x10 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4) ∗ owns (c : Thread nD τ) arg13 fullShare (out0_12 x0 x1 x2 x3 x4) ∗ owns (c : Thread nD τ) arg14 fullShare (out0_13 x0 x1 x2) ∗ owns (c : Thread nD τ) arg15 fullShare (out0_14 x0 x1 x2) ∗ owns (c : Thread nD τ) arg16 fullShare (out0_15 x0 x1 x2 x5 x6 x7 x8 x10) ∗ owns (c : Thread nD τ) arg17 fullShare (out0_16 x0 x1 x2) ∗ owns (c : Thread nD τ) arg18 fullShare (out0_17 x0 x1 x2 x5 x6 x7 x9 x10) ∗ owns (c : Thread nD τ) arg19 fullShare (out0_18 x0 x1 x2) ∗ owns (c : Thread nD τ) arg20 fullShare (out0_19 x0 x1 x2 x5 x6 x7) ∗ owns (c : Thread nD τ) arg21 fullShare (out0_20 x0 x1 x2 x5 x6 x7) ∗ owns (c : Thread nD τ) arg22 fullShare (out0_21 x0 x1 x2) ∗ owns (c : Thread nD τ) arg23 fullShare (out0_22 x0 x1 x2) ∗ owns (c : Thread nD τ) arg24 fullShare (out0_23 x0 x1 x2 x5 x6 x7 x9 x10) ∗ owns (c : Thread nD τ) arg25 fullShare (out0_24 x0 x1 x2) ∗ owns (c : Thread nD τ) arg26 fullShare (out0_25 x0 x1 x2 x5 x6 x7) ∗ owns (c : Thread nD τ) arg27 fullShare (out0_26 x0 x1 x2)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _ _ _ _)).trans ?_
    rfl
  isplitl [H12]
  · iexists _; isplitr
    swap; · iexact H12
    ipureintro
    refine (View.read_writes_eq_canon _ _ _ (cover0_11 _ _ _ _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_13 _)).trans ?_
    rfl
  isplitl [H15]
  · iexists _; isplitr
    swap; · iexact H15
    ipureintro
    refine (View.read_writes_eq_canon _ _ _ (cover0_11 _ _ _ _)).trans ?_
    rfl
  isplitl [H16]
  · iexists _; isplitr
    swap; · iexact H16
    ipureintro
    refine (View.read_writes_eq_canon _ _ _ (cover0_13 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _ _)).trans ?_
    rfl
  isplitl [H20]
  · iexists _; isplitr
    swap; · iexact H20
    ipureintro
    refine (View.read_writes_eq_canon _ _ _ (cover0_17 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_21 _)).trans ?_
    rfl
  isplitl [H23]
  · iexists _; isplitr
    swap; · iexact H23
    ipureintro
    refine (View.read_writes_eq_canon _ _ _ (cover0_17 _)).trans ?_
    rfl
  isplitl [H24]
  · iexists _; isplitr
    swap; · iexact H24
    ipureintro
    refine (View.read_writes_eq_canon _ _ _ (cover0_17 _)).trans ?_
    rfl
  isplitl [H25]
  · iexists _; isplitr
    swap; · iexact H25
    ipureintro
    refine (View.read_writes_eq_canon _ _ _ (cover0_25 _)).trans ?_
    rfl
  iexists _; isplitr
  swap; · iexact H26
  ipureintro
  refine (View.read_writes_eq_canon _ _ _ (cover0_17 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t)
    | ⟨12, _⟩ => out0_12 (iblk m c 0 t) (iblk m c 1 t) (iblk m c 2 t) (iblk m c 3 t) (iblk m c 4 t)
    | ⟨13, _⟩ => out0_13 (iblk m c 0 t) (iblk m c 1 t) (iblk m c 2 t)
    | ⟨14, _⟩ => out0_14 (iblk m c 0 t) (iblk m c 1 t) (iblk m c 2 t)
    | ⟨15, _⟩ => out0_15 (iblk m c 0 t) (iblk m c 1 t) (iblk m c 2 t) (iblk m c 5 t) (iblk m c 6 t) (iblk m c 7 t) (iblk m c 8 t) (iblk m c 10 t)
    | ⟨16, _⟩ => out0_16 (iblk m c 0 t) (iblk m c 1 t) (iblk m c 2 t)
    | ⟨17, _⟩ => out0_17 (iblk m c 0 t) (iblk m c 1 t) (iblk m c 2 t) (iblk m c 5 t) (iblk m c 6 t) (iblk m c 7 t) (iblk m c 9 t) (iblk m c 10 t)
    | ⟨18, _⟩ => out0_18 (iblk m c 0 t) (iblk m c 1 t) (iblk m c 2 t)
    | ⟨19, _⟩ => out0_19 (iblk m c 0 t) (iblk m c 1 t) (iblk m c 2 t) (iblk m c 5 t) (iblk m c 6 t) (iblk m c 7 t)
    | ⟨20, _⟩ => out0_20 (iblk m c 0 t) (iblk m c 1 t) (iblk m c 2 t) (iblk m c 5 t) (iblk m c 6 t) (iblk m c 7 t)
    | ⟨21, _⟩ => out0_21 (iblk m c 0 t) (iblk m c 1 t) (iblk m c 2 t)
    | ⟨22, _⟩ => out0_22 (iblk m c 0 t) (iblk m c 1 t) (iblk m c 2 t)
    | ⟨23, _⟩ => out0_23 (iblk m c 0 t) (iblk m c 1 t) (iblk m c 2 t) (iblk m c 5 t) (iblk m c 6 t) (iblk m c 7 t) (iblk m c 9 t) (iblk m c 10 t)
    | ⟨24, _⟩ => out0_24 (iblk m c 0 t) (iblk m c 1 t) (iblk m c 2 t)
    | ⟨25, _⟩ => out0_25 (iblk m c 0 t) (iblk m c 1 t) (iblk m c 2 t) (iblk m c 5 t) (iblk m c 6 t) (iblk m c 7 t)
    | ⟨26, _⟩ => out0_26 (iblk m c 0 t) (iblk m c 1 t) (iblk m c 2 t)
    | ⟨_ + 27, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) := by dsimp only [dats]
theorem after0_12 (c : Dev nD) (t : Fin cfg0.N) : (dats m 0 c).after 12 t = out0_12 (iblk m c 0 t) (iblk m c 1 t) (iblk m c 2 t) (iblk m c 3 t) (iblk m c 4 t) := by dsimp only [dats]
theorem after0_13 (c : Dev nD) (t : Fin cfg0.N) : (dats m 0 c).after 13 t = out0_13 (iblk m c 0 t) (iblk m c 1 t) (iblk m c 2 t) := by dsimp only [dats]
theorem after0_14 (c : Dev nD) (t : Fin cfg0.N) : (dats m 0 c).after 14 t = out0_14 (iblk m c 0 t) (iblk m c 1 t) (iblk m c 2 t) := by dsimp only [dats]
theorem after0_15 (c : Dev nD) (t : Fin cfg0.N) : (dats m 0 c).after 15 t = out0_15 (iblk m c 0 t) (iblk m c 1 t) (iblk m c 2 t) (iblk m c 5 t) (iblk m c 6 t) (iblk m c 7 t) (iblk m c 8 t) (iblk m c 10 t) := by dsimp only [dats]
theorem after0_16 (c : Dev nD) (t : Fin cfg0.N) : (dats m 0 c).after 16 t = out0_16 (iblk m c 0 t) (iblk m c 1 t) (iblk m c 2 t) := by dsimp only [dats]
theorem after0_17 (c : Dev nD) (t : Fin cfg0.N) : (dats m 0 c).after 17 t = out0_17 (iblk m c 0 t) (iblk m c 1 t) (iblk m c 2 t) (iblk m c 5 t) (iblk m c 6 t) (iblk m c 7 t) (iblk m c 9 t) (iblk m c 10 t) := by dsimp only [dats]
theorem after0_18 (c : Dev nD) (t : Fin cfg0.N) : (dats m 0 c).after 18 t = out0_18 (iblk m c 0 t) (iblk m c 1 t) (iblk m c 2 t) := by dsimp only [dats]
theorem after0_19 (c : Dev nD) (t : Fin cfg0.N) : (dats m 0 c).after 19 t = out0_19 (iblk m c 0 t) (iblk m c 1 t) (iblk m c 2 t) (iblk m c 5 t) (iblk m c 6 t) (iblk m c 7 t) := by dsimp only [dats]
theorem after0_20 (c : Dev nD) (t : Fin cfg0.N) : (dats m 0 c).after 20 t = out0_20 (iblk m c 0 t) (iblk m c 1 t) (iblk m c 2 t) (iblk m c 5 t) (iblk m c 6 t) (iblk m c 7 t) := by dsimp only [dats]
theorem after0_21 (c : Dev nD) (t : Fin cfg0.N) : (dats m 0 c).after 21 t = out0_21 (iblk m c 0 t) (iblk m c 1 t) (iblk m c 2 t) := by dsimp only [dats]
theorem after0_22 (c : Dev nD) (t : Fin cfg0.N) : (dats m 0 c).after 22 t = out0_22 (iblk m c 0 t) (iblk m c 1 t) (iblk m c 2 t) := by dsimp only [dats]
theorem after0_23 (c : Dev nD) (t : Fin cfg0.N) : (dats m 0 c).after 23 t = out0_23 (iblk m c 0 t) (iblk m c 1 t) (iblk m c 2 t) (iblk m c 5 t) (iblk m c 6 t) (iblk m c 7 t) (iblk m c 9 t) (iblk m c 10 t) := by dsimp only [dats]
theorem after0_24 (c : Dev nD) (t : Fin cfg0.N) : (dats m 0 c).after 24 t = out0_24 (iblk m c 0 t) (iblk m c 1 t) (iblk m c 2 t) := by dsimp only [dats]
theorem after0_25 (c : Dev nD) (t : Fin cfg0.N) : (dats m 0 c).after 25 t = out0_25 (iblk m c 0 t) (iblk m c 1 t) (iblk m c 2 t) (iblk m c 5 t) (iblk m c 6 t) (iblk m c 7 t) := by dsimp only [dats]
theorem after0_26 (c : Dev nD) (t : Fin cfg0.N) : (dats m 0 c).after 26 t = out0_26 (iblk m c 0 t) (iblk m c 1 t) (iblk m c 2 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)

/-- Before a visit: every window's block at what it holds. -/
def bodyPre (c : Dev nD) (t : Fin cfg0.N) : sProp 𝕄 :=
  iprop((dats m 0 c).Φ t.castSucc ∗ (dats m 0 c).owesAt () t.castSucc
    ∗ bigSep Finset.univ fun w : Fin 27 => iprop(∃ d, owns (c : Thread nD τ) ((cfg0.win w).stage (cfg0.slots t w)) fullShare ((dats m 0 c).before w t d)))

/-- After it: every window's block at what the body leaves. -/
def bodyPost (c : Dev nD) (t : Fin cfg0.N) : sProp 𝕄 :=
  iprop((dats m 0 c).Φ t.succ ∗ (dats m 0 c).owesAt () t.succ
    ∗ bigSep Finset.univ fun w : Fin 27 => owns (c : Thread nD τ) ((cfg0.win w).stage (cfg0.slots t w)) fullShare ((dats m 0 c).after w t))

set_option maxHeartbeats 400000 in
/-- The body of one visit, from the blocks of its windows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bigSep_W0, before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have h := sound_body m c t
  unfold bodyPre bodyPost at h
  rw [bigSep_W0, bigSep_W0] at h
  rw [bigSep_W0, bigSep_W0, defs₀_row]
  exact triple_restated h rfl .rfl fun _ => .rfl
set_option backward.isDefEq.respectTransparency.types false in
set_option maxHeartbeats 800000 in

theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Projecting.Sample

end
-- ==== Proof.SProjOut.lean ====
module

public import proofs.«01_k».proof.Proof.SProjIdealFrame
public import proofs.«01_k».proof.Proof.ProjSpec

@[expose] public section

set_option maxRecDepth 16384

noncomputable section

namespace Cert.Projecting.Sample

open Idealize.ShloMosaic Idealize.ShloMosaic.TcCoe Idealize.SL.Sem

open Cert.InprojSampleIdeal Cert.InprojSampleIdeal.Gen

variable (x0 : Vec Ideal S256x1024 .f32) (x1 : Vec Ideal S1x1024 .f32) (x2 : Vec Ideal S5888x1024 .bf16)
  (x3 x4 x5 x6 x7 : Vec Ideal S256x128 .f32) (x8 x9 : Vec Ideal S1x128 .f32) (x10 : Vec Ideal S128x128 .bf16)

/-- A row of a block projected to the packed columns. -/
def packed (i : Fin 256) : ℕ → EReal :=
  lanes fun r : Fin 5888 => ∑ k, normed (fun k => x0 (ix2 i k)) (fun k => x1 (ix2 0 k)) k * x2 (ix2 r k)

/-- A row of a block of a table. -/
def tab (a : Vec Ideal S256x128 .f32) (i : Fin 256) : ℕ → EReal := lanes fun k : Fin 128 => a (ix2 i k)

/-- The mask of the groups of lanes. -/
def mask (x : Fin 128) : ℕ → EReal := lanes fun k : Fin 128 => x10 (ix2 x k)

/-- A gain's row. -/
def gain (a : Vec Ideal S1x128 .f32) : ℕ → EReal := lanes fun k : Fin 128 => a (ix2 0 k)

theorem emb_8 (i : Fin 256) (k : Fin 128) : r0_8.emb (ix2 i k) = ix2 i (⟨384 + k.val, by omega⟩ : Fin 512) := by
  funext a; apply Fin.ext
  match a with
  | ⟨0, _⟩ => show 0 + 1 * i.val = i.val; omega
  | ⟨1, _⟩ => show 384 + 1 * k.val = 384 + k.val; omega

theorem emb_7 (i : Fin 256) (k : Fin 128) : r0_7.emb (ix2 i k) = ix2 i (⟨256 + k.val, by omega⟩ : Fin 512) := by
  funext a; apply Fin.ext
  match a with
  | ⟨0, _⟩ => show 0 + 1 * i.val = i.val; omega
  | ⟨1, _⟩ => show 256 + 1 * k.val = 256 + k.val; omega

theorem emb_6 (i : Fin 256) (k : Fin 128) : r0_6.emb (ix2 i k) = ix2 i (⟨128 + k.val, by omega⟩ : Fin 512) := by
  funext a; apply Fin.ext
  match a with
  | ⟨0, _⟩ => show 0 + 1 * i.val = i.val; omega
  | ⟨1, _⟩ => show 128 + 1 * k.val = 128 + k.val; omega

theorem emb_5 (i : Fin 256) (k : Fin 128) : r0_5.emb (ix2 i k) = ix2 i (⟨k.val, by omega⟩ : Fin 512) := by
  funext a; apply Fin.ext
  match a with
  | ⟨0, _⟩ => show 0 + 1 * i.val = i.val; omega
  | ⟨1, _⟩ => show 0 + 1 * k.val = k.val; omega

theorem emb_11 (i : Fin 256) (k : Fin 512) : r0_11.emb (ix2 i k) = ix2 i (k : Fin 512) := by
  funext a; apply Fin.ext
  match a with
  | ⟨0, _⟩ => show 0 + 1 * i.val = i.val; omega
  | ⟨1, _⟩ => show 0 + 1 * k.val = k.val; omega

theorem emb_2 (i : Fin 256) (k : Fin 128) : r0_2.emb (ix2 i k) = ix2 i (k : Fin 128) := by
  funext a; apply Fin.ext
  match a with
  | ⟨0, _⟩ => show 0 + 1 * i.val = i.val; omega
  | ⟨1, _⟩ => show 0 + 1 * k.val = k.val; omega

theorem emb_17 (i : Fin 144) (k : Fin 256) : r0_17.emb (ix2 i k) = ix2 i (k : Fin 256) := by
  funext a; apply Fin.ext
  match a with
  | ⟨0, _⟩ => show 0 + 1 * i.val = i.val; omega
  | ⟨1, _⟩ => show 0 + 1 * k.val = k.val; omega

theorem emb_20 (i : Fin 256) (k : Fin 128) : r0_20.emb (ix2 i k) = ix2 i (⟨128 + k.val, by omega⟩ : Fin 256) := by
  funext a; apply Fin.ext
  match a with
  | ⟨0, _⟩ => show 0 + 1 * i.val = i.val; omega
  | ⟨1, _⟩ => show 128 + 1 * k.val = 128 + k.val; omega

theorem emb_19 (i : Fin 256) (k : Fin 128) : r0_19.emb (ix2 i k) = ix2 i (⟨k.val, by omega⟩ : Fin 256) := by
  funext a; apply Fin.ext
  match a with
  | ⟨0, _⟩ => show 0 + 1 * i.val = i.val; omega
  | ⟨1, _⟩ => show 0 + 1 * k.val = k.val; omega

theorem emb_0 (i : Fin 256) (k : Fin 1024) : r0_0.emb (ix2 i k) = ix2 i (k : Fin 1024) := by
  funext a; apply Fin.ext
  match a with
  | ⟨0, _⟩ => show 0 + 1 * i.val = i.val; omega
  | ⟨1, _⟩ => show 0 + 1 * k.val = k.val; omega

theorem emb_21 (i : Fin 256) (k : Fin 64) : r0_21.emb (ix2 i k) = ix2 i (k : Fin 64) := by
  funext a; apply Fin.ext
  match a with
  | ⟨0, _⟩ => show 0 + 1 * i.val = i.val; omega
  | ⟨1, _⟩ => show 0 + 1 * k.val = k.val; omega

theorem out11 (i : Fin 256) (e : Fin 512) : out0_11 x0 x1 x2 x3 x4 (ix2 i e)
    = rollR (tab x3 i) (tab x4 i) (fun l => packed x0 x1 x2 i (e.val / 128 * 128 + l)) (e.val % 128) := by
  unfold out0_11
  refine View.canon_apply_of_pieces (Val := Elt Ideal) (S := S256x512) (e := .f32) (fun y => rollR (tab x3 (y 0)) (tab x4 (y 0)) (fun l => packed x0 x1 x2 (y 0) ((y 1).val / 128 * 128 + l)) ((y 1).val % 128)) _ ?_ _ (cover0_11 _ _ _ _ _)
  intro p hp x
  simp only [List.mem_cons, List.not_mem_nil, or_false] at hp
  rcases hp with rfl | rfl | rfl | rfl
  · obtain ⟨i, k, rfl⟩ : ∃ i k, x = ix2 (i : Fin 256) (k : Fin 128) := ⟨_, _, ValueIdx.eq_ix2 x⟩
    dsimp only
    rw [emb_8]
    show _ = rollR (tab x3 i) (tab x4 i) (fun l => packed x0 x1 x2 i ((384 + k.val) / 128 * 128 + l)) ((384 + k.val) % 128)
    rw [show (384 + k.val) / 128 * 128 = 384 by omega, show (384 + k.val) % 128 = k.val by omega]
    unfold rollR tab packed
    simp (disch := omega) only [lanes_lt]
    pointwise [k0_pay22, k0_pay54, k0_pay55, k0_pay60, k0_pay9, k0_pay10, k0_pay11, k0_pay12, k0_pay13, k0_pay14, k0_pay15, k0_pay23, k0_pay31, k0_pay32, k0_pay33, k0_pay42, k0_pay43, k0_pay48, k0_pay53, k0_pay56, k0_pay57, k0_pay58, k0_pay59, k0_pay61, k0_pay62, k0_pay63, k0_pay64, k0_pay65, k0_pay66, k0_pay8]
    rfl
  · obtain ⟨i, k, rfl⟩ : ∃ i k, x = ix2 (i : Fin 256) (k : Fin 128) := ⟨_, _, ValueIdx.eq_ix2 x⟩
    dsimp only
    rw [emb_7]
    show _ = rollR (tab x3 i) (tab x4 i) (fun l => packed x0 x1 x2 i ((256 + k.val) / 128 * 128 + l)) ((256 + k.val) % 128)
    rw [show (256 + k.val) / 128 * 128 = 256 by omega, show (256 + k.val) % 128 = k.val by omega]
    unfold rollR tab packed
    simp (disch := omega) only [lanes_lt]
    pointwise [k0_pay21, k0_pay54, k0_pay55, k0_pay60, k0_pay9, k0_pay10, k0_pay11, k0_pay12, k0_pay13, k0_pay14, k0_pay15, k0_pay23, k0_pay31, k0_pay32, k0_pay33, k0_pay42, k0_pay43, k0_pay48, k0_pay53, k0_pay56, k0_pay57, k0_pay58, k0_pay59, k0_pay61, k0_pay62, k0_pay63, k0_pay64, k0_pay65, k0_pay66, k0_pay8]
    rfl
  · obtain ⟨i, k, rfl⟩ : ∃ i k, x = ix2 (i : Fin 256) (k : Fin 128) := ⟨_, _, ValueIdx.eq_ix2 x⟩
    dsimp only
    rw [emb_6]
    show _ = rollR (tab x3 i) (tab x4 i) (fun l => packed x0 x1 x2 i ((128 + k.val) / 128 * 128 + l)) ((128 + k.val) % 128)
    rw [show (128 + k.val) / 128 * 128 = 128 by omega, show (128 + k.val) % 128 = k.val by omega]
    unfold rollR tab packed
    simp (disch := omega) only [lanes_lt]
    pointwise [k0_pay20, k0_pay54, k0_pay55, k0_pay60, k0_pay9, k0_pay10, k0_pay11, k0_pay12, k0_pay13, k0_pay14, k0_pay15, k0_pay23, k0_pay31, k0_pay32, k0_pay33, k0_pay42, k0_pay43, k0_pay48, k0_pay53, k0_pay56, k0_pay57, k0_pay58, k0_pay59, k0_pay61, k0_pay62, k0_pay63, k0_pay64, k0_pay65, k0_pay66, k0_pay8]
    rfl
  · obtain ⟨i, k, rfl⟩ : ∃ i k, x = ix2 (i : Fin 256) (k : Fin 128) := ⟨_, _, ValueIdx.eq_ix2 x⟩
    dsimp only
    rw [emb_5]
    show _ = rollR (tab x3 i) (tab x4 i) (fun l => packed x0 x1 x2 i (k.val / 128 * 128 + l)) (k.val % 128)
    rw [show k.val / 128 * 128 = 0 by omega, show k.val % 128 = k.val by omega]
    simp only [Nat.zero_add]
    unfold rollR tab packed
    simp (disch := omega) only [lanes_lt]
    pointwise [k0_pay19, k0_pay17, k0_pay18, k0_pay9, k0_pay16, k0_pay10, k0_pay15, k0_pay8]
    rfl

theorem out12 (i : Fin 256) (e : Fin 512) : out0_12 x0 x1 x2 x3 x4 (ix2 i e)
    = rollR (tab x3 i) (tab x4 i) (fun l => packed x0 x1 x2 i (512 + (e.val / 128 * 128 + l))) (e.val % 128) * Ideal.ofBits FTy.f32 1035273459#32 := by
  unfold out0_12
  refine View.canon_apply_of_pieces (Val := Elt Ideal) (S := S256x512) (e := .f32) (fun y => rollR (tab x3 (y 0)) (tab x4 (y 0)) (fun l => packed x0 x1 x2 (y 0) (512 + ((y 1).val / 128 * 128 + l))) ((y 1).val % 128) * Ideal.ofBits FTy.f32 1035273459#32) _ ?_ _ (cover0_11 _ _ _ _ _)
  intro p hp x
  simp only [List.mem_cons, List.not_mem_nil, or_false] at hp
  rcases hp with rfl | rfl | rfl | rfl
  · obtain ⟨i, k, rfl⟩ : ∃ i k, x = ix2 (i : Fin 256) (k : Fin 128) := ⟨_, _, ValueIdx.eq_ix2 x⟩
    dsimp only
    rw [emb_8]
    show _ = rollR (tab x3 i) (tab x4 i) (fun l => packed x0 x1 x2 i (512 + ((384 + k.val) / 128 * 128 + l))) ((384 + k.val) % 128) * Ideal.ofBits FTy.f32 1035273459#32
    rw [show (384 + k.val) / 128 * 128 = 384 by omega, show (384 + k.val) % 128 = k.val by omega]
    unfold rollR tab packed
    simp (disch := omega) only [lanes_lt]
    pointwise [k0_pay28, k0_pay54, k0_pay55, k0_pay61, k0_pay9, k0_pay10, k0_pay11, k0_pay12, k0_pay13, k0_pay14, k0_pay15, k0_pay23, k0_pay31, k0_pay32, k0_pay33, k0_pay42, k0_pay43, k0_pay48, k0_pay53, k0_pay56, k0_pay57, k0_pay58, k0_pay59, k0_pay60, k0_pay62, k0_pay63, k0_pay64, k0_pay65, k0_pay66, k0_pay8]
    rfl
  · obtain ⟨i, k, rfl⟩ : ∃ i k, x = ix2 (i : Fin 256) (k : Fin 128) := ⟨_, _, ValueIdx.eq_ix2 x⟩
    dsimp only
    rw [emb_7]
    show _ = rollR (tab x3 i) (tab x4 i) (fun l => packed x0 x1 x2 i (512 + ((256 + k.val) / 128 * 128 + l))) ((256 + k.val) % 128) * Ideal.ofBits FTy.f32 1035273459#32
    rw [show (256 + k.val) / 128 * 128 = 256 by omega, show (256 + k.val) % 128 = k.val by omega]
    unfold rollR tab packed
    simp (disch := omega) only [lanes_lt]
    pointwise [k0_pay27, k0_pay54, k0_pay55, k0_pay61, k0_pay9, k0_pay10, k0_pay11, k0_pay12, k0_pay13, k0_pay14, k0_pay15, k0_pay23, k0_pay31, k0_pay32, k0_pay33, k0_pay42, k0_pay43, k0_pay48, k0_pay53, k0_pay56, k0_pay57, k0_pay58, k0_pay59, k0_pay60, k0_pay62, k0_pay63, k0_pay64, k0_pay65, k0_pay66, k0_pay8]
    rfl
  · obtain ⟨i, k, rfl⟩ : ∃ i k, x = ix2 (i : Fin 256) (k : Fin 128) := ⟨_, _, ValueIdx.eq_ix2 x⟩
    dsimp only
    rw [emb_6]
    show _ = rollR (tab x3 i) (tab x4 i) (fun l => packed x0 x1 x2 i (512 + ((128 + k.val) / 128 * 128 + l))) ((128 + k.val) % 128) * Ideal.ofBits FTy.f32 1035273459#32
    rw [show (128 + k.val) / 128 * 128 = 128 by omega, show (128 + k.val) % 128 = k.val by omega]
    unfold rollR tab packed
    simp (disch := omega) only [lanes_lt]
    pointwise [k0_pay26, k0_pay25, k0_pay53, k0_pay54, k0_pay55, k0_pay23, k0_pay8, k0_pay9, k0_pay10, k0_pay11, k0_pay12, k0_pay13, k0_pay14, k0_pay15, k0_pay31, k0_pay32, k0_pay33, k0_pay42, k0_pay43, k0_pay48, k0_pay56, k0_pay57, k0_pay58, k0_pay59, k0_pay60, k0_pay61, k0_pay62, k0_pay63, k0_pay64, k0_pay65, k0_pay66]
    rfl
  · obtain ⟨i, k, rfl⟩ : ∃ i k, x = ix2 (i : Fin 256) (k : Fin 128) := ⟨_, _, ValueIdx.eq_ix2 x⟩
    dsimp only
    rw [emb_5]
    show _ = rollR (tab x3 i) (tab x4 i) (fun l => packed x0 x1 x2 i (512 + (k.val / 128 * 128 + l))) (k.val % 128) * Ideal.ofBits FTy.f32 1035273459#32
    rw [show k.val / 128 * 128 = 0 by omega, show k.val % 128 = k.val by omega]
    simp only [Nat.zero_add]
    unfold rollR tab packed
    simp (disch := omega) only [lanes_lt]
    pointwise [k0_pay24, k0_pay53, k0_pay54, k0_pay55, k0_pay23, k0_pay8, k0_pay9, k0_pay10, k0_pay11, k0_pay12, k0_pay13, k0_pay14, k0_pay15, k0_pay31, k0_pay32, k0_pay33, k0_pay42, k0_pay43, k0_pay48, k0_pay56, k0_pay57, k0_pay58, k0_pay59, k0_pay60, k0_pay61, k0_pay62, k0_pay63, k0_pay64, k0_pay65, k0_pay66]
    rfl

theorem out13 (i : Fin 256) (e : Fin 512) : out0_13 x0 x1 x2 (ix2 i e)
    = packed x0 x1 x2 i (1024 + e.val) := by
  unfold out0_13
  refine View.canon_apply_of_pieces (Val := Elt Ideal) (S := S256x512) (e := .f32) (fun y => packed x0 x1 x2 (y 0) (1024 + (y 1).val)) _ ?_ _ (cover0_13 _ _)
  intro p hp x
  simp only [List.mem_cons, List.not_mem_nil, or_false] at hp
  obtain rfl := hp
  obtain ⟨i, k, rfl⟩ : ∃ i k, x = ix2 (i : Fin 256) (k : Fin 512) := ⟨_, _, ValueIdx.eq_ix2 x⟩
  dsimp only
  rw [emb_11]
  show _ = packed x0 x1 x2 i (1024 + k.val)
  unfold packed
  simp (disch := omega) only [lanes_lt]
  pointwise [k0_pay29, k0_pay53, k0_pay8, k0_pay9, k0_pay10, k0_pay11, k0_pay12, k0_pay13, k0_pay14, k0_pay15, k0_pay23, k0_pay31, k0_pay32, k0_pay33, k0_pay42, k0_pay43, k0_pay48, k0_pay54, k0_pay55, k0_pay56, k0_pay57, k0_pay58, k0_pay59, k0_pay60, k0_pay61, k0_pay62, k0_pay63, k0_pay64, k0_pay65, k0_pay66]
  rfl

theorem out14 (i : Fin 256) (e : Fin 512) : out0_14 x0 x1 x2 (ix2 i e)
    = packed x0 x1 x2 i (1536 + e.val) := by
  unfold out0_14
  refine View.canon_apply_of_pieces (Val := Elt Ideal) (S := S256x512) (e := .f32) (fun y => packed x0 x1 x2 (y 0) (1536 + (y 1).val)) _ ?_ _ (cover0_13 _ _)
  intro p hp x
  simp only [List.mem_cons, List.not_mem_nil, or_false] at hp
  obtain rfl := hp
  obtain ⟨i, k, rfl⟩ : ∃ i k, x = ix2 (i : Fin 256) (k : Fin 512) := ⟨_, _, ValueIdx.eq_ix2 x⟩
  dsimp only
  rw [emb_11]
  show _ = packed x0 x1 x2 i (1536 + k.val)
  unfold packed
  simp (disch := omega) only [lanes_lt]
  pointwise [k0_pay30, k0_pay53, k0_pay8, k0_pay9, k0_pay10, k0_pay11, k0_pay12, k0_pay13, k0_pay14, k0_pay15, k0_pay23, k0_pay31, k0_pay32, k0_pay33, k0_pay42, k0_pay43, k0_pay48, k0_pay54, k0_pay55, k0_pay56, k0_pay57, k0_pay58, k0_pay59, k0_pay60, k0_pay61, k0_pay62, k0_pay63, k0_pay64, k0_pay65, k0_pay66]
  rfl

theorem out15 (i : Fin 256) (e : Fin 512) : out0_15 x0 x1 x2 x5 x6 x7 x8 x10 (ix2 i e)
    = rollA (tab x5 i) (tab x6 i) (tab x7 i) (groupNorm (mask x10) (gain x8) (fun l => packed x0 x1 x2 i (2048 + (e.val / 128 * 128 + l)))) (e.val % 128) := by
  unfold out0_15
  refine View.canon_apply_of_pieces (Val := Elt Ideal) (S := S256x512) (e := .f32) (fun y => rollA (tab x5 (y 0)) (tab x6 (y 0)) (tab x7 (y 0)) (groupNorm (mask x10) (gain x8) (fun l => packed x0 x1 x2 (y 0) (2048 + ((y 1).val / 128 * 128 + l)))) ((y 1).val % 128)) _ ?_ _ (cover0_11 _ _ _ _ _)
  intro p hp x
  simp only [List.mem_cons, List.not_mem_nil, or_false] at hp
  rcases hp with rfl | rfl | rfl | rfl
  · obtain ⟨i, k, rfl⟩ : ∃ i k, x = ix2 (i : Fin 256) (k : Fin 128) := ⟨_, _, ValueIdx.eq_ix2 x⟩
    dsimp only
    rw [emb_8]
    show _ = rollA (tab x5 i) (tab x6 i) (tab x7 i) (groupNorm (mask x10) (gain x8) (fun l => packed x0 x1 x2 i (2048 + ((384 + k.val) / 128 * 128 + l)))) ((384 + k.val) % 128)
    rw [show (384 + k.val) / 128 * 128 = 384 by omega, show (384 + k.val) % 128 = k.val by omega]
    unfold groupNorm rollA mask gain tab packed
    simp (disch := omega) only [lanes_lt]
    pointwise [k0_pay40, k0_pay56, k0_pay57, k0_pay58, k0_pay62, k0_pay38, k0_pay63, k0_pay39, k0_pay59, k0_pay11, k0_pay12, k0_pay13, k0_pay14, k0_pay15, k0_pay23, k0_pay31, k0_pay32, k0_pay33, k0_pay42, k0_pay43, k0_pay48, k0_pay53, k0_pay60, k0_pay61, k0_pay64, k0_pay65, k0_pay66, k0_pay8, k0_pay9, k0_pay10, k0_pay54, k0_pay55]
    rfl
  · obtain ⟨i, k, rfl⟩ : ∃ i k, x = ix2 (i : Fin 256) (k : Fin 128) := ⟨_, _, ValueIdx.eq_ix2 x⟩
    dsimp only
    rw [emb_7]
    show _ = rollA (tab x5 i) (tab x6 i) (tab x7 i) (groupNorm (mask x10) (gain x8) (fun l => packed x0 x1 x2 i (2048 + ((256 + k.val) / 128 * 128 + l)))) ((256 + k.val) % 128)
    rw [show (256 + k.val) / 128 * 128 = 256 by omega, show (256 + k.val) % 128 = k.val by omega]
    unfold groupNorm rollA mask gain tab packed
    simp (disch := omega) only [lanes_lt]
    pointwise [k0_pay37, k0_pay56, k0_pay57, k0_pay58, k0_pay59, k0_pay62, k0_pay63, k0_pay11, k0_pay12, k0_pay13, k0_pay14, k0_pay15, k0_pay23, k0_pay31, k0_pay32, k0_pay33, k0_pay42, k0_pay43, k0_pay48, k0_pay53, k0_pay60, k0_pay61, k0_pay64, k0_pay65, k0_pay66, k0_pay8, k0_pay9, k0_pay10, k0_pay54, k0_pay55]
    rfl
  · obtain ⟨i, k, rfl⟩ : ∃ i k, x = ix2 (i : Fin 256) (k : Fin 128) := ⟨_, _, ValueIdx.eq_ix2 x⟩
    dsimp only
    rw [emb_6]
    show _ = rollA (tab x5 i) (tab x6 i) (tab x7 i) (groupNorm (mask x10) (gain x8) (fun l => packed x0 x1 x2 i (2048 + ((128 + k.val) / 128 * 128 + l)))) ((128 + k.val) % 128)
    rw [show (128 + k.val) / 128 * 128 = 128 by omega, show (128 + k.val) % 128 = k.val by omega]
    unfold groupNorm rollA mask gain tab packed
    simp (disch := omega) only [lanes_lt]
    pointwise [k0_pay36, k0_pay56, k0_pay57, k0_pay58, k0_pay62, k0_pay35, k0_pay53, k0_pay59, k0_pay11, k0_pay12, k0_pay13, k0_pay14, k0_pay15, k0_pay23, k0_pay31, k0_pay32, k0_pay33, k0_pay42, k0_pay43, k0_pay48, k0_pay60, k0_pay61, k0_pay63, k0_pay64, k0_pay65, k0_pay66, k0_pay8, k0_pay9, k0_pay10, k0_pay54, k0_pay55]
    rfl
  · obtain ⟨i, k, rfl⟩ : ∃ i k, x = ix2 (i : Fin 256) (k : Fin 128) := ⟨_, _, ValueIdx.eq_ix2 x⟩
    dsimp only
    rw [emb_5]
    show _ = rollA (tab x5 i) (tab x6 i) (tab x7 i) (groupNorm (mask x10) (gain x8) (fun l => packed x0 x1 x2 i (2048 + (k.val / 128 * 128 + l)))) (k.val % 128)
    rw [show k.val / 128 * 128 = 0 by omega, show k.val % 128 = k.val by omega]
    simp only [Nat.zero_add]
    unfold groupNorm rollA mask gain tab packed
    simp (disch := omega) only [lanes_lt]
    pointwise [k0_pay34, k0_pay53, k0_pay56, k0_pay57, k0_pay58, k0_pay59, k0_pay62, k0_pay33, k0_pay8, k0_pay9, k0_pay10, k0_pay11, k0_pay12, k0_pay13, k0_pay14, k0_pay15, k0_pay23, k0_pay31, k0_pay32, k0_pay42, k0_pay43, k0_pay48, k0_pay54, k0_pay55, k0_pay60, k0_pay61, k0_pay63, k0_pay64, k0_pay65, k0_pay66]
    rfl

theorem out16 (i : Fin 256) (e : Fin 512) : out0_16 x0 x1 x2 (ix2 i e)
    = packed x0 x1 x2 i (2560 + e.val) := by
  unfold out0_16
  refine View.canon_apply_of_pieces (Val := Elt Ideal) (S := S256x512) (e := .f32) (fun y => packed x0 x1 x2 (y 0) (2560 + (y 1).val)) _ ?_ _ (cover0_13 _ _)
  intro p hp x
  simp only [List.mem_cons, List.not_mem_nil, or_false] at hp
  obtain rfl := hp
  obtain ⟨i, k, rfl⟩ : ∃ i k, x = ix2 (i : Fin 256) (k : Fin 512) := ⟨_, _, ValueIdx.eq_ix2 x⟩
  dsimp only
  rw [emb_11]
  show _ = packed x0 x1 x2 i (2560 + k.val)
  unfold packed
  simp (disch := omega) only [lanes_lt]
  pointwise [k0_pay41, k0_pay53, k0_pay8, k0_pay9, k0_pay10, k0_pay11, k0_pay12, k0_pay13, k0_pay14, k0_pay15, k0_pay23, k0_pay31, k0_pay32, k0_pay33, k0_pay42, k0_pay43, k0_pay48, k0_pay54, k0_pay55, k0_pay56, k0_pay57, k0_pay58, k0_pay59, k0_pay60, k0_pay61, k0_pay62, k0_pay63, k0_pay64, k0_pay65, k0_pay66]
  rfl

theorem out17 (i : Fin 256) (e : Fin 128) : out0_17 x0 x1 x2 x5 x6 x7 x9 x10 (ix2 i e)
    = rollA (tab x5 i) (tab x6 i) (tab x7 i) (groupNorm (mask x10) (gain x9) (fun l => packed x0 x1 x2 i (3072 + l))) e.val := by
  unfold out0_17
  refine View.canon_apply_of_pieces (Val := Elt Ideal) (S := S256x128) (e := .bf16) (fun y => rollA (tab x5 (y 0)) (tab x6 (y 0)) (tab x7 (y 0)) (groupNorm (mask x10) (gain x9) (fun l => packed x0 x1 x2 (y 0) (3072 + l))) (y 1).val) _ ?_ _ (cover0_17 _ _)
  intro p hp x
  simp only [List.mem_cons, List.not_mem_nil, or_false] at hp
  obtain rfl := hp
  obtain ⟨i, k, rfl⟩ : ∃ i k, x = ix2 (i : Fin 256) (k : Fin 128) := ⟨_, _, ValueIdx.eq_ix2 x⟩
  dsimp only
  rw [emb_2]
  show _ = rollA (tab x5 i) (tab x6 i) (tab x7 i) (groupNorm (mask x10) (gain x9) (fun l => packed x0 x1 x2 i (3072 + l))) k.val
  unfold groupNorm rollA mask gain tab packed
  simp (disch := omega) only [lanes_lt]
  pointwise [k0_pay45, k0_pay56, k0_pay57, k0_pay58, k0_pay65, k0_pay44, k0_pay11, k0_pay12, k0_pay13, k0_pay14, k0_pay15, k0_pay23, k0_pay31, k0_pay32, k0_pay33, k0_pay42, k0_pay43, k0_pay48, k0_pay53, k0_pay59, k0_pay60, k0_pay61, k0_pay62, k0_pay63, k0_pay64, k0_pay66, k0_pay8, k0_pay9, k0_pay10, k0_pay54, k0_pay55]
  rfl

theorem out18 (i : Fin 144) (e : Fin 256) : out0_18 x0 x1 x2 (ix2 i e)
    = if i.val < 128 then packed x0 x1 x2 e (3072 + (128 + i.val)) else 1 := by
  unfold out0_18
  refine View.canon_apply_of_pieces (Val := Elt Ideal) (S := S144x256) (e := .bf16) (fun y => if (y 0).val < 128 then packed x0 x1 x2 (y 1) (3072 + (128 + (y 0).val)) else 1) _ ?_ _ (cover0_18 _ _)
  intro p hp x
  simp only [List.mem_cons, List.not_mem_nil, or_false] at hp
  obtain rfl := hp
  obtain ⟨i, k, rfl⟩ : ∃ i k, x = ix2 (i : Fin 144) (k : Fin 256) := ⟨_, _, ValueIdx.eq_ix2 x⟩
  dsimp only
  rw [emb_17]
  show _ = if i.val < 128 then packed x0 x1 x2 k (3072 + (128 + i.val)) else 1
  pointwise [k0_pay47, k0_pay64, k0_pay46, k0_pay32, k0_pay42, k0_pay43, k0_pay48, k0_pay53, k0_pay59, k0_pay65, k0_pay66, k0_pay8, k0_pay9, k0_pay10, k0_pay11, k0_pay12, k0_pay13, k0_pay14, k0_pay15, k0_pay23, k0_pay31, k0_pay33, k0_pay54, k0_pay55, k0_pay56, k0_pay57, k0_pay58, k0_pay60, k0_pay61, k0_pay62, k0_pay63]
  by_cases h : i.val < 128
  · rw [dif_pos h, if_pos h]
    unfold packed
    rw [lanes_lt _ _ (by omega)]
    rfl
  · rw [dif_neg h, if_neg h]

theorem out19 (i : Fin 256) (e : Fin 256) : out0_19 x0 x1 x2 x5 x6 x7 (ix2 i e)
    = rollA (tab x5 i) (tab x6 i) (tab x7 i) (fun l => packed x0 x1 x2 i (3328 + (e.val / 128 * 128 + l))) (e.val % 128) := by
  unfold out0_19
  refine View.canon_apply_of_pieces (Val := Elt Ideal) (S := S256x256) (e := .f32) (fun y => rollA (tab x5 (y 0)) (tab x6 (y 0)) (tab x7 (y 0)) (fun l => packed x0 x1 x2 (y 0) (3328 + ((y 1).val / 128 * 128 + l))) ((y 1).val % 128)) _ ?_ _ (cover0_19 _ _ _)
  intro p hp x
  simp only [List.mem_cons, List.not_mem_nil, or_false] at hp
  rcases hp with rfl | rfl
  · obtain ⟨i, k, rfl⟩ : ∃ i k, x = ix2 (i : Fin 256) (k : Fin 128) := ⟨_, _, ValueIdx.eq_ix2 x⟩
    dsimp only
    rw [emb_20]
    show _ = rollA (tab x5 i) (tab x6 i) (tab x7 i) (fun l => packed x0 x1 x2 i (3328 + ((128 + k.val) / 128 * 128 + l))) ((128 + k.val) % 128)
    rw [show (128 + k.val) / 128 * 128 = 128 by omega, show (128 + k.val) % 128 = k.val by omega]
    unfold rollA tab packed
    simp (disch := omega) only [lanes_lt]
    pointwise [k0_pay1, k0_pay58, k0_pay51, k0_pay53, k0_pay56, k0_pay57, k0_pay52, k0_pay13, k0_pay14, k0_pay15, k0_pay23, k0_pay31, k0_pay32, k0_pay33, k0_pay42, k0_pay43, k0_pay48, k0_pay59, k0_pay60, k0_pay61, k0_pay62, k0_pay63, k0_pay64, k0_pay65, k0_pay66, k0_pay50, k0_pay8, k0_pay9, k0_pay10, k0_pay11, k0_pay12, k0_pay54, k0_pay55]
    rfl
  · obtain ⟨i, k, rfl⟩ : ∃ i k, x = ix2 (i : Fin 256) (k : Fin 128) := ⟨_, _, ValueIdx.eq_ix2 x⟩
    dsimp only
    rw [emb_19]
    show _ = rollA (tab x5 i) (tab x6 i) (tab x7 i) (fun l => packed x0 x1 x2 i (3328 + (k.val / 128 * 128 + l))) (k.val % 128)
    rw [show k.val / 128 * 128 = 0 by omega, show k.val % 128 = k.val by omega]
    simp only [Nat.zero_add]
    unfold rollA tab packed
    simp (disch := omega) only [lanes_lt]
    pointwise [k0_pay49, k0_pay53, k0_pay56, k0_pay57, k0_pay58, k0_pay48, k0_pay8, k0_pay9, k0_pay10, k0_pay11, k0_pay12, k0_pay13, k0_pay14, k0_pay15, k0_pay23, k0_pay31, k0_pay32, k0_pay33, k0_pay42, k0_pay43, k0_pay54, k0_pay55, k0_pay59, k0_pay60, k0_pay61, k0_pay62, k0_pay63, k0_pay64, k0_pay65, k0_pay66]
    rfl

theorem out20 (i : Fin 256) (e : Fin 128) : out0_20 x0 x1 x2 x5 x6 x7 (ix2 i e)
    = rollA (tab x5 i) (tab x6 i) (tab x7 i) (fun l => packed x0 x1 x2 i (3328 + (256 + l))) e.val := by
  unfold out0_20
  refine View.canon_apply_of_pieces (Val := Elt Ideal) (S := S256x128) (e := .bf16) (fun y => rollA (tab x5 (y 0)) (tab x6 (y 0)) (tab x7 (y 0)) (fun l => packed x0 x1 x2 (y 0) (3328 + (256 + l))) (y 1).val) _ ?_ _ (cover0_17 _ _)
  intro p hp x
  simp only [List.mem_cons, List.not_mem_nil, or_false] at hp
  obtain rfl := hp
  obtain ⟨i, k, rfl⟩ : ∃ i k, x = ix2 (i : Fin 256) (k : Fin 128) := ⟨_, _, ValueIdx.eq_ix2 x⟩
  dsimp only
  rw [emb_2]
  show _ = rollA (tab x5 i) (tab x6 i) (tab x7 i) (fun l => packed x0 x1 x2 i (3328 + (256 + l))) k.val
  unfold rollA tab packed
  simp (disch := omega) only [lanes_lt]
  pointwise [k0_pay3, k0_pay56, k0_pay57, k0_pay58, k0_pay66, k0_pay2, k0_pay11, k0_pay12, k0_pay13, k0_pay14, k0_pay15, k0_pay23, k0_pay31, k0_pay32, k0_pay33, k0_pay42, k0_pay43, k0_pay48, k0_pay53, k0_pay59, k0_pay60, k0_pay61, k0_pay62, k0_pay63, k0_pay64, k0_pay65, k0_pay8, k0_pay9, k0_pay10, k0_pay54, k0_pay55]
  rfl

theorem out21 (i : Fin 256) (e : Fin 1024) : out0_21 x0 x1 x2 (ix2 i e)
    = packed x0 x1 x2 i (3840 + e.val) := by
  unfold out0_21
  refine View.canon_apply_of_pieces (Val := Elt Ideal) (S := S256x1024) (e := .f32) (fun y => packed x0 x1 x2 (y 0) (3840 + (y 1).val)) _ ?_ _ (cover0_21 _ _)
  intro p hp x
  simp only [List.mem_cons, List.not_mem_nil, or_false] at hp
  obtain rfl := hp
  obtain ⟨i, k, rfl⟩ : ∃ i k, x = ix2 (i : Fin 256) (k : Fin 1024) := ⟨_, _, ValueIdx.eq_ix2 x⟩
  dsimp only
  rw [emb_0]
  show _ = packed x0 x1 x2 i (3840 + k.val)
  unfold packed
  simp (disch := omega) only [lanes_lt]
  pointwise [k0_pay6, k0_pay53, k0_pay8, k0_pay9, k0_pay10, k0_pay11, k0_pay12, k0_pay13, k0_pay14, k0_pay15, k0_pay23, k0_pay31, k0_pay32, k0_pay33, k0_pay42, k0_pay43, k0_pay48, k0_pay54, k0_pay55, k0_pay56, k0_pay57, k0_pay58, k0_pay59, k0_pay60, k0_pay61, k0_pay62, k0_pay63, k0_pay64, k0_pay65, k0_pay66]
  rfl

theorem out22 (i : Fin 256) (e : Fin 1024) : out0_22 x0 x1 x2 (ix2 i e)
    = packed x0 x1 x2 i (4864 + e.val) := by
  unfold out0_22
  refine View.canon_apply_of_pieces (Val := Elt Ideal) (S := S256x1024) (e := .f32) (fun y => packed x0 x1 x2 (y 0) (4864 + (y 1).val)) _ ?_ _ (cover0_21 _ _)
  intro p hp x
  simp only [List.mem_cons, List.not_mem_nil, or_false] at hp
  obtain rfl := hp
  obtain ⟨i, k, rfl⟩ : ∃ i k, x = ix2 (i : Fin 256) (k : Fin 1024) := ⟨_, _, ValueIdx.eq_ix2 x⟩
  dsimp only
  rw [emb_0]
  show _ = packed x0 x1 x2 i (4864 + k.val)
  unfold packed
  simp (disch := omega) only [lanes_lt]
  pointwise [k0_pay7, k0_pay53, k0_pay8, k0_pay9, k0_pay10, k0_pay11, k0_pay12, k0_pay13, k0_pay14, k0_pay15, k0_pay23, k0_pay31, k0_pay32, k0_pay33, k0_pay42, k0_pay43, k0_pay48, k0_pay54, k0_pay55, k0_pay56, k0_pay57, k0_pay58, k0_pay59, k0_pay60, k0_pay61, k0_pay62, k0_pay63, k0_pay64, k0_pay65, k0_pay66]
  rfl

theorem out23 (i : Fin 256) (e : Fin 128) : out0_23 x0 x1 x2 x5 x6 x7 x9 x10 (ix2 i e)
    = rollA (tab x5 i) (tab x6 i) (tab x7 i) (groupNorm (mask x10) (gain x9) (fun l => packed x0 x1 x2 i (3072 + l))) e.val := by
  unfold out0_23
  refine View.canon_apply_of_pieces (Val := Elt Ideal) (S := S256x128) (e := .f32) (fun y => rollA (tab x5 (y 0)) (tab x6 (y 0)) (tab x7 (y 0)) (groupNorm (mask x10) (gain x9) (fun l => packed x0 x1 x2 (y 0) (3072 + l))) (y 1).val) _ ?_ _ (cover0_17 _ _)
  intro p hp x
  simp only [List.mem_cons, List.not_mem_nil, or_false] at hp
  obtain rfl := hp
  obtain ⟨i, k, rfl⟩ : ∃ i k, x = ix2 (i : Fin 256) (k : Fin 128) := ⟨_, _, ValueIdx.eq_ix2 x⟩
  dsimp only
  rw [emb_2]
  show _ = rollA (tab x5 i) (tab x6 i) (tab x7 i) (groupNorm (mask x10) (gain x9) (fun l => packed x0 x1 x2 i (3072 + l))) k.val
  unfold groupNorm rollA mask gain tab packed
  simp (disch := omega) only [lanes_lt]
  pointwise [k0_pay44, k0_pay56, k0_pay57, k0_pay58, k0_pay65, k0_pay11, k0_pay12, k0_pay13, k0_pay14, k0_pay15, k0_pay23, k0_pay31, k0_pay32, k0_pay33, k0_pay42, k0_pay43, k0_pay48, k0_pay53, k0_pay59, k0_pay60, k0_pay61, k0_pay62, k0_pay63, k0_pay64, k0_pay66, k0_pay8, k0_pay9, k0_pay10, k0_pay54, k0_pay55]
  rfl

theorem out24 (i : Fin 256) (e : Fin 128) : out0_24 x0 x1 x2 (ix2 i e)
    = packed x0 x1 x2 i (3072 + (128 + e.val)) := by
  unfold out0_24
  refine View.canon_apply_of_pieces (Val := Elt Ideal) (S := S256x128) (e := .f32) (fun y => packed x0 x1 x2 (y 0) (3072 + (128 + (y 1).val))) _ ?_ _ (cover0_17 _ _)
  intro p hp x
  simp only [List.mem_cons, List.not_mem_nil, or_false] at hp
  obtain rfl := hp
  obtain ⟨i, k, rfl⟩ : ∃ i k, x = ix2 (i : Fin 256) (k : Fin 128) := ⟨_, _, ValueIdx.eq_ix2 x⟩
  dsimp only
  rw [emb_2]
  show _ = packed x0 x1 x2 i (3072 + (128 + k.val))
  unfold packed
  simp (disch := omega) only [lanes_lt]
  pointwise [k0_pay46, k0_pay64, k0_pay32, k0_pay42, k0_pay43, k0_pay48, k0_pay53, k0_pay59, k0_pay65, k0_pay66, k0_pay8, k0_pay9, k0_pay10, k0_pay11, k0_pay12, k0_pay13, k0_pay14, k0_pay15, k0_pay23, k0_pay31, k0_pay33, k0_pay54, k0_pay55, k0_pay56, k0_pay57, k0_pay58, k0_pay60, k0_pay61, k0_pay62, k0_pay63]
  rfl

theorem out25 (i : Fin 256) (e : Fin 64) : out0_25 x0 x1 x2 x5 x6 x7 (ix2 i e)
    = rollA (tab x5 i) (tab x6 i) (tab x7 i) (fun l => packed x0 x1 x2 i (3328 + (256 + l))) e.val := by
  unfold out0_25
  refine View.canon_apply_of_pieces (Val := Elt Ideal) (S := S256x64) (e := .f32) (fun y => rollA (tab x5 (y 0)) (tab x6 (y 0)) (tab x7 (y 0)) (fun l => packed x0 x1 x2 (y 0) (3328 + (256 + l))) (y 1).val) _ ?_ _ (cover0_25 _ _)
  intro p hp x
  simp only [List.mem_cons, List.not_mem_nil, or_false] at hp
  obtain rfl := hp
  obtain ⟨i, k, rfl⟩ : ∃ i k, x = ix2 (i : Fin 256) (k : Fin 64) := ⟨_, _, ValueIdx.eq_ix2 x⟩
  dsimp only
  rw [emb_21]
  show _ = rollA (tab x5 i) (tab x6 i) (tab x7 i) (fun l => packed x0 x1 x2 i (3328 + (256 + l))) k.val
  unfold rollA tab packed
  simp (disch := omega) only [lanes_lt]
  pointwise [k0_pay4, k0_pay56, k0_pay57, k0_pay58, k0_pay66, k0_pay2, k0_pay11, k0_pay12, k0_pay13, k0_pay14, k0_pay15, k0_pay23, k0_pay31, k0_pay32, k0_pay33, k0_pay42, k0_pay43, k0_pay48, k0_pay53, k0_pay59, k0_pay60, k0_pay61, k0_pay62, k0_pay63, k0_pay64, k0_pay65, k0_pay8, k0_pay9, k0_pay10, k0_pay54, k0_pay55]
  rfl

theorem out26 (i : Fin 256) (e : Fin 128) : out0_26 x0 x1 x2 (ix2 i e)
    = packed x0 x1 x2 i (3328 + (384 + e.val)) := by
  unfold out0_26
  refine View.canon_apply_of_pieces (Val := Elt Ideal) (S := S256x128) (e := .f32) (fun y => packed x0 x1 x2 (y 0) (3328 + (384 + (y 1).val))) _ ?_ _ (cover0_17 _ _)
  intro p hp x
  simp only [List.mem_cons, List.not_mem_nil, or_false] at hp
  obtain rfl := hp
  obtain ⟨i, k, rfl⟩ : ∃ i k, x = ix2 (i : Fin 256) (k : Fin 128) := ⟨_, _, ValueIdx.eq_ix2 x⟩
  dsimp only
  rw [emb_2]
  show _ = packed x0 x1 x2 i (3328 + (384 + k.val))
  unfold packed
  simp (disch := omega) only [lanes_lt]
  pointwise [k0_pay5, k0_pay66, k0_pay48, k0_pay53, k0_pay8, k0_pay9, k0_pay10, k0_pay11, k0_pay12, k0_pay13, k0_pay14, k0_pay15, k0_pay23, k0_pay31, k0_pay32, k0_pay33, k0_pay42, k0_pay43, k0_pay54, k0_pay55, k0_pay56, k0_pay57, k0_pay58, k0_pay59, k0_pay60, k0_pay61, k0_pay62, k0_pay63, k0_pay64, k0_pay65]
  rfl

end Cert.Projecting.Sample

end
end
-- ==== Proof.SProjHost.lean ====
module

public import proofs.«01_k».proof.Proof.SProjIdealFrame
public import proofs.«01_k».proof.Proof.ProjHost
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Projecting.Sample

open Idealize.ShloMosaic Idealize.ShloMosaic.TcCoe Idealize.SL.Sem

open Cert.InprojSampleIdeal Cert.InprojSampleIdeal.Gen

/-- The position of a table's row, as it is computed: past the cached positions by the remainder of the row by eight. -/
def pos (b : BitVec 32) : BitVec 32 :=
  let d := Scalar.select (IntOp.cmpi CmpIPredicate.eq 8#32 0#32) 1#32 8#32
  IntOp.addi 2048#32 (Scalar.select
    (IntOp.andi
      (IntOp.cmpi CmpIPredicate.ne (IntOp.cmpi CmpIPredicate.slt (IntOp.remsi ArithUnit.host b d) 0#32) (IntOp.cmpi CmpIPredicate.slt d 0#32))
      (IntOp.cmpi CmpIPredicate.ne (IntOp.remsi ArithUnit.host b d) 0#32))
    (IntOp.addi (IntOp.remsi ArithUnit.host b d) d)
    (IntOp.remsi ArithUnit.host b d))

theorem pos_eq : ∀ n : Fin 256, pos (BitVec.ofNat 32 n.val) = BitVec.ofNat 32 (2048 + n.val % 8) := by decide +kernel

/-- The angle of a table's row and a frequency of the retention's heads, as it is computed. -/
def atR (n : Fin 256) (j : ℕ) : EReal :=
  FloatOps.sitofp (F := Ideal) FTy.f32 (pos (BitVec.ofNat 32 n.val))
    * Ideal.exp (Ideal.div (Ideal.ofBits FTy.f32 3239271822#32 * FloatOps.sitofp (F := Ideal) FTy.f32 (BitVec.ofNat 32 j)) (Ideal.ofBits FTy.f32 1115684864#32))

/-- The angle of a table's row and a frequency of the attention's heads, as it is computed. -/
def atA (n : Fin 256) (j : ℕ) : EReal :=
  FloatOps.sitofp (F := Ideal) FTy.f32 (pos (BitVec.ofNat 32 n.val))
    * Ideal.exp (Ideal.div (Ideal.ofBits FTy.f32 3243373875#32 * FloatOps.sitofp (F := Ideal) FTy.f32 (BitVec.ofNat 32 j)) (Ideal.ofBits FTy.f32 1090519040#32))

theorem atR_eq (n : Fin 256) (j : ℕ) : atR n j = angR (2048 + n.val % 8) j := by
  unfold atR angR; rw [pos_eq]

theorem atA_eq (n : Fin 256) (j : ℕ) : atA n j = angA (2048 + n.val % 8) j := by
  unfold atA angA; rw [pos_eq]

theorem lit_one' : (id (constant (F := Ideal) S_ FTy.f32 1065353216#32) ix0 : EReal) = 1 := by
  show Ideal.ofBits FTy.f32 1065353216#32 = 1
  simp [Ideal.ofBits, Ideal.ieee, -EReal.coe_mul]; norm_num

theorem lit_zero' : (id (constant (F := Ideal) S_ FTy.f32 0#32) ix0 : EReal) = 0 := by
  show Ideal.ofBits FTy.f32 0#32 = 0
  simp [Ideal.ofBits, Ideal.ieee, -EReal.coe_mul]

variable (m : (ℓ : Loc nD τ sig) → Buf (Elt Ideal) ℓ) (c : Dev nD)

theorem host_x (n : Fin 1024) (k : Fin 1024) : V m c main_v65 (ix2 n k)
    = m ((c : Thread nD τ).loc main_arg0) (ix3 (⟨n.val / 8, by omega⟩ : Fin 128) (⟨n.val % 8, by omega⟩ : Fin 8) k) := by
  unfold V
  after_reads_at

theorem host_g (k : Fin 1024) : V m c main_v68 (ix2 0 k) = m ((c : Thread nD τ).loc main_arg1) (ix2 0 k) := by
  unfold V
  after_reads_at

theorem host_q (k : Fin 128) : V m c main_v106 (ix2 0 k) = m ((c : Thread nD τ).loc main_arg3) (ix2 0 (⟨k.val % 64, by omega⟩ : Fin 64)) := by
  unfold V
  after_reads_at

theorem host_k (k : Fin 128) : V m c main_v112 (ix2 0 k) = m ((c : Thread nD τ).loc main_arg4) (ix2 0 (⟨k.val % 64, by omega⟩ : Fin 64)) := by
  unfold V
  after_reads_at

theorem host_rc (n : Fin 256) (k : Fin 128) : V m c main_v28 (ix2 n k) = Ideal.cos (angR (2048 + n.val % 8) (k.val % 64)) := by
  rw [← atR_eq]
  unfold V
  after_reads_at
  rfl

theorem host_rs (n : Fin 256) (k : Fin 128) : V m c main_v34 (ix2 n k)
    = if k.val < 64 then -Ideal.sin (angR (2048 + n.val % 8) (k.val % 64)) else Ideal.sin (angR (2048 + n.val % 8) (k.val % 64)) := by
  rw [← atR_eq]
  unfold V
  after_reads_at
  refine sel (k.val < 64) _ _ _ ?_
  revert k; decide +kernel

theorem host_ac (n : Fin 256) (k : Fin 128) : V m c main_v53 (ix2 n k) = if k.val % 64 < 16 then Ideal.cos (angA (2048 + n.val % 8) (k.val % 8)) else 1 := by
  rw [← atA_eq]
  unfold V
  after_reads_at
  rw [lit_one']
  refine sel (k.val % 64 < 16) _ _ _ ?_
  revert k; decide +kernel

theorem host_as1 (n : Fin 256) (k : Fin 128) : V m c main_v57 (ix2 n k) = if k.val % 64 < 8 then -Ideal.sin (angA (2048 + n.val % 8) (k.val % 8)) else 0 := by
  rw [← atA_eq]
  unfold V
  after_reads_at
  rw [lit_zero']
  refine sel (k.val % 64 < 8) _ _ _ ?_
  revert k; decide +kernel

theorem host_as2 (n : Fin 256) (k : Fin 128) : V m c main_v63 (ix2 n k)
    = if 8 ≤ k.val % 64 ∧ k.val % 64 < 16 then Ideal.sin (angA (2048 + n.val % 8) (k.val % 8)) else 0 := by
  rw [← atA_eq]
  unfold V
  after_reads_at
  rw [lit_zero']
  refine sel (8 ≤ k.val % 64 ∧ k.val % 64 < 16) _ _ _ ?_
  revert k; decide +kernel

theorem host_mask (x k : Fin 128) : V m c main_v6 (ix2 x k) = if x.val / 64 = k.val / 64 then (1 : EReal) else (0 : EReal) := by
  unfold V
  after_reads_at
  refine sel (x.val / 64 = k.val / 64) _ _ _ ?_
  show IntOp.cmpi CmpIPredicate.eq (fdiv (BitVec.ofNat 32 x.val)) (fdiv (BitVec.ofNat 32 k.val)) = _
  rw [fdiv_lane, fdiv_lane]
  exact cmp_lane ⟨x.val / 64, by omega⟩ ⟨k.val / 64, by omega⟩

/-- The buffers' contents before the projection's rows are put together. -/
abbrev U (b : Ref sig .tc) : Buf (Elt Ideal) ((c : Thread nD τ).loc b) :=
  StableHlo.upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) 204 b

/-- The packed weight is its pieces, one after another. -/
theorem packed_row (i : S5888x1024.Idx) : V m c main_v100 i
    = concatenate S5888x1024 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩]
      concatenates_S512x1024_S512x1024_S512x1024_S512x1024_S512x1024_S512x1024_S128x1024_S128x1024_S256x1024_S64x1024_S64x1024_S128x1024_S1024x1024_S1024x1024_S5888x1024_d0 i := by
  unfold V
  rw [StableHlo.after_last_write (i := 205) [main_v101, main_v102, main_v103, main_v104, main_v105, main_v106, main_v107, main_v108, main_v109, main_v110, main_v111, main_v112] rfl rfl (by decide)]
  rw [StableHlo.unary_result']
  rw [StableHlo.upto_last_write (i := 204) [] rfl rfl (by decide)]
  rw [StableHlo.nary_result']
  rfl

/-- Piece 0 of the packed weight. -/
theorem row_0 (r : Fin 512) (k : Fin 1024) : V m c main_v100 (ix2 (⟨r.val, by omega⟩ : Fin 5888) k)
    = m ((c : Thread nD τ).loc main_arg2) (ix3 0 k (⟨r.val, by omega⟩ : Fin 5700)) := by
  rw [packed_row]
  refine Eq.trans (concatenate_apply_piece (t := S5888x1024) 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩] _ _ 0 (by simp) S512x1024 (U m c main_v71) rfl rfl 0 (by rfl) (ix2 r k) ?_ ?_) ?_
  · intro a ha
    match a with
    | ⟨0, _⟩ => exact absurd rfl ha
    | ⟨1, _⟩ => rfl
  · show 0 + r.val = r.val; omega
  · unfold U
    after_reads_at

/-- Piece 1 of the packed weight. -/
theorem row_1 (r : Fin 512) (k : Fin 1024) : V m c main_v100 (ix2 (⟨512 + r.val, by omega⟩ : Fin 5888) k)
    = m ((c : Thread nD τ).loc main_arg2) (ix3 0 k (⟨512 + r.val, by omega⟩ : Fin 5700)) := by
  rw [packed_row]
  refine Eq.trans (concatenate_apply_piece (t := S5888x1024) 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩] _ _ 1 (by simp) S512x1024 (U m c main_v72) rfl rfl 512 (by rfl) (ix2 r k) ?_ ?_) ?_
  · intro a ha
    match a with
    | ⟨0, _⟩ => exact absurd rfl ha
    | ⟨1, _⟩ => rfl
  · rfl
  · unfold U
    after_reads_at

/-- Piece 2 of the packed weight. -/
theorem row_2 (r : Fin 512) (k : Fin 1024) : V m c main_v100 (ix2 (⟨1024 + r.val, by omega⟩ : Fin 5888) k)
    = m ((c : Thread nD τ).loc main_arg2) (ix3 0 k (⟨1024 + r.val, by omega⟩ : Fin 5700)) := by
  rw [packed_row]
  refine Eq.trans (concatenate_apply_piece (t := S5888x1024) 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩] _ _ 2 (by simp) S512x1024 (U m c main_v73) rfl rfl 1024 (by rfl) (ix2 r k) ?_ ?_) ?_
  · intro a ha
    match a with
    | ⟨0, _⟩ => exact absurd rfl ha
    | ⟨1, _⟩ => rfl
  · rfl
  · unfold U
    after_reads_at

/-- Piece 3 of the packed weight. -/
theorem row_3 (r : Fin 512) (k : Fin 1024) : V m c main_v100 (ix2 (⟨1536 + r.val, by omega⟩ : Fin 5888) k)
    = m ((c : Thread nD τ).loc main_arg2) (ix3 0 k (⟨1536 + r.val, by omega⟩ : Fin 5700)) := by
  rw [packed_row]
  refine Eq.trans (concatenate_apply_piece (t := S5888x1024) 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩] _ _ 3 (by simp) S512x1024 (U m c main_v74) rfl rfl 1536 (by rfl) (ix2 r k) ?_ ?_) ?_
  · intro a ha
    match a with
    | ⟨0, _⟩ => exact absurd rfl ha
    | ⟨1, _⟩ => rfl
  · rfl
  · unfold U
    after_reads_at

/-- Piece 4 of the packed weight. -/
theorem row_4 (r : Fin 512) (k : Fin 1024) : V m c main_v100 (ix2 (⟨2048 + r.val, by omega⟩ : Fin 5888) k)
    = m ((c : Thread nD τ).loc main_arg2) (ix3 0 k (⟨2048 + ((r.val / 64 % 2 * 4 + r.val / 128) * 64 + r.val % 64), by omega⟩ : Fin 5700)) := by
  rw [packed_row]
  refine Eq.trans (concatenate_apply_piece (t := S5888x1024) 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩] _ _ 4 (by simp) S512x1024 (U m c main_v91) rfl rfl 2048 (by rfl) (ix2 r k) ?_ ?_) ?_
  · intro a ha
    match a with
    | ⟨0, _⟩ => exact absurd rfl ha
    | ⟨1, _⟩ => rfl
  · rfl
  · unfold U
    after_reads_at
    by_cases h : r.val % 128 < 64
    · rw [dif_pos h]
      after_reads_at
      exact congrArg (fun a : Fin 5700 => m ((c : Thread nD τ).loc main_arg2) (ix3 0 k a)) (Fin.ext (by
        show 2048 + (r.val / 128 * 64 + r.val % 128) = 2048 + ((r.val / 64 % 2 * 4 + r.val / 128) * 64 + r.val % 64)
        omega))
    · rw [dif_neg h]
      after_reads_at
      exact congrArg (fun a : Fin 5700 => m ((c : Thread nD τ).loc main_arg2) (ix3 0 k a)) (Fin.ext (by
        show 2048 + (256 + r.val / 128 * 64 + (r.val % 128 - 64)) = 2048 + ((r.val / 64 % 2 * 4 + r.val / 128) * 64 + r.val % 64)
        omega))

/-- Piece 5 of the packed weight. -/
theorem row_5 (r : Fin 512) (k : Fin 1024) : V m c main_v100 (ix2 (⟨2560 + r.val, by omega⟩ : Fin 5888) k)
    = m ((c : Thread nD τ).loc main_arg2) (ix3 0 k (⟨2816 + ((r.val / 64 % 2 * 4 + r.val / 128) * 64 + r.val % 64), by omega⟩ : Fin 5700)) := by
  rw [packed_row]
  refine Eq.trans (concatenate_apply_piece (t := S5888x1024) 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩] _ _ 5 (by simp) S512x1024 (U m c main_v98) rfl rfl 2560 (by rfl) (ix2 r k) ?_ ?_) ?_
  · intro a ha
    match a with
    | ⟨0, _⟩ => exact absurd rfl ha
    | ⟨1, _⟩ => rfl
  · rfl
  · unfold U
    after_reads_at
    by_cases h : r.val % 128 < 64
    · rw [dif_pos h]
      after_reads_at
      exact congrArg (fun a : Fin 5700 => m ((c : Thread nD τ).loc main_arg2) (ix3 0 k a)) (Fin.ext (by
        show 2816 + (r.val / 128 * 64 + r.val % 128) = 2816 + ((r.val / 64 % 2 * 4 + r.val / 128) * 64 + r.val % 64)
        omega))
    · rw [dif_neg h]
      after_reads_at
      exact congrArg (fun a : Fin 5700 => m ((c : Thread nD τ).loc main_arg2) (ix3 0 k a)) (Fin.ext (by
        show 2816 + (256 + r.val / 128 * 64 + (r.val % 128 - 64)) = 2816 + ((r.val / 64 % 2 * 4 + r.val / 128) * 64 + r.val % 64)
        omega))

/-- Piece 6 of the packed weight. -/
theorem row_6 (r : Fin 128) (k : Fin 1024) : V m c main_v100 (ix2 (⟨3072 + r.val, by omega⟩ : Fin 5888) k)
    = m ((c : Thread nD τ).loc main_arg2) (ix3 0 k (⟨2560 + r.val, by omega⟩ : Fin 5700)) := by
  rw [packed_row]
  refine Eq.trans (concatenate_apply_piece (t := S5888x1024) 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩] _ _ 6 (by simp) S128x1024 (U m c main_v76) rfl rfl 3072 (by rfl) (ix2 r k) ?_ ?_) ?_
  · intro a ha
    match a with
    | ⟨0, _⟩ => exact absurd rfl ha
    | ⟨1, _⟩ => rfl
  · rfl
  · unfold U
    after_reads_at

/-- Piece 7 of the packed weight. -/
theorem row_7 (r : Fin 128) (k : Fin 1024) : V m c main_v100 (ix2 (⟨3200 + r.val, by omega⟩ : Fin 5888) k)
    = m ((c : Thread nD τ).loc main_arg2) (ix3 0 k (⟨2688 + r.val, by omega⟩ : Fin 5700)) := by
  rw [packed_row]
  refine Eq.trans (concatenate_apply_piece (t := S5888x1024) 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩] _ _ 7 (by simp) S128x1024 (U m c main_v77) rfl rfl 3200 (by rfl) (ix2 r k) ?_ ?_) ?_
  · intro a ha
    match a with
    | ⟨0, _⟩ => exact absurd rfl ha
    | ⟨1, _⟩ => rfl
  · rfl
  · unfold U
    after_reads_at

/-- Piece 8 of the packed weight. -/
theorem row_8 (r : Fin 256) (k : Fin 1024) : V m c main_v100 (ix2 (⟨3328 + r.val, by omega⟩ : Fin 5888) k)
    = m ((c : Thread nD τ).loc main_arg2) (ix3 0 k (⟨3328 + r.val, by omega⟩ : Fin 5700)) := by
  rw [packed_row]
  refine Eq.trans (concatenate_apply_piece (t := S5888x1024) 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩] _ _ 8 (by simp) S256x1024 (U m c main_v79) rfl rfl 3328 (by rfl) (ix2 r k) ?_ ?_) ?_
  · intro a ha
    match a with
    | ⟨0, _⟩ => exact absurd rfl ha
    | ⟨1, _⟩ => rfl
  · rfl
  · unfold U
    after_reads_at

/-- Piece 9 of the packed weight. -/
theorem row_9 (r : Fin 64) (k : Fin 1024) : V m c main_v100 (ix2 (⟨3584 + r.val, by omega⟩ : Fin 5888) k)
    = m ((c : Thread nD τ).loc main_arg2) (ix3 0 k (⟨3584 + r.val, by omega⟩ : Fin 5700)) := by
  rw [packed_row]
  refine Eq.trans (concatenate_apply_piece (t := S5888x1024) 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩] _ _ 9 (by simp) S64x1024 (U m c main_v80) rfl rfl 3584 (by rfl) (ix2 r k) ?_ ?_) ?_
  · intro a ha
    match a with
    | ⟨0, _⟩ => exact absurd rfl ha
    | ⟨1, _⟩ => rfl
  · rfl
  · unfold U
    after_reads_at

/-- Piece 10 of the packed weight. -/
theorem row_10 (r : Fin 64) (k : Fin 1024) : V m c main_v100 (ix2 (⟨3648 + r.val, by omega⟩ : Fin 5888) k)
    = m ((c : Thread nD τ).loc main_arg2) (ix3 0 k (⟨3584 + r.val, by omega⟩ : Fin 5700)) := by
  rw [packed_row]
  refine Eq.trans (concatenate_apply_piece (t := S5888x1024) 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩] _ _ 10 (by simp) S64x1024 (U m c main_v80) rfl rfl 3648 (by rfl) (ix2 r k) ?_ ?_) ?_
  · intro a ha
    match a with
    | ⟨0, _⟩ => exact absurd rfl ha
    | ⟨1, _⟩ => rfl
  · rfl
  · unfold U
    after_reads_at

/-- Piece 11 of the packed weight. -/
theorem row_11 (r : Fin 128) (k : Fin 1024) : V m c main_v100 (ix2 (⟨3712 + r.val, by omega⟩ : Fin 5888) k)
    = if h : r.val < 4 then (m ((c : Thread nD τ).loc main_arg2) (ix3 0 k (⟨3648 + r.val, by omega⟩ : Fin 5700)) : EReal) else (0 : EReal) := by
  rw [packed_row]
  refine Eq.trans (concatenate_apply_piece (t := S5888x1024) 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩] _ _ 11 (by simp) S128x1024 (U m c main_v84) rfl rfl 3712 (by rfl) (ix2 r k) ?_ ?_) ?_
  · intro a ha
    match a with
    | ⟨0, _⟩ => exact absurd rfl ha
    | ⟨1, _⟩ => rfl
  · rfl
  · unfold U
    after_reads_at
    by_cases h : r.val < 4
    · rw [dif_pos h, dif_pos h]
    · rw [dif_neg h, dif_neg h]
      exact sitofp_zero

set_option maxHeartbeats 2000000 in
/-- Piece 12 of the packed weight. -/
theorem row_12 (r : Fin 1024) (k : Fin 1024) : V m c main_v100 (ix2 (⟨3840 + r.val, by omega⟩ : Fin 5888) k)
    = m ((c : Thread nD τ).loc main_arg2) (ix3 0 k (⟨3652 + r.val, by omega⟩ : Fin 5700)) := by
  rw [packed_row]
  refine Eq.trans (concatenate_apply_piece (t := S5888x1024) 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩] _ _ 12 (by simp) S1024x1024 (U m c main_v82) rfl rfl 3840 (by rfl) (ix2 r k) ?_ ?_) ?_
  · intro a ha
    match a with
    | ⟨0, _⟩ => exact absurd rfl ha
    | ⟨1, _⟩ => rfl
  · rfl
  · unfold U
    after_reads_at

set_option maxHeartbeats 2000000 in
/-- Piece 13 of the packed weight. -/
theorem row_13 (r : Fin 1024) (k : Fin 1024) : V m c main_v100 (ix2 (⟨4864 + r.val, by omega⟩ : Fin 5888) k)
    = m ((c : Thread nD τ).loc main_arg2) (ix3 0 k (⟨4676 + r.val, by omega⟩ : Fin 5700)) := by
  rw [packed_row]
  refine Eq.trans (concatenate_apply_piece (t := S5888x1024) 0 [⟨S512x1024, U m c main_v71⟩, ⟨S512x1024, U m c main_v72⟩, ⟨S512x1024, U m c main_v73⟩, ⟨S512x1024, U m c main_v74⟩, ⟨S512x1024, U m c main_v91⟩, ⟨S512x1024, U m c main_v98⟩, ⟨S128x1024, U m c main_v76⟩, ⟨S128x1024, U m c main_v77⟩, ⟨S256x1024, U m c main_v79⟩, ⟨S64x1024, U m c main_v80⟩, ⟨S64x1024, U m c main_v80⟩, ⟨S128x1024, U m c main_v84⟩, ⟨S1024x1024, U m c main_v82⟩, ⟨S1024x1024, U m c main_v83⟩] _ _ 13 (by simp) S1024x1024 (U m c main_v83) rfl rfl 4864 (by rfl) (ix2 r k) ?_ ?_) ?_
  · intro a ha
    match a with
    | ⟨0, _⟩ => exact absurd rfl ha
    | ⟨1, _⟩ => rfl
  · rfl
  · unfold U
    after_reads_at

theorem hz_facts : ∀ t : Fin cfg0.N,
    win0_0.index t = ![t.val, 0] ∧ win0_1.index t = ![0, 0] ∧ win0_2.index t = ![0, 0] ∧ win0_8.index t = ![0, 0] ∧ win0_9.index t = ![0, 0]
    ∧ win0_10.index t = ![0, 0] := by
  decide

theorem tab_facts : ∀ t : Fin cfg0.N,
    win0_3.index t = ![0, 0] ∧ win0_4.index t = ![0, 0] ∧ win0_5.index t = ![0, 0] ∧ win0_6.index t = ![0, 0]
    ∧ win0_7.index t = ![0, 0] := by
  decide

theorem N_0 : cfg0.N = 4 := by decide

/-- The row of the whole array that row `i` of block `t` is. -/
def row (t : Fin cfg0.N) (i : Fin 256) : Fin 1024 :=
  ⟨256 * t.val + i.val, by have : t.val < 4 := lt_of_lt_of_eq t.isLt N_0; omega⟩

theorem read_0 (t : Fin cfg0.N) (i : Fin 256) (d : Fin 1024) : iblk m c 0 t (ix2 i d) = V m c main_v65 (ix2 (row t i) d) := by
  have h := (hz_facts t).1
  have h0 := congrFun h 0; have h1 := congrFun h 1
  blk_ext! [iblk, row, h0, h1]

theorem read_1 (t : Fin cfg0.N) (d : Fin 1024) : iblk m c 1 t (ix2 0 d) = V m c main_v68 (ix2 0 d) := by
  have h := (hz_facts t).2.1
  have h0 := congrFun h 0; have h1 := congrFun h 1
  blk_ext! [iblk, h0, h1]

theorem read_2 (t : Fin cfg0.N) (i : Fin 5888) (d : Fin 1024) : iblk m c 2 t (ix2 i d) = V m c main_v100 (ix2 i d) := by
  have h := (hz_facts t).2.2.1
  have h0 := congrFun h 0; have h1 := congrFun h 1
  blk_ext! [iblk, h0, h1]

theorem read_3 (t : Fin cfg0.N) (i : Fin 256) (d : Fin 128) : iblk m c 3 t (ix2 i d) = V m c main_v28 (ix2 i d) := by
  have h := (tab_facts t).1
  have h0 := congrFun h 0; have h1 := congrFun h 1
  blk_ext! [iblk, h0, h1]

theorem read_4 (t : Fin cfg0.N) (i : Fin 256) (d : Fin 128) : iblk m c 4 t (ix2 i d) = V m c main_v34 (ix2 i d) := by
  have h := (tab_facts t).2.1
  have h0 := congrFun h 0; have h1 := congrFun h 1
  blk_ext! [iblk, h0, h1]

theorem read_5 (t : Fin cfg0.N) (i : Fin 256) (d : Fin 128) : iblk m c 5 t (ix2 i d) = V m c main_v53 (ix2 i d) := by
  have h := (tab_facts t).2.2.1
  have h0 := congrFun h 0; have h1 := congrFun h 1
  blk_ext! [iblk, h0, h1]

theorem read_6 (t : Fin cfg0.N) (i : Fin 256) (d : Fin 128) : iblk m c 6 t (ix2 i d) = V m c main_v57 (ix2 i d) := by
  have h := (tab_facts t).2.2.2.1
  have h0 := congrFun h 0; have h1 := congrFun h 1
  blk_ext! [iblk, h0, h1]

theorem read_7 (t : Fin cfg0.N) (i : Fin 256) (d : Fin 128) : iblk m c 7 t (ix2 i d) = V m c main_v63 (ix2 i d) := by
  have h := (tab_facts t).2.2.2.2
  have h0 := congrFun h 0; have h1 := congrFun h 1
  blk_ext! [iblk, h0, h1]

theorem read_8 (t : Fin cfg0.N) (d : Fin 128) : iblk m c 8 t (ix2 0 d) = V m c main_v106 (ix2 0 d) := by
  have h := (hz_facts t).2.2.2.1
  have h0 := congrFun h 0; have h1 := congrFun h 1
  blk_ext! [iblk, h0, h1]

theorem read_9 (t : Fin cfg0.N) (d : Fin 128) : iblk m c 9 t (ix2 0 d) = V m c main_v112 (ix2 0 d) := by
  have h := (hz_facts t).2.2.2.2.1
  have h0 := congrFun h 0; have h1 := congrFun h 1
  blk_ext! [iblk, h0, h1]

theorem read_10 (t : Fin cfg0.N) (i : Fin 128) (d : Fin 128) : iblk m c 10 t (ix2 i d) = V m c main_v6 (ix2 i d) := by
  have h := (hz_facts t).2.2.2.2.2
  have h0 := congrFun h 0; have h1 := congrFun h 1
  blk_ext! [iblk, h0, h1]

end Cert.Projecting.Sample

end
end
-- ==== Proof.SProjRun.lean ====
module

public import proofs.«01_k».proof.Proof.SProjIdealFrame
public import Idealize.ShloMosaic.Lib.Pipeline.Value

@[expose] public section

set_option maxRecDepth 16384

noncomputable section

namespace Cert.Projecting.Sample

open Idealize.ShloMosaic Idealize.ShloMosaic.TcCoe Idealize.SL.Sem
open Cert.InprojSampleIdeal Cert.InprojSampleIdeal.Gen
open Idealize.ShloMosaic.Pipeline (Dat)

variable {F : FTy → Type} [FloatOps F]
variable (m : (ℓ : Loc nD τ sig) → Buf (Elt F) ℓ) (ρ : Dev nD → PrngReg)

/-- After the run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v113_0) = (dats m 0 c).arrAt 11 cfg0.N :=
  (h c).1 11

/-- After the run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v113_1) = (dats m 0 c).arrAt 12 cfg0.N :=
  (h c).1 12

/-- After the run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v113_2) = (dats m 0 c).arrAt 13 cfg0.N :=
  (h c).1 13

/-- After the run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v113_3) = (dats m 0 c).arrAt 14 cfg0.N :=
  (h c).1 14

/-- After the run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v113_4) = (dats m 0 c).arrAt 15 cfg0.N :=
  (h c).1 15

/-- After the run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v113_5) = (dats m 0 c).arrAt 16 cfg0.N :=
  (h c).1 16

/-- After the run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v113_6) = (dats m 0 c).arrAt 17 cfg0.N :=
  (h c).1 17

/-- After the run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v113_7) = (dats m 0 c).arrAt 18 cfg0.N :=
  (h c).1 18

/-- After the run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v113_8) = (dats m 0 c).arrAt 19 cfg0.N :=
  (h c).1 19

/-- After the run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v113_9) = (dats m 0 c).arrAt 20 cfg0.N :=
  (h c).1 20

/-- After the run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v113_10) = (dats m 0 c).arrAt 21 cfg0.N :=
  (h c).1 21

/-- After the run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v113_11) = (dats m 0 c).arrAt 22 cfg0.N :=
  (h c).1 22

/-- After the run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v113_12) = (dats m 0 c).arrAt 23 cfg0.N :=
  (h c).1 23

/-- After the run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v113_13) = (dats m 0 c).arrAt 24 cfg0.N :=
  (h c).1 24

/-- After the run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v113_14) = (dats m 0 c).arrAt 25 cfg0.N :=
  (h c).1 25

/-- After the run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v113_15) = (dats m 0 c).arrAt 26 cfg0.N :=
  (h c).1 26

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

set_option maxHeartbeats 617220 in
/-- The run with each output array namedand the arguments unchanged. -/
theorem run_blocks : θ_run defs (onTc (τ := τ) (main (F := F))) ⟨m, fun _ => 0, ρ⟩ fun r => ∀ c : Dev nD,
      r.2.mem ((c : Thread nD τ).loc main_v113_0) = (dats m 0 c).arrAt 11 cfg0.N
      ∧ r.2.mem ((c : Thread nD τ).loc main_v113_1) = (dats m 0 c).arrAt 12 cfg0.N
      ∧ r.2.mem ((c : Thread nD τ).loc main_v113_2) = (dats m 0 c).arrAt 13 cfg0.N
      ∧ r.2.mem ((c : Thread nD τ).loc main_v113_3) = (dats m 0 c).arrAt 14 cfg0.N
      ∧ r.2.mem ((c : Thread nD τ).loc main_v113_4) = (dats m 0 c).arrAt 15 cfg0.N
      ∧ r.2.mem ((c : Thread nD τ).loc main_v113_5) = (dats m 0 c).arrAt 16 cfg0.N
      ∧ r.2.mem ((c : Thread nD τ).loc main_v113_6) = (dats m 0 c).arrAt 17 cfg0.N
      ∧ r.2.mem ((c : Thread nD τ).loc main_v113_7) = (dats m 0 c).arrAt 18 cfg0.N
      ∧ r.2.mem ((c : Thread nD τ).loc main_v113_8) = (dats m 0 c).arrAt 19 cfg0.N
      ∧ r.2.mem ((c : Thread nD τ).loc main_v113_9) = (dats m 0 c).arrAt 20 cfg0.N
      ∧ r.2.mem ((c : Thread nD τ).loc main_v113_10) = (dats m 0 c).arrAt 21 cfg0.N
      ∧ r.2.mem ((c : Thread nD τ).loc main_v113_11) = (dats m 0 c).arrAt 22 cfg0.N
      ∧ r.2.mem ((c : Thread nD τ).loc main_v113_12) = (dats m 0 c).arrAt 23 cfg0.N
      ∧ r.2.mem ((c : Thread nD τ).loc main_v113_13) = (dats m 0 c).arrAt 24 cfg0.N
      ∧ r.2.mem ((c : Thread nD τ).loc main_v113_14) = (dats m 0 c).arrAt 25 cfg0.N
      ∧ r.2.mem ((c : Thread nD τ).loc main_v113_15) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post11 m r h c,
      post12 m r h c,
      post13 m r h c,
      post14 m r h c,
      post15 m r h c,
      post16 m r h c,
      post17 m r h c,
      post18 m r h c,
      post19 m r h c,
      post20 m r h c,
      post21 m r h c,
      post22 m r h c,
      post23 m r h c,
      post24 m r h c,
      post25 m r h c,
      post26 m r h c,
      kept_main_arg0 m r h c,
      kept_main_arg1 m r h c,
      kept_main_arg2 m r h c,
      kept_main_arg3 m r h c,
      kept_main_arg4 m r h c⟩)
    (run_main m ρ)

end Cert.Projecting.Sample

end
end
-- ==== Proof.SProjRef.lean ====
module

public import proofs.«01_k».proof.Proof.Gen.InprojSampleReferenceIdeal.Read
public import proofs.«01_k».proof.Proof.ProjSpec
public import Idealize.ShloMosaic.Lib.Pointwise
public import Idealize.ShloMosaic.Lib.Pipeline.ValueKit

@[expose] public section

set_option maxRecDepth 16384

noncomputable section

namespace Cert.Projecting.Sample.Ref

open Idealize.ShloMosaic Idealize.ShloMosaic.TcCoe Idealize.SL.Sem

open Cert.InprojSampleReferenceIdeal Cert.InprojSampleReferenceIdeal.Read

variable (x : (⟨S128x8x1024, .f32⟩ : BufTy).Contents (Elt Ideal)) (g : (⟨S2x1024, .f32⟩ : BufTy).Contents (Elt Ideal)) (w : (⟨S2x1024x5700, .f32⟩ : BufTy).Contents (Elt Ideal)) (q k : (⟨S2x64, .f32⟩ : BufTy).Contents (Elt Ideal))

/-- A row of the input projected to the columns. -/
def P (b : Fin 128) (t : Fin 8) : ℕ → EReal :=
  proj (fun k => x (ix3 b t k)) (fun k => g (ix2 0 k)) (fun k e => w (ix3 0 k e))

/-- The position of a row, as it is computed. -/
theorem pos_add : ∀ t : Fin 8, IntOp.addi 2048#32 (BitVec.ofNat 32 t.val) = BitVec.ofNat 32 (2048 + t.val) := by decide

theorem r17 (b : Fin 128) (t : Fin 8) (e : Fin 5700) : val_main_v17 (F := Ideal) x g w (ix3 b t e) = P x g w b t e.val := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17]
  exact (lanes_val (fun e => ∑ c, normed (fun c => x (ix3 b t c)) (fun c => g (ix2 0 c)) c * w (ix3 0 c e)) e).symm

theorem r52 (b : Fin 128) (t : Fin 8) (h : Fin 4) (l : Fin 128) : val_main_v52 (F := Ideal) x g w (ix4 b t h l) = turnR (2048 + t.val) (fun l => P x g w b t (h.val * 128 + l)) l.val := by
  pointwise [val_main_v18, val_main_v19, val_main_v20, val_main_cst_2, val_main_v21, val_main_v22, val_main_cst_3, val_main_v23, val_main_v24, val_main_v25, val_main_v26, val_main_c, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52]
  simp only [r17, pos_add]
  unfold turnR
  by_cases h0 : l.val < 64
  · rw [dif_pos h0, if_pos h0]; rfl
  · have h1 : l.val - 64 < 64 := by omega
    have h2 : 64 + (l.val - 64) = l.val := by omega
    rw [dif_neg h0, if_neg h0, dif_pos h1]
    simp only [h2]; rfl

theorem r89 (b : Fin 128) (t : Fin 8) (h : Fin 4) (l : Fin 128) : val_main_v89 (F := Ideal) x g w (ix4 b t h l) = turnR (2048 + t.val) (fun l => P x g w b t (512 + (h.val * 128 + l))) l.val * Ideal.ofBits FTy.f32 1035273459#32 := by
  pointwise [val_main_v53, val_main_v54, val_main_v55, val_main_cst_4, val_main_v56, val_main_v57, val_main_cst_5, val_main_v58, val_main_v59, val_main_v60, val_main_v61, val_main_c_6, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_cst_7, val_main_v88, val_main_v89]
  simp only [r17, pos_add]
  unfold turnR
  by_cases h0 : l.val < 64
  · rw [dif_pos h0, if_pos h0]; rfl
  · have h1 : l.val - 64 < 64 := by omega
    have h2 : 64 + (l.val - 64) = l.val := by omega
    rw [dif_neg h0, if_neg h0, dif_pos h1]
    simp only [h2]; rfl

theorem r108 (b : Fin 128) (t : Fin 8) (h : Fin 8) (l : Fin 64) : val_main_v108 (F := Ideal) x g w q (ix4 b t h l) = headNorm (lanes fun l : Fin 64 => q (ix2 0 l)) (fun l => P x g w b t (2048 + (h.val * 64 + l))) l.val := by
  pointwise [val_main_v92, val_main_v93, val_main_v94, val_main_v95, val_main_v96, val_main_cst_8, val_main_v97, val_main_v98, val_main_cst_9, val_main_v99, val_main_v100, val_main_cst_10, val_main_v101, val_main_v102, val_main_v103, val_main_v104, val_main_v105, val_main_v106, val_main_v107, val_main_v108]
  simp only [r17]
  unfold headNorm
  rw [lanes_val]

theorem r141 (b : Fin 128) (t : Fin 8) (h : Fin 8) (l : Fin 64) : val_main_v141 (F := Ideal) x g w q (ix4 b t h l) = turnA (2048 + t.val) (headNorm (lanes fun l : Fin 64 => q (ix2 0 l)) (fun l => P x g w b t (2048 + (h.val * 64 + l)))) l.val := by
  pointwise [val_main_v109, val_main_cst_11, val_main_v110, val_main_v111, val_main_cst_12, val_main_v112, val_main_v113, val_main_v114, val_main_v115, val_main_c_13, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141]
  simp only [r108, pos_add]
  unfold turnA
  by_cases h0 : l.val < 8
  · rw [dif_pos h0, if_pos h0]; rfl
  · by_cases h1 : l.val < 16
    · have h1' : l.val - 8 < 8 := by omega
      have h2 : 8 + (l.val - 8) = l.val := by omega
      rw [dif_neg h0, if_neg h0, dif_pos h1', if_pos h1]
      simp only [h2]; rfl
    · have h1' : ¬ (l.val - 8 < 8) := by omega
      have h2 : 16 + (l.val - 8 - 8) = l.val := by omega
      rw [dif_neg h0, if_neg h0, dif_neg h1', if_neg h1]
      simp only [h2]

theorem r158 (b : Fin 128) (t : Fin 8) (h : Fin 2) (l : Fin 64) : val_main_v158 (F := Ideal) x g w k (ix4 b t h l) = headNorm (lanes fun l : Fin 64 => k (ix2 0 l)) (fun l => P x g w b t (2560 + (h.val * 64 + l))) l.val := by
  pointwise [val_main_v142, val_main_v143, val_main_v144, val_main_v145, val_main_v146, val_main_cst_14, val_main_v147, val_main_v148, val_main_cst_15, val_main_v149, val_main_v150, val_main_cst_16, val_main_v151, val_main_v152, val_main_v153, val_main_v154, val_main_v155, val_main_v156, val_main_v157, val_main_v158]
  simp only [r17]
  unfold headNorm
  rw [lanes_val]

theorem r191 (b : Fin 128) (t : Fin 8) (h : Fin 2) (l : Fin 64) : val_main_v191 (F := Ideal) x g w k (ix4 b t h l) = turnA (2048 + t.val) (headNorm (lanes fun l : Fin 64 => k (ix2 0 l)) (fun l => P x g w b t (2560 + (h.val * 64 + l)))) l.val := by
  pointwise [val_main_v159, val_main_cst_17, val_main_v160, val_main_v161, val_main_cst_18, val_main_v162, val_main_v163, val_main_v164, val_main_v165, val_main_c_19, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191]
  simp only [r158, pos_add]
  unfold turnA
  by_cases h0 : l.val < 8
  · rw [dif_pos h0, if_pos h0]; rfl
  · by_cases h1 : l.val < 16
    · have h1' : l.val - 8 < 8 := by omega
      have h2 : 8 + (l.val - 8) = l.val := by omega
      rw [dif_neg h0, if_neg h0, dif_pos h1', if_pos h1]
      simp only [h2]; rfl
    · have h1' : ¬ (l.val - 8 < 8) := by omega
      have h2 : 16 + (l.val - 8 - 8) = l.val := by omega
      rw [dif_neg h0, if_neg h0, dif_neg h1', if_neg h1]
      simp only [h2]

theorem r228 (b : Fin 128) (t : Fin 8) (h : Fin 4) (l : Fin 64) : val_main_v228 (F := Ideal) x g w (ix4 b t h l) = turnA (2048 + t.val) (fun l => P x g w b t (3328 + (h.val * 64 + l))) l.val := by
  pointwise [val_main_v194, val_main_v195, val_main_v196, val_main_cst_20, val_main_v197, val_main_v198, val_main_cst_21, val_main_v199, val_main_v200, val_main_v201, val_main_v202, val_main_c_22, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228]
  simp only [r17, pos_add]
  unfold turnA
  by_cases h0 : l.val < 8
  · rw [dif_pos h0, if_pos h0]; rfl
  · by_cases h1 : l.val < 16
    · have h1' : l.val - 8 < 8 := by omega
      have h2 : 8 + (l.val - 8) = l.val := by omega
      rw [dif_neg h0, if_neg h0, dif_pos h1', if_pos h1]
      simp only [h2]; rfl
    · have h1' : ¬ (l.val - 8 < 8) := by omega
      have h2 : 16 + (l.val - 8 - 8) = l.val := by omega
      rw [dif_neg h0, if_neg h0, dif_neg h1', if_neg h1]
      simp only [h2]

theorem r263 (b : Fin 128) (t : Fin 8) (h : Fin 1) (l : Fin 64) : val_main_v263 (F := Ideal) x g w (ix4 b t h l) = turnA (2048 + t.val) (fun l => P x g w b t (3584 + l)) l.val := by
  pointwise [val_main_v229, val_main_v230, val_main_v231, val_main_cst_23, val_main_v232, val_main_v233, val_main_cst_24, val_main_v234, val_main_v235, val_main_v236, val_main_v237, val_main_c_25, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260, val_main_v261, val_main_v262, val_main_v263]
  simp only [r17, pos_add]
  unfold turnA
  by_cases h0 : l.val < 8
  · rw [dif_pos h0, if_pos h0]; rfl
  · by_cases h1 : l.val < 16
    · have h1' : l.val - 8 < 8 := by omega
      have h2 : 8 + (l.val - 8) = l.val := by omega
      rw [dif_neg h0, if_neg h0, dif_pos h1', if_pos h1]
      simp only [h2]; rfl
    · have h1' : ¬ (l.val - 8 < 8) := by omega
      have h2 : 16 + (l.val - 8 - 8) = l.val := by omega
      rw [dif_neg h0, if_neg h0, dif_neg h1', if_neg h1]
      simp only [h2]

theorem r273 (n : Fin 1024) (e : Fin 512) : val_main_v273 (F := Ideal) x g w (ix2 n e) = turnR (2048 + n.val % 8) (fun l => P x g w (⟨n.val / 8, by omega⟩ : Fin 128) (⟨n.val % 8, by omega⟩ : Fin 8) (e.val / 128 * 128 + l)) (e.val % 128) := by
  pointwise [val_main_v273]
  simp only [r52]

theorem r274 (n : Fin 1024) (e : Fin 512) : val_main_v274 (F := Ideal) x g w (ix2 n e) = turnR (2048 + n.val % 8) (fun l => P x g w (⟨n.val / 8, by omega⟩ : Fin 128) (⟨n.val % 8, by omega⟩ : Fin 8) (512 + (e.val / 128 * 128 + l))) (e.val % 128) * Ideal.ofBits FTy.f32 1035273459#32 := by
  pointwise [val_main_v274]
  simp only [r89]

theorem r275 (n : Fin 1024) (e : Fin 512) : val_main_v275 (F := Ideal) x g w (ix2 n e) = P x g w (⟨n.val / 8, by omega⟩ : Fin 128) (⟨n.val % 8, by omega⟩ : Fin 8) (1024 + e.val) := by
  pointwise [val_main_v90, val_main_v275]
  simp only [r17]

theorem r276 (n : Fin 1024) (e : Fin 512) : val_main_v276 (F := Ideal) x g w (ix2 n e) = P x g w (⟨n.val / 8, by omega⟩ : Fin 128) (⟨n.val % 8, by omega⟩ : Fin 8) (1536 + e.val) := by
  pointwise [val_main_v91, val_main_v276]
  simp only [r17]

theorem r279 (n : Fin 1024) (e : Fin 512) : val_main_v279 (F := Ideal) x g w q (ix2 n e) = turnA (2048 + n.val % 8) (headNorm (lanes fun l : Fin 64 => q (ix2 0 l)) (fun l => P x g w (⟨n.val / 8, by omega⟩ : Fin 128) (⟨n.val % 8, by omega⟩ : Fin 8) (2048 + ((e.val / 64 % 2 * 4 + e.val / 128) * 64 + l)))) (e.val % 64) := by
  pointwise [val_main_v277, val_main_v278, val_main_v279]
  simp only [r141]

theorem r282 (n : Fin 1024) (e : Fin 512) : val_main_v282 (F := Ideal) x g w (ix2 n e) = P x g w (⟨n.val / 8, by omega⟩ : Fin 128) (⟨n.val % 8, by omega⟩ : Fin 8) (2816 + ((e.val / 64 % 2 * 4 + e.val / 128) * 64 + e.val % 64)) := by
  pointwise [val_main_v193, val_main_v280, val_main_v281, val_main_v282]
  simp only [r17]
  exact congrArg (P x g w _ _) (by omega)

theorem r267 (n : Fin 1024) (e : Fin 128) : val_main_v267 (F := Ideal) x g w k (ix2 n e) = turnA (2048 + n.val % 8) (headNorm (lanes fun l : Fin 64 => k (ix2 0 l)) (fun l => P x g w (⟨n.val / 8, by omega⟩ : Fin 128) (⟨n.val % 8, by omega⟩ : Fin 8) (2560 + ((e.val / 64) * 64 + l)))) (e.val % 64) := by
  pointwise [val_main_v267]
  simp only [r191]

theorem r283 (n : Fin 1024) (e : Fin 128) : val_main_v283 (F := Ideal) x g w k (ix2 n e) = turnA (2048 + n.val % 8) (headNorm (lanes fun l : Fin 64 => k (ix2 0 l)) (fun l => P x g w (⟨n.val / 8, by omega⟩ : Fin 128) (⟨n.val % 8, by omega⟩ : Fin 8) (2560 + ((e.val / 64) * 64 + l)))) (e.val % 64) := by
  pointwise [val_main_v267, val_main_v283]
  simp only [r191]

theorem r268 (n : Fin 1024) (e : Fin 128) : val_main_v268 (F := Ideal) x g w (ix2 n e) = P x g w (⟨n.val / 8, by omega⟩ : Fin 128) (⟨n.val % 8, by omega⟩ : Fin 8) (2688 + e.val) := by
  pointwise [val_main_v192, val_main_v268]
  simp only [r17]

theorem r284 (i : Fin 144) (n : Fin 1024) : val_main_v284 (F := Ideal) x g w (ix2 i n) = if i.val < 128 then P x g w (⟨n.val / 8, by omega⟩ : Fin 128) (⟨n.val % 8, by omega⟩ : Fin 8) (2688 + i.val) else 1 := by
  pointwise [val_main_v192, val_main_v268, val_main_v270, val_main_cst_26, val_main_v271, val_main_v272, val_main_v284]
  simp only [r17]
  by_cases h : i.val < 128
  · rw [dif_pos h, if_pos h]
  · rw [dif_neg h, if_neg h]

theorem r285 (n : Fin 1024) (e : Fin 256) : val_main_v285 (F := Ideal) x g w (ix2 n e) = turnA (2048 + n.val % 8) (fun l => P x g w (⟨n.val / 8, by omega⟩ : Fin 128) (⟨n.val % 8, by omega⟩ : Fin 8) (3328 + (e.val / 64 * 64 + l))) (e.val % 64) := by
  pointwise [val_main_v285]
  simp only [r228]

theorem r269 (n : Fin 1024) (e : Fin 64) : val_main_v269 (F := Ideal) x g w (ix2 n e) = turnA (2048 + n.val % 8) (fun l => P x g w (⟨n.val / 8, by omega⟩ : Fin 128) (⟨n.val % 8, by omega⟩ : Fin 8) (3584 + l)) e.val := by
  pointwise [val_main_v269]
  simp only [r263]

theorem r287 (n : Fin 1024) (e : Fin 128) : val_main_v287 (F := Ideal) x g w (ix2 n e) = turnA (2048 + n.val % 8) (fun l => P x g w (⟨n.val / 8, by omega⟩ : Fin 128) (⟨n.val % 8, by omega⟩ : Fin 8) (3584 + l)) (e.val % 64) := by
  pointwise [val_main_v269, val_main_v286, val_main_v287]
  simp only [r263]
  by_cases h : e.val < 64
  · rw [dif_pos h, show e.val % 64 = e.val by omega]
  · rw [dif_neg h, show e.val % 64 = e.val - 64 by omega]

theorem r288 (n : Fin 1024) (e : Fin 1024) : val_main_v288 (F := Ideal) x g w (ix2 n e) = P x g w (⟨n.val / 8, by omega⟩ : Fin 128) (⟨n.val % 8, by omega⟩ : Fin 8) (3652 + e.val) := by
  pointwise [val_main_v265, val_main_v288]
  simp only [r17]

theorem r289 (n : Fin 1024) (e : Fin 1024) : val_main_v289 (F := Ideal) x g w (ix2 n e) = P x g w (⟨n.val / 8, by omega⟩ : Fin 128) (⟨n.val % 8, by omega⟩ : Fin 8) (4676 + e.val) := by
  pointwise [val_main_v266, val_main_v289]
  simp only [r17]

theorem r291 (n : Fin 1024) (e : Fin 128) : val_main_v291 (F := Ideal) x g w (ix2 n e) = if e.val < 4 then P x g w (⟨n.val / 8, by omega⟩ : Fin 128) (⟨n.val % 8, by omega⟩ : Fin 8) (3648 + e.val) else 0 := by
  pointwise [val_main_v264, val_main_v290, val_main_c_27, val_main_call0_v0, val_main_v291]
  simp only [r17]
  by_cases h : e.val < 4
  · rw [dif_pos h, if_pos h]
  · rw [dif_neg h, if_neg h]
    exact sitofp_zero

end Cert.Projecting.Sample.Ref

end
end
-- ==== Proof.SProjFinal.lean ====
module

public import proofs.«01_k».proof.Proof.SProjOut
public import proofs.«01_k».proof.Proof.SProjHost
public import proofs.«01_k».proof.Proof.SProjRun
public import proofs.«01_k».proof.Proof.SProjRef
public import proofs.«01_k».proof.Proof.Gen.InprojSampleReferenceIdeal.Run
public import proofs.«01_k».proof.Proof.Gen.InprojSampleReferenceIdeal.Read
public import Idealize.ShloMosaic.Lib.Pointwise
public import Idealize.ShloMosaic.Lib.Pipeline.ValueKit

@[expose] public section

set_option maxRecDepth 16384

noncomputable section

namespace Cert.Projecting.Sample

open Idealize.ShloMosaic Idealize.ShloMosaic.TcCoe Idealize.SL.Sem

open Cert.InprojSampleIdeal Cert.InprojSampleIdeal.Gen

variable (m : (ℓ : Loc nD τ sig) → Buf (Elt Ideal) ℓ) (c : Dev nD)

/-- The projection of a row of the whole input. -/
abbrev Z (n : Fin 1024) : ℕ → EReal :=
  Ref.P (m ((c : Thread nD τ).loc main_arg0)) (m ((c : Thread nD τ).loc main_arg1)) (m ((c : Thread nD τ).loc main_arg2))
    (⟨n.val / 8, by omega⟩ : Fin 128) (⟨n.val % 8, by omega⟩ : Fin 8)

/-- A packed column of a block's row. -/
abbrev Y (t : Fin cfg0.N) (i : Fin 256) : ℕ → EReal := packed (iblk m c 0 t) (iblk m c 1 t) (iblk m c 2 t) i

/-- The gain of the stream and the columns that are normalised are real. -/
def Fine : Prop :=
  (∀ k : Fin 1024, IsReal (m ((c : Thread nD τ).loc main_arg1) (ix2 0 k)))
  ∧ ∀ (k : Fin 1024) (e : Fin 5700), 2048 ≤ e.val → e.val < 2688 → IsReal (m ((c : Thread nD τ).loc main_arg2) (ix3 0 k e))

theorem Z_real (h : Fine m c) (n : Fin 1024) (e : ℕ) (h0 : 2048 ≤ e) (h1 : e < 2688) : IsReal (Z m c n e) :=
  proj_real _ _ _ e (by omega) h.1 fun k => h.2 k ⟨e, by omega⟩ h0 h1

theorem row_split (t : Fin cfg0.N) (i : Fin 256) : i.val % 8 = (row t i).val % 8 := by
  show i.val % 8 = (256 * t.val + i.val) % 8
  omega

/-- A packed column that holds a column of the weight. -/
theorem packed_of (t : Fin cfg0.N) (i : Fin 256) (r s : ℕ) (hr : r < 5888) (hs : s < 5700)
    (h : ∀ k : Fin 1024, V m c main_v100 (ix2 (⟨r, hr⟩ : Fin 5888) k) = m ((c : Thread nD τ).loc main_arg2) (ix3 0 k (⟨s, hs⟩ : Fin 5700))) :
    Y m c t i r = Z m c (row t i) s := by
  unfold Y Z packed Ref.P proj
  rw [lanes_lt _ r hr, lanes_lt _ s hs]
  refine Finset.sum_congr rfl fun k _ => ?_
  simp only [read_0, read_1, read_2, h k]
  exact congrArg₂ (fun (a b : Fin 1024 → EReal) => normed a b k * m ((c : Thread nD τ).loc main_arg2) (ix3 0 k (⟨s, hs⟩ : Fin 5700)))
    (funext fun k => host_x m c (row t i) k) (funext fun k => host_g m c k)

/-- A packed column that holds zero. -/
theorem packed_zero (t : Fin cfg0.N) (i : Fin 256) (r : ℕ) (hr : r < 5888)
    (h : ∀ k : Fin 1024, V m c main_v100 (ix2 (⟨r, hr⟩ : Fin 5888) k) = (0 : EReal)) : Y m c t i r = 0 := by
  unfold Y packed
  rw [lanes_lt _ r hr]
  refine Finset.sum_eq_zero fun k _ => ?_
  rw [read_2, h k, mul_zero]

theorem col_0 (t : Fin cfg0.N) (i : Fin 256) (r : ℕ) (h : r < 512) : Y m c t i (r) = Z m c (row t i) (r) :=
  packed_of m c t i _ _ (by omega) (by omega) fun k => row_0 m c ⟨r, h⟩ k

theorem col_1 (t : Fin cfg0.N) (i : Fin 256) (r : ℕ) (h : r < 512) : Y m c t i (512 + r) = Z m c (row t i) (512 + r) :=
  packed_of m c t i _ _ (by omega) (by omega) fun k => row_1 m c ⟨r, h⟩ k

theorem col_2 (t : Fin cfg0.N) (i : Fin 256) (r : ℕ) (h : r < 512) : Y m c t i (1024 + r) = Z m c (row t i) (1024 + r) :=
  packed_of m c t i _ _ (by omega) (by omega) fun k => row_2 m c ⟨r, h⟩ k

theorem col_3 (t : Fin cfg0.N) (i : Fin 256) (r : ℕ) (h : r < 512) : Y m c t i (1536 + r) = Z m c (row t i) (1536 + r) :=
  packed_of m c t i _ _ (by omega) (by omega) fun k => row_3 m c ⟨r, h⟩ k

theorem col_4 (t : Fin cfg0.N) (i : Fin 256) (r : ℕ) (h : r < 512) : Y m c t i (2048 + r) = Z m c (row t i) (2048 + ((r / 64 % 2 * 4 + r / 128) * 64 + r % 64)) :=
  packed_of m c t i _ _ (by omega) (by omega) fun k => row_4 m c ⟨r, h⟩ k

theorem col_5 (t : Fin cfg0.N) (i : Fin 256) (r : ℕ) (h : r < 512) : Y m c t i (2560 + r) = Z m c (row t i) (2816 + ((r / 64 % 2 * 4 + r / 128) * 64 + r % 64)) :=
  packed_of m c t i _ _ (by omega) (by omega) fun k => row_5 m c ⟨r, h⟩ k

theorem col_6 (t : Fin cfg0.N) (i : Fin 256) (r : ℕ) (h : r < 128) : Y m c t i (3072 + r) = Z m c (row t i) (2560 + r) :=
  packed_of m c t i _ _ (by omega) (by omega) fun k => row_6 m c ⟨r, h⟩ k

theorem col_7 (t : Fin cfg0.N) (i : Fin 256) (r : ℕ) (h : r < 128) : Y m c t i (3200 + r) = Z m c (row t i) (2688 + r) :=
  packed_of m c t i _ _ (by omega) (by omega) fun k => row_7 m c ⟨r, h⟩ k

theorem col_8 (t : Fin cfg0.N) (i : Fin 256) (r : ℕ) (h : r < 256) : Y m c t i (3328 + r) = Z m c (row t i) (3328 + r) :=
  packed_of m c t i _ _ (by omega) (by omega) fun k => row_8 m c ⟨r, h⟩ k

theorem col_9 (t : Fin cfg0.N) (i : Fin 256) (r : ℕ) (h : r < 64) : Y m c t i (3584 + r) = Z m c (row t i) (3584 + r) :=
  packed_of m c t i _ _ (by omega) (by omega) fun k => row_9 m c ⟨r, h⟩ k

theorem col_10 (t : Fin cfg0.N) (i : Fin 256) (r : ℕ) (h : r < 64) : Y m c t i (3648 + r) = Z m c (row t i) (3584 + r) :=
  packed_of m c t i _ _ (by omega) (by omega) fun k => row_10 m c ⟨r, h⟩ k

theorem col_11 (t : Fin cfg0.N) (i : Fin 256) (r : ℕ) (h : r < 128) : Y m c t i (3712 + r) = if r < 4 then Z m c (row t i) (3648 + r) else 0 := by
  by_cases h4 : r < 4
  · rw [if_pos h4]
    exact packed_of m c t i _ _ (by omega) (by omega) fun k => (row_11 m c ⟨r, h⟩ k).trans (dif_pos h4)
  · rw [if_neg h4]
    exact packed_zero m c t i _ (by omega) fun k => (row_11 m c ⟨r, h⟩ k).trans (dif_neg h4)

theorem col_12 (t : Fin cfg0.N) (i : Fin 256) (r : ℕ) (h : r < 1024) : Y m c t i (3840 + r) = Z m c (row t i) (3652 + r) :=
  packed_of m c t i _ _ (by omega) (by omega) fun k => row_12 m c ⟨r, h⟩ k

theorem col_13 (t : Fin cfg0.N) (i : Fin 256) (r : ℕ) (h : r < 1024) : Y m c t i (4864 + r) = Z m c (row t i) (4676 + r) :=
  packed_of m c t i _ _ (by omega) (by omega) fun k => row_13 m c ⟨r, h⟩ k

theorem rollR_blk (t : Fin cfg0.N) (i : Fin 256) (z : ℕ → EReal) (k : ℕ) (hk : k < 128) :
    rollR (tab (iblk m c 3 t) i) (tab (iblk m c 4 t) i) z k = turnR (2048 + (row t i).val % 8) z k := by
  refine rollR_eq _ _ _ z k hk ?_ ?_
  · unfold tab
    rw [lanes_lt _ k hk, read_3, host_rc, row_split t i]
  · unfold tab
    rw [lanes_lt _ k hk, read_4, host_rs, row_split t i]

theorem rollA_blk (t : Fin cfg0.N) (i : Fin 256) (z : ℕ → EReal) (k : ℕ) (hk : k < 128) :
    rollA (tab (iblk m c 5 t) i) (tab (iblk m c 6 t) i) (tab (iblk m c 7 t) i) z k
      = turnA (2048 + (row t i).val % 8) (fun l => z (k / 64 * 64 + l)) (k % 64) := by
  refine rollA_eq _ _ _ _ z k hk ?_ ?_ ?_
  · unfold tab
    rw [lanes_lt _ k hk, read_5, host_ac, row_split t i]
  · unfold tab
    rw [lanes_lt _ k hk, read_6, host_as1, row_split t i]
  · unfold tab
    rw [lanes_lt _ k hk, read_7, host_as2, row_split t i]

/-- The gain of a head. -/
abbrev gain_q : ℕ → EReal := lanes fun l : Fin 64 => m ((c : Thread nD τ).loc main_arg3) (ix2 0 l)

theorem norm_q (t : Fin cfg0.N) (z : ℕ → EReal) (k : ℕ) (hk : k < 128) (hz : ∀ l < 128, IsReal (z l)) :
    groupNorm (mask (iblk m c 10 t)) (gain (iblk m c 8 t)) z k = headNorm (gain_q m c) (fun l => z (k / 64 * 64 + l)) (k % 64) := by
  refine groupNorm_eq _ _ z k hk (fun x => ?_) (fun l hl => hz l hl) _ ?_
  · unfold mask
    rw [lanes_lt _ k hk, read_10, host_mask]
  · unfold gain gain_q
    rw [lanes_lt _ k hk, lanes_lt _ (k % 64) (by omega), read_8, host_q]

/-- The gain of a head. -/
abbrev gain_k : ℕ → EReal := lanes fun l : Fin 64 => m ((c : Thread nD τ).loc main_arg4) (ix2 0 l)

theorem norm_k (t : Fin cfg0.N) (z : ℕ → EReal) (k : ℕ) (hk : k < 128) (hz : ∀ l < 128, IsReal (z l)) :
    groupNorm (mask (iblk m c 10 t)) (gain (iblk m c 9 t)) z k = headNorm (gain_k m c) (fun l => z (k / 64 * 64 + l)) (k % 64) := by
  refine groupNorm_eq _ _ z k hk (fun x => ?_) (fun l hl => hz l hl) _ ?_
  · unfold mask
    rw [lanes_lt _ k hk, read_10, host_mask]
  · unfold gain gain_k
    rw [lanes_lt _ k hk, lanes_lt _ (k % 64) (by omega), read_9, host_k]

/-- The reference's result 0 on the kernel's arguments. -/
def G11 : (⟨S1024x512, .f32⟩ : BufTy).Contents (Elt Ideal) :=
  Cert.InprojSampleReferenceIdeal.Read.val_main_v273 (F := Ideal) (m ((c : Thread nD τ).loc main_arg0)) (m ((c : Thread nD τ).loc main_arg1)) (m ((c : Thread nD τ).loc main_arg2))

theorem block11 (t : Fin cfg0.N) (i : Fin 256) (e : Fin 512) :
    out0_11 (iblk m c 0 t) (iblk m c 1 t) (iblk m c 2 t) (iblk m c 3 t) (iblk m c 4 t) (ix2 i e) = G11 m c (ix2 (row t i) e) := by
  rw [out11]
  unfold G11
  rw [rollR_blk m c t i _ _ (by omega), Ref.r273]
  exact turnR_congr _ _ _ _ (by omega) fun l hl => col_0 m c t i _ (by omega)

/-- The reference's result 1 on the kernel's arguments. -/
def G12 : (⟨S1024x512, .f32⟩ : BufTy).Contents (Elt Ideal) :=
  Cert.InprojSampleReferenceIdeal.Read.val_main_v274 (F := Ideal) (m ((c : Thread nD τ).loc main_arg0)) (m ((c : Thread nD τ).loc main_arg1)) (m ((c : Thread nD τ).loc main_arg2))

theorem block12 (t : Fin cfg0.N) (i : Fin 256) (e : Fin 512) :
    out0_12 (iblk m c 0 t) (iblk m c 1 t) (iblk m c 2 t) (iblk m c 3 t) (iblk m c 4 t) (ix2 i e) = G12 m c (ix2 (row t i) e) := by
  rw [out12]
  unfold G12
  rw [rollR_blk m c t i _ _ (by omega), Ref.r274]
  exact congrArg (· * Ideal.ofBits FTy.f32 1035273459#32) (turnR_congr _ _ _ _ (by omega) fun l hl => col_1 m c t i _ (by omega))

/-- The reference's result 2 on the kernel's arguments. -/
def G13 : (⟨S1024x512, .f32⟩ : BufTy).Contents (Elt Ideal) :=
  Cert.InprojSampleReferenceIdeal.Read.val_main_v275 (F := Ideal) (m ((c : Thread nD τ).loc main_arg0)) (m ((c : Thread nD τ).loc main_arg1)) (m ((c : Thread nD τ).loc main_arg2))

theorem block13 (t : Fin cfg0.N) (i : Fin 256) (e : Fin 512) :
    out0_13 (iblk m c 0 t) (iblk m c 1 t) (iblk m c 2 t) (ix2 i e) = G13 m c (ix2 (row t i) e) := by
  rw [out13]
  unfold G13
  rw [Ref.r275]
  exact col_2 m c t i _ (by omega)

/-- The reference's result 3 on the kernel's arguments. -/
def G14 : (⟨S1024x512, .f32⟩ : BufTy).Contents (Elt Ideal) :=
  Cert.InprojSampleReferenceIdeal.Read.val_main_v276 (F := Ideal) (m ((c : Thread nD τ).loc main_arg0)) (m ((c : Thread nD τ).loc main_arg1)) (m ((c : Thread nD τ).loc main_arg2))

theorem block14 (t : Fin cfg0.N) (i : Fin 256) (e : Fin 512) :
    out0_14 (iblk m c 0 t) (iblk m c 1 t) (iblk m c 2 t) (ix2 i e) = G14 m c (ix2 (row t i) e) := by
  rw [out14]
  unfold G14
  rw [Ref.r276]
  exact col_3 m c t i _ (by omega)

/-- The reference's result 4 on the kernel's arguments. -/
def G15 : (⟨S1024x512, .f32⟩ : BufTy).Contents (Elt Ideal) :=
  Cert.InprojSampleReferenceIdeal.Read.val_main_v279 (F := Ideal) (m ((c : Thread nD τ).loc main_arg0)) (m ((c : Thread nD τ).loc main_arg1)) (m ((c : Thread nD τ).loc main_arg2)) (m ((c : Thread nD τ).loc main_arg3))

theorem block15 (hf : Fine m c) (t : Fin cfg0.N) (i : Fin 256) (e : Fin 512) :
    out0_15 (iblk m c 0 t) (iblk m c 1 t) (iblk m c 2 t) (iblk m c 5 t) (iblk m c 6 t) (iblk m c 7 t) (iblk m c 8 t) (iblk m c 10 t) (ix2 i e) = G15 m c (ix2 (row t i) e) := by
  rw [out15]
  unfold G15
  rw [rollA_blk m c t i _ _ (by omega), Ref.r279, show e.val % 128 % 64 = e.val % 64 by omega]
  refine turnA_congr _ _ _ _ (by omega) fun l hl => ?_
  beta_reduce
  rw [norm_q m c t _ _ (by omega) fun l' hl' => ?_]
  · rw [show (e.val % 128 / 64 * 64 + l) % 64 = l by omega]
    refine headNorm_congr _ _ _ l hl fun l' hl' => ?_
    beta_reduce
    refine (col_4 m c t i _ (by omega)).trans (congrArg (Z m c (row t i)) ?_)
    have h1 : (e.val / 128 * 128 + ((e.val % 128 / 64 * 64 + l) / 64 * 64 + l')) / 128 = e.val / 128 := by omega
    have h2 : (e.val / 128 * 128 + ((e.val % 128 / 64 * 64 + l) / 64 * 64 + l')) / 64 % 2 = e.val / 64 % 2 := by omega
    have h3 : (e.val / 128 * 128 + ((e.val % 128 / 64 * 64 + l) / 64 * 64 + l')) % 64 = l' := by omega
    rw [h1, h2, h3]
  · beta_reduce
    have hh : e.val / 128 * 128 + l' < 512 := by omega
    rw [show packed (iblk m c 0 t) (iblk m c 1 t) (iblk m c 2 t) i (2048 + (e.val / 128 * 128 + l')) = _ from col_4 m c t i _ hh]
    exact Z_real m c hf _ _ (by omega) (by omega)

/-- The reference's result 5 on the kernel's arguments. -/
def G16 : (⟨S1024x512, .f32⟩ : BufTy).Contents (Elt Ideal) :=
  Cert.InprojSampleReferenceIdeal.Read.val_main_v282 (F := Ideal) (m ((c : Thread nD τ).loc main_arg0)) (m ((c : Thread nD τ).loc main_arg1)) (m ((c : Thread nD τ).loc main_arg2))

theorem block16 (t : Fin cfg0.N) (i : Fin 256) (e : Fin 512) :
    out0_16 (iblk m c 0 t) (iblk m c 1 t) (iblk m c 2 t) (ix2 i e) = G16 m c (ix2 (row t i) e) := by
  rw [out16]
  unfold G16
  rw [Ref.r282]
  exact col_5 m c t i _ (by omega)

/-- The reference's result 6 on the kernel's arguments. -/
def G17 : (⟨S1024x128, .bf16⟩ : BufTy).Contents (Elt Ideal) :=
  Cert.InprojSampleReferenceIdeal.Read.val_main_v283 (F := Ideal) (m ((c : Thread nD τ).loc main_arg0)) (m ((c : Thread nD τ).loc main_arg1)) (m ((c : Thread nD τ).loc main_arg2)) (m ((c : Thread nD τ).loc main_arg4))

theorem block17 (hf : Fine m c) (t : Fin cfg0.N) (i : Fin 256) (e : Fin 128) :
    out0_17 (iblk m c 0 t) (iblk m c 1 t) (iblk m c 2 t) (iblk m c 5 t) (iblk m c 6 t) (iblk m c 7 t) (iblk m c 9 t) (iblk m c 10 t) (ix2 i e) = G17 m c (ix2 (row t i) e) := by
  rw [out17]
  unfold G17
  rw [rollA_blk m c t i _ _ (by omega), Ref.r283]
  refine turnA_congr _ _ _ _ (by omega) fun l hl => ?_
  beta_reduce
  rw [norm_k m c t _ _ (by omega) fun l' hl' => ?_]
  · rw [show (e.val / 64 * 64 + l) % 64 = l by omega, show (e.val / 64 * 64 + l) / 64 = e.val / 64 by omega]
    exact headNorm_congr _ _ _ l hl fun l' hl' => col_6 m c t i _ (by omega)
  · beta_reduce
    rw [show packed (iblk m c 0 t) (iblk m c 1 t) (iblk m c 2 t) i (3072 + l') = _ from col_6 m c t i _ hl']
    exact Z_real m c hf _ _ (by omega) (by omega)

/-- The reference's result 7 on the kernel's arguments. -/
def G18 : (⟨S144x1024, .bf16⟩ : BufTy).Contents (Elt Ideal) :=
  Cert.InprojSampleReferenceIdeal.Read.val_main_v284 (F := Ideal) (m ((c : Thread nD τ).loc main_arg0)) (m ((c : Thread nD τ).loc main_arg1)) (m ((c : Thread nD τ).loc main_arg2))

theorem block18 (t : Fin cfg0.N) (i : Fin 144) (e : Fin 256) :
    out0_18 (iblk m c 0 t) (iblk m c 1 t) (iblk m c 2 t) (ix2 i e) = G18 m c (ix2 i (row t e)) := by
  rw [out18]
  unfold G18
  rw [Ref.r284, show 3072 + (128 + i.val) = 3200 + i.val by omega]
  by_cases h : i.val < 128
  · rw [if_pos h, if_pos h]
    exact col_7 m c t e _ h
  · rw [if_neg h, if_neg h]

/-- The reference's result 8 on the kernel's arguments. -/
def G19 : (⟨S1024x256, .f32⟩ : BufTy).Contents (Elt Ideal) :=
  Cert.InprojSampleReferenceIdeal.Read.val_main_v285 (F := Ideal) (m ((c : Thread nD τ).loc main_arg0)) (m ((c : Thread nD τ).loc main_arg1)) (m ((c : Thread nD τ).loc main_arg2))

theorem block19 (t : Fin cfg0.N) (i : Fin 256) (e : Fin 256) :
    out0_19 (iblk m c 0 t) (iblk m c 1 t) (iblk m c 2 t) (iblk m c 5 t) (iblk m c 6 t) (iblk m c 7 t) (ix2 i e) = G19 m c (ix2 (row t i) e) := by
  rw [out19]
  unfold G19
  rw [rollA_blk m c t i _ _ (by omega), Ref.r285, show e.val % 128 % 64 = e.val % 64 by omega]
  refine turnA_congr _ _ _ _ (by omega) fun l hl => ?_
  beta_reduce
  rw [show e.val / 128 * 128 + (e.val % 128 / 64 * 64 + l) = e.val / 64 * 64 + l by omega]
  exact col_8 m c t i _ (by omega)

/-- The reference's result 9 on the kernel's arguments. -/
def G20 : (⟨S1024x128, .bf16⟩ : BufTy).Contents (Elt Ideal) :=
  Cert.InprojSampleReferenceIdeal.Read.val_main_v287 (F := Ideal) (m ((c : Thread nD τ).loc main_arg0)) (m ((c : Thread nD τ).loc main_arg1)) (m ((c : Thread nD τ).loc main_arg2))

theorem block20 (t : Fin cfg0.N) (i : Fin 256) (e : Fin 128) :
    out0_20 (iblk m c 0 t) (iblk m c 1 t) (iblk m c 2 t) (iblk m c 5 t) (iblk m c 6 t) (iblk m c 7 t) (ix2 i e) = G20 m c (ix2 (row t i) e) := by
  rw [out20]
  unfold G20
  rw [rollA_blk m c t i _ _ (by omega), Ref.r287]
  refine turnA_congr _ _ _ _ (by omega) fun l hl => ?_
  beta_reduce
  by_cases h : e.val < 64
  · rw [show 3328 + (256 + (e.val / 64 * 64 + l)) = 3584 + l by omega]
    exact col_9 m c t i _ hl
  · rw [show 3328 + (256 + (e.val / 64 * 64 + l)) = 3648 + l by omega]
    exact col_10 m c t i _ hl

/-- The reference's result 10 on the kernel's arguments. -/
def G21 : (⟨S1024x1024, .f32⟩ : BufTy).Contents (Elt Ideal) :=
  Cert.InprojSampleReferenceIdeal.Read.val_main_v288 (F := Ideal) (m ((c : Thread nD τ).loc main_arg0)) (m ((c : Thread nD τ).loc main_arg1)) (m ((c : Thread nD τ).loc main_arg2))

theorem block21 (t : Fin cfg0.N) (i : Fin 256) (e : Fin 1024) :
    out0_21 (iblk m c 0 t) (iblk m c 1 t) (iblk m c 2 t) (ix2 i e) = G21 m c (ix2 (row t i) e) := by
  rw [out21]
  unfold G21
  rw [Ref.r288]
  exact col_12 m c t i _ (by omega)

/-- The reference's result 11 on the kernel's arguments. -/
def G22 : (⟨S1024x1024, .f32⟩ : BufTy).Contents (Elt Ideal) :=
  Cert.InprojSampleReferenceIdeal.Read.val_main_v289 (F := Ideal) (m ((c : Thread nD τ).loc main_arg0)) (m ((c : Thread nD τ).loc main_arg1)) (m ((c : Thread nD τ).loc main_arg2))

theorem block22 (t : Fin cfg0.N) (i : Fin 256) (e : Fin 1024) :
    out0_22 (iblk m c 0 t) (iblk m c 1 t) (iblk m c 2 t) (ix2 i e) = G22 m c (ix2 (row t i) e) := by
  rw [out22]
  unfold G22
  rw [Ref.r289]
  exact col_13 m c t i _ (by omega)

/-- The reference's result 12 on the kernel's arguments. -/
def G23 : (⟨S1024x128, .f32⟩ : BufTy).Contents (Elt Ideal) :=
  Cert.InprojSampleReferenceIdeal.Read.val_main_v267 (F := Ideal) (m ((c : Thread nD τ).loc main_arg0)) (m ((c : Thread nD τ).loc main_arg1)) (m ((c : Thread nD τ).loc main_arg2)) (m ((c : Thread nD τ).loc main_arg4))

theorem block23 (hf : Fine m c) (t : Fin cfg0.N) (i : Fin 256) (e : Fin 128) :
    out0_23 (iblk m c 0 t) (iblk m c 1 t) (iblk m c 2 t) (iblk m c 5 t) (iblk m c 6 t) (iblk m c 7 t) (iblk m c 9 t) (iblk m c 10 t) (ix2 i e) = G23 m c (ix2 (row t i) e) := by
  rw [out23]
  unfold G23
  rw [rollA_blk m c t i _ _ (by omega), Ref.r267]
  refine turnA_congr _ _ _ _ (by omega) fun l hl => ?_
  beta_reduce
  rw [norm_k m c t _ _ (by omega) fun l' hl' => ?_]
  · rw [show (e.val / 64 * 64 + l) % 64 = l by omega, show (e.val / 64 * 64 + l) / 64 = e.val / 64 by omega]
    exact headNorm_congr _ _ _ l hl fun l' hl' => col_6 m c t i _ (by omega)
  · beta_reduce
    rw [show packed (iblk m c 0 t) (iblk m c 1 t) (iblk m c 2 t) i (3072 + l') = _ from col_6 m c t i _ hl']
    exact Z_real m c hf _ _ (by omega) (by omega)

/-- The reference's result 13 on the kernel's arguments. -/
def G24 : (⟨S1024x128, .f32⟩ : BufTy).Contents (Elt Ideal) :=
  Cert.InprojSampleReferenceIdeal.Read.val_main_v268 (F := Ideal) (m ((c : Thread nD τ).loc main_arg0)) (m ((c : Thread nD τ).loc main_arg1)) (m ((c : Thread nD τ).loc main_arg2))

theorem block24 (t : Fin cfg0.N) (i : Fin 256) (e : Fin 128) :
    out0_24 (iblk m c 0 t) (iblk m c 1 t) (iblk m c 2 t) (ix2 i e) = G24 m c (ix2 (row t i) e) := by
  rw [out24]
  unfold G24
  rw [Ref.r268, show 3072 + (128 + e.val) = 3200 + e.val by omega]
  exact col_7 m c t i _ (by omega)

/-- The reference's result 14 on the kernel's arguments. -/
def G25 : (⟨S1024x64, .f32⟩ : BufTy).Contents (Elt Ideal) :=
  Cert.InprojSampleReferenceIdeal.Read.val_main_v269 (F := Ideal) (m ((c : Thread nD τ).loc main_arg0)) (m ((c : Thread nD τ).loc main_arg1)) (m ((c : Thread nD τ).loc main_arg2))

theorem block25 (t : Fin cfg0.N) (i : Fin 256) (e : Fin 64) :
    out0_25 (iblk m c 0 t) (iblk m c 1 t) (iblk m c 2 t) (iblk m c 5 t) (iblk m c 6 t) (iblk m c 7 t) (ix2 i e) = G25 m c (ix2 (row t i) e) := by
  rw [out25]
  unfold G25
  rw [rollA_blk m c t i _ _ (by omega), Ref.r269, show e.val % 64 = e.val by omega]
  refine turnA_congr _ _ _ _ (by omega) fun l hl => ?_
  beta_reduce
  · rw [show 3328 + (256 + (e.val / 64 * 64 + l)) = 3584 + l by omega]
    exact col_9 m c t i _ hl

/-- The reference's result 15 on the kernel's arguments. -/
def G26 : (⟨S1024x128, .f32⟩ : BufTy).Contents (Elt Ideal) :=
  Cert.InprojSampleReferenceIdeal.Read.val_main_v291 (F := Ideal) (m ((c : Thread nD τ).loc main_arg0)) (m ((c : Thread nD τ).loc main_arg1)) (m ((c : Thread nD τ).loc main_arg2))

theorem block26 (t : Fin cfg0.N) (i : Fin 256) (e : Fin 128) :
    out0_26 (iblk m c 0 t) (iblk m c 1 t) (iblk m c 2 t) (ix2 i e) = G26 m c (ix2 (row t i) e) := by
  rw [out26]
  unfold G26
  rw [Ref.r291, show 3328 + (384 + e.val) = 3712 + e.val by omega]
  exact col_11 m c t i _ (by omega)

/-- Which block each output window writes at a point of the grid. -/
theorem out_facts : ∀ t : Fin cfg0.N, win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![t.val, 0]
    ∧ win0_18.index t = ![0, t.val]
    ∧ win0_19.index t = ![t.val, 0]
    ∧ win0_20.index t = ![t.val, 0]
    ∧ win0_21.index t = ![t.val, 0]
    ∧ win0_22.index t = ![t.val, 0]
    ∧ win0_23.index t = ![t.val, 0]
    ∧ win0_24.index t = ![t.val, 0]
    ∧ win0_25.index t = ![t.val, 0]
    ∧ win0_26.index t = ![t.val, 0] := by
  decide

theorem final11 : (dats m 0 c).arrAt 11 cfg0.N = G11 m c := by
  refine (dats m 0 c).arrAt_eq_of_covers 11 _ (by decide +kernel) fun t hfl y => ?_
  blk_simp
  rw [after0_11]
  obtain ⟨i, e, rfl⟩ : ∃ i e, y = ix2 (i : Fin 256) (e : Fin 512) := ⟨_, _, ValueIdx.eq_ix2 y⟩
  have h := (out_facts t).1
  have h0 := congrFun h 0
  have h1 := congrFun h 1
  refine (block11 m c t i e).trans (congrArg (G11 m c) (funext fun a => Fin.ext ?_))
  match a with
  | ⟨0, _⟩ => show 256 * t.val + i.val = win0_11.index t 0 * 256 + 1 * i.val; rw [h0]; show _ = t.val * 256 + 1 * i.val; omega
  | ⟨1, _⟩ => show e.val = win0_11.index t 1 * 512 + 1 * e.val; rw [h1]; show _ = 0 * 512 + 1 * e.val; omega

theorem final12 : (dats m 0 c).arrAt 12 cfg0.N = G12 m c := by
  refine (dats m 0 c).arrAt_eq_of_covers 12 _ (by decide +kernel) fun t hfl y => ?_
  blk_simp
  rw [after0_12]
  obtain ⟨i, e, rfl⟩ : ∃ i e, y = ix2 (i : Fin 256) (e : Fin 512) := ⟨_, _, ValueIdx.eq_ix2 y⟩
  have h := (out_facts t).2.1
  have h0 := congrFun h 0
  have h1 := congrFun h 1
  refine (block12 m c t i e).trans (congrArg (G12 m c) (funext fun a => Fin.ext ?_))
  match a with
  | ⟨0, _⟩ => show 256 * t.val + i.val = win0_12.index t 0 * 256 + 1 * i.val; rw [h0]; show _ = t.val * 256 + 1 * i.val; omega
  | ⟨1, _⟩ => show e.val = win0_12.index t 1 * 512 + 1 * e.val; rw [h1]; show _ = 0 * 512 + 1 * e.val; omega

theorem final13 : (dats m 0 c).arrAt 13 cfg0.N = G13 m c := by
  refine (dats m 0 c).arrAt_eq_of_covers 13 _ (by decide +kernel) fun t hfl y => ?_
  blk_simp
  rw [after0_13]
  obtain ⟨i, e, rfl⟩ : ∃ i e, y = ix2 (i : Fin 256) (e : Fin 512) := ⟨_, _, ValueIdx.eq_ix2 y⟩
  have h := (out_facts t).2.2.1
  have h0 := congrFun h 0
  have h1 := congrFun h 1
  refine (block13 m c t i e).trans (congrArg (G13 m c) (funext fun a => Fin.ext ?_))
  match a with
  | ⟨0, _⟩ => show 256 * t.val + i.val = win0_13.index t 0 * 256 + 1 * i.val; rw [h0]; show _ = t.val * 256 + 1 * i.val; omega
  | ⟨1, _⟩ => show e.val = win0_13.index t 1 * 512 + 1 * e.val; rw [h1]; show _ = 0 * 512 + 1 * e.val; omega

theorem final14 : (dats m 0 c).arrAt 14 cfg0.N = G14 m c := by
  refine (dats m 0 c).arrAt_eq_of_covers 14 _ (by decide +kernel) fun t hfl y => ?_
  blk_simp
  rw [after0_14]
  obtain ⟨i, e, rfl⟩ : ∃ i e, y = ix2 (i : Fin 256) (e : Fin 512) := ⟨_, _, ValueIdx.eq_ix2 y⟩
  have h := (out_facts t).2.2.2.1
  have h0 := congrFun h 0
  have h1 := congrFun h 1
  refine (block14 m c t i e).trans (congrArg (G14 m c) (funext fun a => Fin.ext ?_))
  match a with
  | ⟨0, _⟩ => show 256 * t.val + i.val = win0_14.index t 0 * 256 + 1 * i.val; rw [h0]; show _ = t.val * 256 + 1 * i.val; omega
  | ⟨1, _⟩ => show e.val = win0_14.index t 1 * 512 + 1 * e.val; rw [h1]; show _ = 0 * 512 + 1 * e.val; omega

theorem final15 (hf : Fine m c) : (dats m 0 c).arrAt 15 cfg0.N = G15 m c := by
  refine (dats m 0 c).arrAt_eq_of_covers 15 _ (by decide +kernel) fun t hfl y => ?_
  blk_simp
  rw [after0_15]
  obtain ⟨i, e, rfl⟩ : ∃ i e, y = ix2 (i : Fin 256) (e : Fin 512) := ⟨_, _, ValueIdx.eq_ix2 y⟩
  have h := (out_facts t).2.2.2.2.1
  have h0 := congrFun h 0
  have h1 := congrFun h 1
  refine (block15 m c hf t i e).trans (congrArg (G15 m c) (funext fun a => Fin.ext ?_))
  match a with
  | ⟨0, _⟩ => show 256 * t.val + i.val = win0_15.index t 0 * 256 + 1 * i.val; rw [h0]; show _ = t.val * 256 + 1 * i.val; omega
  | ⟨1, _⟩ => show e.val = win0_15.index t 1 * 512 + 1 * e.val; rw [h1]; show _ = 0 * 512 + 1 * e.val; omega

theorem final16 : (dats m 0 c).arrAt 16 cfg0.N = G16 m c := by
  refine (dats m 0 c).arrAt_eq_of_covers 16 _ (by decide +kernel) fun t hfl y => ?_
  blk_simp
  rw [after0_16]
  obtain ⟨i, e, rfl⟩ : ∃ i e, y = ix2 (i : Fin 256) (e : Fin 512) := ⟨_, _, ValueIdx.eq_ix2 y⟩
  have h := (out_facts t).2.2.2.2.2.1
  have h0 := congrFun h 0
  have h1 := congrFun h 1
  refine (block16 m c t i e).trans (congrArg (G16 m c) (funext fun a => Fin.ext ?_))
  match a with
  | ⟨0, _⟩ => show 256 * t.val + i.val = win0_16.index t 0 * 256 + 1 * i.val; rw [h0]; show _ = t.val * 256 + 1 * i.val; omega
  | ⟨1, _⟩ => show e.val = win0_16.index t 1 * 512 + 1 * e.val; rw [h1]; show _ = 0 * 512 + 1 * e.val; omega

theorem final17 (hf : Fine m c) : (dats m 0 c).arrAt 17 cfg0.N = G17 m c := by
  refine (dats m 0 c).arrAt_eq_of_covers 17 _ (by decide +kernel) fun t hfl y => ?_
  blk_simp
  rw [after0_17]
  obtain ⟨i, e, rfl⟩ : ∃ i e, y = ix2 (i : Fin 256) (e : Fin 128) := ⟨_, _, ValueIdx.eq_ix2 y⟩
  have h := (out_facts t).2.2.2.2.2.2.1
  have h0 := congrFun h 0
  have h1 := congrFun h 1
  refine (block17 m c hf t i e).trans (congrArg (G17 m c) (funext fun a => Fin.ext ?_))
  match a with
  | ⟨0, _⟩ => show 256 * t.val + i.val = win0_17.index t 0 * 256 + 1 * i.val; rw [h0]; show _ = t.val * 256 + 1 * i.val; omega
  | ⟨1, _⟩ => show e.val = win0_17.index t 1 * 128 + 1 * e.val; rw [h1]; show _ = 0 * 128 + 1 * e.val; omega

theorem final18 : (dats m 0 c).arrAt 18 cfg0.N = G18 m c := by
  refine (dats m 0 c).arrAt_eq_of_covers 18 _ (by decide +kernel) fun t hfl y => ?_
  blk_simp
  rw [after0_18]
  obtain ⟨i, e, rfl⟩ : ∃ i e, y = ix2 (i : Fin 144) (e : Fin 256) := ⟨_, _, ValueIdx.eq_ix2 y⟩
  have h := (out_facts t).2.2.2.2.2.2.2.1
  have h0 := congrFun h 0
  have h1 := congrFun h 1
  refine (block18 m c t i e).trans (congrArg (G18 m c) (funext fun a => Fin.ext ?_))
  match a with
  | ⟨0, _⟩ => show i.val = win0_18.index t 0 * 144 + 1 * i.val; rw [h0]; show _ = 0 * 144 + 1 * i.val; omega
  | ⟨1, _⟩ => show 256 * t.val + e.val = win0_18.index t 1 * 256 + 1 * e.val; rw [h1]; show _ = t.val * 256 + 1 * e.val; omega

theorem final19 : (dats m 0 c).arrAt 19 cfg0.N = G19 m c := by
  refine (dats m 0 c).arrAt_eq_of_covers 19 _ (by decide +kernel) fun t hfl y => ?_
  blk_simp
  rw [after0_19]
  obtain ⟨i, e, rfl⟩ : ∃ i e, y = ix2 (i : Fin 256) (e : Fin 256) := ⟨_, _, ValueIdx.eq_ix2 y⟩
  have h := (out_facts t).2.2.2.2.2.2.2.2.1
  have h0 := congrFun h 0
  have h1 := congrFun h 1
  refine (block19 m c t i e).trans (congrArg (G19 m c) (funext fun a => Fin.ext ?_))
  match a with
  | ⟨0, _⟩ => show 256 * t.val + i.val = win0_19.index t 0 * 256 + 1 * i.val; rw [h0]; show _ = t.val * 256 + 1 * i.val; omega
  | ⟨1, _⟩ => show e.val = win0_19.index t 1 * 256 + 1 * e.val; rw [h1]; show _ = 0 * 256 + 1 * e.val; omega

theorem final20 : (dats m 0 c).arrAt 20 cfg0.N = G20 m c := by
  refine (dats m 0 c).arrAt_eq_of_covers 20 _ (by decide +kernel) fun t hfl y => ?_
  blk_simp
  rw [after0_20]
  obtain ⟨i, e, rfl⟩ : ∃ i e, y = ix2 (i : Fin 256) (e : Fin 128) := ⟨_, _, ValueIdx.eq_ix2 y⟩
  have h := (out_facts t).2.2.2.2.2.2.2.2.2.1
  have h0 := congrFun h 0
  have h1 := congrFun h 1
  refine (block20 m c t i e).trans (congrArg (G20 m c) (funext fun a => Fin.ext ?_))
  match a with
  | ⟨0, _⟩ => show 256 * t.val + i.val = win0_20.index t 0 * 256 + 1 * i.val; rw [h0]; show _ = t.val * 256 + 1 * i.val; omega
  | ⟨1, _⟩ => show e.val = win0_20.index t 1 * 128 + 1 * e.val; rw [h1]; show _ = 0 * 128 + 1 * e.val; omega

theorem final21 : (dats m 0 c).arrAt 21 cfg0.N = G21 m c := by
  refine (dats m 0 c).arrAt_eq_of_covers 21 _ (by decide +kernel) fun t hfl y => ?_
  blk_simp
  rw [after0_21]
  obtain ⟨i, e, rfl⟩ : ∃ i e, y = ix2 (i : Fin 256) (e : Fin 1024) := ⟨_, _, ValueIdx.eq_ix2 y⟩
  have h := (out_facts t).2.2.2.2.2.2.2.2.2.2.1
  have h0 := congrFun h 0
  have h1 := congrFun h 1
  refine (block21 m c t i e).trans (congrArg (G21 m c) (funext fun a => Fin.ext ?_))
  match a with
  | ⟨0, _⟩ => show 256 * t.val + i.val = win0_21.index t 0 * 256 + 1 * i.val; rw [h0]; show _ = t.val * 256 + 1 * i.val; omega
  | ⟨1, _⟩ => show e.val = win0_21.index t 1 * 1024 + 1 * e.val; rw [h1]; show _ = 0 * 1024 + 1 * e.val; omega

theorem final22 : (dats m 0 c).arrAt 22 cfg0.N = G22 m c := by
  refine (dats m 0 c).arrAt_eq_of_covers 22 _ (by decide +kernel) fun t hfl y => ?_
  blk_simp
  rw [after0_22]
  obtain ⟨i, e, rfl⟩ : ∃ i e, y = ix2 (i : Fin 256) (e : Fin 1024) := ⟨_, _, ValueIdx.eq_ix2 y⟩
  have h := (out_facts t).2.2.2.2.2.2.2.2.2.2.2.1
  have h0 := congrFun h 0
  have h1 := congrFun h 1
  refine (block22 m c t i e).trans (congrArg (G22 m c) (funext fun a => Fin.ext ?_))
  match a with
  | ⟨0, _⟩ => show 256 * t.val + i.val = win0_22.index t 0 * 256 + 1 * i.val; rw [h0]; show _ = t.val * 256 + 1 * i.val; omega
  | ⟨1, _⟩ => show e.val = win0_22.index t 1 * 1024 + 1 * e.val; rw [h1]; show _ = 0 * 1024 + 1 * e.val; omega

theorem final23 (hf : Fine m c) : (dats m 0 c).arrAt 23 cfg0.N = G23 m c := by
  refine (dats m 0 c).arrAt_eq_of_covers 23 _ (by decide +kernel) fun t hfl y => ?_
  blk_simp
  rw [after0_23]
  obtain ⟨i, e, rfl⟩ : ∃ i e, y = ix2 (i : Fin 256) (e : Fin 128) := ⟨_, _, ValueIdx.eq_ix2 y⟩
  have h := (out_facts t).2.2.2.2.2.2.2.2.2.2.2.2.1
  have h0 := congrFun h 0
  have h1 := congrFun h 1
  refine (block23 m c hf t i e).trans (congrArg (G23 m c) (funext fun a => Fin.ext ?_))
  match a with
  | ⟨0, _⟩ => show 256 * t.val + i.val = win0_23.index t 0 * 256 + 1 * i.val; rw [h0]; show _ = t.val * 256 + 1 * i.val; omega
  | ⟨1, _⟩ => show e.val = win0_23.index t 1 * 128 + 1 * e.val; rw [h1]; show _ = 0 * 128 + 1 * e.val; omega

theorem final24 : (dats m 0 c).arrAt 24 cfg0.N = G24 m c := by
  refine (dats m 0 c).arrAt_eq_of_covers 24 _ (by decide +kernel) fun t hfl y => ?_
  blk_simp
  rw [after0_24]
  obtain ⟨i, e, rfl⟩ : ∃ i e, y = ix2 (i : Fin 256) (e : Fin 128) := ⟨_, _, ValueIdx.eq_ix2 y⟩
  have h := (out_facts t).2.2.2.2.2.2.2.2.2.2.2.2.2.1
  have h0 := congrFun h 0
  have h1 := congrFun h 1
  refine (block24 m c t i e).trans (congrArg (G24 m c) (funext fun a => Fin.ext ?_))
  match a with
  | ⟨0, _⟩ => show 256 * t.val + i.val = win0_24.index t 0 * 256 + 1 * i.val; rw [h0]; show _ = t.val * 256 + 1 * i.val; omega
  | ⟨1, _⟩ => show e.val = win0_24.index t 1 * 128 + 1 * e.val; rw [h1]; show _ = 0 * 128 + 1 * e.val; omega

theorem final25 : (dats m 0 c).arrAt 25 cfg0.N = G25 m c := by
  refine (dats m 0 c).arrAt_eq_of_covers 25 _ (by decide +kernel) fun t hfl y => ?_
  blk_simp
  rw [after0_25]
  obtain ⟨i, e, rfl⟩ : ∃ i e, y = ix2 (i : Fin 256) (e : Fin 64) := ⟨_, _, ValueIdx.eq_ix2 y⟩
  have h := (out_facts t).2.2.2.2.2.2.2.2.2.2.2.2.2.2.1
  have h0 := congrFun h 0
  have h1 := congrFun h 1
  refine (block25 m c t i e).trans (congrArg (G25 m c) (funext fun a => Fin.ext ?_))
  match a with
  | ⟨0, _⟩ => show 256 * t.val + i.val = win0_25.index t 0 * 256 + 1 * i.val; rw [h0]; show _ = t.val * 256 + 1 * i.val; omega
  | ⟨1, _⟩ => show e.val = win0_25.index t 1 * 64 + 1 * e.val; rw [h1]; show _ = 0 * 64 + 1 * e.val; omega

theorem final26 : (dats m 0 c).arrAt 26 cfg0.N = G26 m c := by
  refine (dats m 0 c).arrAt_eq_of_covers 26 _ (by decide +kernel) fun t hfl y => ?_
  blk_simp
  rw [after0_26]
  obtain ⟨i, e, rfl⟩ : ∃ i e, y = ix2 (i : Fin 256) (e : Fin 128) := ⟨_, _, ValueIdx.eq_ix2 y⟩
  have h := (out_facts t).2.2.2.2.2.2.2.2.2.2.2.2.2.2.2
  have h0 := congrFun h 0
  have h1 := congrFun h 1
  refine (block26 m c t i e).trans (congrArg (G26 m c) (funext fun a => Fin.ext ?_))
  match a with
  | ⟨0, _⟩ => show 256 * t.val + i.val = win0_26.index t 0 * 256 + 1 * i.val; rw [h0]; show _ = t.val * 256 + 1 * i.val; omega
  | ⟨1, _⟩ => show e.val = win0_26.index t 1 * 128 + 1 * e.val; rw [h1]; show _ = 0 * 128 + 1 * e.val; omega

end Cert.Projecting.Sample

end
end
-- ==== Proof.SProjClaim.lean ====
module

public import proofs.«01_k».proof.Defs
public import proofs.«01_k».proof.Proof.SProjFinal
public import proofs.«01_k».proof.Proof.ProjClaim
public import proofs.«01_k».proof.Proof.Gen.InprojSampleReferenceIdeal.Run
public import proofs.«01_k».proof.Proof.Gen.Pre_inproj_sample_finite

@[expose] public section

set_option maxRecDepth 16384

noncomputable section

namespace Cert.Projecting.Sample

open Idealize.ShloMosaic Idealize.ShloMosaic.TcCoe Idealize.SL.Sem

/-- The precondition at one row and column. -/
theorem pre_read [Cert.Pre_inproj_sample_finite.Facts] (a0 : Vec Ideal Cert.InprojSampleIdeal.S128x8x1024 .f32) (a1 : Vec Ideal Cert.InprojSampleIdeal.S2x1024 .f32)
    (a2 : Vec Ideal Cert.InprojSampleIdeal.S2x1024x5700 .f32) (a3 a4 : Vec Ideal Cert.InprojSampleIdeal.S2x64 .f32) (k : Fin 1024) (j : Fin 640) :
    Cert.Pre_inproj_sample_finite.fn (F := Ideal) a0 a1 a2 a3 a4 (ix2 k j)
      = IntOp.andi (BitVec.ofBool (decide (a1 (ix2 0 k) - a1 (ix2 0 k) = Ideal.ofBits FTy.f32 0#32)))
        (BitVec.ofBool (decide (a2 (ix3 0 k (⟨2048 + j.val, by omega⟩ : Fin 5700)) - a2 (ix3 0 k (⟨2048 + j.val, by omega⟩ : Fin 5700)) = Ideal.ofBits FTy.f32 0#32))) := by
  pointwise [Cert.Pre_inproj_sample_finite.fn]

/-- Under the precondition the gain and the normalised columns are real numbers. -/
theorem fine_of_pre [Cert.Pre_inproj_sample_finite.Facts] (m : (ℓ : Loc Cert.InprojSampleIdeal.nD Cert.InprojSampleIdeal.τ Cert.InprojSampleIdeal.sig) → Buf (Elt Ideal) ℓ)
    (c : Dev Cert.InprojSampleIdeal.nD) (a0 : Vec Ideal Cert.InprojSampleIdeal.S128x8x1024 .f32) (a3 a4 : Vec Ideal Cert.InprojSampleIdeal.S2x64 .f32)
    (h : Cert.Pre_inproj_sample_finite.fn (F := Ideal) a0 (m ((c : Thread Cert.InprojSampleIdeal.nD Cert.InprojSampleIdeal.τ).loc Cert.InprojSampleIdeal.main_arg1))
      (m ((c : Thread Cert.InprojSampleIdeal.nD Cert.InprojSampleIdeal.τ).loc Cert.InprojSampleIdeal.main_arg2)) a3 a4 = fun _ => 1#1) : Fine m c := by
  have e := fun (k : Fin 1024) (j : Fin 640) => bit_and _ _ ((pre_read a0 _ _ a3 a4 k j).symm.trans (congrFun h (ix2 k j)))
  refine ⟨fun k => real_of_test _ (e k 0).1, fun k l h0 h1 => ?_⟩
  have hl : (⟨2048 + (l.val - 2048), by omega⟩ : Fin 5700) = l := Fin.ext (by show 2048 + (l.val - 2048) = l.val; omega)
  have := real_of_test _ (e k ⟨l.val - 2048, by omega⟩).2
  dsimp only at this
  rw [hl] at this
  exact this

/-- The reference of the projection of the sample runs to the end, leaves its arguments unchanged and no semaphore raised. -/
theorem reference_frame : Cert.quiescent_InprojSampleReferenceIdeal := fun m ρ _ =>
  (θ_run Cert.InprojSampleReferenceIdeal.defs _ _).mono (fun r h => ⟨fun c => (h c).2.2.2.2.2.2.2.2.2.2.2.2.2.2.2.2, sem_eq_zero_of_no_sems (by decide) r.2⟩)
    (Cert.InprojSampleReferenceIdeal.Value.run (F := Ideal) m ρ)

set_option maxHeartbeats 2000000 in
/-- The projection of the sample: under the precondition both programs run and leave the same sixteen outputs. -/
theorem algebraic [Cert.Pre_inproj_sample_finite.Facts] : Cert.algebraic_InprojSampleIdeal_InprojSampleReferenceIdeal_pre_inproj_sample_finite := by
  intro m ρ m' ρ' hpre hag
  have hf := fun c => fine_of_pre m c _ _ _ (hpre c)
  refine ⟨fun c => G11 m c, fun c => G12 m c, fun c => G13 m c, fun c => G14 m c, fun c => G15 m c, fun c => G16 m c, fun c => G17 m c, fun c => G18 m c, fun c => G19 m c, fun c => G20 m c, fun c => G21 m c, fun c => G22 m c, fun c => G23 m c, fun c => G24 m c, fun c => G25 m c, fun c => G26 m c,
    (θ_run _ _ _).mono (fun _ h c => ⟨(h c).1.trans (final11 m c), (h c).2.1.trans (final12 m c), (h c).2.2.1.trans (final13 m c), (h c).2.2.2.1.trans (final14 m c), (h c).2.2.2.2.1.trans (final15 m c (hf c)), (h c).2.2.2.2.2.1.trans (final16 m c), (h c).2.2.2.2.2.2.1.trans (final17 m c (hf c)), (h c).2.2.2.2.2.2.2.1.trans (final18 m c), (h c).2.2.2.2.2.2.2.2.1.trans (final19 m c), (h c).2.2.2.2.2.2.2.2.2.1.trans (final20 m c), (h c).2.2.2.2.2.2.2.2.2.2.1.trans (final21 m c), (h c).2.2.2.2.2.2.2.2.2.2.2.1.trans (final22 m c), (h c).2.2.2.2.2.2.2.2.2.2.2.2.1.trans (final23 m c (hf c)), (h c).2.2.2.2.2.2.2.2.2.2.2.2.2.1.trans (final24 m c), (h c).2.2.2.2.2.2.2.2.2.2.2.2.2.2.1.trans (final25 m c), (h c).2.2.2.2.2.2.2.2.2.2.2.2.2.2.2.1.trans (final26 m c), (h c).2.2.2.2.2.2.2.2.2.2.2.2.2.2.2.2⟩) (run_blocks m ρ),
    (θ_run _ _ _).mono (fun _ h c => ?_) (Cert.InprojSampleReferenceIdeal.Value.run m' ρ')⟩
  obtain ⟨a0, a1, a2, a3, a4⟩ := hag c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2.1.trans ?_, (h c).2.2.2.2.2.2.2.2.2.2.2.2.2.1.trans ?_, (h c).2.2.2.2.2.2.2.2.2.2.2.2.2.2.1.trans ?_, (h c).2.2.2.2.2.2.2.2.2.2.2.2.2.2.2.1.trans ?_, (h c).2.2.2.2.2.2.2.2.2.2.2.2.2.2.2.2⟩
  · refine (Cert.InprojSampleReferenceIdeal.Read.val_main_v273_eq _).trans ?_
    show Cert.InprojSampleReferenceIdeal.Read.val_main_v273 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) = G11 m c
    rw [a0, a1, a2]; rfl
  · refine (Cert.InprojSampleReferenceIdeal.Read.val_main_v274_eq _).trans ?_
    show Cert.InprojSampleReferenceIdeal.Read.val_main_v274 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) = G12 m c
    rw [a0, a1, a2]; rfl
  · refine (Cert.InprojSampleReferenceIdeal.Read.val_main_v275_eq _).trans ?_
    show Cert.InprojSampleReferenceIdeal.Read.val_main_v275 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) = G13 m c
    rw [a0, a1, a2]; rfl
  · refine (Cert.InprojSampleReferenceIdeal.Read.val_main_v276_eq _).trans ?_
    show Cert.InprojSampleReferenceIdeal.Read.val_main_v276 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) = G14 m c
    rw [a0, a1, a2]; rfl
  · refine (Cert.InprojSampleReferenceIdeal.Read.val_main_v279_eq _).trans ?_
    show Cert.InprojSampleReferenceIdeal.Read.val_main_v279 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) (m' ((c : Thread Cert.InprojSampleReferenceIdeal.nD Cert.InprojSampleReferenceIdeal.τ).loc Cert.InprojSampleReferenceIdeal.main_arg3)) = G15 m c
    rw [a0, a1, a2, a3]; rfl
  · refine (Cert.InprojSampleReferenceIdeal.Read.val_main_v282_eq _).trans ?_
    show Cert.InprojSampleReferenceIdeal.Read.val_main_v282 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) = G16 m c
    rw [a0, a1, a2]; rfl
  · refine (Cert.InprojSampleReferenceIdeal.Read.val_main_v283_eq _).trans ?_
    show Cert.InprojSampleReferenceIdeal.Read.val_main_v283 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) (m' ((c : Thread Cert.InprojSampleReferenceIdeal.nD Cert.InprojSampleReferenceIdeal.τ).loc Cert.InprojSampleReferenceIdeal.main_arg4)) = G17 m c
    rw [a0, a1, a2, a4]; rfl
  · refine (Cert.InprojSampleReferenceIdeal.Read.val_main_v284_eq _).trans ?_
    show Cert.InprojSampleReferenceIdeal.Read.val_main_v284 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) = G18 m c
    rw [a0, a1, a2]; rfl
  · refine (Cert.InprojSampleReferenceIdeal.Read.val_main_v285_eq _).trans ?_
    show Cert.InprojSampleReferenceIdeal.Read.val_main_v285 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) = G19 m c
    rw [a0, a1, a2]; rfl
  · refine (Cert.InprojSampleReferenceIdeal.Read.val_main_v287_eq _).trans ?_
    show Cert.InprojSampleReferenceIdeal.Read.val_main_v287 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) = G20 m c
    rw [a0, a1, a2]; rfl
  · refine (Cert.InprojSampleReferenceIdeal.Read.val_main_v288_eq _).trans ?_
    show Cert.InprojSampleReferenceIdeal.Read.val_main_v288 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) = G21 m c
    rw [a0, a1, a2]; rfl
  · refine (Cert.InprojSampleReferenceIdeal.Read.val_main_v289_eq _).trans ?_
    show Cert.InprojSampleReferenceIdeal.Read.val_main_v289 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) = G22 m c
    rw [a0, a1, a2]; rfl
  · refine (Cert.InprojSampleReferenceIdeal.Read.val_main_v267_eq _).trans ?_
    show Cert.InprojSampleReferenceIdeal.Read.val_main_v267 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) (m' ((c : Thread Cert.InprojSampleReferenceIdeal.nD Cert.InprojSampleReferenceIdeal.τ).loc Cert.InprojSampleReferenceIdeal.main_arg4)) = G23 m c
    rw [a0, a1, a2, a4]; rfl
  · refine (Cert.InprojSampleReferenceIdeal.Read.val_main_v268_eq _).trans ?_
    show Cert.InprojSampleReferenceIdeal.Read.val_main_v268 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) = G24 m c
    rw [a0, a1, a2]; rfl
  · refine (Cert.InprojSampleReferenceIdeal.Read.val_main_v269_eq _).trans ?_
    show Cert.InprojSampleReferenceIdeal.Read.val_main_v269 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) = G25 m c
    rw [a0, a1, a2]; rfl
  · refine (Cert.InprojSampleReferenceIdeal.Read.val_main_v291_eq _).trans ?_
    show Cert.InprojSampleReferenceIdeal.Read.val_main_v291 (F := Ideal) (m' ((c : Thread Cert.InprojSampleReferenceIdeal.nD Cert.InprojSampleReferenceIdeal.τ).loc Cert.InprojSampleReferenceIdeal.main_arg0)) (m' ((c : Thread Cert.InprojSampleReferenceIdeal.nD Cert.InprojSampleReferenceIdeal.τ).loc Cert.InprojSampleReferenceIdeal.main_arg1)) (m' ((c : Thread Cert.InprojSampleReferenceIdeal.nD Cert.InprojSampleReferenceIdeal.τ).loc Cert.InprojSampleReferenceIdeal.main_arg2)) = G26 m c
    rw [a0, a1, a2]; rfl

end Cert.Projecting.Sample

end
end
-- ==== Proof.RetHead.lean ====
module

public import proofs.«01_k».proof.Proof.Gen.KernelIdeal.Value
public import Idealize.ShloMosaic.Lib.Pointwise

@[expose] public section

set_option maxRecDepth 16384

noncomputable section

namespace Cert.Retention

open Cert.KernelIdeal Cert.KernelIdeal.Gen
open Idealize.ShloMosaic Idealize.ShloMosaic.TcCoe Idealize.SL.Sem

/-- One head's new state block from its keys, values, old state and decay factors. -/
def headState (k v : Vec Ideal S1x256x128 .bf16) (s : Vec Ideal S1x1x128x128 .f32) (dk : Vec Ideal S256x128 .f32)
    (ds : Vec Ideal S1x128 .f32) : FVec Ideal S1x1x128x128 .f32 :=
  k0_pay7 (k0_pay2 k) (k0_pay3 v) (k0_pay4 s) (k0_pay6 dk) ds

/-- One head's output block before the normalization. -/
def headRaw (q k v : Vec Ideal S1x256x128 .bf16) (s : Vec Ideal S1x1x128x128 .f32) (di : Vec Ideal S1x256x256 .f32)
    (dq : Vec Ideal S256x128 .f32) : FVec Ideal S256x128 .f32 :=
  k0_pay5 q k v s di dq

/-- A head's output block normalized over its lanes and gated. -/
def headGate (o : FVec Ideal S256x128 .f32) (z : Vec Ideal S1x256x128 .bf16) : FVec Ideal S1x256x128 .bf16 :=
  k0_pay8 o z

theorem headState_apply (k v : Vec Ideal S1x256x128 .bf16) (s : Vec Ideal S1x1x128x128 .f32) (dk : Vec Ideal S256x128 .f32)
    (ds : Vec Ideal S1x128 .f32) (d e : Fin 128) :
    headState k v s dk ds (ix4 0 0 d e)
      = s (ix4 0 0 d e) * ds (ix2 0 e) + ∑ c : Fin 256, (k (ix3 0 c d) * dk (ix2 c d)) * v (ix3 0 c e) := by
  unfold headState
  pointwise [k0_pay7, k0_pay2, k0_pay3, k0_pay4, k0_pay6]

theorem headRaw_apply (q k v : Vec Ideal S1x256x128 .bf16) (s : Vec Ideal S1x1x128x128 .f32) (di : Vec Ideal S1x256x256 .f32)
    (dq : Vec Ideal S256x128 .f32) (c : Fin 256) (e : Fin 128) :
    headRaw q k v s di dq (ix2 c e)
      = (∑ s : Fin 256, ((∑ d : Fin 128, q (ix3 0 c d) * k (ix3 0 s d)) * di (ix3 0 c s)) * v (ix3 0 s e))
        + ∑ d : Fin 128, (q (ix3 0 c d) * dq (ix2 c d)) * s (ix4 0 0 d e) := by
  unfold headRaw
  pointwise [k0_pay5, k0_pay2, k0_pay3, k0_pay4]

/-- The mean of the 128 lanes of one row. -/
def rowMean (o : Fin 128 → EReal) : EReal := Ideal.div (∑ x, o x) (Ideal.ofBits FTy.f32 1124073472#32)

/-- One lane of a row normalized over its 128 lanes and gated by `z`. -/
def gated (o : Fin 128 → EReal) (z : EReal) (e : Fin 128) : EReal :=
  (o e - rowMean o) * Ideal.rsqrt (rowMean (fun x => (o x - rowMean o) * (o x - rowMean o)) + Ideal.ofBits FTy.f32 925353388#32)
    * (z * Ideal.logistic z)

theorem headGate_apply (o : FVec Ideal S256x128 .f32) (z : Vec Ideal S1x256x128 .bf16) (c : Fin 256) (e : Fin 128) :
    headGate o z (ix3 0 c e) = gated (fun x => o (ix2 c x)) (z (ix3 0 c e)) e := by
  unfold headGate
  pointwise [k0_pay8]
  rfl

end Cert.Retention

end
-- ==== Proof.RetBlock.lean ====
module

public import proofs.«01_k».proof.Proof.RetHead
public import Idealize.ShloMosaic.Lib.Pipeline.ValueKit

@[expose] public section

set_option maxRecDepth 16384

noncomputable section

namespace Cert.Retention

open Cert.KernelIdeal Cert.KernelIdeal.Gen
open Idealize.ShloMosaic Idealize.ShloMosaic.TcCoe Idealize.SL.Sem

/-- Lane `d` of head `h` among the 512 lanes of a row. -/
def lane (h : Fin 4) (d : Fin 128) : Fin 512 := ⟨128 * h.val + d.val, by omega⟩

/-- The states of all four sequences and heads after a block of 256 positions. -/
def nextState (x1 x2 : Vec Ideal S4x256x512 .bf16) (s : Vec Ideal S4x4x128x128 .f32) (x7 : Vec Ideal S256x512 .f32)
    (x8 : Vec Ideal S1x512 .f32) : Vec Ideal S4x4x128x128 .f32 := fun y =>
  s y * x8 (ix2 0 (lane (y 1) (y 3)))
    + ∑ c : Fin 256, (x1 (ix3 (y 0) c (lane (y 1) (y 2))) * x7 (ix2 c (lane (y 1) (y 2)))) * x2 (ix3 (y 0) c (lane (y 1) (y 3)))

/-- One row of one head's output before the normalization. -/
def rawRow (x0 x1 x2 : Vec Ideal S4x256x512 .bf16) (s : Vec Ideal S4x4x128x128 .f32) (x5 : Vec Ideal S4x256x256 .f32)
    (x6 : Vec Ideal S256x512 .f32) (g h : Fin 4) (c : Fin 256) (e : Fin 128) : EReal :=
  (∑ t : Fin 256, ((∑ d : Fin 128, x0 (ix3 g c (lane h d)) * x1 (ix3 g t (lane h d))) * x5 (ix3 h c t)) * x2 (ix3 g t (lane h e)))
    + ∑ d : Fin 128, (x0 (ix3 g c (lane h d)) * x6 (ix2 c (lane h d))) * s (ix4 g h d e)

/-- The head a lane of the 512 belongs to. -/
def headOf (l : Fin 512) : Fin 4 := ⟨l.val / 128, by omega⟩

/-- A lane's place in its head. -/
def inHead (l : Fin 512) : Fin 128 := ⟨l.val % 128, by omega⟩

/-- The output block of 256 positions from the states before it. -/
def blockOut (x0 x1 x2 x3 : Vec Ideal S4x256x512 .bf16) (s : Vec Ideal S4x4x128x128 .f32) (x5 : Vec Ideal S4x256x256 .f32)
    (x6 : Vec Ideal S256x512 .f32) : Vec Ideal S4x256x512 .bf16 := fun y =>
  gated (rawRow x0 x1 x2 s x5 x6 (y 0) (headOf (y 2)) (y 1)) (x3 y) (inHead (y 2))

theorem state_piece (x1 x2 : Vec Ideal S4x256x512 .bf16) (s : Vec Ideal S4x4x128x128 .f32) (x7 : Vec Ideal S256x512 .f32)
    (x8 : Vec Ideal S1x512 .f32) (g h b : ℕ) (inb1 : ∀ a, (![g, 0, b] : Fin 3 → ℕ) a + S1x256x128.size a ≤ S4x256x512.size a)
    (inb3 : ∀ a, (![g, h, 0, 0] : Fin 4 → ℕ) a + S1x1x128x128.size a ≤ S4x4x128x128.size a)
    (inb7 : ∀ a, (![0, b] : Fin 2 → ℕ) a + S256x128.size a ≤ S256x512.size a)
    (inb8 : ∀ a, (![0, b] : Fin 2 → ℕ) a + S1x128.size a ≤ S1x512.size a) (hb : b = 128 * h)
    (x : S1x1x128x128.Idx) (y : S4x4x128x128.Idx) (h0 : (y 0 : ℕ) = g) (h1 : (y 1 : ℕ) = h) (h2 : (y 2 : ℕ) = x 2)
    (h3 : (y 3 : ℕ) = x 3) :
    headState (View.ld x1 (Rect.unit ![g, 0, b] S1x256x128.size inb1)) (View.ld x2 (Rect.unit ![g, 0, b] S1x256x128.size inb1))
      (View.ld s (Rect.unit ![g, h, 0, 0] S1x1x128x128.size inb3)) (View.ld x7 (Rect.unit ![0, b] S256x128.size inb7))
      (View.ld x8 (Rect.unit ![0, b] S1x128.size inb8)) x = nextState x1 x2 s x7 x8 y := by
  obtain ⟨a0, a1, d, e, rfl⟩ : ∃ a0 a1 d e, x = ix4 (a0 : Fin 1) (a1 : Fin 1) (d : Fin 128) (e : Fin 128) := ⟨_, _, _, _, ValueIdx.eq_ix4 x⟩
  obtain rfl : a0 = 0 := Subsingleton.elim _ _
  obtain rfl : a1 = 0 := Subsingleton.elim _ _
  have h2' : (y 2 : ℕ) = d := h2
  have h3' : (y 3 : ℕ) = e := h3
  rw [headState_apply]
  unfold nextState
  subst hb h0 h1
  have e1 : ∀ (X : Vec Ideal S4x256x512 .bf16) (c : Fin 256) (w u : Fin 128), (u : ℕ) = w → View.ld X (Rect.unit ![(y 0 : ℕ), 0, 128 * (y 1 : ℕ)] S1x256x128.size inb1) (ix3 0 c w)
      = X (ix3 (y 0) c (lane (y 1) u)) := fun X c w u hu => View.ld_unit_apply_of X _ _ inb1 (ix3 0 c w) _ (fun a => by
        fin_cases a
        · simp
        · simp
        · simp [lane, hu])
  have e2 : View.ld s (Rect.unit ![(y 0 : ℕ), (y 1 : ℕ), 0, 0] S1x1x128x128.size inb3) (ix4 0 0 d e) = s y :=
    View.ld_unit_apply_of s _ _ inb3 (ix4 0 0 d e) _ (fun a => by
        fin_cases a
        · simp
        · simp
        · simp [h2']
        · simp [h3'])
  have e3 : ∀ (c : Fin 256) (w u : Fin 128), (u : ℕ) = w → View.ld x7 (Rect.unit ![0, 128 * (y 1 : ℕ)] S256x128.size inb7) (ix2 c w)
      = x7 (ix2 c (lane (y 1) u)) := fun c w u hu => View.ld_unit_apply_of x7 _ _ inb7 (ix2 c w) _ (fun a => by
        fin_cases a
        · simp
        · simp [lane, hu])
  have e4 : ∀ (w u : Fin 128), (u : ℕ) = w → View.ld x8 (Rect.unit ![0, 128 * (y 1 : ℕ)] S1x128.size inb8) (ix2 0 w)
      = x8 (ix2 0 (lane (y 1) u)) := fun w u hu => View.ld_unit_apply_of x8 _ _ inb8 (ix2 0 w) _ (fun a => by
        fin_cases a
        · simp
        · simp [lane, hu])
  rw [e2, e4 e (y 3) h3']
  congr 1
  refine Finset.sum_congr rfl fun c _ => ?_
  rw [e1 x1 c d (y 2) h2', e1 x2 c e (y 3) h3', e3 c d (y 2) h2']

theorem out_piece (x0 x1 x2 x3 : Vec Ideal S4x256x512 .bf16) (s : Vec Ideal S4x4x128x128 .f32) (x5 : Vec Ideal S4x256x256 .f32)
    (x6 : Vec Ideal S256x512 .f32) (g h b : ℕ) (inb1 : ∀ a, (![g, 0, b] : Fin 3 → ℕ) a + S1x256x128.size a ≤ S4x256x512.size a)
    (inb3 : ∀ a, (![g, h, 0, 0] : Fin 4 → ℕ) a + S1x1x128x128.size a ≤ S4x4x128x128.size a)
    (inb5 : ∀ a, (![h, 0, 0] : Fin 3 → ℕ) a + S1x256x256.size a ≤ S4x256x256.size a)
    (inb6 : ∀ a, (![0, b] : Fin 2 → ℕ) a + S256x128.size a ≤ S256x512.size a) (hb : b = 128 * h)
    (x : S1x256x128.Idx) (y : S4x256x512.Idx) (h0 : (y 0 : ℕ) = g) (h1 : (y 1 : ℕ) = x 1) (h2 : (y 2 : ℕ) = b + x 2) :
    headGate (headRaw (View.ld x0 (Rect.unit ![g, 0, b] S1x256x128.size inb1)) (View.ld x1 (Rect.unit ![g, 0, b] S1x256x128.size inb1))
        (View.ld x2 (Rect.unit ![g, 0, b] S1x256x128.size inb1)) (View.ld s (Rect.unit ![g, h, 0, 0] S1x1x128x128.size inb3))
        (View.ld x5 (Rect.unit ![h, 0, 0] S1x256x256.size inb5)) (View.ld x6 (Rect.unit ![0, b] S256x128.size inb6)))
      (View.ld x3 (Rect.unit ![g, 0, b] S1x256x128.size inb1)) x = blockOut x0 x1 x2 x3 s x5 x6 y := by
  obtain ⟨a0, c, e, rfl⟩ : ∃ a0 c e, x = ix3 (a0 : Fin 1) (c : Fin 256) (e : Fin 128) := ⟨_, _, _, ValueIdx.eq_ix3 x⟩
  obtain rfl : a0 = 0 := Subsingleton.elim _ _
  obtain ⟨g', c', l, rfl⟩ : ∃ g' c' l, y = ix3 (g' : Fin 4) (c' : Fin 256) (l : Fin 512) := ⟨_, _, _, ValueIdx.eq_ix3 y⟩
  have h0' : (g' : ℕ) = g := h0
  obtain rfl : c' = c := Fin.ext h1
  have h2' : (l : ℕ) = b + e := h2
  clear h0 h1 h2
  rw [headGate_apply]
  show _ = gated (rawRow x0 x1 x2 s x5 x6 g' (headOf l) c') (x3 (ix3 g' c' l)) (inHead l)
  have hh : (headOf l : ℕ) = h := by show (l : ℕ) / 128 = h; omega
  have hl : inHead l = e := by apply Fin.ext; show (l : ℕ) % 128 = e; omega
  generalize headOf l = h' at hh
  subst hb h0' hh
  have e1 : ∀ (X : Vec Ideal S4x256x512 .bf16) (c : Fin 256) (w : Fin 128), View.ld X (Rect.unit ![(g' : ℕ), 0, 128 * (h' : ℕ)] S1x256x128.size inb1) (ix3 0 c w)
      = X (ix3 g' c (lane h' w)) := fun X c w => View.ld_unit_apply_of X _ _ inb1 (ix3 0 c w) _ (fun a => by
        fin_cases a
        · simp
        · simp
        · simp [lane])
  have e2 : ∀ d w, View.ld s (Rect.unit ![(g' : ℕ), (h' : ℕ), 0, 0] S1x1x128x128.size inb3) (ix4 0 0 d w) = s (ix4 g' h' d w) :=
    fun d w => View.ld_unit_apply_of s _ _ inb3 (ix4 0 0 d w) _ (fun a => by fin_cases a <;> simp)
  have e5 : ∀ u w, View.ld x5 (Rect.unit ![(h' : ℕ), 0, 0] S1x256x256.size inb5) (ix3 0 u w) = x5 (ix3 h' u w) :=
    fun u w => View.ld_unit_apply_of x5 _ _ inb5 (ix3 0 u w) _ (fun a => by fin_cases a <;> simp)
  have e3 : ∀ (c : Fin 256) (w : Fin 128), View.ld x6 (Rect.unit ![0, 128 * (h' : ℕ)] S256x128.size inb6) (ix2 c w)
      = x6 (ix2 c (lane h' w)) := fun c w => View.ld_unit_apply_of x6 _ _ inb6 (ix2 c w) _ (fun a => by
        fin_cases a
        · simp
        · simp [lane])
  obtain rfl : l = lane h' e := Fin.ext h2'
  rw [hl, e1 x3 c' e]
  congr 1
  funext w
  rw [headRaw_apply]
  unfold rawRow
  congr 1
  · refine Finset.sum_congr rfl fun t _ => ?_
    rw [e5, e1 x2]
    congr 2
    refine Finset.sum_congr rfl fun d _ => ?_
    rw [e1 x0, e1 x1]
  · refine Finset.sum_congr rfl fun d _ => ?_
    rw [e1 x0, e3, e2]

end Cert.Retention

end
-- ==== Proof.RetA.lean ====
module

public import Idealize.ShloMosaic.Lib.Pipeline.ReadBack
public import proofs.«01_k».proof.Proof.RetBlock

@[expose] public section

set_option maxRecDepth 16384

noncomputable section

namespace Cert.Retention

open Cert.KernelIdeal Cert.KernelIdeal.Gen
open Idealize.ShloMosaic Idealize.ShloMosaic.TcCoe Idealize.SL.Sem

/-- The state a sweep starts from: the block of initial states the kernel stores into its scratch before the first head. -/
def firstState (x4 : Vec Ideal S1x4x4x128x128 .f32) : Vec Ideal S4x4x128x128 .f32 := k0_pay1 x4

theorem ld_first (x4 : Vec Ideal S1x4x4x128x128 .f32) (inb : ∀ a, (![0, 0, 0, 0, 0] : Fin 5 → ℕ) a + S1x4x4x128x128.size a ≤ S1x4x4x128x128.size a) :
    View.ld x4 (Rect.unit ![0, 0, 0, 0, 0] S1x4x4x128x128.size inb) = x4 :=
  View.ld_unit_zero (by funext a; fin_cases a <;> rfl) inb x4

/-- One head's new state, placed where its store puts it. -/
theorem state_at (x1 x2 : Vec Ideal S4x256x512 .bf16) (s : Vec Ideal S4x4x128x128 .f32) (x7 : Vec Ideal S256x512 .f32) (x8 : Vec Ideal S1x512 .f32)
    (g h b : ℕ) (inb1 : ∀ a, (![g, 0, b] : Fin 3 → ℕ) a + S1x256x128.size a ≤ S4x256x512.size a)
    (inb3 : ∀ a, (![g, h, 0, 0] : Fin 4 → ℕ) a + S1x1x128x128.size a ≤ S4x4x128x128.size a)
    (inb7 : ∀ a, (![0, b] : Fin 2 → ℕ) a + S256x128.size a ≤ S256x512.size a)
    (inb8 : ∀ a, (![0, b] : Fin 2 → ℕ) a + S1x128.size a ≤ S1x512.size a) (hb : b = 128 * h) (x : S1x1x128x128.Idx) :
    headState (View.ld x1 (Rect.unit ![g, 0, b] S1x256x128.size inb1)) (View.ld x2 (Rect.unit ![g, 0, b] S1x256x128.size inb1))
        (View.ld s (Rect.unit ![g, h, 0, 0] S1x1x128x128.size inb3)) (View.ld x7 (Rect.unit ![0, b] S256x128.size inb7))
        (View.ld x8 (Rect.unit ![0, b] S1x128.size inb8)) x
      = nextState x1 x2 s x7 x8 ((Rect.unit (s := S4x4x128x128) ![g, h, 0, 0] S1x1x128x128.size inb3).emb x) := by
  have h0 : (x 0 : ℕ) = 0 := Nat.lt_one_iff.mp (x 0).isLt
  have h1 : (x 1 : ℕ) = 0 := Nat.lt_one_iff.mp (x 1).isLt
  refine state_piece x1 x2 s x7 x8 g h b _ _ _ _ hb x _ ?_ ?_ ?_ ?_
  · rw [Rect.emb_apply]; show g + 1 * (x 0 : ℕ) = g; omega
  · rw [Rect.emb_apply]; show h + 1 * (x 1 : ℕ) = h; omega
  · rw [Rect.emb_apply]; show 0 + 1 * (x 2 : ℕ) = x 2; omega
  · rw [Rect.emb_apply]; show 0 + 1 * (x 3 : ℕ) = x 3; omega

theorem load_0 (c : Dev nD) (arg6 : Memref sig .tc .vmem S1x4x4x128x128 .f32) (harg6 : arg6.IsWhole) (arg13 : Memref sig .tc .vmem S4x4x128x128 .f32)
    (x4 : Vec Ideal S1x4x4x128x128 .f32) :
    kernelRun0_A.sl.v13 (F := Ideal) c arg6 harg6 arg13 x4
      = View.ld (firstState x4) (Rect.unit ![0, 0, 0, 0] S1x1x128x128.size inb_S4x4x128x128_S1x1x128x128_0_0_0_0) := by
  unfold kernelRun0_A.sl.v13 kernelRun0_A.sl.HS0_1

  rw [View.readCov_fill _ _ _ _ _ (fun a => by fin_cases a <;> rfl), View.readAt_eq_ld, harg6.read_unread, ld_first]
  rfl

theorem load_1 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v80 (F := Ideal) c arg3 harg3 arg4 harg4 arg6 harg6 arg9 harg9 arg10 harg10 arg13 x1 x2 x4 x7 x8
      = View.ld (firstState x4) (Rect.unit ![0, 1, 0, 0] S1x1x128x128.size inb_S4x4x128x128_S1x1x128x128_0_1_0_0) := by
  unfold kernelRun0_A.sl.v80 kernelRun0_A.sl.HS0_2 kernelRun0_A.sl.HS0_1
  rw [View.readCov_skip _ _ _ _ _ (by rfl)];
  rw [View.readCov_fill _ _ _ _ _ (fun a => by fin_cases a <;> rfl), View.readAt_eq_ld, harg6.read_unread, ld_first]
  rfl

theorem load_2 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v147 (F := Ideal) c arg3 harg3 arg4 harg4 arg6 harg6 arg9 harg9 arg10 harg10 arg13 x1 x2 x4 x7 x8
      = View.ld (firstState x4) (Rect.unit ![0, 2, 0, 0] S1x1x128x128.size inb_S4x4x128x128_S1x1x128x128_0_2_0_0) := by
  unfold kernelRun0_A.sl.v147 kernelRun0_A.sl.HS0_3 kernelRun0_A.sl.HS0_2 kernelRun0_A.sl.HS0_1
  rw [View.readCov_skip _ _ _ _ _ (by rfl)]; rw [View.readCov_skip _ _ _ _ _ (by rfl)];
  rw [View.readCov_fill _ _ _ _ _ (fun a => by fin_cases a <;> rfl), View.readAt_eq_ld, harg6.read_unread, ld_first]
  rfl

theorem load_3 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v214 (F := Ideal) c arg3 harg3 arg4 harg4 arg6 harg6 arg9 harg9 arg10 harg10 arg13 x1 x2 x4 x7 x8
      = View.ld (firstState x4) (Rect.unit ![0, 3, 0, 0] S1x1x128x128.size inb_S4x4x128x128_S1x1x128x128_0_3_0_0) := by
  unfold kernelRun0_A.sl.v214 kernelRun0_A.sl.HS0_4 kernelRun0_A.sl.HS0_3 kernelRun0_A.sl.HS0_2 kernelRun0_A.sl.HS0_1
  rw [View.readCov_skip _ _ _ _ _ (by rfl)]; rw [View.readCov_skip _ _ _ _ _ (by rfl)]; rw [View.readCov_skip _ _ _ _ _ (by rfl)];
  rw [View.readCov_fill _ _ _ _ _ (fun a => by fin_cases a <;> rfl), View.readAt_eq_ld, harg6.read_unread, ld_first]
  rfl

theorem load_4 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v281 (F := Ideal) c arg3 harg3 arg4 harg4 arg6 harg6 arg9 harg9 arg10 harg10 arg13 x1 x2 x4 x7 x8
      = View.ld (firstState x4) (Rect.unit ![1, 0, 0, 0] S1x1x128x128.size inb_S4x4x128x128_S1x1x128x128_1_0_0_0) := by
  unfold kernelRun0_A.sl.v281 kernelRun0_A.sl.HS0_5 kernelRun0_A.sl.HS0_4 kernelRun0_A.sl.HS0_3 kernelRun0_A.sl.HS0_2 kernelRun0_A.sl.HS0_1
  rw [View.readCov_skip _ _ _ _ _ (by rfl)]; rw [View.readCov_skip _ _ _ _ _ (by rfl)]; rw [View.readCov_skip _ _ _ _ _ (by rfl)]; rw [View.readCov_skip _ _ _ _ _ (by rfl)];
  rw [View.readCov_fill _ _ _ _ _ (fun a => by fin_cases a <;> rfl), View.readAt_eq_ld, harg6.read_unread, ld_first]
  rfl

theorem load_5 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v348 (F := Ideal) c arg3 harg3 arg4 harg4 arg6 harg6 arg9 harg9 arg10 harg10 arg13 x1 x2 x4 x7 x8
      = View.ld (firstState x4) (Rect.unit ![1, 1, 0, 0] S1x1x128x128.size inb_S4x4x128x128_S1x1x128x128_1_1_0_0) := by
  unfold kernelRun0_A.sl.v348 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)];
  rw [View.readCov_fill _ _ _ _ _ (fun a => by fin_cases a <;> rfl), View.readAt_eq_ld, harg6.read_unread, ld_first]
  rfl

theorem load_6 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v415 (F := Ideal) c arg3 harg3 arg4 harg4 arg6 harg6 arg9 harg9 arg10 harg10 arg13 x1 x2 x4 x7 x8
      = View.ld (firstState x4) (Rect.unit ![1, 2, 0, 0] S1x1x128x128.size inb_S4x4x128x128_S1x1x128x128_1_2_0_0) := by
  unfold kernelRun0_A.sl.v415 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)];
  rw [View.readCov_fill _ _ _ _ _ (fun a => by fin_cases a <;> rfl), View.readAt_eq_ld, harg6.read_unread, ld_first]
  rfl

theorem load_7 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v482 (F := Ideal) c arg3 harg3 arg4 harg4 arg6 harg6 arg9 harg9 arg10 harg10 arg13 x1 x2 x4 x7 x8
      = View.ld (firstState x4) (Rect.unit ![1, 3, 0, 0] S1x1x128x128.size inb_S4x4x128x128_S1x1x128x128_1_3_0_0) := by
  unfold kernelRun0_A.sl.v482 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)];
  rw [View.readCov_fill _ _ _ _ _ (fun a => by fin_cases a <;> rfl), View.readAt_eq_ld, harg6.read_unread, ld_first]
  rfl

theorem load_8 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v549 (F := Ideal) c arg3 harg3 arg4 harg4 arg6 harg6 arg9 harg9 arg10 harg10 arg13 x1 x2 x4 x7 x8
      = View.ld (firstState x4) (Rect.unit ![2, 0, 0, 0] S1x1x128x128.size inb_S4x4x128x128_S1x1x128x128_2_0_0_0) := by
  unfold kernelRun0_A.sl.v549 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)];
  rw [View.readCov_fill _ _ _ _ _ (fun a => by fin_cases a <;> rfl), View.readAt_eq_ld, harg6.read_unread, ld_first]
  rfl

theorem load_9 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v616 (F := Ideal) c arg3 harg3 arg4 harg4 arg6 harg6 arg9 harg9 arg10 harg10 arg13 x1 x2 x4 x7 x8
      = View.ld (firstState x4) (Rect.unit ![2, 1, 0, 0] S1x1x128x128.size inb_S4x4x128x128_S1x1x128x128_2_1_0_0) := by
  unfold kernelRun0_A.sl.v616 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)];
  rw [View.readCov_fill _ _ _ _ _ (fun a => by fin_cases a <;> rfl), View.readAt_eq_ld, harg6.read_unread, ld_first]
  rfl

theorem load_10 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v683 (F := Ideal) c arg3 harg3 arg4 harg4 arg6 harg6 arg9 harg9 arg10 harg10 arg13 x1 x2 x4 x7 x8
      = View.ld (firstState x4) (Rect.unit ![2, 2, 0, 0] S1x1x128x128.size inb_S4x4x128x128_S1x1x128x128_2_2_0_0) := by
  unfold kernelRun0_A.sl.v683 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)];
  rw [View.readCov_fill _ _ _ _ _ (fun a => by fin_cases a <;> rfl), View.readAt_eq_ld, harg6.read_unread, ld_first]
  rfl

theorem load_11 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v750 (F := Ideal) c arg3 harg3 arg4 harg4 arg6 harg6 arg9 harg9 arg10 harg10 arg13 x1 x2 x4 x7 x8
      = View.ld (firstState x4) (Rect.unit ![2, 3, 0, 0] S1x1x128x128.size inb_S4x4x128x128_S1x1x128x128_2_3_0_0) := by
  unfold kernelRun0_A.sl.v750 kernelRun0_A.sl.HS0_12 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)];
  rw [View.readCov_fill _ _ _ _ _ (fun a => by fin_cases a <;> rfl), View.readAt_eq_ld, harg6.read_unread, ld_first]
  rfl

theorem load_12 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v817 (F := Ideal) c arg3 harg3 arg4 harg4 arg6 harg6 arg9 harg9 arg10 harg10 arg13 x1 x2 x4 x7 x8
      = View.ld (firstState x4) (Rect.unit ![3, 0, 0, 0] S1x1x128x128.size inb_S4x4x128x128_S1x1x128x128_3_0_0_0) := by
  unfold kernelRun0_A.sl.v817 kernelRun0_A.sl.HS0_13 kernelRun0_A.sl.HS0_12 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)];
  rw [View.readCov_fill _ _ _ _ _ (fun a => by fin_cases a <;> rfl), View.readAt_eq_ld, harg6.read_unread, ld_first]
  rfl

theorem load_13 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v884 (F := Ideal) c arg3 harg3 arg4 harg4 arg6 harg6 arg9 harg9 arg10 harg10 arg13 x1 x2 x4 x7 x8
      = View.ld (firstState x4) (Rect.unit ![3, 1, 0, 0] S1x1x128x128.size inb_S4x4x128x128_S1x1x128x128_3_1_0_0) := by
  unfold kernelRun0_A.sl.v884 kernelRun0_A.sl.HS0_14 kernelRun0_A.sl.HS0_13 kernelRun0_A.sl.HS0_12 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)];
  rw [View.readCov_fill _ _ _ _ _ (fun a => by fin_cases a <;> rfl), View.readAt_eq_ld, harg6.read_unread, ld_first]
  rfl

theorem load_14 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v951 (F := Ideal) c arg3 harg3 arg4 harg4 arg6 harg6 arg9 harg9 arg10 harg10 arg13 x1 x2 x4 x7 x8
      = View.ld (firstState x4) (Rect.unit ![3, 2, 0, 0] S1x1x128x128.size inb_S4x4x128x128_S1x1x128x128_3_2_0_0) := by
  unfold kernelRun0_A.sl.v951 kernelRun0_A.sl.HS0_15 kernelRun0_A.sl.HS0_14 kernelRun0_A.sl.HS0_13 kernelRun0_A.sl.HS0_12 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)];
  rw [View.readCov_fill _ _ _ _ _ (fun a => by fin_cases a <;> rfl), View.readAt_eq_ld, harg6.read_unread, ld_first]
  rfl

theorem load_15 (c : Dev nD) (arg3 : Memref sig .tc .vmem S4x256x512 .bf16) (harg3 : arg3.IsWhole) (arg4 : Memref sig .tc .vmem S4x256x512 .bf16) (harg4 : arg4.IsWhole) (arg6 : Memref sig .tc .vmem S1x4x4x128x128 .f32) (harg6 : arg6.IsWhole) (arg9 : Memref sig .tc .vmem S256x512 .f32) (harg9 : arg9.IsWhole) (arg10 : Memref sig .tc .vmem S1x512 .f32) (harg10 : arg10.IsWhole) (arg13 : Memref sig .tc .vmem S4x4x128x128 .f32)
    (x1 x2 : Vec Ideal S4x256x512 .bf16) (x4 : Vec Ideal S1x4x4x128x128 .f32) (x7 : Vec Ideal S256x512 .f32) (x8 : Vec Ideal S1x512 .f32) :
    kernelRun0_A.sl.v1018 (F := Ideal) c arg3 harg3 arg4 harg4 arg6 harg6 arg9 harg9 arg10 harg10 arg13 x1 x2 x4 x7 x8
      = View.ld (firstState x4) (Rect.unit ![3, 3, 0, 0] S1x1x128x128.size inb_S4x4x128x128_S1x1x128x128_3_3_0_0) := by
  unfold kernelRun0_A.sl.v1018 kernelRun0_A.sl.HS0_16 kernelRun0_A.sl.HS0_15 kernelRun0_A.sl.HS0_14 kernelRun0_A.sl.HS0_13 kernelRun0_A.sl.HS0_12 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)];
  rw [View.readCov_fill _ _ _ _ _ (fun a => by fin_cases a <;> rfl), View.readAt_eq_ld, harg6.read_unread, ld_first]
  rfl

theorem sout_A (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S1x4x4x128x128 .f32) (harg6 : arg6.IsWhole) (arg7 : Memref sig .tc .vmem S4x256x256 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S1x512 .f32) (harg10 : arg10.IsWhole) (arg11 : Memref sig .tc .vmem S4x256x512 .bf16) (harg11 : arg11.IsWhole) (arg12 : Memref sig .tc .vmem S4x4x128x128 .f32) (harg12 : arg12.IsWhole) (arg13 : Memref sig .tc .vmem S4x4x128x128 .f32) (harg13 : arg13.IsWhole) (hc0 : cond0_0 i) (hc1 : ¬cond0_1 i)
    (x0 x1 x2 x3 : Vec Ideal S4x256x512 .bf16) (x4 : Vec Ideal S1x4x4x128x128 .f32) (x5 : Vec Ideal S4x256x256 .f32) (x6 x7 : Vec Ideal S256x512 .f32) (x8 : Vec Ideal S1x512 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = nextState x1 x2 (firstState x4) x7 x8 := by
  funext y
  unfold sout0_A_0
  rw [View.read_writes_junk_eq_canon]
  unfold kernelRun0_A
  dsimp only
  simp only [kernelRun0_A.sl.HS0_16, kernelRun0_A.sl.HS0_15, kernelRun0_A.sl.HS0_14, kernelRun0_A.sl.HS0_13, kernelRun0_A.sl.HS0_12, kernelRun0_A.sl.HS0_11, kernelRun0_A.sl.HS0_10, kernelRun0_A.sl.HS0_9, kernelRun0_A.sl.HS0_8, kernelRun0_A.sl.HS0_7, kernelRun0_A.sl.HS0_6, kernelRun0_A.sl.HS0_5, kernelRun0_A.sl.HS0_4, kernelRun0_A.sl.HS0_3, kernelRun0_A.sl.HS0_2, kernelRun0_A.sl.HS0_1]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.cst_63, load_0, load_1, load_2, load_3, load_4, load_5, load_6, load_7, load_8, load_9, load_10, load_11, load_12, load_13, load_14, load_15, View.readAt_eq_ld, harg2.read_unread, harg3.read_unread, harg4.read_unread, harg5.read_unread, harg6.read_unread, harg7.read_unread, harg8.read_unread, harg9.read_unread, harg10.read_unread, harg13.read_unread]
  refine View.canon_append_of_piecesOf (nextState x1 x2 (firstState x4) x7 x8) [_] [_, _, _, _, _, _, _, _, _, _, _, _, _, _, _, _] ?_ y ?_
  · refine ⟨fun x => state_at x1 x2 _ x7 x8 3 3 384 _ _ _ _ rfl x, fun x => state_at x1 x2 _ x7 x8 3 2 256 _ _ _ _ rfl x, fun x => state_at x1 x2 _ x7 x8 3 1 128 _ _ _ _ rfl x, fun x => state_at x1 x2 _ x7 x8 3 0 0 _ _ _ _ rfl x, fun x => state_at x1 x2 _ x7 x8 2 3 384 _ _ _ _ rfl x, fun x => state_at x1 x2 _ x7 x8 2 2 256 _ _ _ _ rfl x, fun x => state_at x1 x2 _ x7 x8 2 1 128 _ _ _ _ rfl x, fun x => state_at x1 x2 _ x7 x8 2 0 0 _ _ _ _ rfl x, fun x => state_at x1 x2 _ x7 x8 1 3 384 _ _ _ _ rfl x, fun x => state_at x1 x2 _ x7 x8 1 2 256 _ _ _ _ rfl x, fun x => state_at x1 x2 _ x7 x8 1 1 128 _ _ _ _ rfl x, fun x => state_at x1 x2 _ x7 x8 1 0 0 _ _ _ _ rfl x, fun x => state_at x1 x2 _ x7 x8 0 3 384 _ _ _ _ rfl x, fun x => state_at x1 x2 _ x7 x8 0 2 256 _ _ _ _ rfl x, fun x => state_at x1 x2 _ x7 x8 0 1 128 _ _ _ _ rfl x, fun x => state_at x1 x2 _ x7 x8 0 0 0 _ _ _ _ rfl x, trivial⟩
  · exact View.cover_of_tiledL (s := S4x4x128x128) _ S1x1x128x128.size (by sl_kernel_rfl) y

theorem out_A (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S1x4x4x128x128 .f32) (harg6 : arg6.IsWhole) (arg7 : Memref sig .tc .vmem S4x256x256 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S1x512 .f32) (harg10 : arg10.IsWhole) (arg11 : Memref sig .tc .vmem S4x256x512 .bf16) (harg11 : arg11.IsWhole) (arg12 : Memref sig .tc .vmem S4x4x128x128 .f32) (harg12 : arg12.IsWhole) (arg13 : Memref sig .tc .vmem S4x4x128x128 .f32) (harg13 : arg13.IsWhole) (hc0 : cond0_0 i) (hc1 : ¬cond0_1 i)
    (x0 x1 x2 x3 : Vec Ideal S4x256x512 .bf16) (x4 : Vec Ideal S1x4x4x128x128 .f32) (x5 : Vec Ideal S4x256x256 .f32) (x6 x7 : Vec Ideal S256x512 .f32) (x8 : Vec Ideal S1x512 .f32) :
    out0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = blockOut x0 x1 x2 x3 (firstState x4) x5 x6 := by
  funext y
  unfold out0_A_9
  rw [View.read_writes_junk_eq_canon]
  have hcov := cover0_A_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 y
  revert hcov
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.cst_63, load_0, load_1, load_2, load_3, load_4, load_5, load_6, load_7, load_8, load_9, load_10, load_11, load_12, load_13, load_14, load_15, View.readAt_eq_ld, harg2.read_unread, harg3.read_unread, harg4.read_unread, harg5.read_unread, harg6.read_unread, harg7.read_unread, harg8.read_unread, harg9.read_unread, harg10.read_unread, harg13.read_unread]
  intro hcov
  canon_tiles x hx using hcov
  case piece0 => exact out_piece x0 x1 x2 x3 (firstState x4) x5 x6 3 3 384 _ _ _ _ rfl x y (by omega) (by omega) (by omega)
  case piece1 => exact out_piece x0 x1 x2 x3 (firstState x4) x5 x6 3 2 256 _ _ _ _ rfl x y (by omega) (by omega) (by omega)
  case piece2 => exact out_piece x0 x1 x2 x3 (firstState x4) x5 x6 3 1 128 _ _ _ _ rfl x y (by omega) (by omega) (by omega)
  case piece3 => exact out_piece x0 x1 x2 x3 (firstState x4) x5 x6 3 0 0 _ _ _ _ rfl x y (by omega) (by omega) (by omega)
  case piece4 => exact out_piece x0 x1 x2 x3 (firstState x4) x5 x6 2 3 384 _ _ _ _ rfl x y (by omega) (by omega) (by omega)
  case piece5 => exact out_piece x0 x1 x2 x3 (firstState x4) x5 x6 2 2 256 _ _ _ _ rfl x y (by omega) (by omega) (by omega)
  case piece6 => exact out_piece x0 x1 x2 x3 (firstState x4) x5 x6 2 1 128 _ _ _ _ rfl x y (by omega) (by omega) (by omega)
  case piece7 => exact out_piece x0 x1 x2 x3 (firstState x4) x5 x6 2 0 0 _ _ _ _ rfl x y (by omega) (by omega) (by omega)
  case piece8 => exact out_piece x0 x1 x2 x3 (firstState x4) x5 x6 1 3 384 _ _ _ _ rfl x y (by omega) (by omega) (by omega)
  case piece9 => exact out_piece x0 x1 x2 x3 (firstState x4) x5 x6 1 2 256 _ _ _ _ rfl x y (by omega) (by omega) (by omega)
  case piece10 => exact out_piece x0 x1 x2 x3 (firstState x4) x5 x6 1 1 128 _ _ _ _ rfl x y (by omega) (by omega) (by omega)
  case piece11 => exact out_piece x0 x1 x2 x3 (firstState x4) x5 x6 1 0 0 _ _ _ _ rfl x y (by omega) (by omega) (by omega)
  case piece12 => exact out_piece x0 x1 x2 x3 (firstState x4) x5 x6 0 3 384 _ _ _ _ rfl x y (by omega) (by omega) (by omega)
  case piece13 => exact out_piece x0 x1 x2 x3 (firstState x4) x5 x6 0 2 256 _ _ _ _ rfl x y (by omega) (by omega) (by omega)
  case piece14 => exact out_piece x0 x1 x2 x3 (firstState x4) x5 x6 0 1 128 _ _ _ _ rfl x y (by omega) (by omega) (by omega)
  case piece15 => exact out_piece x0 x1 x2 x3 (firstState x4) x5 x6 0 0 0 _ _ _ _ rfl x y (by omega) (by omega) (by omega)

end Cert.Retention

end
-- ==== Proof.RetC.lean ====
module

public import proofs.«01_k».proof.Proof.RetBlock

@[expose] public section

set_option maxRecDepth 16384

noncomputable section

namespace Cert.Retention

open Cert.KernelIdeal Cert.KernelIdeal.Gen
open Idealize.ShloMosaic Idealize.ShloMosaic.TcCoe Idealize.SL.Sem

theorem sout_C (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S1x4x4x128x128 .f32) (harg6 : arg6.IsWhole) (arg7 : Memref sig .tc .vmem S4x256x256 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S1x512 .f32) (harg10 : arg10.IsWhole) (arg11 : Memref sig .tc .vmem S4x256x512 .bf16) (harg11 : arg11.IsWhole) (arg12 : Memref sig .tc .vmem S4x4x128x128 .f32) (harg12 : arg12.IsWhole) (arg13 : Memref sig .tc .vmem S4x4x128x128 .f32) (harg13 : arg13.IsWhole) (hc0 : ¬cond0_0 i) (hc1 : cond0_1 i)
    (x0 x1 x2 x3 : Vec Ideal S4x256x512 .bf16) (x4 : Vec Ideal S1x4x4x128x128 .f32) (x5 : Vec Ideal S4x256x256 .f32) (x6 x7 : Vec Ideal S256x512 .f32) (x8 : Vec Ideal S1x512 .f32) (xs0 : Vec Ideal S4x4x128x128 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = nextState x1 x2 xs0 x7 x8 := by
  funext y
  unfold sout0_C_0
  rw [View.read_writes_junk_eq_canon]
  have hcov := scover0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 y
  revert hcov
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg13.read_unread]
  intro hcov
  canon_tiles x hx using hcov
  case piece0 => exact state_piece x1 x2 xs0 x7 x8 3 3 384 _ _ _ _ rfl x y (by omega) (by omega) (by omega) (by omega)
  case piece1 => exact state_piece x1 x2 xs0 x7 x8 3 2 256 _ _ _ _ rfl x y (by omega) (by omega) (by omega) (by omega)
  case piece2 => exact state_piece x1 x2 xs0 x7 x8 3 1 128 _ _ _ _ rfl x y (by omega) (by omega) (by omega) (by omega)
  case piece3 => exact state_piece x1 x2 xs0 x7 x8 3 0 0 _ _ _ _ rfl x y (by omega) (by omega) (by omega) (by omega)
  case piece4 => exact state_piece x1 x2 xs0 x7 x8 2 3 384 _ _ _ _ rfl x y (by omega) (by omega) (by omega) (by omega)
  case piece5 => exact state_piece x1 x2 xs0 x7 x8 2 2 256 _ _ _ _ rfl x y (by omega) (by omega) (by omega) (by omega)
  case piece6 => exact state_piece x1 x2 xs0 x7 x8 2 1 128 _ _ _ _ rfl x y (by omega) (by omega) (by omega) (by omega)
  case piece7 => exact state_piece x1 x2 xs0 x7 x8 2 0 0 _ _ _ _ rfl x y (by omega) (by omega) (by omega) (by omega)
  case piece8 => exact state_piece x1 x2 xs0 x7 x8 1 3 384 _ _ _ _ rfl x y (by omega) (by omega) (by omega) (by omega)
  case piece9 => exact state_piece x1 x2 xs0 x7 x8 1 2 256 _ _ _ _ rfl x y (by omega) (by omega) (by omega) (by omega)
  case piece10 => exact state_piece x1 x2 xs0 x7 x8 1 1 128 _ _ _ _ rfl x y (by omega) (by omega) (by omega) (by omega)
  case piece11 => exact state_piece x1 x2 xs0 x7 x8 1 0 0 _ _ _ _ rfl x y (by omega) (by omega) (by omega) (by omega)
  case piece12 => exact state_piece x1 x2 xs0 x7 x8 0 3 384 _ _ _ _ rfl x y (by omega) (by omega) (by omega) (by omega)
  case piece13 => exact state_piece x1 x2 xs0 x7 x8 0 2 256 _ _ _ _ rfl x y (by omega) (by omega) (by omega) (by omega)
  case piece14 => exact state_piece x1 x2 xs0 x7 x8 0 1 128 _ _ _ _ rfl x y (by omega) (by omega) (by omega) (by omega)
  case piece15 => exact state_piece x1 x2 xs0 x7 x8 0 0 0 _ _ _ _ rfl x y (by omega) (by omega) (by omega) (by omega)

theorem out_C (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S1x4x4x128x128 .f32) (harg6 : arg6.IsWhole) (arg7 : Memref sig .tc .vmem S4x256x256 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S1x512 .f32) (harg10 : arg10.IsWhole) (arg11 : Memref sig .tc .vmem S4x256x512 .bf16) (harg11 : arg11.IsWhole) (arg12 : Memref sig .tc .vmem S4x4x128x128 .f32) (harg12 : arg12.IsWhole) (arg13 : Memref sig .tc .vmem S4x4x128x128 .f32) (harg13 : arg13.IsWhole) (hc0 : ¬cond0_0 i) (hc1 : cond0_1 i)
    (x0 x1 x2 x3 : Vec Ideal S4x256x512 .bf16) (x4 : Vec Ideal S1x4x4x128x128 .f32) (x5 : Vec Ideal S4x256x256 .f32) (x6 x7 : Vec Ideal S256x512 .f32) (x8 : Vec Ideal S1x512 .f32) (xs0 : Vec Ideal S4x4x128x128 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = blockOut x0 x1 x2 x3 xs0 x5 x6 := by
  funext y
  unfold out0_C_9
  rw [View.read_writes_junk_eq_canon]
  have hcov := cover0_C_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 y
  revert hcov
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg13.read_unread]
  intro hcov
  canon_tiles x hx using hcov
  case piece0 => exact out_piece x0 x1 x2 x3 xs0 x5 x6 3 3 384 _ _ _ _ rfl x y (by omega) (by omega) (by omega)
  case piece1 => exact out_piece x0 x1 x2 x3 xs0 x5 x6 3 2 256 _ _ _ _ rfl x y (by omega) (by omega) (by omega)
  case piece2 => exact out_piece x0 x1 x2 x3 xs0 x5 x6 3 1 128 _ _ _ _ rfl x y (by omega) (by omega) (by omega)
  case piece3 => exact out_piece x0 x1 x2 x3 xs0 x5 x6 3 0 0 _ _ _ _ rfl x y (by omega) (by omega) (by omega)
  case piece4 => exact out_piece x0 x1 x2 x3 xs0 x5 x6 2 3 384 _ _ _ _ rfl x y (by omega) (by omega) (by omega)
  case piece5 => exact out_piece x0 x1 x2 x3 xs0 x5 x6 2 2 256 _ _ _ _ rfl x y (by omega) (by omega) (by omega)
  case piece6 => exact out_piece x0 x1 x2 x3 xs0 x5 x6 2 1 128 _ _ _ _ rfl x y (by omega) (by omega) (by omega)
  case piece7 => exact out_piece x0 x1 x2 x3 xs0 x5 x6 2 0 0 _ _ _ _ rfl x y (by omega) (by omega) (by omega)
  case piece8 => exact out_piece x0 x1 x2 x3 xs0 x5 x6 1 3 384 _ _ _ _ rfl x y (by omega) (by omega) (by omega)
  case piece9 => exact out_piece x0 x1 x2 x3 xs0 x5 x6 1 2 256 _ _ _ _ rfl x y (by omega) (by omega) (by omega)
  case piece10 => exact out_piece x0 x1 x2 x3 xs0 x5 x6 1 1 128 _ _ _ _ rfl x y (by omega) (by omega) (by omega)
  case piece11 => exact out_piece x0 x1 x2 x3 xs0 x5 x6 1 0 0 _ _ _ _ rfl x y (by omega) (by omega) (by omega)
  case piece12 => exact out_piece x0 x1 x2 x3 xs0 x5 x6 0 3 384 _ _ _ _ rfl x y (by omega) (by omega) (by omega)
  case piece13 => exact out_piece x0 x1 x2 x3 xs0 x5 x6 0 2 256 _ _ _ _ rfl x y (by omega) (by omega) (by omega)
  case piece14 => exact out_piece x0 x1 x2 x3 xs0 x5 x6 0 1 128 _ _ _ _ rfl x y (by omega) (by omega) (by omega)
  case piece15 => exact out_piece x0 x1 x2 x3 xs0 x5 x6 0 0 0 _ _ _ _ rfl x y (by omega) (by omega) (by omega)

theorem final_C (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S1x4x4x128x128 .f32) (harg6 : arg6.IsWhole) (arg7 : Memref sig .tc .vmem S4x256x256 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S1x512 .f32) (harg10 : arg10.IsWhole) (arg11 : Memref sig .tc .vmem S4x256x512 .bf16) (harg11 : arg11.IsWhole) (arg12 : Memref sig .tc .vmem S4x4x128x128 .f32) (harg12 : arg12.IsWhole) (arg13 : Memref sig .tc .vmem S4x4x128x128 .f32) (harg13 : arg13.IsWhole) (hc0 : ¬cond0_0 i) (hc1 : cond0_1 i)
    (x0 x1 x2 x3 : Vec Ideal S4x256x512 .bf16) (x4 : Vec Ideal S1x4x4x128x128 .f32) (x5 : Vec Ideal S4x256x256 .f32) (x6 x7 : Vec Ideal S256x512 .f32) (x8 : Vec Ideal S1x512 .f32) (xs0 : Vec Ideal S4x4x128x128 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = nextState x1 x2 xs0 x7 x8 := by
  rw [← sout_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0]
  unfold out0_C_10 sout0_C_0
  funext y
  rw [View.read_writes_junk_eq_canon, View.read_writes_junk_eq_canon]
  unfold kernelRun0_C
  dsimp only
  rw [View.canon_unit_zero (S := S4x4x128x128) (off := ![0, 0, 0, 0]) (by funext a; fin_cases a <;> rfl)]
  unfold kernelRun0_C.sl.v1078
  rw [View.readCov_eq_canon']
  exact congrFun (View.ld_unit_zero (S := S4x4x128x128) (off := ![0, 0, 0, 0]) (by funext a; fin_cases a <;> rfl) inb_S4x4x128x128_S4x4x128x128_0_0_0_0 (View.canon _)) y

end Cert.Retention

end
-- ==== Proof.RetB.lean ====
module

public import proofs.«01_k».proof.Proof.RetBlock

@[expose] public section

set_option maxRecDepth 16384

noncomputable section

namespace Cert.Retention

open Cert.KernelIdeal Cert.KernelIdeal.Gen
open Idealize.ShloMosaic Idealize.ShloMosaic.TcCoe Idealize.SL.Sem

theorem sout_B (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S1x4x4x128x128 .f32) (harg6 : arg6.IsWhole) (arg7 : Memref sig .tc .vmem S4x256x256 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S1x512 .f32) (harg10 : arg10.IsWhole) (arg11 : Memref sig .tc .vmem S4x256x512 .bf16) (harg11 : arg11.IsWhole) (arg12 : Memref sig .tc .vmem S4x4x128x128 .f32) (harg12 : arg12.IsWhole) (arg13 : Memref sig .tc .vmem S4x4x128x128 .f32) (harg13 : arg13.IsWhole) (hc0 : ¬cond0_0 i) (hc1 : ¬cond0_1 i)
    (x0 x1 x2 x3 : Vec Ideal S4x256x512 .bf16) (x4 : Vec Ideal S1x4x4x128x128 .f32) (x5 : Vec Ideal S4x256x256 .f32) (x6 x7 : Vec Ideal S256x512 .f32) (x8 : Vec Ideal S1x512 .f32) (xs0 : Vec Ideal S4x4x128x128 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = nextState x1 x2 xs0 x7 x8 := by
  funext y
  unfold sout0_B_0
  rw [View.read_writes_junk_eq_canon]
  have hcov := scover0_B_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 y
  revert hcov
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg13.read_unread]
  intro hcov
  canon_tiles x hx using hcov
  case piece0 => exact state_piece x1 x2 xs0 x7 x8 3 3 384 _ _ _ _ rfl x y (by omega) (by omega) (by omega) (by omega)
  case piece1 => exact state_piece x1 x2 xs0 x7 x8 3 2 256 _ _ _ _ rfl x y (by omega) (by omega) (by omega) (by omega)
  case piece2 => exact state_piece x1 x2 xs0 x7 x8 3 1 128 _ _ _ _ rfl x y (by omega) (by omega) (by omega) (by omega)
  case piece3 => exact state_piece x1 x2 xs0 x7 x8 3 0 0 _ _ _ _ rfl x y (by omega) (by omega) (by omega) (by omega)
  case piece4 => exact state_piece x1 x2 xs0 x7 x8 2 3 384 _ _ _ _ rfl x y (by omega) (by omega) (by omega) (by omega)
  case piece5 => exact state_piece x1 x2 xs0 x7 x8 2 2 256 _ _ _ _ rfl x y (by omega) (by omega) (by omega) (by omega)
  case piece6 => exact state_piece x1 x2 xs0 x7 x8 2 1 128 _ _ _ _ rfl x y (by omega) (by omega) (by omega) (by omega)
  case piece7 => exact state_piece x1 x2 xs0 x7 x8 2 0 0 _ _ _ _ rfl x y (by omega) (by omega) (by omega) (by omega)
  case piece8 => exact state_piece x1 x2 xs0 x7 x8 1 3 384 _ _ _ _ rfl x y (by omega) (by omega) (by omega) (by omega)
  case piece9 => exact state_piece x1 x2 xs0 x7 x8 1 2 256 _ _ _ _ rfl x y (by omega) (by omega) (by omega) (by omega)
  case piece10 => exact state_piece x1 x2 xs0 x7 x8 1 1 128 _ _ _ _ rfl x y (by omega) (by omega) (by omega) (by omega)
  case piece11 => exact state_piece x1 x2 xs0 x7 x8 1 0 0 _ _ _ _ rfl x y (by omega) (by omega) (by omega) (by omega)
  case piece12 => exact state_piece x1 x2 xs0 x7 x8 0 3 384 _ _ _ _ rfl x y (by omega) (by omega) (by omega) (by omega)
  case piece13 => exact state_piece x1 x2 xs0 x7 x8 0 2 256 _ _ _ _ rfl x y (by omega) (by omega) (by omega) (by omega)
  case piece14 => exact state_piece x1 x2 xs0 x7 x8 0 1 128 _ _ _ _ rfl x y (by omega) (by omega) (by omega) (by omega)
  case piece15 => exact state_piece x1 x2 xs0 x7 x8 0 0 0 _ _ _ _ rfl x y (by omega) (by omega) (by omega) (by omega)

theorem out_B (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S1x4x4x128x128 .f32) (harg6 : arg6.IsWhole) (arg7 : Memref sig .tc .vmem S4x256x256 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S1x512 .f32) (harg10 : arg10.IsWhole) (arg11 : Memref sig .tc .vmem S4x256x512 .bf16) (harg11 : arg11.IsWhole) (arg12 : Memref sig .tc .vmem S4x4x128x128 .f32) (harg12 : arg12.IsWhole) (arg13 : Memref sig .tc .vmem S4x4x128x128 .f32) (harg13 : arg13.IsWhole) (hc0 : ¬cond0_0 i) (hc1 : ¬cond0_1 i)
    (x0 x1 x2 x3 : Vec Ideal S4x256x512 .bf16) (x4 : Vec Ideal S1x4x4x128x128 .f32) (x5 : Vec Ideal S4x256x256 .f32) (x6 x7 : Vec Ideal S256x512 .f32) (x8 : Vec Ideal S1x512 .f32) (xs0 : Vec Ideal S4x4x128x128 .f32) :
    out0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = blockOut x0 x1 x2 x3 xs0 x5 x6 := by
  funext y
  unfold out0_B_9
  rw [View.read_writes_junk_eq_canon]
  have hcov := cover0_B_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 y
  revert hcov
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg13.read_unread]
  intro hcov
  canon_tiles x hx using hcov
  case piece0 => exact out_piece x0 x1 x2 x3 xs0 x5 x6 3 3 384 _ _ _ _ rfl x y (by omega) (by omega) (by omega)
  case piece1 => exact out_piece x0 x1 x2 x3 xs0 x5 x6 3 2 256 _ _ _ _ rfl x y (by omega) (by omega) (by omega)
  case piece2 => exact out_piece x0 x1 x2 x3 xs0 x5 x6 3 1 128 _ _ _ _ rfl x y (by omega) (by omega) (by omega)
  case piece3 => exact out_piece x0 x1 x2 x3 xs0 x5 x6 3 0 0 _ _ _ _ rfl x y (by omega) (by omega) (by omega)
  case piece4 => exact out_piece x0 x1 x2 x3 xs0 x5 x6 2 3 384 _ _ _ _ rfl x y (by omega) (by omega) (by omega)
  case piece5 => exact out_piece x0 x1 x2 x3 xs0 x5 x6 2 2 256 _ _ _ _ rfl x y (by omega) (by omega) (by omega)
  case piece6 => exact out_piece x0 x1 x2 x3 xs0 x5 x6 2 1 128 _ _ _ _ rfl x y (by omega) (by omega) (by omega)
  case piece7 => exact out_piece x0 x1 x2 x3 xs0 x5 x6 2 0 0 _ _ _ _ rfl x y (by omega) (by omega) (by omega)
  case piece8 => exact out_piece x0 x1 x2 x3 xs0 x5 x6 1 3 384 _ _ _ _ rfl x y (by omega) (by omega) (by omega)
  case piece9 => exact out_piece x0 x1 x2 x3 xs0 x5 x6 1 2 256 _ _ _ _ rfl x y (by omega) (by omega) (by omega)
  case piece10 => exact out_piece x0 x1 x2 x3 xs0 x5 x6 1 1 128 _ _ _ _ rfl x y (by omega) (by omega) (by omega)
  case piece11 => exact out_piece x0 x1 x2 x3 xs0 x5 x6 1 0 0 _ _ _ _ rfl x y (by omega) (by omega) (by omega)
  case piece12 => exact out_piece x0 x1 x2 x3 xs0 x5 x6 0 3 384 _ _ _ _ rfl x y (by omega) (by omega) (by omega)
  case piece13 => exact out_piece x0 x1 x2 x3 xs0 x5 x6 0 2 256 _ _ _ _ rfl x y (by omega) (by omega) (by omega)
  case piece14 => exact out_piece x0 x1 x2 x3 xs0 x5 x6 0 1 128 _ _ _ _ rfl x y (by omega) (by omega) (by omega)
  case piece15 => exact out_piece x0 x1 x2 x3 xs0 x5 x6 0 0 0 _ _ _ _ rfl x y (by omega) (by omega) (by omega)

end Cert.Retention

end
-- ==== Proof.RetMath.lean ====
/-
  The arithmetic of the chunked retention over the reals: a decayed state carried over blocks of 256 positions, and the
  outputs of a block from its own positions and the carried state, against the same sums over all positions at once.
-/
module

public import Mathlib.Analysis.SpecialFunctions.Exp
public import Mathlib.Data.EReal.Operations

@[expose] public section

noncomputable section

namespace Cert.Retention.Arith

open Finset

/-- The decay between two positions: `exp ((a - b) lg)` where `b` is not after `a`, zero elsewhere. -/
def decay (lg : ℝ) (a b : ℕ) : ℝ := if b ≤ a then Real.exp (((a : ℝ) - b) * lg) else 0

/-- One entry of the state after the first `n` positions: the decayed sum of the products of a key and a value entry. -/
def state (lg : ℝ) (k v : ℕ → ℝ) (n : ℕ) : ℝ :=
  ∑ s ∈ range n, k s * Real.exp (((n : ℝ) - 1 - s) * lg) * v s

theorem state_zero (lg : ℝ) (k v : ℕ → ℝ) : state lg k v 0 = 0 := by simp [state]

/-- Advancing the state by a block of `B` positions: the old state decayed by `B` positions plus the block's own sum. -/
theorem state_add (lg : ℝ) (k v : ℕ → ℝ) (n B : ℕ) :
    state lg k v (n + B) = state lg k v n * Real.exp ((B : ℝ) * lg)
      + ∑ c ∈ range B, k (n + c) * Real.exp (((B : ℝ) - 1 - c) * lg) * v (n + c) := by
  unfold state
  rw [sum_range_add, sum_mul]
  congr 1
  · refine sum_congr rfl fun s _ => ?_
    rw [show ((n + B : ℕ) : ℝ) - 1 - s = ((n : ℝ) - 1 - s) + B by push_cast; ring, add_mul, Real.exp_add]
    ring
  · refine sum_congr rfl fun s _ => ?_
    rw [show ((n + B : ℕ) : ℝ) - 1 - ((n + s : ℕ) : ℝ) = (B : ℝ) - 1 - s by push_cast; ring]

/-- The query's product with the state: a sum over the earlier positions of the query-key product, decayed, times the
    value. -/
theorem query_state {D : ℕ} (lg : ℝ) (q : Fin D → ℝ) (k : Fin D → ℕ → ℝ) (v : ℕ → ℝ) (n c : ℕ) :
    ∑ d, q d * Real.exp (((c : ℝ) + 1) * lg) * state lg (k d) v n
      = ∑ s ∈ range n, (∑ d, q d * k d s) * decay lg (n + c) s * v s := by
  unfold state
  simp only [mul_sum]
  rw [sum_comm]
  refine sum_congr rfl fun s hs => ?_
  have hs' : s < n := mem_range.mp hs
  rw [decay, if_pos (by omega), sum_mul, sum_mul]
  refine sum_congr rfl fun d _ => ?_
  rw [show (((n + c : ℕ) : ℝ) - s) * lg = ((c : ℝ) + 1) * lg + ((n : ℝ) - 1 - s) * lg by push_cast; ring, Real.exp_add]
  ring

/-- An output of a block: the sum over the block's positions plus the query's product with the state carried into the
    block is the sum over all `N` positions, those after the query having no weight. -/
theorem output_eq {D : ℕ} (lg : ℝ) (q : Fin D → ℝ) (k : Fin D → ℕ → ℝ) (v : ℕ → ℝ) (n c B N : ℕ) (hc : c < B)
    (hN : n + B ≤ N) :
    (∑ s ∈ range B, (∑ d, q d * k d (n + s)) * decay lg c s * v (n + s))
        + ∑ d, q d * Real.exp (((c : ℝ) + 1) * lg) * state lg (k d) v n
      = ∑ s ∈ range N, (∑ d, q d * k d s) * decay lg (n + c) s * v s := by
  obtain ⟨r, rfl⟩ := Nat.exists_eq_add_of_le hN
  rw [query_state, sum_range_add _ (n + B) r, sum_range_add _ n B,
    sum_eq_zero (s := range r) (fun s _ => by rw [decay, if_neg (by omega), mul_zero, zero_mul]), add_zero, add_comm]
  congr 1
  refine sum_congr rfl fun s _ => ?_
  congr 2
  unfold decay
  by_cases h : s ≤ c
  · rw [if_pos h, if_pos (by omega)]; congr 2; push_cast; ring
  · rw [if_neg h, if_neg (by omega)]

end Cert.Retention.Arith

end
-- ==== Proof.RetTables.lean ====
module

public import proofs.«01_k».proof.Proof.RetA
public import Idealize.ShloMosaic.Lib.StableHlo.ReadAt
public import proofs.«01_k».proof.Proof.RetC
public import proofs.«01_k».proof.Proof.RetB
public import Idealize.ShloMosaic.Lib.Pipeline.ValueKit
public import proofs.«01_k».proof.Proof.RetMath
public import proofs.«01_k».proof.Proof.RetMath
public import proofs.«01_k».proof.Proof.Gen.KernelIdeal.Value

@[expose] public section

set_option maxRecDepth 16384

noncomputable section

namespace Cert.Retention

open Cert.KernelIdeal Cert.KernelIdeal.Gen
open Idealize.ShloMosaic Idealize.ShloMosaic.TcCoe Idealize.SL.Sem

/-- A small natural number read from its 32-bit word is that number. -/
theorem word_real (n : ℕ) (hn : n < 65536) : (FloatOps.sitofp (F := Ideal) FTy.f32 (BitVec.ofNat 32 n) : EReal) = ((n : ℝ) : EReal) := by
  show (((BitVec.ofNat 32 n).toInt : ℝ) : EReal) = _
  have : (BitVec.ofNat 32 n).toInt = (n : ℤ) := by
    rw [BitVec.toInt_eq_toNat_cond, BitVec.toNat_ofNat]; omega
  rw [this]; simp

theorem lit_ln2 : Ideal.ofBits FTy.f32 1060205080#32 = (((11629080 : ℝ) / 16777216 : ℝ) : EReal) := by
  simp [Ideal.ofBits, Ideal.ieee, -EReal.coe_mul]
  norm_num

theorem lit_neg5 : Ideal.ofBits FTy.f32 3231711232#32 = ((-5 : ℝ) : EReal) := by
  simp [Ideal.ofBits, Ideal.ieee, -EReal.coe_mul]
  norm_num

theorem lit_255 : Ideal.ofBits FTy.f32 1132396544#32 = ((255 : ℝ) : EReal) := by
  simp [Ideal.ofBits, Ideal.ieee, -EReal.coe_mul]
  norm_num

theorem lit_256 : Ideal.ofBits FTy.f32 1132462080#32 = ((256 : ℝ) : EReal) := by
  simp [Ideal.ofBits, Ideal.ieee, -EReal.coe_mul]
  norm_num

/-- The logarithm of head `h`'s decay: of `1 - 2^(-5-h)`, at the literal the programs print for `ln 2`. -/
def logDecay (h : ℕ) : EReal :=
  Ideal.log1p (-Ideal.exp (Ideal.ofBits FTy.f32 1060205080#32 * (Ideal.ofBits FTy.f32 3231711232#32
    - FloatOps.sitofp (F := Ideal) FTy.f32 (BitVec.ofNat 32 h))))

/-- The same number as a real. -/
def lgR (h : ℕ) : ℝ := Real.log (1 - Real.exp ((11629080 : ℝ) / 16777216 * (-5 - h)))

/-- Every head's decay is a positive real, so its logarithm is a real number. -/
theorem logDecay_eq (h : ℕ) (hh : h < 4) : logDecay h = ((lgR h : ℝ) : EReal) := by
  unfold logDecay lgR
  rw [word_real h (by omega), lit_ln2, lit_neg5, ← EReal.coe_sub, ← EReal.coe_mul]
  unfold Ideal.log1p
  rw [Ideal.exp_coe, ← EReal.coe_neg, ← EReal.coe_one, ← EReal.coe_add, Ideal.log_coe]
  have : Real.exp ((11629080 : ℝ) / 16777216 * (-5 - h)) < 1 := by
    rw [Real.exp_lt_one_iff]
    have : (0 : ℝ) ≤ h := Nat.cast_nonneg h
    nlinarith
  rw [if_neg (by linarith)]
  rfl

variable (m : (ℓ : Loc nD τ sig) → Buf (Elt Ideal) ℓ)

theorem table_s0 (c : Dev nD) (a : Fin 1) (g h : Fin 4) (d e : Fin 128) : V m c main_v56 (ix5 a g h d e) = (0 : EReal) := by
  unfold V
  after_reads_at

theorem table_di (c : Dev nD) (h : Fin 4) (i j : Fin 256) :
    V m c main_v25 (ix3 h i j) = ((Arith.decay (lgR h) i j : ℝ) : EReal) := by
  unfold V
  after_reads_at
  change (if _ then Ideal.exp (_ * logDecay h) else (Ideal.ofBits FTy.f32 0#32)) = _
  rw [word_real i (by omega), word_real j (by omega), logDecay_eq h h.isLt, Ideal.ofBits_zero_f32, ← EReal.coe_sub]
  unfold Arith.decay
  by_cases hji : (j : ℕ) ≤ i
  · have h0 : (0 : ℝ) ≤ (i : ℝ) - (j : ℝ) := by
      have : ((j : ℕ) : ℝ) ≤ (i : ℕ) := by exact_mod_cast hji
      linarith
    rw [if_pos (by exact_mod_cast h0), if_pos hji, max_eq_left (by exact_mod_cast h0), ← EReal.coe_mul, Ideal.exp_coe]
  · have h0 : ¬ (0 : ℝ) ≤ (i : ℝ) - (j : ℝ) := by
      have : ((i : ℕ) : ℝ) < (j : ℕ) := by exact_mod_cast (not_le.mp hji)
      linarith
    rw [if_neg (by exact_mod_cast h0), if_neg hji, EReal.coe_zero]

theorem table_dq (c : Dev nD) (i : Fin 256) (l : Fin 512) :
    V m c main_v50 (ix2 i l) = ((Real.exp (((i : ℕ) + 1 : ℝ) * lgR ((l : ℕ) / 128)) : ℝ) : EReal) := by
  unfold V
  after_reads_at
  change Ideal.exp (_ * logDecay ((l : ℕ) / 128)) = _
  rw [word_real i (by omega), logDecay_eq _ (by omega), ← EReal.coe_one, ← EReal.coe_add, ← EReal.coe_mul, Ideal.exp_coe]

theorem table_dk (c : Dev nD) (i : Fin 256) (l : Fin 512) :
    V m c main_v52 (ix2 i l) = ((Real.exp ((255 - (i : ℕ) : ℝ) * lgR ((l : ℕ) / 128)) : ℝ) : EReal) := by
  unfold V
  after_reads_at
  change (if _ then Ideal.exp (_ * logDecay ((l : ℕ) / 128)) else _) = _
  rw [word_real i (by omega), logDecay_eq _ (by omega), lit_255, lit_256, ← EReal.coe_sub, ← EReal.coe_mul, Ideal.exp_coe, if_pos]
  have : ((i : ℕ) : ℝ) < 256 := by exact_mod_cast i.isLt
  exact_mod_cast this

theorem table_ds (c : Dev nD) (a : Fin 1) (l : Fin 512) :
    V m c main_v55 (ix2 a l) = ((Real.exp ((256 : ℝ) * lgR ((l : ℕ) / 128)) : ℝ) : EReal) := by
  unfold V
  after_reads_at
  change Ideal.exp (_ * logDecay ((l : ℕ) / 128)) = _
  rw [logDecay_eq _ (by omega), lit_256, ← EReal.coe_mul, Ideal.exp_coe]

end Cert.Retention

end
-- ==== Proof.RetRun.lean ====
module

public import proofs.«01_k».proof.Proof.RetTables

@[expose] public section

set_option maxRecDepth 16384

noncomputable section

namespace Cert.Retention

open Cert.KernelIdeal Cert.KernelIdeal.Gen
open Idealize.ShloMosaic Idealize.ShloMosaic.TcCoe Idealize.SL.Sem

variable (m : (ℓ : Loc nD τ sig) → Buf (Elt Ideal) ℓ)

theorem idx_rows : ∀ t : Fin cfg0.N, (win0_0.index t = ![0, t.val, 0] ∧ win0_1.index t = ![0, t.val, 0])
    ∧ (win0_2.index t = ![0, t.val, 0] ∧ win0_3.index t = ![0, t.val, 0]) := by decide

theorem idx_tables : ∀ t : Fin cfg0.N, (win0_4.index t = ![0, 0, 0, 0, 0] ∧ win0_5.index t = ![0, 0, 0])
    ∧ (win0_6.index t = ![0, 0] ∧ win0_7.index t = ![0, 0]) ∧ win0_8.index t = ![0, 0] := by decide

/-- Position `256 t + i` of the sequence. -/
def pos (t : Fin cfg0.N) (i : Fin 256) : Fin 4096 :=
  ⟨256 * t.val + i.val, by have : t.val < 16 := lt_of_lt_of_eq t.isLt N_0; omega⟩

theorem read_q (c : Dev nD) (t : Fin cfg0.N) (g : Fin 4) (i : Fin 256) (l : Fin 512) :
    iblk m c 0 t (ix3 g i l) = m ((c : Thread nD τ).loc main_arg0) (ix3 g (pos t i) l) := by
  have h := (idx_rows t).1.1
  have h0 := congrFun h 0; have h1 := congrFun h 1; have h2 := congrFun h 2
  rw [← V_main_arg0 m c]
  blk_ext! [iblk, pos, h0, h1, h2]

theorem read_k (c : Dev nD) (t : Fin cfg0.N) (g : Fin 4) (i : Fin 256) (l : Fin 512) :
    iblk m c 1 t (ix3 g i l) = m ((c : Thread nD τ).loc main_arg1) (ix3 g (pos t i) l) := by
  have h := (idx_rows t).1.2
  have h0 := congrFun h 0; have h1 := congrFun h 1; have h2 := congrFun h 2
  rw [← V_main_arg1 m c]
  blk_ext! [iblk, pos, h0, h1, h2]

theorem read_v (c : Dev nD) (t : Fin cfg0.N) (g : Fin 4) (i : Fin 256) (l : Fin 512) :
    iblk m c 2 t (ix3 g i l) = m ((c : Thread nD τ).loc main_arg2) (ix3 g (pos t i) l) := by
  have h := (idx_rows t).2.1
  have h0 := congrFun h 0; have h1 := congrFun h 1; have h2 := congrFun h 2
  rw [← V_main_arg2 m c]
  blk_ext! [iblk, pos, h0, h1, h2]

theorem read_z (c : Dev nD) (t : Fin cfg0.N) (g : Fin 4) (i : Fin 256) (l : Fin 512) :
    iblk m c 3 t (ix3 g i l) = m ((c : Thread nD τ).loc main_arg3) (ix3 g (pos t i) l) := by
  have h := (idx_rows t).2.2
  have h0 := congrFun h 0; have h1 := congrFun h 1; have h2 := congrFun h 2
  rw [← V_main_arg3 m c]
  blk_ext! [iblk, pos, h0, h1, h2]

theorem read_s0 (c : Dev nD) (t : Fin cfg0.N) (a : Fin 1) (g h : Fin 4) (d e : Fin 128) : iblk m c 4 t (ix5 a g h d e) = V m c main_v56 (ix5 a g h d e) := by
  have h := (idx_tables t).1.1
  have h0 := congrFun h 0; have h1 := congrFun h 1; have h2 := congrFun h 2; have h3 := congrFun h 3; have h4 := congrFun h 4
  blk_ext! [iblk, h0, h1, h2, h3, h4]

theorem read_di (c : Dev nD) (t : Fin cfg0.N) (h : Fin 4) (i j : Fin 256) : iblk m c 5 t (ix3 h i j) = V m c main_v25 (ix3 h i j) := by
  have h := (idx_tables t).1.2
  have h0 := congrFun h 0; have h1 := congrFun h 1; have h2 := congrFun h 2
  blk_ext! [iblk, h0, h1, h2]

theorem read_dq (c : Dev nD) (t : Fin cfg0.N) (i : Fin 256) (l : Fin 512) : iblk m c 6 t (ix2 i l) = V m c main_v50 (ix2 i l) := by
  have h := (idx_tables t).2.1.1
  have h0 := congrFun h 0; have h1 := congrFun h 1
  blk_ext! [iblk, h0, h1]

theorem read_dk (c : Dev nD) (t : Fin cfg0.N) (i : Fin 256) (l : Fin 512) : iblk m c 7 t (ix2 i l) = V m c main_v52 (ix2 i l) := by
  have h := (idx_tables t).2.1.2
  have h0 := congrFun h 0; have h1 := congrFun h 1
  blk_ext! [iblk, h0, h1]

theorem read_ds (c : Dev nD) (t : Fin cfg0.N) (a : Fin 1) (l : Fin 512) : iblk m c 8 t (ix2 a l) = V m c main_v55 (ix2 a l) := by
  have h := (idx_tables t).2.2
  have h0 := congrFun h 0; have h1 := congrFun h 1
  blk_ext! [iblk, h0, h1]

/-- One lane of an array over the positions, as real numbers (zero past the end). -/
def realSeq (X : Vec Ideal S4x4096x512 .bf16) (g : Fin 4) (l : Fin 512) (n : ℕ) : ℝ :=
  if h : n < 4096 then (X (ix3 g ⟨n, h⟩ l)).toReal else 0

/-- Every entry of the array is a real number. -/
def Finite (X : Vec Ideal S4x4096x512 .bf16) : Prop := ∀ i, X i ≠ ⊤ ∧ X i ≠ ⊥

theorem realSeq_eq (X : Vec Ideal S4x4096x512 .bf16) (hX : Finite X) (g : Fin 4) (p : Fin 4096) (l : Fin 512) :
    X (ix3 g p l) = ((realSeq X g l p : ℝ) : EReal) := by
  unfold realSeq
  rw [dif_pos p.isLt]
  exact (EReal.coe_toReal (hX _).1 (hX _).2).symm

/-- The states of all sequences and heads after `n` positions. -/
def stateAt (K W : Vec Ideal S4x4096x512 .bf16) (n : ℕ) : Vec Ideal S4x4x128x128 .f32 := fun y =>
  ((Arith.state (lgR (y 1)) (realSeq K (y 0) (lane (y 1) (y 2))) (realSeq W (y 0) (lane (y 1) (y 3))) n : ℝ) : EReal)

/-- One lane of one position's output row before the normalization: the decayed attention over all earlier positions. -/
def rowAt (Q K W : Vec Ideal S4x4096x512 .bf16) (g h : Fin 4) (n : ℕ) (e : Fin 128) : ℝ :=
  ∑ s ∈ Finset.range 4096, (∑ d : Fin 128, realSeq Q g (lane h d) n * realSeq K g (lane h d) s) * Arith.decay (lgR h) n s
    * realSeq W g (lane h e) s

theorem lane_head (h : Fin 4) (d : Fin 128) : (lane h d : ℕ) / 128 = h := by
  show (128 * (h : ℕ) + d) / 128 = h; omega

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

section Block

variable (Q K W : Vec Ideal S4x4096x512 .bf16) (n : ℕ) (x0 x1 x2 : Vec Ideal S4x256x512 .bf16)
  (x5 : Vec Ideal S4x256x256 .f32) (x6 x7 : Vec Ideal S256x512 .f32) (x8 : Vec Ideal S1x512 .f32)
  (h0 : ∀ g i l, x0 (ix3 g i l) = ((realSeq Q g l (n + (i : Fin 256)) : ℝ) : EReal))
  (h1 : ∀ g i l, x1 (ix3 g i l) = ((realSeq K g l (n + (i : Fin 256)) : ℝ) : EReal))
  (h2 : ∀ g i l, x2 (ix3 g i l) = ((realSeq W g l (n + (i : Fin 256)) : ℝ) : EReal))
  (h5 : ∀ h i j, x5 (ix3 h i j) = ((Arith.decay (lgR (h : Fin 4)) (i : Fin 256) (j : Fin 256) : ℝ) : EReal))
  (h6 : ∀ i l, x6 (ix2 i l) = ((Real.exp ((((i : Fin 256) : ℕ) + 1 : ℝ) * lgR (((l : Fin 512) : ℕ) / 128)) : ℝ) : EReal))
  (h7 : ∀ i l, x7 (ix2 i l) = ((Real.exp ((255 - ((i : Fin 256) : ℕ) : ℝ) * lgR (((l : Fin 512) : ℕ) / 128)) : ℝ) : EReal))
  (h8 : ∀ a l, x8 (ix2 a l) = ((Real.exp ((256 : ℝ) * lgR (((l : Fin 512) : ℕ) / 128)) : ℝ) : EReal))
include h1 h2

include h7 h8 in
/-- A block of 256 positions advances the states by 256 positions. -/
theorem nextState_at : nextState x1 x2 (stateAt K W n) x7 x8 = stateAt K W (n + 256) := by
  funext y
  obtain ⟨g, h, d, e, rfl⟩ : ∃ g h d e, y = ix4 (g : Fin 4) (h : Fin 4) (d : Fin 128) (e : Fin 128) := ⟨_, _, _, _, ValueIdx.eq_ix4 y⟩
  show ((Arith.state (lgR h) (realSeq K g (lane h d)) (realSeq W g (lane h e)) n : ℝ) : EReal) * x8 (ix2 0 (lane h e))
      + ∑ i, (x1 (ix3 g i (lane h d)) * x7 (ix2 i (lane h d))) * x2 (ix3 g i (lane h e))
    = ((Arith.state (lgR h) (realSeq K g (lane h d)) (realSeq W g (lane h e)) (n + 256) : ℝ) : EReal)
  rw [Arith.state_add, EReal.coe_add, EReal.coe_mul, h8, lane_head, Finset.sum_range, coe_sum]
  congr 1
  refine Finset.sum_congr rfl fun i _ => ?_
  rw [h1, h2, h7, lane_head, ← EReal.coe_mul, ← EReal.coe_mul]
  norm_num

include h0 h5 h6 in
/-- A block's rows are the decayed attention over all positions. -/
theorem rawRow_at (hn : n + 256 ≤ 4096) (g h : Fin 4) (i : Fin 256) (e : Fin 128) :
    rawRow x0 x1 x2 (stateAt K W n) x5 x6 g h i e = ((rowAt Q K W g h (n + i) e : ℝ) : EReal) := by
  unfold rawRow rowAt
  rw [← Arith.output_eq (lgR h) (fun d => realSeq Q g (lane h d) (n + i)) (fun d => realSeq K g (lane h d)) (realSeq W g (lane h e)) n i 256 4096
    i.isLt hn, EReal.coe_add, Finset.sum_range, coe_sum, coe_sum]
  congr 1
  · refine Finset.sum_congr rfl fun j _ => ?_
    rw [h5, h2, EReal.coe_mul, EReal.coe_mul, coe_sum]
    congr 2
    refine Finset.sum_congr rfl fun d _ => ?_
    rw [h0, h1, EReal.coe_mul]
  · refine Finset.sum_congr rfl fun d _ => ?_
    rw [h0, h6, lane_head, EReal.coe_mul, EReal.coe_mul]
    rfl

end Block

theorem first_zero (x4 : Vec Ideal S1x4x4x128x128 .f32) (hx : ∀ a g h d e, x4 (ix5 a g h d e) = (0 : EReal)) (K W : Vec Ideal S4x4096x512 .bf16) :
    firstState x4 = stateAt K W 0 := by
  funext y
  obtain ⟨g, h, d, e, rfl⟩ : ∃ g h d e, y = ix4 (g : Fin 4) (h : Fin 4) (d : Fin 128) (e : Fin 128) := ⟨_, _, _, _, ValueIdx.eq_ix4 y⟩
  unfold firstState stateAt
  rw [Arith.state_zero, EReal.coe_zero]
  pointwise [k0_pay1]
  exact hx _ _ _ _ _

variable (c : Dev nD)

/-- The arguments of the launch. -/
abbrev argQ : Vec Ideal S4x4096x512 .bf16 := m ((c : Thread nD τ).loc main_arg0)
abbrev argK : Vec Ideal S4x4096x512 .bf16 := m ((c : Thread nD τ).loc main_arg1)
abbrev argV : Vec Ideal S4x4096x512 .bf16 := m ((c : Thread nD τ).loc main_arg2)
abbrev argZ : Vec Ideal S4x4096x512 .bf16 := m ((c : Thread nD τ).loc main_arg3)

variable (hQ : Finite (argQ m c)) (hK : Finite (argK m c)) (hV : Finite (argV m c))

include hK hV in
theorem point_next (t : Fin cfg0.N) : nextState (iblk m c 1 t) (iblk m c 2 t) (stateAt (argK m c) (argV m c) (256 * t.val)) (iblk m c 7 t) (iblk m c 8 t)
    = stateAt (argK m c) (argV m c) (256 * t.val + 256) :=
  nextState_at _ _ _ _ _ _ _
    (fun g i l => (read_k m c t g i l).trans (realSeq_eq _ hK g (pos t i) l))
    (fun g i l => (read_v m c t g i l).trans (realSeq_eq _ hV g (pos t i) l))
    (fun i l => (read_dk m c t i l).trans (table_dk m c i l)) (fun a l => (read_ds m c t a l).trans (table_ds m c a l))

include hQ hK hV in
theorem point_out (t : Fin cfg0.N) (g : Fin 4) (i : Fin 256) (l : Fin 512) :
    blockOut (iblk m c 0 t) (iblk m c 1 t) (iblk m c 2 t) (iblk m c 3 t) (stateAt (argK m c) (argV m c) (256 * t.val)) (iblk m c 5 t) (iblk m c 6 t) (ix3 g i l)
      = gated (fun e => ((rowAt (argQ m c) (argK m c) (argV m c) g (headOf l) (pos t i) e : ℝ) : EReal)) (argZ m c (ix3 g (pos t i) l)) (inHead l) := by
  have ht : t.val < 16 := lt_of_lt_of_eq t.isLt N_0
  unfold blockOut
  show gated (rawRow _ _ _ _ _ _ g (headOf l) i) (iblk m c 3 t (ix3 g i l)) (inHead l) = _
  rw [read_z]
  congr 1
  funext e
  exact rawRow_at _ _ _ _ _ _ _ _ _
    (fun g i l => (read_q m c t g i l).trans (realSeq_eq _ hQ g (pos t i) l))
    (fun g i l => (read_k m c t g i l).trans (realSeq_eq _ hK g (pos t i) l))
    (fun g i l => (read_v m c t g i l).trans (realSeq_eq _ hV g (pos t i) l))
    (fun h i j => (read_di m c t h i j).trans (table_di m c h i j)) (fun i l => (read_dq m c t i l).trans (table_dq m c i l))
    (by omega) g (headOf l) i e

open Cert.KernelIdeal.Value in
include hK hV in
/-- What the points leave: after point `n` the scratch holds the states after `256 (n + 1)` positions, the output block is computed from the
    states before it, and the last point copies the states out. -/
theorem sweep (n : ℕ) (hn : 0 + n < cfg0.N) :
    (Pipeline.accAt (fun n h => stAt0 m c n h junk0) (stAt0 m c) 0 n hn).2.2 = stateAt (argK m c) (argV m c) (256 * n + 256)
    ∧ (Pipeline.accAt (fun n h => stAt0 m c n h junk0) (stAt0 m c) 0 n hn).1
        = blockOut (iblk m c 0 ⟨0 + n, hn⟩) (iblk m c 1 ⟨0 + n, hn⟩) (iblk m c 2 ⟨0 + n, hn⟩) (iblk m c 3 ⟨0 + n, hn⟩)
          (stateAt (argK m c) (argV m c) (256 * (0 + n))) (iblk m c 5 ⟨0 + n, hn⟩) (iblk m c 6 ⟨0 + n, hn⟩)
    ∧ (n = 15 → (Pipeline.accAt (fun n h => stAt0 m c n h junk0) (stAt0 m c) 0 n hn).2.1 = stateAt (argK m c) (argV m c) 4096) := by
  have hN : (0 + n) < 16 := lt_of_lt_of_eq hn N_0
  induction n with
  | zero =>
    have e := stAt0_A m c ⟨0 + 0, hn⟩ junk0 (by rfl) (by show ¬ (0 + 0) % 16 = 15; omega)
    have hf : firstState (iblk m c 4 ⟨0 + 0, hn⟩) = stateAt (argK m c) (argV m c) (256 * 0) :=
      first_zero _ (fun a g h d e => (read_s0 m c ⟨0 + 0, hn⟩ a g h d e).trans (table_s0 m c a g h d e)) _ _
    rw [out_A, sout_A, hf] at e
    refine ⟨?_, ?_, fun h => by omega⟩
    · exact (congrArg (fun p => p.2.2) e).trans (point_next m c hK hV ⟨0 + 0, hn⟩)
    · exact congrArg (fun p => p.1) e
  | succ n ih =>
    obtain ⟨ih, -, -⟩ := ih (by omega) (by omega)
    have e0 := Pipeline.accAt_succ (fun n h => stAt0 m c n h junk0) (stAt0 m c) 0 n hn
    rw [e0]
    have es : stateAt (argK m c) (argV m c) (256 * n + 256) = stateAt (argK m c) (argV m c) (256 * (0 + (n + 1))) := by congr 1; omega
    have ee : ∀ k, k = 0 + (n + 1) → stateAt (argK m c) (argV m c) (256 * k + 256) = stateAt (argK m c) (argV m c) (256 * (n + 1) + 256) := by
      intro k hk; congr 1; omega
    by_cases h15 : (0 + (n + 1)) % 16 = 15
    · have e := stAt0_C m c ⟨0 + (n + 1), hn⟩ (Pipeline.accAt (fun n h => stAt0 m c n h junk0) (stAt0 m c) 0 n (by omega)) (by show ¬ (0 + (n + 1)) % 16 = 0; omega) h15
      rw [out_C, sout_C, final_C, ih, es] at e
      have hnx := point_next m c hK hV ⟨0 + (n + 1), hn⟩
      have hlast : stateAt (argK m c) (argV m c) (256 * (0 + (n + 1)) + 256) = stateAt (argK m c) (argV m c) 4096 := by
        rw [show 256 * (0 + (n + 1)) + 256 = 4096 by omega]
      refine ⟨?_, ?_, fun h => ?_⟩
      · exact (congrArg (fun p => p.2.2) e).trans (hnx.trans (ee _ rfl))
      · exact congrArg (fun p => p.1) e
      · exact (congrArg (fun p => p.2.1) e).trans (hnx.trans hlast)
    · have e := stAt0_B m c ⟨0 + (n + 1), hn⟩ (Pipeline.accAt (fun n h => stAt0 m c n h junk0) (stAt0 m c) 0 n (by omega)) (by show ¬ (0 + (n + 1)) % 16 = 0; omega) h15
      rw [out_B, sout_B, ih, es] at e
      have hnx := point_next m c hK hV ⟨0 + (n + 1), hn⟩
      refine ⟨?_, ?_, fun h => ?_⟩
      · exact (congrArg (fun p => p.2.2) e).trans (hnx.trans (ee _ rfl))
      · exact congrArg (fun p => p.1) e
      · exfalso; omega

open Cert.KernelIdeal.Value in
include hK hV in
/-- The state result of the run. -/
theorem kernel_state : G10 m c = stateAt (argK m c) (argV m c) 4096 :=
  (G10_last m c).trans ((sweep m c hK hV 15 _).2.2 rfl)

open Cert.KernelIdeal.Value in
include hQ hK hV in
/-- The output of the run, entry by entry. -/
theorem kernel_out (g : Fin 4) (p : Fin 4096) (l : Fin 512) :
    G9 m c (ix3 g p l) = gated (fun e => ((rowAt (argQ m c) (argK m c) (argV m c) g (headOf l) p e : ℝ) : EReal)) (argZ m c (ix3 g p l)) (inHead l) := by
  have hp : pt9Of (ix3 g p l) = (p : ℕ) / 256 := by
    show 16 * ((g : ℕ) / 4 - 0) + 1 * ((p : ℕ) / 256 - 0) + 1 * ((l : ℕ) / 512 - 0) = _
    omega
  have hlt : 0 + (p : ℕ) / 256 < cfg0.N := lt_of_lt_of_eq (by omega) N_0.symm
  have hl : loc9Of (ix3 g p l) = ix3 g (⟨(p : ℕ) % 256, by omega⟩ : Fin 256) l := by
    funext a; apply Fin.ext
    match a with
    | ⟨0, _⟩ => show (g : ℕ) % 4 = g; omega
    | ⟨1, _⟩ => rfl
    | ⟨2, _⟩ => show (l : ℕ) % 512 = l; omega
  unfold G9
  rw [dif_pos (by rw [hp]; omega), hl, fold0_congr m c _ _ ((p : ℕ) / 256) hlt hp, (sweep m c hK hV _ hlt).2.1]
  have hpos : pos ⟨0 + (p : ℕ) / 256, hlt⟩ ⟨(p : ℕ) % 256, by omega⟩ = p := by
    apply Fin.ext; show 256 * (0 + (p : ℕ) / 256) + (p : ℕ) % 256 = p; omega
  have := point_out m c hQ hK hV ⟨0 + (p : ℕ) / 256, hlt⟩ g ⟨(p : ℕ) % 256, by omega⟩ l
  rw [hpos] at this
  exact this

end Cert.Retention

end
-- ==== Proof.RetRef.lean ====
module

public import proofs.«01_k».proof.Proof.RetRun
public import proofs.«01_k».proof.Proof.Gen.ReferenceIdeal.Read

@[expose] public section

set_option maxRecDepth 16384

noncomputable section

namespace Cert.Retention.Ref

open Cert.ReferenceIdeal Cert.ReferenceIdeal.Gen Cert.ReferenceIdeal.Read
open Idealize.ShloMosaic Idealize.ShloMosaic.TcCoe Idealize.SL.Sem
open Cert.Retention

abbrev Arr : Type := Vec Ideal S4x4096x512 .bf16

theorem lit_one : Ideal.ofBits FTy.f32 1065353216#32 = ((1 : ℝ) : EReal) := by
  simp [Ideal.ofBits, Ideal.ieee, -EReal.coe_mul]; norm_num

theorem lit_4095 : Ideal.ofBits FTy.f32 1166012416#32 = ((4095 : ℝ) : EReal) := by
  simp [Ideal.ofBits, Ideal.ieee, -EReal.coe_mul]; norm_num

theorem lit_4096 : Ideal.ofBits FTy.f32 1166016512#32 = ((4096 : ℝ) : EReal) := by
  simp [Ideal.ofBits, Ideal.ieee, -EReal.coe_mul]; norm_num

theorem log_decay (h : Fin 4) : val_main_v14 (F := Ideal) (ix1 h) = ((lgR h : ℝ) : EReal) :=
  (show val_main_v14 (F := Ideal) (ix1 h) = logDecay h from rfl).trans (logDecay_eq h h.isLt)

theorem position (p : Fin 4096) : val_main_v15 (F := Ideal) (ix1 p) = ((p : ℕ) : ℝ) :=
  (show val_main_v15 (F := Ideal) (ix1 p) = FloatOps.sitofp (F := Ideal) FTy.f32 (BitVec.ofNat 32 p) from rfl).trans (word_real p (by omega))

/-- The reference's table of decays. -/
theorem decay_intra (h : Fin 4) (i j : Fin 4096) :
    val_main_v32 (F := Ideal) (ix3 h i j) = ((Arith.decay (lgR h) i j : ℝ) : EReal) := by
  have hi := position i
  have hj := position j
  have hl := log_decay h
  simp only [val_main_v32_apply, val_main_call0_v1_apply, val_main_call0_v2_apply, val_main_call0_v0_apply, val_main_cst_4_apply, val_main_v31_apply,
    val_main_v30_apply, val_main_v29_apply, val_main_v28_apply, val_main_v27_apply, val_main_v26_apply, val_main_v25_apply, val_main_v24_apply,
    val_main_v23_apply, val_main_v22_apply, val_main_v21_apply, val_main_v20_apply, val_main_v19_apply, val_main_v18_apply, val_main_v17_apply,
    val_main_v16_apply, val_main_cst_2_apply, val_main_cst_3_apply]
  change Scalar.select (BitVec.ofBool (decide (Ideal.ofBits FTy.f32 0#32 ≤ val_main_v15 (F := Ideal) (ix1 i) - val_main_v15 (F := Ideal) (ix1 j))))
    (Ideal.exp (max (val_main_v15 (F := Ideal) (ix1 i) - val_main_v15 (F := Ideal) (ix1 j)) (Ideal.ofBits FTy.f32 0#32) * val_main_v14 (F := Ideal) (ix1 h)))
    (Ideal.ofBits FTy.f32 0#32) = _
  rw [hi, hj, hl, Ideal.ofBits_zero_f32, ← EReal.coe_sub]
  unfold Arith.decay
  by_cases hji : (j : ℕ) ≤ i
  · have h0 : (0 : ℝ) ≤ (i : ℝ) - (j : ℝ) := by
      have : ((j : ℕ) : ℝ) ≤ (i : ℕ) := by exact_mod_cast hji
      linarith
    rw [decide_eq_true (EReal.coe_nonneg.mpr h0), if_pos hji, max_eq_left (EReal.coe_nonneg.mpr h0), ← EReal.coe_mul, Ideal.exp_coe]
    rfl
  · have h0 : ¬ (0 : ℝ) ≤ (i : ℝ) - (j : ℝ) := by
      have : ((i : ℕ) : ℝ) < (j : ℕ) := by exact_mod_cast (not_le.mp hji)
      linarith
    rw [decide_eq_false (fun hn => h0 (EReal.coe_nonneg.mp hn)), if_neg hji, EReal.coe_zero]
    rfl

theorem decay_k (p : Fin 4096) (h : Fin 4) :
    val_main_v48 (F := Ideal) (ix2 p h) = ((Real.exp (((4096 : ℝ) - 1 - (p : ℕ)) * lgR h) : ℝ) : EReal) := by
  have hp := position p
  have hl := log_decay h
  simp only [val_main_v48_apply, val_main_v47_apply, val_main_v46_apply, val_main_v45_apply, val_main_v44_apply, val_main_v43_apply, val_main_v42_apply,
    val_main_v41_apply, val_main_cst_6_apply]
  change Ideal.exp ((Ideal.ofBits FTy.f32 1166012416#32 - val_main_v15 (F := Ideal) (ix1 p)) * val_main_v14 (F := Ideal) (ix1 h)) = _
  rw [hp, hl, lit_4095, ← EReal.coe_sub, ← EReal.coe_mul, Ideal.exp_coe]
  norm_num

theorem lane_index (g : Fin 4) (p : Fin 4096) (h : Fin 4) (d : Fin 128) : idx_main_v1 (ix4 g p h d) = ix3 g p (lane h d) := by
  funext a; apply Fin.ext
  have hg := g.isLt; have hp := p.isLt; have hh := h.isLt; have hd := d.isLt
  match a with
  | ⟨0, _⟩ => show (((g.val * 4096 + p.val) * 4 + h.val) * 128 + d.val) / 2097152 = g.val; omega
  | ⟨1, _⟩ => show (((g.val * 4096 + p.val) * 4 + h.val) * 128 + d.val) / 512 % 4096 = p.val; omega
  | ⟨2, _⟩ => show (((g.val * 4096 + p.val) * 4 + h.val) * 128 + d.val) % 512 = 128 * h.val + d.val; omega

variable (Q K W Z : Arr) (hQ : Finite Q) (hK : Finite K) (hW : Finite W)

include hQ in
theorem q_lane (g : Fin 4) (p : Fin 4096) (h : Fin 4) (d : Fin 128) : val_main_v1 (F := Ideal) Q (ix4 g p h d) = ((realSeq Q g (lane h d) p : ℝ) : EReal) := by
  rw [val_main_v1_apply, lane_index]; exact realSeq_eq Q hQ g p (lane h d)
include hK in
theorem k_lane (g : Fin 4) (p : Fin 4096) (h : Fin 4) (d : Fin 128) : val_main_v3 (F := Ideal) K (ix4 g p h d) = ((realSeq K g (lane h d) p : ℝ) : EReal) := by
  rw [val_main_v3_apply, show idx_main_v3 = idx_main_v1 from rfl, lane_index]; exact realSeq_eq K hK g p (lane h d)
include hW in
theorem v_lane (g : Fin 4) (p : Fin 4096) (h : Fin 4) (d : Fin 128) : val_main_v5 (F := Ideal) W (ix4 g p h d) = ((realSeq W g (lane h d) p : ℝ) : EReal) := by
  rw [val_main_v5_apply, show idx_main_v5 = idx_main_v1 from rfl, lane_index]; exact realSeq_eq W hW g p (lane h d)

theorem zero_state (y : S4x4x128x128.Idx) : val_main_v6 (F := Ideal) y = (0 : EReal) :=
  (show val_main_v6 (F := Ideal) y = Ideal.ofBits FTy.f32 0#32 from rfl).trans Ideal.ofBits_zero_f32

include hK hW in
/-- The reference's new state. -/
theorem state_result : val_main_v71 (F := Ideal) K W = stateAt K W 4096 := by
  funext y
  obtain ⟨g, h, d, e, rfl⟩ : ∃ g h d e, y = ix4 (g : Fin 4) (h : Fin 4) (d : Fin 128) (e : Fin 128) := ⟨_, _, _, _, ValueIdx.eq_ix4 y⟩
  rw [val_main_v71_apply, val_main_v66_apply, val_main_v70_apply, zero_state]
  show (0 : EReal) * _ + _ = ((Arith.state (lgR h) (realSeq K g (lane h d)) (realSeq W g (lane h e)) 4096 : ℝ) : EReal)
  rw [zero_mul, zero_add]
  unfold Arith.state
  rw [Finset.sum_range, coe_sum]
  refine Finset.sum_congr rfl fun p _ => ?_
  have hk := k_lane K hK g p h d
  have hv := v_lane W hW g p h e
  have hd := decay_k p h
  rw [val_main_v69_apply, val_main_v68_apply, val_main_v67_apply]
  change (val_main_v3 (F := Ideal) K (ix4 g p h d) * val_main_v48 (F := Ideal) (ix2 p h)) * val_main_v5 (F := Ideal) W (ix4 g p h e) = _
  rw [hk, hv, hd, EReal.coe_mul, EReal.coe_mul]
  norm_num

include hQ hK hW in
/-- The reference's row before the normalization. -/
theorem row_result (g : Fin 4) (p : Fin 4096) (h : Fin 4) (e : Fin 128) :
    val_main_v63 (F := Ideal) Q K W (ix4 g p h e) = ((rowAt Q K W g h p e : ℝ) : EReal) := by
  rw [val_main_v63_apply, val_main_v57_apply, val_main_v56_apply, val_main_v62_apply, val_main_v61_apply]
  have hz : (∑ k : Fin 128, (val_main_v6 (F := Ideal)) (lidx_main_v61 (idx_main_v62 (ix4 g p h e)) k)
      * (val_main_v60 (F := Ideal) Q) (ridx_main_v61 (idx_main_v62 (ix4 g p h e)) k)) = (0 : EReal) :=
    Finset.sum_eq_zero fun k _ => by rw [zero_state]; exact zero_mul _
  rw [hz]
  show _ + (0 : EReal) = _
  rw [add_zero]
  unfold rowAt
  rw [Finset.sum_range, coe_sum]
  refine Finset.sum_congr rfl fun s _ => ?_
  have hv := v_lane W hW g s h e
  have hd := decay_intra h p s
  have hqk : val_main_v52 (F := Ideal) Q K (ix4 g h p s) = ((∑ d : Fin 128, realSeq Q g (lane h d) p * realSeq K g (lane h d) s : ℝ) : EReal) := by
    rw [val_main_v52_apply, coe_sum]
    refine Finset.sum_congr rfl fun d _ => ?_
    have hq := q_lane Q hQ g p h d
    have hk := k_lane K hK g s h d
    change val_main_v1 (F := Ideal) Q (ix4 g p h d) * val_main_v3 (F := Ideal) K (ix4 g s h d) = _
    rw [hq, hk, EReal.coe_mul]
  rw [val_main_v55_apply, val_main_v54_apply, val_main_v53_apply]
  change val_main_v5 (F := Ideal) W (ix4 g s h e) * (val_main_v52 (F := Ideal) Q K (ix4 g h p s) * val_main_v32 (F := Ideal) (ix3 h p s)) = _
  rw [hv, hqk, hd, ← EReal.coe_mul, ← EReal.coe_mul, mul_comm]

/-- The reference's mean of a row. -/
theorem mean_result (o : Fin 128 → EReal) (g : Fin 4) (p : Fin 4096) (h : Fin 4) (ho : ∀ e, val_main_v63 (F := Ideal) Q K W (ix4 g p h e) = o e) (a : Fin 1) :
    val_main_v75 (F := Ideal) Q K W (ix4 g p h a) = rowMean o := by
  have hs : val_main_v72 (F := Ideal) Q K W (ix3 g p h) = ∑ e, o e := by
    rw [val_main_v72_apply, val_main_cst_8_apply]
    have he : ∀ e, idx_main_v72 (ix3 g p h) e = ix4 g p h e := fun e => ValueIdx.eq_ix4 _
    simp only [he, ho]
    exact (congrArg (· + ∑ e, o e) Ideal.ofBits_zero_f32).trans (zero_add _)
  have hi : idx_main_v73 (ix4 g p h a) = ix3 g p h := ValueIdx.eq_ix3 _
  rw [val_main_v75_apply, val_main_v73_apply, val_main_v74_apply, hi, hs, val_main_cst_9_apply]
  rfl

theorem var_result (o : Fin 128 → EReal) (g : Fin 4) (p : Fin 4096) (h : Fin 4) (ho : ∀ e, val_main_v63 (F := Ideal) Q K W (ix4 g p h e) = o e) (a : Fin 1) :
    val_main_v82 (F := Ideal) Q K W (ix4 g p h a) = rowMean (fun e => (o e - rowMean o) * (o e - rowMean o)) := by
  have hm := mean_result Q K W o g p h ho 0
  have hs : ∀ e : Fin 128, val_main_v78 (F := Ideal) Q K W (ix4 g p h e) = (o e - rowMean o) * (o e - rowMean o) := by
    intro e
    rw [val_main_v78_apply, val_main_v77_apply, val_main_v76_apply, ho]
    have hi : idx_main_v76 (ix4 g p h e) = ix4 g p h (0 : Fin 1) := ValueIdx.eq_ix4 _
    rw [hi, hm]
    rfl
  have hr : val_main_v79 (F := Ideal) Q K W (ix3 g p h) = ∑ e, (o e - rowMean o) * (o e - rowMean o) := by
    rw [val_main_v79_apply, val_main_cst_10_apply]
    have he : ∀ e, idx_main_v79 (ix3 g p h) e = ix4 g p h e := fun e => ValueIdx.eq_ix4 _
    simp only [he, hs]
    exact (congrArg (· + ∑ e, (o e - rowMean o) * (o e - rowMean o)) Ideal.ofBits_zero_f32).trans (zero_add _)
  have hi : idx_main_v80 (ix4 g p h a) = ix3 g p h := ValueIdx.eq_ix3 _
  rw [val_main_v82_apply, val_main_v80_apply, val_main_v81_apply, hi, hr, val_main_cst_11_apply]
  rfl

theorem gate_result (y : S4x4096x512.Idx) : val_main_v92 (F := Ideal) Z y = Z y * Ideal.logistic (Z y) := by
  rw [val_main_v92_apply, val_main_call1_v5_apply, val_main_call1_v4_apply, val_main_call1_v3_apply, val_main_call1_v2_apply, val_main_call1_v1_apply,
    val_main_call1_v0_apply, val_main_v91_apply]
  change Z y * Ideal.div (Ideal.ofBits FTy.f32 1065353216#32) (Ideal.ofBits FTy.f32 1065353216#32 + Ideal.exp (-(Z y))) = _
  rw [lit_one]
  rfl

include hQ hK hW in
/-- The reference's output, entry by entry. -/
theorem out_result (g : Fin 4) (p : Fin 4096) (l : Fin 512) : val_main_v94 (F := Ideal) Q K W Z (ix3 g p l)
    = gated (fun e => ((rowAt Q K W g (headOf l) p e : ℝ) : EReal)) (Z (ix3 g p l)) (inHead l) := by
  have ho := row_result Q K W hQ hK hW g p (headOf l)
  have hm := mean_result Q K W _ g p (headOf l) ho 0
  have hv := var_result Q K W _ g p (headOf l) ho 0
  have hi : idx_main_v90 (ix3 g p l) = ix4 g p (headOf l) (inHead l) := by
    funext a; apply Fin.ext
    have hg := g.isLt; have hp := p.isLt; have hl := l.isLt
    match a with
    | ⟨0, _⟩ => show ((g.val * 4096 + p.val) * 512 + l.val) / 2097152 = g.val; omega
    | ⟨1, _⟩ => show ((g.val * 4096 + p.val) * 512 + l.val) / 512 % 4096 = p.val; omega
    | ⟨2, _⟩ => show ((g.val * 4096 + p.val) * 512 + l.val) / 128 % 4 = l.val / 128; omega
    | ⟨3, _⟩ => show ((g.val * 4096 + p.val) * 512 + l.val) % 128 = l.val % 128; omega
  rw [val_main_v94_apply, val_main_v93_apply, val_main_v90_apply, gate_result, hi, val_main_v89_apply, val_main_v84_apply, val_main_v83_apply,
    val_main_v88_apply, val_main_v87_apply, val_main_v86_apply, val_main_v85_apply, ho]
  have h83 : idx_main_v83 (ix4 g p (headOf l) (inHead l)) = ix4 g p (headOf l) (0 : Fin 1) := ValueIdx.eq_ix4 _
  have h88 : idx_main_v88 (ix4 g p (headOf l) (inHead l)) = ix4 g p (headOf l) (0 : Fin 1) := ValueIdx.eq_ix4 _
  rw [h83, h88, hm, hv, val_main_cst_12_apply]
  rfl

end Cert.Retention.Ref

end
-- ==== Proof.RetClaim.lean ====
module

public import proofs.«01_k».proof.Defs
public import proofs.«01_k».proof.Proof.RetRef
public import proofs.«01_k».proof.Proof.Gen.ReferenceIdeal.Run
public import proofs.«01_k».proof.Proof.Gen.Pre_retention_finite

@[expose] public section

set_option maxRecDepth 16384

noncomputable section

namespace Cert.Retention

open Idealize.ShloMosaic Idealize.ShloMosaic.TcCoe Idealize.SL.Sem

/-- An extended real whose difference with itself is zero is a real number. -/
theorem real_of_sub_self (x : EReal) (h : x - x = 0) : x ≠ ⊤ ∧ x ≠ ⊥ := by
  constructor
  · rintro rfl; simp at h
  · rintro rfl; simp at h

/-- The precondition's test of one entry. -/
theorem real_of_test (x : EReal) (h : BitVec.ofBool (decide (x - x = Ideal.ofBits FTy.bf16 0#16)) = 1#1) : x ≠ ⊤ ∧ x ≠ ⊥ := by
  apply real_of_sub_self
  have hz : Ideal.ofBits FTy.bf16 0#16 = 0 := by simp [Ideal.ofBits, Ideal.ieee, -EReal.coe_mul]
  rw [hz] at h
  by_contra hn
  rw [decide_eq_false hn] at h
  exact absurd h (by decide)

theorem bit_and : ∀ a b : BitVec 1, a &&& b = 1#1 → a = 1#1 ∧ b = 1#1 := by decide

/-- Under the precondition the entries of the queries, keys and values are real numbers. -/
theorem finite_of_pre [Cert.Pre_retention_finite.Facts] (q k v z : Vec Ideal Cert.KernelIdeal.S4x4096x512 .bf16)
    (h : Cert.Pre_retention_finite.fn (F := Ideal) q k v z = fun _ => 1#1) : Finite q ∧ Finite k ∧ Finite v := by
  have e : ∀ i, (q i ≠ ⊤ ∧ q i ≠ ⊥) ∧ (k i ≠ ⊤ ∧ k i ≠ ⊥) ∧ (v i ≠ ⊤ ∧ v i ≠ ⊥) := by
    intro i
    have hi := congrFun h i
    unfold Cert.Pre_retention_finite.fn at hi
    obtain ⟨h12, h3⟩ := bit_and _ _ hi
    obtain ⟨h1, h2⟩ := bit_and _ _ h12
    exact ⟨real_of_test _ h1, real_of_test _ h2, real_of_test _ h3⟩
  exact ⟨fun i => (e i).1, fun i => (e i).2.1, fun i => (e i).2.2⟩

/-- The kernel's two results are the reference's. -/
theorem results (m : (ℓ : Loc Cert.KernelIdeal.nD Cert.KernelIdeal.τ Cert.KernelIdeal.sig) → Buf (Elt Ideal) ℓ)
    (c : Dev Cert.KernelIdeal.nD) (hQ : Finite (argQ m c)) (hK : Finite (argK m c)) (hV : Finite (argV m c)) :
    Cert.ReferenceIdeal.Read.val_main_v94 (F := Ideal) (argQ m c) (argK m c) (argV m c) (argZ m c) = Cert.KernelIdeal.Value.G9 m c
    ∧ Cert.ReferenceIdeal.Read.val_main_v71 (F := Ideal) (argK m c) (argV m c) = Cert.KernelIdeal.Value.G10 m c := by
  refine ⟨?_, (Ref.state_result _ _ hK hV).trans (kernel_state m c hK hV).symm⟩
  funext y
  obtain ⟨g, p, l, rfl⟩ : ∃ g p l, y = ValueIdx.ix3 (g : Fin 4) (p : Fin 4096) (l : Fin 512) := ⟨_, _, _, ValueIdx.eq_ix3 y⟩
  exact (Ref.out_result _ _ _ _ hQ hK hV g p l).trans (kernel_out m c hQ hK hV g p l).symm

/-- The reference of retention runs to the end, leaves its arguments unchanged and no semaphore raised. -/
theorem reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Retention: under the precondition both programs run and leave the same output and the same state. -/
theorem algebraic [Cert.Pre_retention_finite.Facts] : Cert.algebraic_KernelIdeal_ReferenceIdeal_pre_retention_finite := by
  intro m ρ m' ρ' hpre hag
  have hf := fun c => finite_of_pre _ _ _ _ (hpre c)
  refine ⟨fun c => Cert.KernelIdeal.Value.G9 m c, fun c => Cert.KernelIdeal.Value.G10 m c, Cert.KernelIdeal.Value.run m ρ,
    (θ_run _ _ _).mono (fun _ h c => ?_) (Cert.ReferenceIdeal.Value.run m' ρ')⟩
  obtain ⟨a0, a1, a2, a3⟩ := hag c
  obtain ⟨r9, r10⟩ := results m c (hf c).1 (hf c).2.1 (hf c).2.2
  refine ⟨(h c).1.trans ?_, (h c).2.1.trans ?_, (h c).2.2⟩
  · rw [Cert.ReferenceIdeal.Read.val_main_v94_eq, a0, a1, a2, a3]; exact r9
  · rw [Cert.ReferenceIdeal.Read.val_main_v71_eq, a1, a2]; exact r10

end Cert.Retention

end
-- ==== Proof.MergeRead.lean ====
module

public import proofs.«01_k».proof.Proof.Gen.MergeIdeal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Merging

open Idealize.ShloMosaic Idealize.ShloMosaic.TcCoe Idealize.SL.Sem

/-- The two branches of one position projected and mixed by their gates. -/
def mixed (gr ga : Fin 1024 → EReal) (br ba : Fin 512 → EReal) (wr wa : Fin 512 → Fin 1024 → EReal) (d : Fin 1024) : EReal :=
  Ideal.logistic (gr d) * (∑ e, br e * wr e d) + Ideal.logistic (ga d) * ∑ e, ba e * wa e d

/-- One position's stream after the mixed branches are added. -/
def added (x : Fin 1024 → EReal) (gr ga : Fin 1024 → EReal) (br ba : Fin 512 → EReal) (wr wa : Fin 512 → Fin 1024 → EReal)
    (wo : Fin 1024 → Fin 1024 → EReal) (d : Fin 1024) : EReal :=
  x d + ∑ e, mixed gr ga br ba wr wa e * wo e d

/-- One position's output: the stream with the gated per-layer embedding added. -/
def merged (x : Fin 1024 → EReal) (p : Fin 256 → EReal) (gr ga : Fin 1024 → EReal) (br ba : Fin 512 → EReal)
    (wr wa : Fin 512 → Fin 1024 → EReal) (wo wg : Fin 1024 → Fin 1024 → EReal) (wp : Fin 256 → Fin 1024 → EReal) (d : Fin 1024) : EReal :=
  added x gr ga br ba wr wa wo d
    + Ideal.logistic (∑ e, added x gr ga br ba wr wa wo e * wg e d) * ∑ e, p e * wp e d

/-- The place, in the original order of heads, of a lane of the paired order. -/
def unpair (j : Fin 512) : Fin 512 := ⟨j.val / 64 % 2 * 256 + j.val / 128 * 64 + j.val % 64, by omega⟩

/-- The lane of the paired order that holds a place of the original order. -/
def pair (t : Fin 512) : Fin 512 := ⟨t.val / 64 % 4 * 128 + t.val / 256 * 64 + t.val % 64, by omega⟩

theorem unpair_pair (t : Fin 512) : unpair (pair t) = t := by
  revert t; decide +kernel

theorem pair_unpair (t : Fin 512) : pair (unpair t) = t := by
  revert t; decide +kernel

/-- A sum over the heads is the same in either order. -/
theorem sum_paired (b : Fin 512 → EReal) (w : Fin 512 → EReal) : ∑ j, b j * w (unpair j) = ∑ t, b (pair t) * w t :=
  Fintype.sum_equiv ⟨unpair, pair, pair_unpair, unpair_pair⟩ _ _ fun j => by
    show b j * w (unpair j) = b (pair (unpair j)) * w (unpair j)
    rw [pair_unpair]

open Cert.MergeIdeal Cert.MergeIdeal.Gen

/-- The body's result at one position and lane. -/
theorem body_apply (x0 : Vec Ideal S512x1024 .f32) (x1 : Vec Ideal S1x512x256 .f32) (x2 x3 : Vec Ideal S512x1024 .bf16) (x4 x5 : Vec Ideal S512x512 .bf16)
    (x6 x7 : Vec Ideal S1x512x1024 .bf16) (x8 x9 : Vec Ideal S1x1024x1024 .bf16) (x10 : Vec Ideal S1x256x1024 .bf16) (i : Fin 512) (d : Fin 1024) :
    k0_pay1 (k0_pay2 x4 x6 x5 x7 x2 x3 x0 x8) (k0_pay3 x4 x6 x5 x7 x2 x3 x0 x8 x9) (k0_pay4 x1) x10 (ix2 i d)
      = merged (fun d => x0 (ix2 i d)) (fun e => x1 (ix3 0 i e)) (fun d => x2 (ix2 i d)) (fun d => x3 (ix2 i d)) (fun e => x4 (ix2 i e)) (fun e => x5 (ix2 i e))
        (fun e d => x6 (ix3 0 e d)) (fun e d => x7 (ix3 0 e d)) (fun e d => x8 (ix3 0 e d)) (fun e d => x9 (ix3 0 e d)) (fun e d => x10 (ix3 0 e d)) d := by
  unfold merged added mixed
  pointwise [k0_pay1, k0_pay2, k0_pay3, k0_pay4]

variable (m : (ℓ : Loc nD τ sig) → Buf (Elt Ideal) ℓ)

theorem idx_rows : ∀ t : Fin cfg0.N, win0_0.index t = ![t.val, 0] ∧ win0_1.index t = ![1, t.val, 0] ∧ win0_2.index t = ![t.val, 0]
    ∧ win0_3.index t = ![t.val, 0] ∧ win0_4.index t = ![t.val, 0] ∧ win0_5.index t = ![t.val, 0] ∧ win0_11.index t = ![t.val, 0] := by decide

theorem idx_weights : ∀ t : Fin cfg0.N, win0_6.index t = ![1, 0, 0] ∧ win0_7.index t = ![1, 0, 0] ∧ win0_8.index t = ![1, 0, 0]
    ∧ win0_9.index t = ![1, 0, 0] ∧ win0_10.index t = ![1, 0, 0] := by decide

/-- Row `512 t + i`. -/
def row (t : Fin cfg0.N) (i : Fin 512) : Fin 16384 :=
  ⟨512 * t.val + i.val, by have : t.val < 32 := lt_of_lt_of_eq t.isLt N_0; omega⟩

variable (c : Dev nD)

theorem read_0 (t : Fin cfg0.N) (i : Fin 512) (d : Fin 1024) :
    iblk m c 0 t (ix2 i d) = m ((c : Thread nD τ).loc main_arg0) (ix2 (row t i) d) := by
  have h := (idx_rows t).1
  have h0 := congrFun h 0; have h1 := congrFun h 1
  rw [← V_main_arg0 m c]
  blk_ext! [iblk, row, h0, h1]

theorem read_2 (t : Fin cfg0.N) (i : Fin 512) (d : Fin 1024) :
    iblk m c 2 t (ix2 i d) = m ((c : Thread nD τ).loc main_arg2) (ix2 (row t i) d) := by
  have h := (idx_rows t).2.2.1
  have h0 := congrFun h 0; have h1 := congrFun h 1
  rw [← V_main_arg2 m c]
  blk_ext! [iblk, row, h0, h1]

theorem read_3 (t : Fin cfg0.N) (i : Fin 512) (d : Fin 1024) :
    iblk m c 3 t (ix2 i d) = m ((c : Thread nD τ).loc main_arg3) (ix2 (row t i) d) := by
  have h := (idx_rows t).2.2.2.1
  have h0 := congrFun h 0; have h1 := congrFun h 1
  rw [← V_main_arg3 m c]
  blk_ext! [iblk, row, h0, h1]

theorem read_4 (t : Fin cfg0.N) (i : Fin 512) (d : Fin 512) :
    iblk m c 4 t (ix2 i d) = m ((c : Thread nD τ).loc main_arg4) (ix2 (row t i) d) := by
  have h := (idx_rows t).2.2.2.2.1
  have h0 := congrFun h 0; have h1 := congrFun h 1
  rw [← V_main_arg4 m c]
  blk_ext! [iblk, row, h0, h1]

theorem read_5 (t : Fin cfg0.N) (i : Fin 512) (d : Fin 512) :
    iblk m c 5 t (ix2 i d) = m ((c : Thread nD τ).loc main_arg5) (ix2 (row t i) d) := by
  have h := (idx_rows t).2.2.2.2.2.1
  have h0 := congrFun h 0; have h1 := congrFun h 1
  rw [← V_main_arg5 m c]
  blk_ext! [iblk, row, h0, h1]

theorem read_1 (t : Fin cfg0.N) (i : Fin 512) (d : Fin 256) : iblk m c 1 t (ix3 0 i d) = V m c main_v0 (ix3 1 (row t i) d) := by
  have h := (idx_rows t).2.1
  have h0 := congrFun h 0; have h1 := congrFun h 1; have h2 := congrFun h 2
  blk_ext! [iblk, row, h0, h1, h2]

theorem read_6 (t : Fin cfg0.N) (e : Fin 512) (d : Fin 1024) : iblk m c 6 t (ix3 0 e d) = V m c main_v8 (ix3 1 e d) := by
  have h := (idx_weights t).1
  have h0 := congrFun h 0; have h1 := congrFun h 1; have h2 := congrFun h 2
  blk_ext! [iblk, h0, h1, h2]

theorem read_7 (t : Fin cfg0.N) (e : Fin 512) (d : Fin 1024) : iblk m c 7 t (ix3 0 e d) = V m c main_v9 (ix3 1 e d) := by
  have h := (idx_weights t).2.1
  have h0 := congrFun h 0; have h1 := congrFun h 1; have h2 := congrFun h 2
  blk_ext! [iblk, h0, h1, h2]

theorem read_8 (t : Fin cfg0.N) (e : Fin 1024) (d : Fin 1024) : iblk m c 8 t (ix3 0 e d) = V m c main_v10 (ix3 1 e d) := by
  have h := (idx_weights t).2.2.1
  have h0 := congrFun h 0; have h1 := congrFun h 1; have h2 := congrFun h 2
  blk_ext! [iblk, h0, h1, h2]

theorem read_9 (t : Fin cfg0.N) (e : Fin 1024) (d : Fin 1024) : iblk m c 9 t (ix3 0 e d) = V m c main_v11 (ix3 1 e d) := by
  have h := (idx_weights t).2.2.2.1
  have h0 := congrFun h 0; have h1 := congrFun h 1; have h2 := congrFun h 2
  blk_ext! [iblk, h0, h1, h2]

theorem read_10 (t : Fin cfg0.N) (e : Fin 256) (d : Fin 1024) : iblk m c 10 t (ix3 0 e d) = V m c main_v12 (ix3 1 e d) := by
  have h := (idx_weights t).2.2.2.2
  have h0 := congrFun h 0; have h1 := congrFun h 1; have h2 := congrFun h 2
  blk_ext! [iblk, h0, h1, h2]

theorem host_6 (l : Fin 2) (e : Fin 512) (d : Fin 1024) : V m c main_v8 (ix3 l e d) = m ((c : Thread nD τ).loc main_arg6) (ix3 l e d) := by
  unfold V
  after_reads_at

theorem host_8 (l : Fin 2) (e : Fin 1024) (d : Fin 1024) : V m c main_v10 (ix3 l e d) = m ((c : Thread nD τ).loc main_arg8) (ix3 l e d) := by
  unfold V
  after_reads_at

theorem host_9 (l : Fin 2) (e : Fin 1024) (d : Fin 1024) : V m c main_v11 (ix3 l e d) = m ((c : Thread nD τ).loc main_arg9) (ix3 l e d) := by
  unfold V
  after_reads_at

theorem host_10 (l : Fin 2) (e : Fin 256) (d : Fin 1024) : V m c main_v12 (ix3 l e d) = m ((c : Thread nD τ).loc main_arg10) (ix3 l e d) := by
  unfold V
  after_reads_at

theorem host_7 (l : Fin 2) (e : Fin 512) (d : Fin 1024) :
    V m c main_v9 (ix3 l e d) = m ((c : Thread nD τ).loc main_arg7) (ix3 l (unpair e) d) := by
  unfold V
  after_reads_at
  by_cases h : e.val % 128 < 64
  · rw [dif_pos h]
    after_reads_at
    exact congrArg (fun a => m ((c : Thread nD τ).loc main_arg7) (ix3 l a d)) (Fin.ext (by show e.val / 128 * 64 + e.val % 128 = e.val / 64 % 2 * 256 + e.val / 128 * 64 + e.val % 64; omega))
  · rw [dif_neg h]
    after_reads_at
    exact congrArg (fun a => m ((c : Thread nD τ).loc main_arg7) (ix3 l a d)) (Fin.ext (by show 256 + e.val / 128 * 64 + (e.val % 128 - 64) = e.val / 64 % 2 * 256 + e.val / 128 * 64 + e.val % 64; omega))

theorem host_1 (l : Fin 2) (r : Fin 16384) (d : Fin 256) : V m c main_v0 (ix3 l r d)
    = m ((c : Thread nD τ).loc main_arg1) (ix4 l ⟨r.val / 4096, by omega⟩ ⟨r.val % 4096, by omega⟩ d) := by
  unfold V
  after_reads_at

theorem weight_6 (t : Fin cfg0.N) (e : Fin 512) (d : Fin 1024) : iblk m c 6 t (ix3 0 e d) = m ((c : Thread nD τ).loc main_arg6) (ix3 1 e d) :=
  (read_6 m c t e d).trans (host_6 m c 1 e d)

theorem weight_8 (t : Fin cfg0.N) (e : Fin 1024) (d : Fin 1024) : iblk m c 8 t (ix3 0 e d) = m ((c : Thread nD τ).loc main_arg8) (ix3 1 e d) :=
  (read_8 m c t e d).trans (host_8 m c 1 e d)

theorem weight_9 (t : Fin cfg0.N) (e : Fin 1024) (d : Fin 1024) : iblk m c 9 t (ix3 0 e d) = m ((c : Thread nD τ).loc main_arg9) (ix3 1 e d) :=
  (read_9 m c t e d).trans (host_9 m c 1 e d)

theorem weight_10 (t : Fin cfg0.N) (e : Fin 256) (d : Fin 1024) : iblk m c 10 t (ix3 0 e d) = m ((c : Thread nD τ).loc main_arg10) (ix3 1 e d) :=
  (read_10 m c t e d).trans (host_10 m c 1 e d)

theorem weight_7 (t : Fin cfg0.N) (e : Fin 512) (d : Fin 1024) : iblk m c 7 t (ix3 0 e d) = m ((c : Thread nD τ).loc main_arg7) (ix3 1 (unpair e) d) :=
  (read_7 m c t e d).trans (host_7 m c 1 e d)

theorem embedding (t : Fin cfg0.N) (i : Fin 512) (e : Fin 256) : iblk m c 1 t (ix3 0 i e)
    = m ((c : Thread nD τ).loc main_arg1) (ix4 1 ⟨(row t i).val / 4096, by omega⟩ ⟨(row t i).val % 4096, by omega⟩ e) :=
  (read_1 m c t i e).trans (host_1 m c 1 (row t i) e)

end Cert.Merging

end
-- ==== Proof.MergeRef.lean ====
module

public import proofs.«01_k».proof.Proof.MergeRead
public import proofs.«01_k».proof.Proof.Gen.MergeReferenceIdeal.Read

@[expose] public section

set_option maxRecDepth 16384

noncomputable section

namespace Cert.Merging.Ref

open Cert.MergeReferenceIdeal Cert.MergeReferenceIdeal.Gen Cert.MergeReferenceIdeal.Read
open Idealize.ShloMosaic Idealize.ShloMosaic.TcCoe Idealize.SL.Sem

/-- The reference's sigmoid, one over one plus the exponential of the negative, is the logistic function. -/
theorem sigmoid_eq (a : EReal) : Ideal.div (Ideal.ofBits .f32 0x3F800000#32) (Ideal.ofBits .f32 0x3F800000#32 + Ideal.exp (-a)) = Ideal.logistic a := by
  have h : Ideal.ofBits .f32 0x3F800000#32 = 1 := by simp [Ideal.ofBits, Ideal.ieee, -EReal.coe_mul]; norm_num
  rw [h]; rfl

variable (x0 : (⟨S16384x1024, .f32⟩ : BufTy).Contents (Elt Ideal)) (x1 : (⟨S2x4x4096x256, .f32⟩ : BufTy).Contents (Elt Ideal))
  (x2 x3 : (⟨S16384x1024, .bf16⟩ : BufTy).Contents (Elt Ideal)) (x4 x5 : (⟨S16384x512, .bf16⟩ : BufTy).Contents (Elt Ideal))
  (x6 x7 : (⟨S2x512x1024, .f32⟩ : BufTy).Contents (Elt Ideal)) (x8 x9 : (⟨S2x1024x1024, .f32⟩ : BufTy).Contents (Elt Ideal))
  (x10 : (⟨S2x256x1024, .f32⟩ : BufTy).Contents (Elt Ideal))

theorem gate2 (n : Fin 16384) (d : Fin 1024) : val_main_v17 (F := Ideal) x2 (ix2 n d) = Ideal.logistic (x2 (ix2 n d)) := by
  rw [val_main_v17_apply, val_main_v16_apply, val_main_cst_0_apply, val_main_v15_apply, val_main_v14_apply, val_main_cst_apply, val_main_v13_apply, val_main_v12_apply, val_main_v11_apply]
  exact sigmoid_eq _

theorem gate3 (n : Fin 16384) (d : Fin 1024) : val_main_v25 (F := Ideal) x3 (ix2 n d) = Ideal.logistic (x3 (ix2 n d)) := by
  rw [val_main_v25_apply, val_main_v24_apply, val_main_cst_2_apply, val_main_v23_apply, val_main_v22_apply, val_main_cst_1_apply, val_main_v21_apply, val_main_v20_apply, val_main_v19_apply]
  exact sigmoid_eq _

/-- The attention branch in the original order of heads. -/
theorem heads (n : Fin 16384) (t : Fin 512) : val_main_v3 (F := Ideal) x5 (ix2 n t) = x5 (ix2 n (pair t)) := by
  rw [val_main_v3_apply, val_main_v2_apply, val_main_v1_apply, val_main_v0_apply]
  refine congrArg x5 (funext fun a => Fin.ext ?_)
  have hn := n.isLt
  have ht := t.isLt
  have e1 : (n.val * 512 + t.val) / 512 = n.val := by omega
  have e2 : (n.val * 512 + t.val) / 64 % 4 = t.val / 64 % 4 := by omega
  have e3 : (n.val * 512 + t.val) / 256 % 2 = t.val / 256 := by omega
  have e4 : (n.val * 512 + t.val) % 64 = t.val % 64 := by omega
  match a with
  | ⟨0, _⟩ =>
    show (((((n.val * 512 + t.val) / 512) * 4 + (n.val * 512 + t.val) / 64 % 4) * 2 + (n.val * 512 + t.val) / 256 % 2) * 64 + (n.val * 512 + t.val) % 64) / 512 = n.val
    rw [e1, e2, e3, e4]; omega
  | ⟨1, _⟩ =>
    show (((((n.val * 512 + t.val) / 512) * 4 + (n.val * 512 + t.val) / 64 % 4) * 2 + (n.val * 512 + t.val) / 256 % 2) * 64 + (n.val * 512 + t.val) % 64) % 512 = t.val / 64 % 4 * 128 + t.val / 256 * 64 + t.val % 64
    rw [e1, e2, e3, e4]; omega

theorem weight6 (e : Fin 512) (d : Fin 1024) : val_main_v6 (F := Ideal) x6 (ix2 e d) = x6 (ix3 1 e d) := by
  rw [val_main_v6_apply, val_main_v5_apply]
  refine congrArg x6 (funext fun a => Fin.ext ?_)
  have he := e.isLt
  have hd := d.isLt
  match a with
  | ⟨0, _⟩ => rfl
  | ⟨1, _⟩ => show (e.val * 1024 + d.val) / 1024 % 512 = e.val; omega
  | ⟨2, _⟩ => show (e.val * 1024 + d.val) % 1024 = d.val; omega

theorem weight7 (e : Fin 512) (d : Fin 1024) : val_main_v9 (F := Ideal) x7 (ix2 e d) = x7 (ix3 1 e d) := by
  rw [val_main_v9_apply, val_main_v8_apply]
  refine congrArg x7 (funext fun a => Fin.ext ?_)
  have he := e.isLt
  have hd := d.isLt
  match a with
  | ⟨0, _⟩ => rfl
  | ⟨1, _⟩ => show (e.val * 1024 + d.val) / 1024 % 512 = e.val; omega
  | ⟨2, _⟩ => show (e.val * 1024 + d.val) % 1024 = d.val; omega

theorem weight8 (e : Fin 1024) (d : Fin 1024) : val_main_v29 (F := Ideal) x8 (ix2 e d) = x8 (ix3 1 e d) := by
  rw [val_main_v29_apply, val_main_v28_apply]
  refine congrArg x8 (funext fun a => Fin.ext ?_)
  have he := e.isLt
  have hd := d.isLt
  match a with
  | ⟨0, _⟩ => rfl
  | ⟨1, _⟩ => show (e.val * 1024 + d.val) / 1024 % 1024 = e.val; omega
  | ⟨2, _⟩ => show (e.val * 1024 + d.val) % 1024 = d.val; omega

theorem weight9 (e : Fin 1024) (d : Fin 1024) : val_main_v33 (F := Ideal) x9 (ix2 e d) = x9 (ix3 1 e d) := by
  rw [val_main_v33_apply, val_main_v32_apply]
  refine congrArg x9 (funext fun a => Fin.ext ?_)
  have he := e.isLt
  have hd := d.isLt
  match a with
  | ⟨0, _⟩ => rfl
  | ⟨1, _⟩ => show (e.val * 1024 + d.val) / 1024 % 1024 = e.val; omega
  | ⟨2, _⟩ => show (e.val * 1024 + d.val) % 1024 = d.val; omega

theorem weight10 (e : Fin 256) (d : Fin 1024) : val_main_v45 (F := Ideal) x10 (ix2 e d) = x10 (ix3 1 e d) := by
  rw [val_main_v45_apply, val_main_v44_apply]
  refine congrArg x10 (funext fun a => Fin.ext ?_)
  have he := e.isLt
  have hd := d.isLt
  match a with
  | ⟨0, _⟩ => rfl
  | ⟨1, _⟩ => show (e.val * 1024 + d.val) / 1024 % 256 = e.val; omega
  | ⟨2, _⟩ => show (e.val * 1024 + d.val) % 1024 = d.val; omega

/-- The second layer's per-layer embedding, one row per position. -/
theorem embedding (n : Fin 16384) (e : Fin 256) :
    val_main_v43 (F := Ideal) x1 (ix2 n e) = x1 (ix4 1 ⟨n.val / 4096, by omega⟩ ⟨n.val % 4096, by omega⟩ e) := by
  rw [val_main_v43_apply, val_main_v42_apply, val_main_v41_apply]
  refine congrArg x1 (funext fun a => Fin.ext ?_)
  have hn := n.isLt
  have he := e.isLt
  match a with
  | ⟨0, _⟩ => rfl
  | ⟨1, _⟩ =>
    show ((((n.val * 256 + e.val) / 1048576) * 4096 + (n.val * 256 + e.val) / 256 % 4096) * 256 + (n.val * 256 + e.val) % 256) / 1048576 % 4 = n.val / 4096
    omega
  | ⟨2, _⟩ =>
    show ((((n.val * 256 + e.val) / 1048576) * 4096 + (n.val * 256 + e.val) / 256 % 4096) * 256 + (n.val * 256 + e.val) % 256) / 256 % 4096 = n.val % 4096
    omega
  | ⟨3, _⟩ =>
    show ((((n.val * 256 + e.val) / 1048576) * 4096 + (n.val * 256 + e.val) / 256 % 4096) * 256 + (n.val * 256 + e.val) % 256) % 256 = e.val
    omega

theorem retained (n : Fin 16384) (d : Fin 1024) : val_main_v7 (F := Ideal) x4 x6 (ix2 n d) = ∑ e, x4 (ix2 n e) * x6 (ix3 1 e d) := by
  rw [val_main_v7_apply]
  refine Finset.sum_congr rfl fun e _ => ?_
  have h1 : lidx_main_v7 (ix2 n d) e = ix2 n e := ValueIdx.eq_ix2 _
  have h2 : ridx_main_v7 (ix2 n d) e = ix2 e d := ValueIdx.eq_ix2 _
  rw [h1, h2, weight6]; rfl

theorem attended (n : Fin 16384) (d : Fin 1024) : val_main_v10 (F := Ideal) x5 x7 (ix2 n d) = ∑ e, x5 (ix2 n (pair e)) * x7 (ix3 1 e d) := by
  rw [val_main_v10_apply]
  refine Finset.sum_congr rfl fun e _ => ?_
  have h1 : lidx_main_v10 (ix2 n d) e = ix2 n e := ValueIdx.eq_ix2 _
  have h2 : ridx_main_v10 (ix2 n d) e = ix2 e d := ValueIdx.eq_ix2 _
  rw [h1, h2, weight7, heads]

theorem mixed_apply (n : Fin 16384) (d : Fin 1024) : val_main_v27 (F := Ideal) x2 x3 x4 x5 x6 x7 (ix2 n d)
    = mixed (fun d => x2 (ix2 n d)) (fun d => x3 (ix2 n d)) (fun e => x4 (ix2 n e)) (fun e => x5 (ix2 n (pair e)))
        (fun e d => x6 (ix3 1 e d)) (fun e d => x7 (ix3 1 e d)) d := by
  rw [val_main_v27_apply, val_main_v18_apply, val_main_v26_apply, gate2, gate3, retained, attended]; rfl

theorem added_apply (n : Fin 16384) (d : Fin 1024) : val_main_v31 (F := Ideal) x0 x2 x3 x4 x5 x6 x7 x8 (ix2 n d)
    = added (fun d => x0 (ix2 n d)) (fun d => x2 (ix2 n d)) (fun d => x3 (ix2 n d)) (fun e => x4 (ix2 n e)) (fun e => x5 (ix2 n (pair e)))
        (fun e d => x6 (ix3 1 e d)) (fun e d => x7 (ix3 1 e d)) (fun e d => x8 (ix3 1 e d)) d := by
  rw [val_main_v31_apply, val_main_v30_apply]
  unfold added
  refine congrArg (x0 (ix2 n d) + ·) (Finset.sum_congr rfl fun e _ => ?_)
  have h1 : lidx_main_v30 (ix2 n d) e = ix2 n e := ValueIdx.eq_ix2 _
  have h2 : ridx_main_v30 (ix2 n d) e = ix2 e d := ValueIdx.eq_ix2 _
  rw [h1, h2, weight8, mixed_apply]

theorem gate (n : Fin 16384) (d : Fin 1024) : val_main_v40 (F := Ideal) x0 x2 x3 x4 x5 x6 x7 x8 x9 (ix2 n d)
    = Ideal.logistic (∑ e, added (fun d => x0 (ix2 n d)) (fun d => x2 (ix2 n d)) (fun d => x3 (ix2 n d)) (fun e => x4 (ix2 n e)) (fun e => x5 (ix2 n (pair e)))
        (fun e d => x6 (ix3 1 e d)) (fun e d => x7 (ix3 1 e d)) (fun e d => x8 (ix3 1 e d)) e * x9 (ix3 1 e d)) := by
  rw [val_main_v40_apply, val_main_v39_apply, val_main_cst_4_apply, val_main_v38_apply, val_main_v37_apply, val_main_cst_3_apply, val_main_v36_apply, val_main_v35_apply, val_main_v34_apply]
  refine (sigmoid_eq _).trans (congrArg _ (Finset.sum_congr rfl fun e _ => ?_))
  have h1 : lidx_main_v34 (ix2 n d) e = ix2 n e := ValueIdx.eq_ix2 _
  have h2 : ridx_main_v34 (ix2 n d) e = ix2 e d := ValueIdx.eq_ix2 _
  rw [h1, h2, weight9, added_apply]

/-- The reference's result at one position and lane. -/
theorem result_apply (n : Fin 16384) (d : Fin 1024) : val_main_v48 (F := Ideal) x0 x1 x2 x3 x4 x5 x6 x7 x8 x9 x10 (ix2 n d)
    = merged (fun d => x0 (ix2 n d)) (fun e => x1 (ix4 1 ⟨n.val / 4096, by omega⟩ ⟨n.val % 4096, by omega⟩ e)) (fun d => x2 (ix2 n d)) (fun d => x3 (ix2 n d))
        (fun e => x4 (ix2 n e)) (fun e => x5 (ix2 n (pair e))) (fun e d => x6 (ix3 1 e d)) (fun e d => x7 (ix3 1 e d)) (fun e d => x8 (ix3 1 e d))
        (fun e d => x9 (ix3 1 e d)) (fun e d => x10 (ix3 1 e d)) d := by
  rw [val_main_v48_apply, added_apply, val_main_v47_apply, gate, val_main_v46_apply]
  unfold merged
  refine congrArg₂ (fun a b : EReal => a + b) rfl (congrArg₂ (fun a b : EReal => a * b) rfl (Finset.sum_congr rfl fun e _ => ?_))
  have h1 : lidx_main_v46 (ix2 n d) e = ix2 n e := ValueIdx.eq_ix2 _
  have h2 : ridx_main_v46 (ix2 n d) e = ix2 e d := ValueIdx.eq_ix2 _
  rw [h1, h2, weight10, embedding]

end Cert.Merging.Ref

end
-- ==== Proof.MergeClaim.lean ====
module

public import proofs.«01_k».proof.Defs
public import proofs.«01_k».proof.Proof.MergeRef
public import proofs.«01_k».proof.Proof.Gen.MergeReferenceIdeal.Run

@[expose] public section

set_option maxRecDepth 16384

noncomputable section

namespace Cert.Merging

open Cert.MergeIdeal Cert.MergeIdeal.Gen Cert.MergeIdeal.Value
open Idealize.ShloMosaic Idealize.ShloMosaic.TcCoe Idealize.SL.Sem

variable (m : (ℓ : Loc nD τ sig) → Buf (Elt Ideal) ℓ) (c : Dev nD)

/-- The reference's result on the kernel's arguments. -/
def G : (⟨S16384x1024, .f32⟩ : BufTy).Contents (Elt Ideal) :=
  Cert.MergeReferenceIdeal.Read.val_main_v48 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10))

/-- The sum over the heads may run in the original order. -/
theorem mixed_pair (gr ga : Fin 1024 → EReal) (br ba : Fin 512 → EReal) (wr wa : Fin 512 → Fin 1024 → EReal) :
    mixed gr ga br ba wr (fun e d => wa (unpair e) d) = mixed gr ga br (fun e => ba (pair e)) wr wa := by
  funext d
  unfold mixed
  rw [sum_paired ba (fun e => wa e d)]

theorem merged_pair (x : Fin 1024 → EReal) (p : Fin 256 → EReal) (gr ga : Fin 1024 → EReal) (br ba : Fin 512 → EReal)
    (wr wa : Fin 512 → Fin 1024 → EReal) (wo wg : Fin 1024 → Fin 1024 → EReal) (wp : Fin 256 → Fin 1024 → EReal) :
    merged x p gr ga br ba wr (fun e d => wa (unpair e) d) wo wg wp = merged x p gr ga br (fun e => ba (pair e)) wr wa wo wg wp := by
  funext d
  unfold merged added
  rw [mixed_pair]

/-- What one visit leaves at one position and lane. -/
theorem block_apply (t : Fin cfg0.N) (i : Fin 512) (d : Fin 1024) :
    k0_pay1 (k0_pay2 (iblk m c 4 t) (iblk m c 6 t) (iblk m c 5 t) (iblk m c 7 t) (iblk m c 2 t) (iblk m c 3 t) (iblk m c 0 t) (iblk m c 8 t))
        (k0_pay3 (iblk m c 4 t) (iblk m c 6 t) (iblk m c 5 t) (iblk m c 7 t) (iblk m c 2 t) (iblk m c 3 t) (iblk m c 0 t) (iblk m c 8 t) (iblk m c 9 t))
        (k0_pay4 (iblk m c 1 t)) (iblk m c 10 t) (ix2 i d) = G m c (ix2 (row t i) d) := by
  rw [body_apply]
  simp only [read_0, read_2, read_3, read_4, read_5, embedding, weight_6, weight_7, weight_8, weight_9, weight_10]
  unfold G
  rw [Ref.result_apply]
  exact congrFun (merged_pair _ _ _ _ _ (fun e => m ((c : Thread nD τ).loc main_arg5) (ix2 (row t i) e)) _
    (fun e d => m ((c : Thread nD τ).loc main_arg7) (ix3 1 e d)) _ _ _) d

/-- The kernel's result is the reference's. -/
theorem final : (dats m 0 c).arrAt 11 cfg0.N = G m c := by
  refine (dats m 0 c).arrAt_eq_of_covers 11 _ (by decide +kernel) fun t hf y => ?_
  blk_simp
  rw [after0_11]
  frame_out
  obtain ⟨i, d, rfl⟩ : ∃ i d, y = ix2 (i : Fin 512) (d : Fin 1024) := ⟨_, _, ValueIdx.eq_ix2 y⟩
  have h := (idx_rows t).2.2.2.2.2.2
  have h0 := congrFun h 0
  have h1 := congrFun h 1
  refine (block_apply m c t i d).trans (congrArg (G m c) (funext fun a => Fin.ext ?_))
  match a with
  | ⟨0, _⟩ => show 512 * t.val + i.val = win0_11.index t 0 * 512 + 1 * i.val; rw [h0]; show _ = t.val * 512 + 1 * i.val; omega
  | ⟨1, _⟩ => show d.val = win0_11.index t 1 * 1024 + 1 * d.val; rw [h1]; show _ = 0 * 1024 + 1 * d.val; omega

/-- The reference of the merge runs to the end, leaves its arguments unchanged and no semaphore raised. -/
theorem reference_frame : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The merge: both programs run and leave the same output. -/
theorem algebraic : Cert.algebraic_MergeIdeal_MergeReferenceIdeal := by
  intro m ρ m' ρ' _ hag
  refine ⟨fun c => G m c, (θ_run _ _ _).mono (fun _ h c => ⟨(h c).1.trans (final m c), (h c).2⟩) (run_blocks m ρ),
    (θ_run _ _ _).mono (fun _ h c => ?_) (Cert.MergeReferenceIdeal.Value.run m' ρ')⟩
  obtain ⟨a0, a1, a2, a3, a4, a5, a6, a7, a8, a9, a10⟩ := hag c
  refine ⟨(h c).1.trans ?_, (h c).2⟩
  rw [Cert.MergeReferenceIdeal.Read.val_main_v48_eq, a0, a1, a2, a3, a4, a5, a6, a7, a8, a9, a10]; rfl

end Cert.Merging

end
-- ==== Proof.SMergeRead.lean ====
module

public import proofs.«01_k».proof.Proof.Gen.MergeSampleIdeal.Value
public import proofs.«01_k».proof.Proof.MergeClaim
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Merging.Sample

open Idealize.ShloMosaic Idealize.ShloMosaic.TcCoe Idealize.SL.Sem
open Cert.MergeSampleIdeal Cert.MergeSampleIdeal.Gen

/-- The body's result at one position and lane. -/
theorem body_apply (x0 : Vec Ideal S256x1024 .f32) (x1 : Vec Ideal S1x256x256 .f32) (x2 x3 : Vec Ideal S256x1024 .f32) (x4 x5 : Vec Ideal S256x512 .f32)
    (x6 x7 : Vec Ideal S1x512x1024 .bf16) (x8 x9 : Vec Ideal S1x1024x1024 .bf16) (x10 : Vec Ideal S1x256x1024 .bf16) (i : Fin 256) (d : Fin 1024) :
    k0_pay1 (k0_pay2 x4 x6 x5 x7 x2 x3 x0 x8) (k0_pay3 x4 x6 x5 x7 x2 x3 x0 x8 x9) (k0_pay4 x1) x10 (ix2 i d)
      = merged (fun d => x0 (ix2 i d)) (fun e => x1 (ix3 0 i e)) (fun d => x2 (ix2 i d)) (fun d => x3 (ix2 i d)) (fun e => x4 (ix2 i e)) (fun e => x5 (ix2 i e))
        (fun e d => x6 (ix3 0 e d)) (fun e d => x7 (ix3 0 e d)) (fun e d => x8 (ix3 0 e d)) (fun e d => x9 (ix3 0 e d)) (fun e d => x10 (ix3 0 e d)) d := by
  unfold merged added mixed
  pointwise [k0_pay1, k0_pay2, k0_pay3, k0_pay4]

variable (m : (ℓ : Loc nD τ sig) → Buf (Elt Ideal) ℓ)

theorem idx_rows : ∀ t : Fin cfg0.N, win0_0.index t = ![t.val, 0] ∧ win0_1.index t = ![1, t.val, 0] ∧ win0_2.index t = ![t.val, 0]
    ∧ win0_3.index t = ![t.val, 0] ∧ win0_4.index t = ![t.val, 0] ∧ win0_5.index t = ![t.val, 0] ∧ win0_11.index t = ![t.val, 0] := by decide

theorem idx_weights : ∀ t : Fin cfg0.N, win0_6.index t = ![1, 0, 0] ∧ win0_7.index t = ![1, 0, 0] ∧ win0_8.index t = ![1, 0, 0]
    ∧ win0_9.index t = ![1, 0, 0] ∧ win0_10.index t = ![1, 0, 0] := by decide

/-- Row `256 t + i`. -/
def row (t : Fin cfg0.N) (i : Fin 256) : Fin 1024 :=
  ⟨256 * t.val + i.val, by have : t.val < 4 := lt_of_lt_of_eq t.isLt N_0; omega⟩

variable (c : Dev nD)

theorem read_0 (t : Fin cfg0.N) (i : Fin 256) (d : Fin 1024) :
    iblk m c 0 t (ix2 i d) = m ((c : Thread nD τ).loc main_arg0) (ix2 (row t i) d) := by
  have h := (idx_rows t).1
  have h0 := congrFun h 0; have h1 := congrFun h 1
  rw [← V_main_arg0 m c]
  blk_ext! [iblk, row, h0, h1]

theorem read_2 (t : Fin cfg0.N) (i : Fin 256) (d : Fin 1024) :
    iblk m c 2 t (ix2 i d) = m ((c : Thread nD τ).loc main_arg2) (ix2 (row t i) d) := by
  have h := (idx_rows t).2.2.1
  have h0 := congrFun h 0; have h1 := congrFun h 1
  rw [← V_main_arg2 m c]
  blk_ext! [iblk, row, h0, h1]

theorem read_3 (t : Fin cfg0.N) (i : Fin 256) (d : Fin 1024) :
    iblk m c 3 t (ix2 i d) = m ((c : Thread nD τ).loc main_arg3) (ix2 (row t i) d) := by
  have h := (idx_rows t).2.2.2.1
  have h0 := congrFun h 0; have h1 := congrFun h 1
  rw [← V_main_arg3 m c]
  blk_ext! [iblk, row, h0, h1]

theorem read_4 (t : Fin cfg0.N) (i : Fin 256) (d : Fin 512) :
    iblk m c 4 t (ix2 i d) = m ((c : Thread nD τ).loc main_arg4) (ix2 (row t i) d) := by
  have h := (idx_rows t).2.2.2.2.1
  have h0 := congrFun h 0; have h1 := congrFun h 1
  rw [← V_main_arg4 m c]
  blk_ext! [iblk, row, h0, h1]

theorem read_5 (t : Fin cfg0.N) (i : Fin 256) (d : Fin 512) :
    iblk m c 5 t (ix2 i d) = m ((c : Thread nD τ).loc main_arg5) (ix2 (row t i) d) := by
  have h := (idx_rows t).2.2.2.2.2.1
  have h0 := congrFun h 0; have h1 := congrFun h 1
  rw [← V_main_arg5 m c]
  blk_ext! [iblk, row, h0, h1]

theorem read_1 (t : Fin cfg0.N) (i : Fin 256) (d : Fin 256) : iblk m c 1 t (ix3 0 i d) = V m c main_v0 (ix3 1 (row t i) d) := by
  have h := (idx_rows t).2.1
  have h0 := congrFun h 0; have h1 := congrFun h 1; have h2 := congrFun h 2
  blk_ext! [iblk, row, h0, h1, h2]

theorem read_6 (t : Fin cfg0.N) (e : Fin 512) (d : Fin 1024) : iblk m c 6 t (ix3 0 e d) = V m c main_v8 (ix3 1 e d) := by
  have h := (idx_weights t).1
  have h0 := congrFun h 0; have h1 := congrFun h 1; have h2 := congrFun h 2
  blk_ext! [iblk, h0, h1, h2]

theorem read_7 (t : Fin cfg0.N) (e : Fin 512) (d : Fin 1024) : iblk m c 7 t (ix3 0 e d) = V m c main_v9 (ix3 1 e d) := by
  have h := (idx_weights t).2.1
  have h0 := congrFun h 0; have h1 := congrFun h 1; have h2 := congrFun h 2
  blk_ext! [iblk, h0, h1, h2]

theorem read_8 (t : Fin cfg0.N) (e : Fin 1024) (d : Fin 1024) : iblk m c 8 t (ix3 0 e d) = V m c main_v10 (ix3 1 e d) := by
  have h := (idx_weights t).2.2.1
  have h0 := congrFun h 0; have h1 := congrFun h 1; have h2 := congrFun h 2
  blk_ext! [iblk, h0, h1, h2]

theorem read_9 (t : Fin cfg0.N) (e : Fin 1024) (d : Fin 1024) : iblk m c 9 t (ix3 0 e d) = V m c main_v11 (ix3 1 e d) := by
  have h := (idx_weights t).2.2.2.1
  have h0 := congrFun h 0; have h1 := congrFun h 1; have h2 := congrFun h 2
  blk_ext! [iblk, h0, h1, h2]

theorem read_10 (t : Fin cfg0.N) (e : Fin 256) (d : Fin 1024) : iblk m c 10 t (ix3 0 e d) = V m c main_v12 (ix3 1 e d) := by
  have h := (idx_weights t).2.2.2.2
  have h0 := congrFun h 0; have h1 := congrFun h 1; have h2 := congrFun h 2
  blk_ext! [iblk, h0, h1, h2]

theorem host_6 (l : Fin 2) (e : Fin 512) (d : Fin 1024) : V m c main_v8 (ix3 l e d) = m ((c : Thread nD τ).loc main_arg6) (ix3 l e d) := by
  unfold V
  after_reads_at

theorem host_8 (l : Fin 2) (e : Fin 1024) (d : Fin 1024) : V m c main_v10 (ix3 l e d) = m ((c : Thread nD τ).loc main_arg8) (ix3 l e d) := by
  unfold V
  after_reads_at

theorem host_9 (l : Fin 2) (e : Fin 1024) (d : Fin 1024) : V m c main_v11 (ix3 l e d) = m ((c : Thread nD τ).loc main_arg9) (ix3 l e d) := by
  unfold V
  after_reads_at

theorem host_10 (l : Fin 2) (e : Fin 256) (d : Fin 1024) : V m c main_v12 (ix3 l e d) = m ((c : Thread nD τ).loc main_arg10) (ix3 l e d) := by
  unfold V
  after_reads_at

theorem host_7 (l : Fin 2) (e : Fin 512) (d : Fin 1024) :
    V m c main_v9 (ix3 l e d) = m ((c : Thread nD τ).loc main_arg7) (ix3 l (unpair e) d) := by
  unfold V
  after_reads_at
  by_cases h : e.val % 128 < 64
  · rw [dif_pos h]
    after_reads_at
    exact congrArg (fun a => m ((c : Thread nD τ).loc main_arg7) (ix3 l a d)) (Fin.ext (by show e.val / 128 * 64 + e.val % 128 = e.val / 64 % 2 * 256 + e.val / 128 * 64 + e.val % 64; omega))
  · rw [dif_neg h]
    after_reads_at
    exact congrArg (fun a => m ((c : Thread nD τ).loc main_arg7) (ix3 l a d)) (Fin.ext (by show 256 + e.val / 128 * 64 + (e.val % 128 - 64) = e.val / 64 % 2 * 256 + e.val / 128 * 64 + e.val % 64; omega))

theorem host_1 (l : Fin 2) (r : Fin 1024) (d : Fin 256) : V m c main_v0 (ix3 l r d)
    = m ((c : Thread nD τ).loc main_arg1) (ix4 l ⟨r.val / 8, by omega⟩ ⟨r.val % 8, by omega⟩ d) := by
  unfold V
  after_reads_at

theorem weight_6 (t : Fin cfg0.N) (e : Fin 512) (d : Fin 1024) : iblk m c 6 t (ix3 0 e d) = m ((c : Thread nD τ).loc main_arg6) (ix3 1 e d) :=
  (read_6 m c t e d).trans (host_6 m c 1 e d)

theorem weight_8 (t : Fin cfg0.N) (e : Fin 1024) (d : Fin 1024) : iblk m c 8 t (ix3 0 e d) = m ((c : Thread nD τ).loc main_arg8) (ix3 1 e d) :=
  (read_8 m c t e d).trans (host_8 m c 1 e d)

theorem weight_9 (t : Fin cfg0.N) (e : Fin 1024) (d : Fin 1024) : iblk m c 9 t (ix3 0 e d) = m ((c : Thread nD τ).loc main_arg9) (ix3 1 e d) :=
  (read_9 m c t e d).trans (host_9 m c 1 e d)

theorem weight_10 (t : Fin cfg0.N) (e : Fin 256) (d : Fin 1024) : iblk m c 10 t (ix3 0 e d) = m ((c : Thread nD τ).loc main_arg10) (ix3 1 e d) :=
  (read_10 m c t e d).trans (host_10 m c 1 e d)

theorem weight_7 (t : Fin cfg0.N) (e : Fin 512) (d : Fin 1024) : iblk m c 7 t (ix3 0 e d) = m ((c : Thread nD τ).loc main_arg7) (ix3 1 (unpair e) d) :=
  (read_7 m c t e d).trans (host_7 m c 1 e d)

theorem embedding (t : Fin cfg0.N) (i : Fin 256) (e : Fin 256) : iblk m c 1 t (ix3 0 i e)
    = m ((c : Thread nD τ).loc main_arg1) (ix4 1 ⟨(row t i).val / 8, by omega⟩ ⟨(row t i).val % 8, by omega⟩ e) :=
  (read_1 m c t i e).trans (host_1 m c 1 (row t i) e)

end Cert.Merging.Sample

end
-- ==== Proof.SMergeRef.lean ====
module

public import proofs.«01_k».proof.Proof.SMergeRead
public import proofs.«01_k».proof.Proof.Gen.MergeSampleReferenceIdeal.Read

@[expose] public section

set_option maxRecDepth 16384

noncomputable section

namespace Cert.Merging.Sample.Ref

open Cert.MergeSampleReferenceIdeal Cert.MergeSampleReferenceIdeal.Gen Cert.MergeSampleReferenceIdeal.Read
open Idealize.ShloMosaic Idealize.ShloMosaic.TcCoe Idealize.SL.Sem Cert.Merging.Ref

variable (x0 : (⟨S1024x1024, .f32⟩ : BufTy).Contents (Elt Ideal)) (x1 : (⟨S2x128x8x256, .f32⟩ : BufTy).Contents (Elt Ideal))
  (x2 x3 : (⟨S1024x1024, .f32⟩ : BufTy).Contents (Elt Ideal)) (x4 x5 : (⟨S1024x512, .f32⟩ : BufTy).Contents (Elt Ideal))
  (x6 x7 : (⟨S2x512x1024, .f32⟩ : BufTy).Contents (Elt Ideal)) (x8 x9 : (⟨S2x1024x1024, .f32⟩ : BufTy).Contents (Elt Ideal))
  (x10 : (⟨S2x256x1024, .f32⟩ : BufTy).Contents (Elt Ideal))

theorem gate2 (n : Fin 1024) (d : Fin 1024) : val_main_v14 (F := Ideal) x2 (ix2 n d) = Ideal.logistic (x2 (ix2 n d)) := by
  rw [val_main_v14_apply, val_main_v13_apply, val_main_cst_0_apply, val_main_v12_apply, val_main_v11_apply, val_main_cst_apply, val_main_v10_apply, val_main_v9_apply]
  exact sigmoid_eq _

theorem gate3 (n : Fin 1024) (d : Fin 1024) : val_main_v21 (F := Ideal) x3 (ix2 n d) = Ideal.logistic (x3 (ix2 n d)) := by
  rw [val_main_v21_apply, val_main_v20_apply, val_main_cst_2_apply, val_main_v19_apply, val_main_v18_apply, val_main_cst_1_apply, val_main_v17_apply, val_main_v16_apply]
  exact sigmoid_eq _

/-- The attention branch in the original order of heads. -/
theorem heads (n : Fin 1024) (t : Fin 512) : val_main_v2 (F := Ideal) x5 (ix2 n t) = x5 (ix2 n (pair t)) := by
  rw [val_main_v2_apply, val_main_v1_apply, val_main_v0_apply]
  refine congrArg x5 (funext fun a => Fin.ext ?_)
  have hn := n.isLt
  have ht := t.isLt
  have e1 : (n.val * 512 + t.val) / 512 = n.val := by omega
  have e2 : (n.val * 512 + t.val) / 64 % 4 = t.val / 64 % 4 := by omega
  have e3 : (n.val * 512 + t.val) / 256 % 2 = t.val / 256 := by omega
  have e4 : (n.val * 512 + t.val) % 64 = t.val % 64 := by omega
  match a with
  | ⟨0, _⟩ =>
    show (((((n.val * 512 + t.val) / 512) * 4 + (n.val * 512 + t.val) / 64 % 4) * 2 + (n.val * 512 + t.val) / 256 % 2) * 64 + (n.val * 512 + t.val) % 64) / 512 = n.val
    rw [e1, e2, e3, e4]; omega
  | ⟨1, _⟩ =>
    show (((((n.val * 512 + t.val) / 512) * 4 + (n.val * 512 + t.val) / 64 % 4) * 2 + (n.val * 512 + t.val) / 256 % 2) * 64 + (n.val * 512 + t.val) % 64) % 512 = t.val / 64 % 4 * 128 + t.val / 256 * 64 + t.val % 64
    rw [e1, e2, e3, e4]; omega

theorem weight6 (e : Fin 512) (d : Fin 1024) : val_main_v4 (F := Ideal) x6 (ix2 e d) = x6 (ix3 1 e d) := by
  rw [val_main_v4_apply, val_main_v3_apply]
  refine congrArg x6 (funext fun a => Fin.ext ?_)
  have he := e.isLt
  have hd := d.isLt
  match a with
  | ⟨0, _⟩ => rfl
  | ⟨1, _⟩ => show (e.val * 1024 + d.val) / 1024 % 512 = e.val; omega
  | ⟨2, _⟩ => show (e.val * 1024 + d.val) % 1024 = d.val; omega

theorem weight7 (e : Fin 512) (d : Fin 1024) : val_main_v7 (F := Ideal) x7 (ix2 e d) = x7 (ix3 1 e d) := by
  rw [val_main_v7_apply, val_main_v6_apply]
  refine congrArg x7 (funext fun a => Fin.ext ?_)
  have he := e.isLt
  have hd := d.isLt
  match a with
  | ⟨0, _⟩ => rfl
  | ⟨1, _⟩ => show (e.val * 1024 + d.val) / 1024 % 512 = e.val; omega
  | ⟨2, _⟩ => show (e.val * 1024 + d.val) % 1024 = d.val; omega

theorem weight8 (e : Fin 1024) (d : Fin 1024) : val_main_v25 (F := Ideal) x8 (ix2 e d) = x8 (ix3 1 e d) := by
  rw [val_main_v25_apply, val_main_v24_apply]
  refine congrArg x8 (funext fun a => Fin.ext ?_)
  have he := e.isLt
  have hd := d.isLt
  match a with
  | ⟨0, _⟩ => rfl
  | ⟨1, _⟩ => show (e.val * 1024 + d.val) / 1024 % 1024 = e.val; omega
  | ⟨2, _⟩ => show (e.val * 1024 + d.val) % 1024 = d.val; omega

theorem weight9 (e : Fin 1024) (d : Fin 1024) : val_main_v29 (F := Ideal) x9 (ix2 e d) = x9 (ix3 1 e d) := by
  rw [val_main_v29_apply, val_main_v28_apply]
  refine congrArg x9 (funext fun a => Fin.ext ?_)
  have he := e.isLt
  have hd := d.isLt
  match a with
  | ⟨0, _⟩ => rfl
  | ⟨1, _⟩ => show (e.val * 1024 + d.val) / 1024 % 1024 = e.val; omega
  | ⟨2, _⟩ => show (e.val * 1024 + d.val) % 1024 = d.val; omega

theorem weight10 (e : Fin 256) (d : Fin 1024) : val_main_v41 (F := Ideal) x10 (ix2 e d) = x10 (ix3 1 e d) := by
  rw [val_main_v41_apply, val_main_v40_apply]
  refine congrArg x10 (funext fun a => Fin.ext ?_)
  have he := e.isLt
  have hd := d.isLt
  match a with
  | ⟨0, _⟩ => rfl
  | ⟨1, _⟩ => show (e.val * 1024 + d.val) / 1024 % 256 = e.val; omega
  | ⟨2, _⟩ => show (e.val * 1024 + d.val) % 1024 = d.val; omega

/-- The second layer's per-layer embedding, one row per position. -/
theorem embedding (n : Fin 1024) (e : Fin 256) :
    val_main_v39 (F := Ideal) x1 (ix2 n e) = x1 (ix4 1 ⟨n.val / 8, by omega⟩ ⟨n.val % 8, by omega⟩ e) := by
  rw [val_main_v39_apply, val_main_v38_apply, val_main_v37_apply]
  refine congrArg x1 (funext fun a => Fin.ext ?_)
  have hn := n.isLt
  have he := e.isLt
  match a with
  | ⟨0, _⟩ => rfl
  | ⟨1, _⟩ =>
    show ((((n.val * 256 + e.val) / 2048) * 8 + (n.val * 256 + e.val) / 256 % 8) * 256 + (n.val * 256 + e.val) % 256) / 2048 % 128 = n.val / 8
    omega
  | ⟨2, _⟩ =>
    show ((((n.val * 256 + e.val) / 2048) * 8 + (n.val * 256 + e.val) / 256 % 8) * 256 + (n.val * 256 + e.val) % 256) / 256 % 8 = n.val % 8
    omega
  | ⟨3, _⟩ =>
    show ((((n.val * 256 + e.val) / 2048) * 8 + (n.val * 256 + e.val) / 256 % 8) * 256 + (n.val * 256 + e.val) % 256) % 256 = e.val
    omega

theorem retained (n : Fin 1024) (d : Fin 1024) : val_main_v5 (F := Ideal) x4 x6 (ix2 n d) = ∑ e, x4 (ix2 n e) * x6 (ix3 1 e d) := by
  rw [val_main_v5_apply]
  refine Finset.sum_congr rfl fun e _ => ?_
  have h1 : lidx_main_v5 (ix2 n d) e = ix2 n e := ValueIdx.eq_ix2 _
  have h2 : ridx_main_v5 (ix2 n d) e = ix2 e d := ValueIdx.eq_ix2 _
  rw [h1, h2, weight6]

theorem attended (n : Fin 1024) (d : Fin 1024) : val_main_v8 (F := Ideal) x5 x7 (ix2 n d) = ∑ e, x5 (ix2 n (pair e)) * x7 (ix3 1 e d) := by
  rw [val_main_v8_apply]
  refine Finset.sum_congr rfl fun e _ => ?_
  have h1 : lidx_main_v8 (ix2 n d) e = ix2 n e := ValueIdx.eq_ix2 _
  have h2 : ridx_main_v8 (ix2 n d) e = ix2 e d := ValueIdx.eq_ix2 _
  rw [h1, h2, weight7, heads]

theorem mixed_apply (n : Fin 1024) (d : Fin 1024) : val_main_v23 (F := Ideal) x2 x3 x4 x5 x6 x7 (ix2 n d)
    = mixed (fun d => x2 (ix2 n d)) (fun d => x3 (ix2 n d)) (fun e => x4 (ix2 n e)) (fun e => x5 (ix2 n (pair e)))
        (fun e d => x6 (ix3 1 e d)) (fun e d => x7 (ix3 1 e d)) d := by
  rw [val_main_v23_apply, val_main_v15_apply, val_main_v22_apply, gate2, gate3, retained, attended]; rfl

theorem added_apply (n : Fin 1024) (d : Fin 1024) : val_main_v27 (F := Ideal) x0 x2 x3 x4 x5 x6 x7 x8 (ix2 n d)
    = added (fun d => x0 (ix2 n d)) (fun d => x2 (ix2 n d)) (fun d => x3 (ix2 n d)) (fun e => x4 (ix2 n e)) (fun e => x5 (ix2 n (pair e)))
        (fun e d => x6 (ix3 1 e d)) (fun e d => x7 (ix3 1 e d)) (fun e d => x8 (ix3 1 e d)) d := by
  rw [val_main_v27_apply, val_main_v26_apply]
  unfold added
  refine congrArg (x0 (ix2 n d) + ·) (Finset.sum_congr rfl fun e _ => ?_)
  have h1 : lidx_main_v26 (ix2 n d) e = ix2 n e := ValueIdx.eq_ix2 _
  have h2 : ridx_main_v26 (ix2 n d) e = ix2 e d := ValueIdx.eq_ix2 _
  rw [h1, h2, weight8, mixed_apply]

theorem gate (n : Fin 1024) (d : Fin 1024) : val_main_v36 (F := Ideal) x0 x2 x3 x4 x5 x6 x7 x8 x9 (ix2 n d)
    = Ideal.logistic (∑ e, added (fun d => x0 (ix2 n d)) (fun d => x2 (ix2 n d)) (fun d => x3 (ix2 n d)) (fun e => x4 (ix2 n e)) (fun e => x5 (ix2 n (pair e)))
        (fun e d => x6 (ix3 1 e d)) (fun e d => x7 (ix3 1 e d)) (fun e d => x8 (ix3 1 e d)) e * x9 (ix3 1 e d)) := by
  rw [val_main_v36_apply, val_main_v35_apply, val_main_cst_4_apply, val_main_v34_apply, val_main_v33_apply, val_main_cst_3_apply, val_main_v32_apply, val_main_v31_apply, val_main_v30_apply]
  refine (sigmoid_eq _).trans (congrArg _ (Finset.sum_congr rfl fun e _ => ?_))
  have h1 : lidx_main_v30 (ix2 n d) e = ix2 n e := ValueIdx.eq_ix2 _
  have h2 : ridx_main_v30 (ix2 n d) e = ix2 e d := ValueIdx.eq_ix2 _
  rw [h1, h2, weight9, added_apply]

/-- The reference's result at one position and lane. -/
theorem result_apply (n : Fin 1024) (d : Fin 1024) : val_main_v44 (F := Ideal) x0 x1 x2 x3 x4 x5 x6 x7 x8 x9 x10 (ix2 n d)
    = merged (fun d => x0 (ix2 n d)) (fun e => x1 (ix4 1 ⟨n.val / 8, by omega⟩ ⟨n.val % 8, by omega⟩ e)) (fun d => x2 (ix2 n d)) (fun d => x3 (ix2 n d))
        (fun e => x4 (ix2 n e)) (fun e => x5 (ix2 n (pair e))) (fun e d => x6 (ix3 1 e d)) (fun e d => x7 (ix3 1 e d)) (fun e d => x8 (ix3 1 e d))
        (fun e d => x9 (ix3 1 e d)) (fun e d => x10 (ix3 1 e d)) d := by
  rw [val_main_v44_apply, added_apply, val_main_v43_apply, gate, val_main_v42_apply]
  unfold merged
  refine congrArg₂ (fun a b : EReal => a + b) rfl (congrArg₂ (fun a b : EReal => a * b) rfl (Finset.sum_congr rfl fun e _ => ?_))
  have h1 : lidx_main_v42 (ix2 n d) e = ix2 n e := ValueIdx.eq_ix2 _
  have h2 : ridx_main_v42 (ix2 n d) e = ix2 e d := ValueIdx.eq_ix2 _
  rw [h1, h2, weight10, embedding]

end Cert.Merging.Sample.Ref

end
-- ==== Proof.SMergeClaim.lean ====
module

public import proofs.«01_k».proof.Defs
public import proofs.«01_k».proof.Proof.SMergeRef
public import proofs.«01_k».proof.Proof.Gen.MergeSampleReferenceIdeal.Run

@[expose] public section

set_option maxRecDepth 16384

noncomputable section

namespace Cert.Merging.Sample

open Cert.MergeSampleIdeal Cert.MergeSampleIdeal.Gen Cert.MergeSampleIdeal.Value
open Idealize.ShloMosaic Idealize.ShloMosaic.TcCoe Idealize.SL.Sem

variable (m : (ℓ : Loc nD τ sig) → Buf (Elt Ideal) ℓ) (c : Dev nD)

/-- The reference's result on the kernel's arguments. -/
def G : (⟨S1024x1024, .f32⟩ : BufTy).Contents (Elt Ideal) :=
  Cert.MergeSampleReferenceIdeal.Read.val_main_v44 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10))

/-- What one visit leaves at one position and lane. -/
theorem block_apply (t : Fin cfg0.N) (i : Fin 256) (d : Fin 1024) :
    k0_pay1 (k0_pay2 (iblk m c 4 t) (iblk m c 6 t) (iblk m c 5 t) (iblk m c 7 t) (iblk m c 2 t) (iblk m c 3 t) (iblk m c 0 t) (iblk m c 8 t))
        (k0_pay3 (iblk m c 4 t) (iblk m c 6 t) (iblk m c 5 t) (iblk m c 7 t) (iblk m c 2 t) (iblk m c 3 t) (iblk m c 0 t) (iblk m c 8 t) (iblk m c 9 t))
        (k0_pay4 (iblk m c 1 t)) (iblk m c 10 t) (ix2 i d) = G m c (ix2 (row t i) d) := by
  rw [body_apply]
  simp only [read_0, read_2, read_3, read_4, read_5, embedding, weight_6, weight_7, weight_8, weight_9, weight_10]
  unfold G
  rw [Ref.result_apply]
  exact congrFun (merged_pair _ _ _ _ _ (fun e => m ((c : Thread nD τ).loc main_arg5) (ix2 (row t i) e)) _
    (fun e d => m ((c : Thread nD τ).loc main_arg7) (ix3 1 e d)) _ _ _) d

/-- The kernel's result is the reference's. -/
theorem final : (dats m 0 c).arrAt 11 cfg0.N = G m c := by
  refine (dats m 0 c).arrAt_eq_of_covers 11 _ (by decide +kernel) fun t hf y => ?_
  blk_simp
  rw [after0_11]
  frame_out
  obtain ⟨i, d, rfl⟩ : ∃ i d, y = ix2 (i : Fin 256) (d : Fin 1024) := ⟨_, _, ValueIdx.eq_ix2 y⟩
  have h := (idx_rows t).2.2.2.2.2.2
  have h0 := congrFun h 0
  have h1 := congrFun h 1
  refine (block_apply m c t i d).trans (congrArg (G m c) (funext fun a => Fin.ext ?_))
  match a with
  | ⟨0, _⟩ => show 256 * t.val + i.val = win0_11.index t 0 * 256 + 1 * i.val; rw [h0]; show _ = t.val * 256 + 1 * i.val; omega
  | ⟨1, _⟩ => show d.val = win0_11.index t 1 * 1024 + 1 * d.val; rw [h1]; show _ = 0 * 1024 + 1 * d.val; omega

/-- The reference of the sample merge runs to the end, leaves its arguments unchanged and no semaphore raised. -/
theorem reference_frame : Cert.quiescent_MergeSampleReferenceIdeal := fun m ρ _ =>
  (θ_run Cert.MergeSampleReferenceIdeal.defs _ _).mono (fun r h => ⟨fun c => (h c).2, sem_eq_zero_of_no_sems (by decide) r.2⟩)
    (Cert.MergeSampleReferenceIdeal.Value.run (F := Ideal) m ρ)

/-- The sample merge: both programs run and leave the same output. -/
theorem algebraic : Cert.algebraic_MergeSampleIdeal_MergeSampleReferenceIdeal := by
  intro m ρ m' ρ' _ hag
  refine ⟨fun c => G m c, (θ_run _ _ _).mono (fun _ h c => ⟨(h c).1.trans (final m c), (h c).2⟩) (run_blocks m ρ),
    (θ_run _ _ _).mono (fun _ h c => ?_) (Cert.MergeSampleReferenceIdeal.Value.run m' ρ')⟩
  obtain ⟨a0, a1, a2, a3, a4, a5, a6, a7, a8, a9, a10⟩ := hag c
  refine ⟨(h c).1.trans ?_, (h c).2⟩
  rw [Cert.MergeSampleReferenceIdeal.Read.val_main_v44_eq, a0, a1, a2, a3, a4, a5, a6, a7, a8, a9, a10]; rfl

end Cert.Merging.Sample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_retention_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Merge.Skeleton
public import proofs.«01_k».proof.Proof.Gen.Merge.Launch
public import proofs.«01_k».proof.Proof.Gen.Merge.Points
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.Gen.Pre_inproj_finite
public import proofs.«01_k».proof.Proof.ProjFrame
public import proofs.«01_k».proof.Proof.ProjIdealFrame
public import proofs.«01_k».proof.Proof.ProjClaim
public import proofs.«01_k».proof.Proof.SProjFrame
public import proofs.«01_k».proof.Proof.SProjIdealFrame
public import proofs.«01_k».proof.Proof.SProjClaim
public import proofs.«01_k».proof.Proof.Gen.InprojSample
public import proofs.«01_k».proof.Proof.Gen.InprojSample.Skeleton
public import proofs.«01_k».proof.Proof.Gen.InprojSample.Launch
public import proofs.«01_k».proof.Proof.Gen.InprojSample.Points
public import proofs.«01_k».proof.Proof.Gen.InprojSampleIdeal
public import proofs.«01_k».proof.Proof.Gen.InprojSampleIdeal.Skeleton
public import proofs.«01_k».proof.Proof.Gen.InprojSampleIdeal.Launch
public import proofs.«01_k».proof.Proof.Gen.InprojSampleIdeal.Points
public import proofs.«01_k».proof.Proof.Gen.InprojSampleReferenceIdeal
public import proofs.«01_k».proof.Proof.Gen.InprojSampleReferenceIdeal.Run
public import proofs.«01_k».proof.Proof.Gen.InprojSampleReferenceIdeal.Read
public import proofs.«01_k».proof.Proof.Gen.Pre_inproj_sample_finite
public import proofs.«01_k».proof.Proof.Gen.MergeSample
public import proofs.«01_k».proof.Proof.Gen.MergeSample.Skeleton
public import proofs.«01_k».proof.Proof.Gen.MergeSample.Launch
public import proofs.«01_k».proof.Proof.Gen.MergeSample.Points
public import proofs.«01_k».proof.Proof.Gen.MergeSample.Frame
public import proofs.«01_k».proof.Proof.Gen.MergeSampleIdeal
public import proofs.«01_k».proof.Proof.Gen.MergeSampleIdeal.Skeleton
public import proofs.«01_k».proof.Proof.Gen.MergeSampleIdeal.Launch
public import proofs.«01_k».proof.Proof.Gen.MergeSampleIdeal.Points
public import proofs.«01_k».proof.Proof.Gen.MergeSampleIdeal.Frame
public import proofs.«01_k».proof.Proof.Gen.MergeSampleIdeal.Value
public import proofs.«01_k».proof.Proof.Gen.MergeSampleReferenceIdeal
public import proofs.«01_k».proof.Proof.Gen.MergeSampleReferenceIdeal.Run
public import proofs.«01_k».proof.Proof.Gen.MergeSampleReferenceIdeal.Read
public import proofs.«01_k».proof.Proof.RetClaim
public import proofs.«01_k».proof.Proof.MergeClaim
public import proofs.«01_k».proof.Proof.SMergeClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Inproj.Gen.facts,
    Cert.InprojIdeal.Gen.facts, Cert.InprojReferenceIdeal.Gen.facts, Cert.Merge.Gen.facts, Cert.MergeIdeal.Gen.facts,
    Cert.MergeReferenceIdeal.Gen.facts, Cert.InprojSample.Gen.facts, Cert.InprojSampleIdeal.Gen.facts,
    Cert.InprojSampleReferenceIdeal.Gen.facts, Cert.MergeSample.Gen.facts, Cert.MergeSampleIdeal.Gen.facts, Cert.MergeSampleReferenceIdeal.Gen.facts,
    Cert.Pre_retention_finite.Gen.facts, Cert.Pre_inproj_finite.Gen.facts, Cert.Pre_inproj_sample_finite.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.Kernel.Gen.frame m ρ
  · exact fun m ρ _ => Cert.KernelIdeal.Gen.frame m ρ
  · exact fun m ρ _ => Cert.KernelIdeal.Gen.frame m ρ
  · exact fun m ρ _ => Cert.Retention.reference_frame m ρ (by trivial)
  · exact fun m ρ _ => Cert.Retention.reference_frame m ρ (by trivial)
  · exact fun m ρ _ => Cert.Projecting.Bit.frame m ρ
  · exact fun m ρ _ => Cert.Projecting.frame m ρ
  · exact fun m ρ _ => Cert.Projecting.frame m ρ
  · exact fun m ρ _ => Cert.Projecting.reference_frame m ρ (by trivial)
  · exact fun m ρ _ => Cert.Projecting.reference_frame m ρ (by trivial)
  · exact fun m ρ _ => Cert.Merge.Gen.frame m ρ
  · exact fun m ρ _ => Cert.MergeIdeal.Gen.frame m ρ
  · exact Cert.Merging.reference_frame
  · exact fun m ρ _ => Cert.Projecting.Sample.Bit.frame m ρ
  · exact fun m ρ _ => Cert.Projecting.Sample.frame m ρ
  · exact fun m ρ _ => Cert.Projecting.Sample.frame m ρ
  · exact fun m ρ _ => Cert.Projecting.Sample.reference_frame m ρ (by trivial)
  · exact fun m ρ _ => Cert.Projecting.Sample.reference_frame m ρ (by trivial)
  · exact fun m ρ _ => Cert.MergeSample.Gen.frame m ρ
  · exact fun m ρ _ => Cert.MergeSampleIdeal.Gen.frame m ρ
  · exact Cert.Merging.Sample.reference_frame
  · trivial
  · exact Cert.Retention.algebraic
  · trivial
  · exact Cert.Projecting.algebraic
  · trivial
  · exact Cert.Merging.algebraic
  · trivial
  · exact Cert.Projecting.Sample.algebraic
  · trivial
  · exact Cert.Merging.Sample.algebraic⟩

end Cert.Proof

end
